-- ==== Defs.lean ====
def Pre_Attn [hPre_frame_positions_in_table : Cert.Pre_frame_positions_in_table.Facts] (m : (ℓ : Loc Cert.Attn.nD Cert.Attn.τ Cert.Attn.sig) → Buf (Elt Bits) ℓ) : Prop :=
  ∀ c : Dev Cert.Attn.nD,
    (Cert.Pre_frame_positions_in_table.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5)) (m ((c.tc : Thread Cert.Attn.nD Cert.Attn.τ).loc Cert.Attn.main_arg6)) (m ((c.tc : Thread Cert.Attn.nD Cert.Attn.τ).loc Cert.Attn.main_arg7)) (m ((c.tc : Thread Cert.Attn.nD Cert.Attn.τ).loc Cert.Attn.main_arg8)) (m ((c.tc : Thread Cert.Attn.nD Cert.Attn.τ).loc Cert.Attn.main_arg9)) (m ((c.tc : Thread Cert.Attn.nD Cert.Attn.τ).loc Cert.Attn.main_arg10)) (m ((c.tc : Thread Cert.Attn.nD Cert.Attn.τ).loc Cert.Attn.main_arg11)) (m ((c.tc : Thread Cert.Attn.nD Cert.Attn.τ).loc Cert.Attn.main_arg12)) (m ((c.tc : Thread Cert.Attn.nD Cert.Attn.τ).loc Cert.Attn.main_arg13)) (m ((c.tc : Thread Cert.Attn.nD Cert.Attn.τ).loc Cert.Attn.main_arg14))) = (fun _ => 1#1)

def Pre_AttnIdeal [hPre_frame_positions_in_table : Cert.Pre_frame_positions_in_table.Facts] (m : (ℓ : Loc Cert.AttnIdeal.nD Cert.AttnIdeal.τ Cert.AttnIdeal.sig) → Buf (Elt Ideal) ℓ) : Prop :=
  ∀ c : Dev Cert.AttnIdeal.nD,
    (Cert.Pre_frame_positions_in_table.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)) (m ((c.tc : Thread Cert.AttnIdeal.nD Cert.AttnIdeal.τ).loc Cert.AttnIdeal.main_arg12)) (m ((c.tc : Thread Cert.AttnIdeal.nD Cert.AttnIdeal.τ).loc Cert.AttnIdeal.main_arg13)) (m ((c.tc : Thread Cert.AttnIdeal.nD Cert.AttnIdeal.τ).loc Cert.AttnIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_frame_positions_in_table [hPre_frame_positions_in_table : Cert.Pre_frame_positions_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_frame_positions_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Attn [hAttn : Cert.Attn.Facts] [hPre_frame_positions_in_table : Cert.Pre_frame_positions_in_table.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10)
      ∧ r.2.mem ((c.tc : Thread Cert.Attn.nD Cert.Attn.τ).loc Cert.Attn.main_arg11) = m ((c.tc : Thread Cert.Attn.nD Cert.Attn.τ).loc Cert.Attn.main_arg11)
      ∧ r.2.mem ((c.tc : Thread Cert.Attn.nD Cert.Attn.τ).loc Cert.Attn.main_arg12) = m ((c.tc : Thread Cert.Attn.nD Cert.Attn.τ).loc Cert.Attn.main_arg12)
      ∧ r.2.mem ((c.tc : Thread Cert.Attn.nD Cert.Attn.τ).loc Cert.Attn.main_arg13) = m ((c.tc : Thread Cert.Attn.nD Cert.Attn.τ).loc Cert.Attn.main_arg13)
      ∧ r.2.mem ((c.tc : Thread Cert.Attn.nD Cert.Attn.τ).loc Cert.Attn.main_arg14) = m ((c.tc : Thread Cert.Attn.nD Cert.Attn.τ).loc Cert.Attn.main_arg14))
      ∧ r.2.sem = fun _ => 0)

def quiescent_AttnIdeal [hAttnIdeal : Cert.AttnIdeal.Facts] [hPre_frame_positions_in_table : Cert.Pre_frame_positions_in_table.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
      ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12)
      ∧ r.2.mem ((c.tc : Thread Cert.AttnIdeal.nD Cert.AttnIdeal.τ).loc Cert.AttnIdeal.main_arg13) = m ((c.tc : Thread Cert.AttnIdeal.nD Cert.AttnIdeal.τ).loc Cert.AttnIdeal.main_arg13)
      ∧ r.2.mem ((c.tc : Thread Cert.AttnIdeal.nD Cert.AttnIdeal.τ).loc Cert.AttnIdeal.main_arg14) = m ((c.tc : Thread Cert.AttnIdeal.nD Cert.AttnIdeal.τ).loc Cert.AttnIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_frame_positions_in_table [hReferenceIdeal : Cert.ReferenceIdeal.Facts] [hPre_frame_positions_in_table : Cert.Pre_frame_positions_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_frame_positions_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def preserves_Attn_AttnIdeal : Prop :=
  True

def algebraic_AttnIdeal_ReferenceIdeal [hAttnIdeal : Cert.AttnIdeal.Facts] [hReferenceIdeal : Cert.ReferenceIdeal.Facts] [hPre_frame_positions_in_table : Cert.Pre_frame_positions_in_table.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_AttnIdeal m →
    (∀ c : Dev Cert.AttnIdeal.nD,
      m' ((c.tc : Thread Cert.ReferenceIdeal.nD Cert.ReferenceIdeal.τ).loc Cert.ReferenceIdeal.main_arg0) = m ((c.tc : Thread Cert.AttnIdeal.nD Cert.AttnIdeal.τ).loc Cert.AttnIdeal.main_arg0)
      ∧ m' ((c.tc : Thread Cert.ReferenceIdeal.nD Cert.ReferenceIdeal.τ).loc Cert.ReferenceIdeal.main_arg1) = m ((c.tc : Thread Cert.AttnIdeal.nD Cert.AttnIdeal.τ).loc Cert.AttnIdeal.main_arg1)
      ∧ m' ((c.tc : Thread Cert.ReferenceIdeal.nD Cert.ReferenceIdeal.τ).loc Cert.ReferenceIdeal.main_arg2) = m ((c.tc : Thread Cert.AttnIdeal.nD Cert.AttnIdeal.τ).loc Cert.AttnIdeal.main_arg2)
      ∧ m' ((c.tc : Thread Cert.ReferenceIdeal.nD Cert.ReferenceIdeal.τ).loc Cert.ReferenceIdeal.main_arg3) = m ((c.tc : Thread Cert.AttnIdeal.nD Cert.AttnIdeal.τ).loc Cert.AttnIdeal.main_arg3)
      ∧ m' ((c.tc : Thread Cert.ReferenceIdeal.nD Cert.ReferenceIdeal.τ).loc Cert.ReferenceIdeal.main_arg4) = m ((c.tc : Thread Cert.AttnIdeal.nD Cert.AttnIdeal.τ).loc Cert.AttnIdeal.main_arg4)
      ∧ m' ((c.tc : Thread Cert.ReferenceIdeal.nD Cert.ReferenceIdeal.τ).loc Cert.ReferenceIdeal.main_arg5) = m ((c.tc : Thread Cert.AttnIdeal.nD Cert.AttnIdeal.τ).loc Cert.AttnIdeal.main_arg5)
      ∧ m' ((c.tc : Thread Cert.ReferenceIdeal.nD Cert.ReferenceIdeal.τ).loc Cert.ReferenceIdeal.main_arg6) = m ((c.tc : Thread Cert.AttnIdeal.nD Cert.AttnIdeal.τ).loc Cert.AttnIdeal.main_arg6)
      ∧ m' ((c.tc : Thread Cert.ReferenceIdeal.nD Cert.ReferenceIdeal.τ).loc Cert.ReferenceIdeal.main_arg7) = m ((c.tc : Thread Cert.AttnIdeal.nD Cert.AttnIdeal.τ).loc Cert.AttnIdeal.main_arg7)
      ∧ m' ((c.tc : Thread Cert.ReferenceIdeal.nD Cert.ReferenceIdeal.τ).loc Cert.ReferenceIdeal.main_arg8) = m ((c.tc : Thread Cert.AttnIdeal.nD Cert.AttnIdeal.τ).loc Cert.AttnIdeal.main_arg8)
      ∧ m' ((c.tc : Thread Cert.ReferenceIdeal.nD Cert.ReferenceIdeal.τ).loc Cert.ReferenceIdeal.main_arg9) = m ((c.tc : Thread Cert.AttnIdeal.nD Cert.AttnIdeal.τ).loc Cert.AttnIdeal.main_arg9)
      ∧ m' ((c.tc : Thread Cert.ReferenceIdeal.nD Cert.ReferenceIdeal.τ).loc Cert.ReferenceIdeal.main_arg10) = m ((c.tc : Thread Cert.AttnIdeal.nD Cert.AttnIdeal.τ).loc Cert.AttnIdeal.main_arg10)
      ∧ m' ((c.tc : Thread Cert.ReferenceIdeal.nD Cert.ReferenceIdeal.τ).loc Cert.ReferenceIdeal.main_arg11) = m ((c.tc : Thread Cert.AttnIdeal.nD Cert.AttnIdeal.τ).loc Cert.AttnIdeal.main_arg11)
      ∧ m' ((c.tc : Thread Cert.ReferenceIdeal.nD Cert.ReferenceIdeal.τ).loc Cert.ReferenceIdeal.main_arg12) = m ((c.tc : Thread Cert.AttnIdeal.nD Cert.AttnIdeal.τ).loc Cert.AttnIdeal.main_arg12)
      ∧ m' ((c.tc : Thread Cert.ReferenceIdeal.nD Cert.ReferenceIdeal.τ).loc Cert.ReferenceIdeal.main_arg13) = m ((c.tc : Thread Cert.AttnIdeal.nD Cert.AttnIdeal.τ).loc Cert.AttnIdeal.main_arg13)
      ∧ m' ((c.tc : Thread Cert.ReferenceIdeal.nD Cert.ReferenceIdeal.τ).loc Cert.ReferenceIdeal.main_arg14) = m ((c.tc : Thread Cert.AttnIdeal.nD Cert.AttnIdeal.τ).loc Cert.AttnIdeal.main_arg14)) →
    ∃ (v0 : (c : Dev Cert.AttnIdeal.nD) → Buf (Elt Ideal) ((c.tc : Thread Cert.AttnIdeal.nD Cert.AttnIdeal.τ).loc Cert.AttnIdeal.main_v34)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v34) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
          ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
          ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12)
          ∧ r.2.mem ((c.tc : Thread Cert.AttnIdeal.nD Cert.AttnIdeal.τ).loc Cert.AttnIdeal.main_arg13) = m ((c.tc : Thread Cert.AttnIdeal.nD Cert.AttnIdeal.τ).loc Cert.AttnIdeal.main_arg13)
          ∧ r.2.mem ((c.tc : Thread Cert.AttnIdeal.nD Cert.AttnIdeal.τ).loc Cert.AttnIdeal.main_arg14) = m ((c.tc : Thread Cert.AttnIdeal.nD Cert.AttnIdeal.τ).loc Cert.AttnIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)) (v2 : (c : Dev Cert.FfnIdeal.nD) → Buf (Elt Ideal) ((c.tc : Thread Cert.FfnIdeal.nD Cert.FfnIdeal.τ).loc Cert.FfnIdeal.main_v4_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_v4_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v10_0) = v0 c
          ∧ r.2.mem ((c.tc : Thread Cert.FfnReferenceIdeal.nD Cert.FfnReferenceIdeal.τ).loc Cert.FfnReferenceIdeal.main_v10_1) = v1 c
          ∧ r.2.mem ((c.tc : Thread Cert.FfnReferenceIdeal.nD Cert.FfnReferenceIdeal.τ).loc Cert.FfnReferenceIdeal.main_v10_2) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10))

def Claim : Prop :=
  ∃ (hAttn : Cert.Attn.Facts) (hAttnIdeal : Cert.AttnIdeal.Facts) (hReferenceIdeal : Cert.ReferenceIdeal.Facts) (hFfn : Cert.Ffn.Facts) (hFfnIdeal : Cert.FfnIdeal.Facts) (hFfnReferenceIdeal : Cert.FfnReferenceIdeal.Facts) (hPre_frame_positions_in_table : Cert.Pre_frame_positions_in_table.Facts),
    quiescent_Attn (hAttn := hAttn) (hPre_frame_positions_in_table := hPre_frame_positions_in_table)
    ∧ quiescent_AttnIdeal (hAttnIdeal := hAttnIdeal) (hPre_frame_positions_in_table := hPre_frame_positions_in_table)
    ∧ quiescent_ReferenceIdeal (hReferenceIdeal := hReferenceIdeal)
    ∧ quiescent_ReferenceIdeal_pre_frame_positions_in_table (hReferenceIdeal := hReferenceIdeal) (hPre_frame_positions_in_table := hPre_frame_positions_in_table)
    ∧ quiescent_Ffn (hFfn := hFfn)
    ∧ quiescent_FfnIdeal (hFfnIdeal := hFfnIdeal)
    ∧ quiescent_FfnReferenceIdeal (hFfnReferenceIdeal := hFfnReferenceIdeal)
    ∧ preserves_Attn_AttnIdeal
    ∧ algebraic_AttnIdeal_ReferenceIdeal (hAttnIdeal := hAttnIdeal) (hReferenceIdeal := hReferenceIdeal) (hPre_frame_positions_in_table := hPre_frame_positions_in_table)
    ∧ preserves_Ffn_FfnIdeal
    ∧ algebraic_FfnIdeal_FfnReferenceIdeal (hFfnIdeal := hFfnIdeal) (hFfnReferenceIdeal := hFfnReferenceIdeal)
-- ==== Pre_frame_positions_in_table.lean ====
abbrev S2x12x4680x128 : Shape := ⟨4, ![2, 12, 4680, 128]⟩
abbrev S2x21x1560x12x128 : Shape := ⟨5, ![2, 21, 1560, 12, 128]⟩
abbrev S2x21x12 : Shape := ⟨3, ![2, 21, 12]⟩
abbrev S2 : Shape := ⟨1, ![2]⟩
abbrev S2x21 : Shape := ⟨2, ![2, 21]⟩
abbrev S2x3 : Shape := ⟨2, ![2, 3]⟩
abbrev S1024x22 : Shape := ⟨2, ![1024, 22]⟩
abbrev S1560x42 : Shape := ⟨2, ![1560, 42]⟩
abbrev S_ : Shape := ⟨0, ![]⟩

class Facts : Prop where
  bcast_S_S2x21 : S_.BroadcastsInDim S2x21 (![] : Fin 0 → Fin S2x21.rank)

variable [Facts]

def fn {F : FTy → Type} [FloatOps F] (main_arg0 : FVec F S2x12x4680x128 .bf16) (main_arg1 : FVec F S2x12x4680x128 .bf16) (main_arg2 : FVec F S2x12x4680x128 .bf16) (main_arg3 : FVec F S2x21x1560x12x128 .fp8e4m3) (main_arg4 : FVec F S2x21x1560x12x128 .fp8e4m3) (main_arg5 : FVec F S2x21x12 .f32) (main_arg6 : FVec F S2x21x12 .f32) (main_arg7 : IVec S2 32) (main_arg8 : IVec S2 32) (main_arg9 : IVec S2x21 32) (main_arg10 : IVec S2x3 32) (main_arg11 : FVec F S1024x22 .f32) (main_arg12 : FVec F S1024x22 .f32) (main_arg13 : FVec F S1560x42 .f32) (main_arg14 : FVec F S1560x42 .f32) : IVec S2x21 1 :=
  let main_c : IVec S_ 32 := constantI S_ 32 0#32
  let main_v0 : IVec S2x21 32 := broadcastInDim S2x21 ![] bcast_S_S2x21 main_c
  let main_v1 : IVec S2x21 1 := cmpi .sge main_arg9 main_v0
  let main_c_0 : IVec S_ 32 := constantI S_ 32 1024#32
  let main_v2 : IVec S2x21 32 := broadcastInDim S2x21 ![] bcast_S_S2x21 main_c_0
  let main_v3 : IVec S2x21 1 := cmpi .slt main_arg9 main_v2
  let main_v4 : IVec S2x21 1 := andi main_v1 main_v3
  main_v4
-- ==== Attn.lean ====
abbrev S2x12x4680x128 : Shape := ⟨4, ![2, 12, 4680, 128]⟩
abbrev S2x21x1560x12x128 : Shape := ⟨5, ![2, 21, 1560, 12, 128]⟩
abbrev S2x21x12 : Shape := ⟨3, ![2, 21, 12]⟩
abbrev S2 : Shape := ⟨1, ![2]⟩
abbrev S2x21 : Shape := ⟨2, ![2, 21]⟩
abbrev S2x3 : Shape := ⟨2, ![2, 3]⟩
abbrev S1024x22 : Shape := ⟨2, ![1024, 22]⟩
abbrev S1560x42 : Shape := ⟨2, ![1560, 42]⟩
abbrev S1024x22x2 : Shape := ⟨3, ![1024, 22, 2]⟩
abbrev S1024x44 : Shape := ⟨2, ![1024, 44]⟩
abbrev S_ : Shape := ⟨0, ![]⟩
abbrev S1024x128 : Shape := ⟨2, ![1024, 128]⟩
abbrev S1560x42x2 : Shape := ⟨3, ![1560, 42, 2]⟩
abbrev S1560x84 : Shape := ⟨2, ![1560, 84]⟩
abbrev S1560x128 : Shape := ⟨2, ![1560, 128]⟩
abbrev S44 : Shape := ⟨1, ![44]⟩
abbrev S1x44 : Shape := ⟨2, ![1, 44]⟩
abbrev S84 : Shape := ⟨1, ![84]⟩
abbrev S1x84 : Shape := ⟨2, ![1, 84]⟩
abbrev S2x21x12x1560x128 : Shape := ⟨5, ![2, 21, 12, 1560, 128]⟩
abbrev S504 : Shape := ⟨1, ![504]⟩
abbrev S1x1x4680x128 : Shape := ⟨4, ![1, 1, 4680, 128]⟩
abbrev S1x21x1x1560x128 : Shape := ⟨5, ![1, 21, 1, 1560, 128]⟩
abbrev S24x1560x128 : Shape := ⟨3, ![24, 1560, 128]⟩
abbrev S24x128x1560 : Shape := ⟨3, ![24, 128, 1560]⟩
abbrev S3x21 : Shape := ⟨2, ![3, 21]⟩
abbrev S3 : Shape := ⟨1, ![3]⟩
abbrev S1 : Shape := ⟨1, ![1]⟩
abbrev S1x1 : Shape := ⟨2, ![1, 1]⟩
abbrev S1x1x1x1560x128 : Shape := ⟨5, ![1, 1, 1, 1560, 128]⟩
abbrev S1x128 : Shape := ⟨2, ![1, 128]⟩
abbrev S1x1560x128 : Shape := ⟨3, ![1, 1560, 128]⟩
abbrev S128x1560 : Shape := ⟨2, ![128, 1560]⟩
abbrev S1x128x1560 : Shape := ⟨3, ![1, 128, 1560]⟩
abbrev S1x1x1560x128 : Shape := ⟨4, ![1, 1, 1560, 128]⟩
abbrev S1x1x312x128 : Shape := ⟨4, ![1, 1, 312, 128]⟩
abbrev S312x128 : Shape := ⟨2, ![312, 128]⟩
abbrev S1x312 : Shape := ⟨2, ![1, 312]⟩
abbrev S128x312 : Shape := ⟨2, ![128, 312]⟩
abbrev S1560x312 : Shape := ⟨2, ![1560, 312]⟩
abbrev S312 : Shape := ⟨1, ![312]⟩

abbrev nBuf : Space → Nat
  | .hbm => 106
  | .vmem => 18
  | .smem => 8
  | _ => 0

abbrev bufTy : (tb : Table) → Fin (tcTables nBuf tb) → BufTy
  | .hbm, ⟨0, _⟩ => ⟨S2x12x4680x128, .bf16⟩
  | .hbm, ⟨1, _⟩ => ⟨S2x12x4680x128, .bf16⟩
  | .hbm, ⟨2, _⟩ => ⟨S2x12x4680x128, .bf16⟩
  | .hbm, ⟨3, _⟩ => ⟨S2x21x1560x12x128, .fp8e4m3⟩
  | .hbm, ⟨4, _⟩ => ⟨S2x21x1560x12x128, .fp8e4m3⟩
  | .hbm, ⟨5, _⟩ => ⟨S2x21x12, .f32⟩
  | .hbm, ⟨6, _⟩ => ⟨S2x21x12, .f32⟩
  | .hbm, ⟨7, _⟩ => ⟨S1024x22, .f32⟩
  | .hbm, ⟨8, _⟩ => ⟨S1024x22, .f32⟩
  | .hbm, ⟨9, _⟩ => ⟨S1560x42, .f32⟩
  | .hbm, ⟨10, _⟩ => ⟨S1560x42, .f32⟩
  | .hbm, ⟨11, _⟩ => ⟨S1024x22x2, .f32⟩
  | .hbm, ⟨12, _⟩ => ⟨S1024x44, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1560x42x2, .f32⟩
  | .hbm, ⟨17, _⟩ => ⟨S1560x84, .f32⟩
  | .hbm, ⟨18, _⟩ => ⟨S_, .i32⟩
  | .hbm, ⟨19, _⟩ => ⟨S_, .f32⟩
  | .hbm, ⟨20, _⟩ => ⟨S1560x128, .f32⟩
  | .hbm, ⟨21, _⟩ => ⟨S1024x22x2, .f32⟩
  | .hbm, ⟨22, _⟩ => ⟨S1024x44, .f32⟩
  | .hbm, ⟨23, _⟩ => ⟨S44, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S44, .i32⟩
  | .hbm, ⟨31, _⟩ => ⟨S44, .i32⟩
  | .hbm, ⟨32, _⟩ => ⟨S_, .i32⟩
  | .hbm, ⟨33, _⟩ => ⟨S44, .i32⟩
  | .hbm, ⟨34, _⟩ => ⟨S44, .i1⟩
  | .hbm, ⟨35, _⟩ => ⟨S_, .i32⟩
  | .hbm, ⟨36, _⟩ => ⟨S44, .i32⟩
  | .hbm, ⟨37, _⟩ => ⟨S44, .i1⟩
  | .hbm, ⟨38, _⟩ => ⟨S_, .i32⟩
  | .hbm, ⟨39, _⟩ => ⟨S_, .i1⟩
  | .hbm, ⟨40, _⟩ => ⟨S44, .i1⟩
  | .hbm, ⟨41, _⟩ => ⟨S44, .i1⟩
  | .hbm, ⟨42, _⟩ => ⟨S44, .i1⟩
  | .hbm, ⟨43, _⟩ => ⟨S44, .i32⟩
  | .hbm, ⟨44, _⟩ => ⟨S44, .i32⟩
  | .hbm, ⟨45, _⟩ => ⟨S44, .i32⟩
  | .hbm, ⟨46, _⟩ => ⟨S_, .i32⟩
  | .hbm, ⟨47, _⟩ => ⟨S44, .i32⟩
  | .hbm, ⟨48, _⟩ => ⟨S44, .i1⟩
  | .hbm, ⟨49, _⟩ => ⟨S_, .f32⟩
  | .hbm, ⟨50, _⟩ => ⟨S_, .f32⟩
  | .hbm, ⟨51, _⟩ => ⟨S44, .f32⟩
  | .hbm, ⟨52, _⟩ => ⟨S44, .f32⟩
  | .hbm, ⟨53, _⟩ => ⟨S44, .f32⟩
  | .hbm, ⟨54, _⟩ => ⟨S44, .f32⟩
  | .hbm, ⟨55, _⟩ => ⟨S1x44, .f32⟩
  | .hbm, ⟨56, _⟩ => ⟨S1024x44, .f32⟩
  | .hbm, ⟨57, _⟩ => ⟨S1024x44, .f32⟩
  | .hbm, ⟨58, _⟩ => ⟨S_, .i32⟩
  | .hbm, ⟨59, _⟩ => ⟨S_, .f32⟩
  | .hbm, ⟨60, _⟩ => ⟨S1024x128, .f32⟩
  | .hbm, ⟨61, _⟩ => ⟨S1560x42x2, .f32⟩
  | .hbm, ⟨62, _⟩ => ⟨S1560x84, .f32⟩
  | .hbm, ⟨63, _⟩ => ⟨S84, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S84, .i32⟩
  | .hbm, ⟨71, _⟩ => ⟨S84, .i32⟩
  | .hbm, ⟨72, _⟩ => ⟨S_, .i32⟩
  | .hbm, ⟨73, _⟩ => ⟨S84, .i32⟩
  | .hbm, ⟨74, _⟩ => ⟨S84, .i1⟩
  | .hbm, ⟨75, _⟩ => ⟨S_, .i32⟩
  | .hbm, ⟨76, _⟩ => ⟨S84, .i32⟩
  | .hbm, ⟨77, _⟩ => ⟨S84, .i1⟩
  | .hbm, ⟨78, _⟩ => ⟨S_, .i32⟩
  | .hbm, ⟨79, _⟩ => ⟨S_, .i1⟩
  | .hbm, ⟨80, _⟩ => ⟨S84, .i1⟩
  | .hbm, ⟨81, _⟩ => ⟨S84, .i1⟩
  | .hbm, ⟨82, _⟩ => ⟨S84, .i1⟩
  | .hbm, ⟨83, _⟩ => ⟨S84, .i32⟩
  | .hbm, ⟨84, _⟩ => ⟨S84, .i32⟩
  | .hbm, ⟨85, _⟩ => ⟨S84, .i32⟩
  | .hbm, ⟨86, _⟩ => ⟨S_, .i32⟩
  | .hbm, ⟨87, _⟩ => ⟨S84, .i32⟩
  | .hbm, ⟨88, _⟩ => ⟨S84, .i1⟩
  | .hbm, ⟨89, _⟩ => ⟨S_, .f32⟩
  | .hbm, ⟨90, _⟩ => ⟨S_, .f32⟩
  | .hbm, ⟨91, _⟩ => ⟨S84, .f32⟩
  | .hbm, ⟨92, _⟩ => ⟨S84, .f32⟩
  | .hbm, ⟨93, _⟩ => ⟨S84, .f32⟩
  | .hbm, ⟨94, _⟩ => ⟨S84, .f32⟩
  | .hbm, ⟨95, _⟩ => ⟨S1x84, .f32⟩
  | .hbm, ⟨96, _⟩ => ⟨S1560x84, .f32⟩
  | .hbm, ⟨97, _⟩ => ⟨S1560x84, .f32⟩
  | .hbm, ⟨98, _⟩ => ⟨S_, .i32⟩
  | .hbm, ⟨99, _⟩ => ⟨S_, .f32⟩
  | .hbm, ⟨100, _⟩ => ⟨S1560x128, .f32⟩
  | .hbm, ⟨101, _⟩ => ⟨S2x21x12x1560x128, .fp8e4m3⟩
  | .hbm, ⟨102, _⟩ => ⟨S2x21x12x1560x128, .fp8e4m3⟩
  | .hbm, ⟨103, _⟩ => ⟨S504, .f32⟩
  | .hbm, ⟨104, _⟩ => ⟨S504, .f32⟩
  | .hbm, ⟨105, _⟩ => ⟨S2x12x4680x128, .f32⟩
  | .local _ .vmem, ⟨0, _⟩ => ⟨S1x1x4680x128, .bf16⟩
  | .local _ .vmem, ⟨1, _⟩ => ⟨S1x1x4680x128, .bf16⟩
  | .local _ .vmem, ⟨2, _⟩ => ⟨S1x1x4680x128, .bf16⟩
  | .local _ .vmem, ⟨3, _⟩ => ⟨S1x1x4680x128, .bf16⟩
  | .local _ .vmem, ⟨4, _⟩ => ⟨S1x1x4680x128, .bf16⟩
  | .local _ .vmem, ⟨5, _⟩ => ⟨S1x1x4680x128, .bf16⟩
  | .local _ .vmem, ⟨6, _⟩ => ⟨S1x21x1x1560x128, .fp8e4m3⟩
  | .local _ .vmem, ⟨7, _⟩ => ⟨S1x21x1x1560x128, .fp8e4m3⟩
  | .local _ .vmem, ⟨8, _⟩ => ⟨S1x21x1x1560x128, .fp8e4m3⟩
  | .local _ .vmem, ⟨9, _⟩ => ⟨S1x21x1x1560x128, .fp8e4m3⟩
  | .local _ .vmem, ⟨10, _⟩ => ⟨S1024x128, .f32⟩
  | .local _ .vmem, ⟨11, _⟩ => ⟨S1024x128, .f32⟩
  | .local _ .vmem, ⟨12, _⟩ => ⟨S1560x128, .f32⟩
  | .local _ .vmem, ⟨13, _⟩ => ⟨S1560x128, .f32⟩
  | .local _ .vmem, ⟨14, _⟩ => ⟨S1x1x4680x128, .f32⟩
  | .local _ .vmem, ⟨15, _⟩ => ⟨S1x1x4680x128, .f32⟩
  | .local _ .vmem, ⟨16, _⟩ => ⟨S24x1560x128, .bf16⟩
  | .local _ .vmem, ⟨17, _⟩ => ⟨S24x128x1560, .bf16⟩
  | .local _ .smem, ⟨0, _⟩ => ⟨S2, .i32⟩
  | .local _ .smem, ⟨1, _⟩ => ⟨S2, .i32⟩
  | .local _ .smem, ⟨2, _⟩ => ⟨S2x21, .i32⟩
  | .local _ .smem, ⟨3, _⟩ => ⟨S2x3, .i32⟩
  | .local _ .smem, ⟨4, _⟩ => ⟨S504, .f32⟩
  | .local _ .smem, ⟨5, _⟩ => ⟨S504, .f32⟩
  | .local _ .smem, ⟨6, _⟩ => ⟨S3x21, .i32⟩
  | .local _ .smem, ⟨7, _⟩ => ⟨S3, .i32⟩
  | _, _ => ⟨S2x12x4680x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg11 : Ref sig .tc := ⟨.hbm, 7, rfl⟩
abbrev main_arg12 : Ref sig .tc := ⟨.hbm, 8, rfl⟩
abbrev main_arg13 : Ref sig .tc := ⟨.hbm, 9, rfl⟩
abbrev main_arg14 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_call2_v0 : Ref sig .tc := ⟨.hbm, 25, rfl⟩
abbrev main_call2_c : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_c_1 : Ref sig .tc := ⟨.hbm, 32, rfl⟩
abbrev main_call2_v5 : Ref sig .tc := ⟨.hbm, 33, rfl⟩
abbrev main_call2_v6 : Ref sig .tc := ⟨.hbm, 34, rfl⟩
abbrev main_call2_c_2 : Ref sig .tc := ⟨.hbm, 35, rfl⟩
abbrev main_call2_v7 : Ref sig .tc := ⟨.hbm, 36, rfl⟩
abbrev main_call2_v8 : Ref sig .tc := ⟨.hbm, 37, rfl⟩
abbrev main_call2_c_3 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_v9 : Ref sig .tc := ⟨.hbm, 45, rfl⟩
abbrev main_c_2 : Ref sig .tc := ⟨.hbm, 46, rfl⟩
abbrev main_v10 : Ref sig .tc := ⟨.hbm, 47, rfl⟩
abbrev main_v11 : Ref sig .tc := ⟨.hbm, 48, rfl⟩
abbrev main_cst : Ref sig .tc := ⟨.hbm, 49, rfl⟩
abbrev main_cst_3 : Ref sig .tc := ⟨.hbm, 50, rfl⟩
abbrev main_call3_v0 : Ref sig .tc := ⟨.hbm, 51, rfl⟩
abbrev main_call3_v1 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_c_4 : Ref sig .tc := ⟨.hbm, 58, rfl⟩
abbrev main_call4_v0 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_c_5 : Ref sig .tc := ⟨.hbm, 64, rfl⟩
abbrev main_call5_v0 : Ref sig .tc := ⟨.hbm, 65, rfl⟩
abbrev main_call5_c : Ref sig .tc := ⟨.hbm, 66, rfl⟩
abbrev main_call5_v1 : Ref sig .tc := ⟨.hbm, 67, rfl⟩
abbrev main_call5_c_0 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_call5_c_1 : Ref sig .tc := ⟨.hbm, 72, rfl⟩
abbrev main_call5_v5 : Ref sig .tc := ⟨.hbm, 73, rfl⟩
abbrev main_call5_v6 : Ref sig .tc := ⟨.hbm, 74, rfl⟩
abbrev main_call5_c_2 : Ref sig .tc := ⟨.hbm, 75, rfl⟩
abbrev main_call5_v7 : Ref sig .tc := ⟨.hbm, 76, rfl⟩
abbrev main_call5_v8 : Ref sig .tc := ⟨.hbm, 77, rfl⟩
abbrev main_call5_c_3 : Ref sig .tc := ⟨.hbm, 78, rfl⟩
abbrev main_call5_v9 : Ref sig .tc := ⟨.hbm, 79, rfl⟩
abbrev main_call5_v10 : Ref sig .tc := ⟨.hbm, 80, rfl⟩
abbrev main_call5_v11 : Ref sig .tc := ⟨.hbm, 81, rfl⟩
abbrev main_call5_v12 : Ref sig .tc := ⟨.hbm, 82, rfl⟩
abbrev main_call5_v13 : Ref sig .tc := ⟨.hbm, 83, rfl⟩
abbrev main_call5_v14 : Ref sig .tc := ⟨.hbm, 84, rfl⟩
abbrev main_v21 : Ref sig .tc := ⟨.hbm, 85, rfl⟩
abbrev main_c_6 : Ref sig .tc := ⟨.hbm, 86, rfl⟩
abbrev main_v22 : Ref sig .tc := ⟨.hbm, 87, rfl⟩
abbrev main_v23 : Ref sig .tc := ⟨.hbm, 88, rfl⟩
abbrev main_cst_7 : Ref sig .tc := ⟨.hbm, 89, rfl⟩
abbrev main_cst_8 : Ref sig .tc := ⟨.hbm, 90, rfl⟩
abbrev main_call6_v0 : Ref sig .tc := ⟨.hbm, 91, rfl⟩
abbrev main_call6_v1 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_c_9 : Ref sig .tc := ⟨.hbm, 98, rfl⟩
abbrev main_call7_v0 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_arg7 : Ref sig .tc := ⟨.smem, 0, rfl⟩
abbrev main_arg8 : Ref sig .tc := ⟨.smem, 1, rfl⟩
abbrev main_arg9 : Ref sig .tc := ⟨.smem, 2, rfl⟩
abbrev main_arg10 : Ref sig .tc := ⟨.smem, 3, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 4, rfl⟩
abbrev cc0_stg1_0 : Ref sig .tc := ⟨.smem, 5, rfl⟩
abbrev cc0_scratch2 : Ref sig .tc := ⟨.smem, 6, rfl⟩
abbrev cc0_scratch3 : Ref sig .tc := ⟨.smem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 12], ![false, false]⟩

abbrev pre0 : Pipeline.Prefetch sig := ⟨4, ![main_arg7.idx, main_arg8.idx, main_arg9.idx, main_arg10.idx], fun | 0 => main_arg7.names | 1 => main_arg8.names | 2 => main_arg9.names | 3 => main_arg10.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v4 : Index := Scalar.indexCast arg0
  let c0 : Index := 0#32
  ![v4.toNat, 0]
@[reducible] def k0_t1_loop : Scf.Loop 32 :=
  let c0_i32_0 : BitVec 32 := 0#32
  let c21_i32 : BitVec 32 := 21#32
  let v7 : BitVec 32 := Scalar.addi c0_i32_0 c21_i32
  let c1_i32 : BitVec 32 := 1#32
  ⟨c0_i32_0, v7, c1_i32⟩
def k0_off3 (i : grid0.Coords) (k0_t1 : Fin k0_t1_loop.trips) : Fin 2 → Nat :=
  let arg0 : BitVec 32 := BitVec.ofNat 32 (i 0).val
  let v71 : Index := Scalar.indexCast arg0
  let c0_i32_0 : BitVec 32 := 0#32
  let c1_i32 : BitVec 32 := 1#32
  let arg22 : BitVec 32 := Scf.iv c0_i32_0 c1_i32 k0_t1
  let v72 : Index := Scalar.indexCast arg22
  ![v71.toNat, v72.toNat]
def k0_off4 (arg23 : BitVec 32) : Fin 2 → Nat :=
  let c0_65 : Index := 0#32
  let v81 : Index := Scalar.indexCast arg23
  ![0, v81.toNat]
def k0_cond1 (v1 : BitVec 32) (v3 : BitVec 32) (v5 : BitVec 32) (k0_t1 : Fin k0_t1_loop.trips) (v73 : BitVec 32) : BitVec 1 :=
  let c0_i32_0 : BitVec 32 := 0#32
  let c1_i32 : BitVec 32 := 1#32
  let arg22 : BitVec 32 := Scf.iv c0_i32_0 c1_i32 k0_t1
  let c3_i32_63 : BitVec 32 := 3#32
  let v69 : BitVec 1 := Scalar.cmpi .slt arg22 c3_i32_63
  let c3_i32 : BitVec 32 := 3#32
  let v63 : BitVec 32 := Scalar.subi arg22 c3_i32
  let v64 : BitVec 32 := Scalar.subi v63 v1
  let c18_i32 : BitVec 32 := 18#32
  let v65 : BitVec 32 := Scalar.remsi v64 c18_i32
  let c0_i32_61 : BitVec 32 := 0#32
  let v66 : BitVec 1 := Scalar.cmpi .slt v65 c0_i32_61
  let c18_i32_62 : BitVec 32 := 18#32
  let v67 : BitVec 32 := Scalar.addi v65 c18_i32_62
  let v68 : BitVec 32 := Scalar.select v66 v67 v65
  let v70 : BitVec 1 := Scalar.cmpi .slt v68 v3
  let c8_i32 : BitVec 32 := 8#32
  let v6 : BitVec 32 := Scalar.subi v5 c8_i32
  let v74 : BitVec 1 := Scalar.cmpi .sge v73 v6
  let v75 : BitVec 1 := Scalar.andi v70 v74
  let v76 : BitVec 1 := Scalar.ori v69 v75
  let v77 : BitVec 32 := Scalar.extui v76
  let c0_i32_64 : BitVec 32 := 0#32
  let v78 : BitVec 1 := Scalar.cmpi .ne v77 c0_i32_64
  v78

def k0_chk1 (v1 : BitVec 32) (v3 : BitVec 32) (v5 : BitVec 32) (k0_t1 : Fin k0_t1_loop.trips) (arg23 : BitVec 32) (v73 : BitVec 32) : Prop :=
  (∀ (k0_h1 : k0_cond1 v1 v3 v5 k0_t1 v73 = 1#1), ∀ a, (k0_off4 arg23) a + S1x1.size a ≤ S3x21.size a)
theorem k0_off4_inb : ∀ (v1 : BitVec 32) (v3 : BitVec 32) (v5 : BitVec 32) (k0_t1 : Fin k0_t1_loop.trips) (arg23 : BitVec 32) (v73 : BitVec 32) (k0_hw1 : k0_chk1 v1 v3 v5 k0_t1 arg23 v73), ∀ (k0_h1 : k0_cond1 v1 v3 v5 k0_t1 v73 = 1#1), ∀ a, (k0_off4 arg23) a + S1x1.size a ≤ S3x21.size a := fun v1 v3 v5 k0_t1 arg23 v73 k0_hw1 k0_h1 => k0_hw1 k0_h1

def k0_off5 (i : grid0.Coords) : Fin 2 → Nat :=
  let arg0 : BitVec 32 := BitVec.ofNat 32 (i 0).val
  let v10 : Index := Scalar.indexCast arg0
  let c1 : Index := 1#32
  ![v10.toNat, 1]
@[reducible] def k0_t2_loop : Scf.Loop 32 :=
  let c0_i32_5 : BitVec 32 := 0#32
  let c21_i32_6 : BitVec 32 := 21#32
  let v13 : BitVec 32 := Scalar.addi c0_i32_5 c21_i32_6
  let c1_i32_7 : BitVec 32 := 1#32
  ⟨c0_i32_5, v13, c1_i32_7⟩
def k0_off6 (i : grid0.Coords) (k0_t2 : Fin k0_t2_loop.trips) : Fin 2 → Nat :=
  let arg0 : BitVec 32 := BitVec.ofNat 32 (i 0).val
  let v71 : Index := Scalar.indexCast arg0
  let c0_i32_5 : BitVec 32 := 0#32
  let c1_i32_7 : BitVec 32 := 1#32
  let arg22 : BitVec 32 := Scf.iv c0_i32_5 c1_i32_7 k0_t2
  let v72 : Index := Scalar.indexCast arg22
  ![v71.toNat, v72.toNat]
def k0_off7 (arg23 : BitVec 32) : Fin 2 → Nat :=
  let c1_65 : Index := 1#32
  let v81 : Index := Scalar.indexCast arg23
  ![1, v81.toNat]
def k0_cond2 (v1 : BitVec 32) (v3 : BitVec 32) (v11 : BitVec 32) (k0_t2 : Fin k0_t2_loop.trips) (v73 : BitVec 32) : BitVec 1 :=
  let c0_i32_5 : BitVec 32 := 0#32
  let c1_i32_7 : BitVec 32 := 1#32
  let arg22 : BitVec 32 := Scf.iv c0_i32_5 c1_i32_7 k0_t2
  let c3_i32_63 : BitVec 32 := 3#32
  let v69 : BitVec 1 := Scalar.cmpi .slt arg22 c3_i32_63
  let c3_i32 : BitVec 32 := 3#32
  let v63 : BitVec 32 := Scalar.subi arg22 c3_i32
  let v64 : BitVec 32 := Scalar.subi v63 v1
  let c18_i32 : BitVec 32 := 18#32
  let v65 : BitVec 32 := Scalar.remsi v64 c18_i32
  let c0_i32_61 : BitVec 32 := 0#32
  let v66 : BitVec 1 := Scalar.cmpi .slt v65 c0_i32_61
  let c18_i32_62 : BitVec 32 := 18#32
  let v67 : BitVec 32 := Scalar.addi v65 c18_i32_62
  let v68 : BitVec 32 := Scalar.select v66 v67 v65
  let v70 : BitVec 1 := Scalar.cmpi .slt v68 v3
  let c8_i32_3 : BitVec 32 := 8#32
  let v12 : BitVec 32 := Scalar.subi v11 c8_i32_3
  let v74 : BitVec 1 := Scalar.cmpi .sge v73 v12
  let v75 : BitVec 1 := Scalar.andi v70 v74
  let v76 : BitVec 1 := Scalar.ori v69 v75
  let v77 : BitVec 32 := Scalar.extui v76
  let c0_i32_64 : BitVec 32 := 0#32
  let v78 : BitVec 1 := Scalar.cmpi .ne v77 c0_i32_64
  v78

def k0_chk2 (v1 : BitVec 32) (v3 : BitVec 32) (v11 : BitVec 32) (k0_t2 : Fin k0_t2_loop.trips) (arg23 : BitVec 32) (v73 : BitVec 32) : Prop :=
  (∀ (k0_h2 : k0_cond2 v1 v3 v11 k0_t2 v73 = 1#1), ∀ a, (k0_off7 arg23) a + S1x1.size a ≤ S3x21.size a)
theorem k0_off7_inb : ∀ (v1 : BitVec 32) (v3 : BitVec 32) (v11 : BitVec 32) (k0_t2 : Fin k0_t2_loop.trips) (arg23 : BitVec 32) (v73 : BitVec 32) (k0_hw2 : k0_chk2 v1 v3 v11 k0_t2 arg23 v73), ∀ (k0_h2 : k0_cond2 v1 v3 v11 k0_t2 v73 = 1#1), ∀ a, (k0_off7 arg23) a + S1x1.size a ≤ S3x21.size a := fun v1 v3 v11 k0_t2 arg23 v73 k0_hw2 k0_h2 => k0_hw2 k0_h2

def k0_off8 (i : grid0.Coords) : Fin 2 → Nat :=
  let arg0 : BitVec 32 := BitVec.ofNat 32 (i 0).val
  let v16 : Index := Scalar.indexCast arg0
  let c2 : Index := 2#32
  ![v16.toNat, 2]
@[reducible] def k0_t3_loop : Scf.Loop 32 :=
  let c0_i32_12 : BitVec 32 := 0#32
  let c21_i32_13 : BitVec 32 := 21#32
  let v19 : BitVec 32 := Scalar.addi c0_i32_12 c21_i32_13
  let c1_i32_14 : BitVec 32 := 1#32
  ⟨c0_i32_12, v19, c1_i32_14⟩
def k0_off9 (i : grid0.Coords) (k0_t3 : Fin k0_t3_loop.trips) : Fin 2 → Nat :=
  let arg0 : BitVec 32 := BitVec.ofNat 32 (i 0).val
  let v71 : Index := Scalar.indexCast arg0
  let c0_i32_12 : BitVec 32 := 0#32
  let c1_i32_14 : BitVec 32 := 1#32
  let arg22 : BitVec 32 := Scf.iv c0_i32_12 c1_i32_14 k0_t3
  let v72 : Index := Scalar.indexCast arg22
  ![v71.toNat, v72.toNat]
def k0_off10 (arg23 : BitVec 32) : Fin 2 → Nat :=
  let c2_65 : Index := 2#32
  let v81 : Index := Scalar.indexCast arg23
  ![2, v81.toNat]
def k0_cond3 (v1 : BitVec 32) (v3 : BitVec 32) (v17 : BitVec 32) (k0_t3 : Fin k0_t3_loop.trips) (v73 : BitVec 32) : BitVec 1 :=
  let c0_i32_12 : BitVec 32 := 0#32
  let c1_i32_14 : BitVec 32 := 1#32
  let arg22 : BitVec 32 := Scf.iv c0_i32_12 c1_i32_14 k0_t3
  let c3_i32_63 : BitVec 32 := 3#32
  let v69 : BitVec 1 := Scalar.cmpi .slt arg22 c3_i32_63
  let c3_i32 : BitVec 32 := 3#32
  let v63 : BitVec 32 := Scalar.subi arg22 c3_i32
  let v64 : BitVec 32 := Scalar.subi v63 v1
  let c18_i32 : BitVec 32 := 18#32
  let v65 : BitVec 32 := Scalar.remsi v64 c18_i32
  let c0_i32_61 : BitVec 32 := 0#32
  let v66 : BitVec 1 := Scalar.cmpi .slt v65 c0_i32_61
  let c18_i32_62 : BitVec 32 := 18#32
  let v67 : BitVec 32 := Scalar.addi v65 c18_i32_62
  let v68 : BitVec 32 := Scalar.select v66 v67 v65
  let v70 : BitVec 1 := Scalar.cmpi .slt v68 v3
  let c8_i32_10 : BitVec 32 := 8#32
  let v18 : BitVec 32 := Scalar.subi v17 c8_i32_10
  let v74 : BitVec 1 := Scalar.cmpi .sge v73 v18
  let v75 : BitVec 1 := Scalar.andi v70 v74
  let v76 : BitVec 1 := Scalar.ori v69 v75
  let v77 : BitVec 32 := Scalar.extui v76
  let c0_i32_64 : BitVec 32 := 0#32
  let v78 : BitVec 1 := Scalar.cmpi .ne v77 c0_i32_64
  v78

def k0_chk3 (v1 : BitVec 32) (v3 : BitVec 32) (v17 : BitVec 32) (k0_t3 : Fin k0_t3_loop.trips) (arg23 : BitVec 32) (v73 : BitVec 32) : Prop :=
  (∀ (k0_h3 : k0_cond3 v1 v3 v17 k0_t3 v73 = 1#1), ∀ a, (k0_off10 arg23) a + S1x1.size a ≤ S3x21.size a)
theorem k0_off10_inb : ∀ (v1 : BitVec 32) (v3 : BitVec 32) (v17 : BitVec 32) (k0_t3 : Fin k0_t3_loop.trips) (arg23 : BitVec 32) (v73 : BitVec 32) (k0_hw3 : k0_chk3 v1 v3 v17 k0_t3 arg23 v73), ∀ (k0_h3 : k0_cond3 v1 v3 v17 k0_t3 v73 = 1#1), ∀ a, (k0_off10 arg23) a + S1x1.size a ≤ S3x21.size a := fun v1 v3 v17 k0_t3 arg23 v73 k0_hw3 k0_h3 => k0_hw3 k0_h3

@[reducible] def k0_t4_loop : Scf.Loop 32 :=
  let c0_i32_17 : BitVec 32 := 0#32
  let c21_i32_18 : BitVec 32 := 21#32
  let v22 : BitVec 32 := Scalar.addi c0_i32_17 c21_i32_18
  let c1_i32_19 : BitVec 32 := 1#32
  ⟨c0_i32_17, v22, c1_i32_19⟩
def k0_off11 (i : grid0.Coords) (k0_t4 : Fin k0_t4_loop.trips) : Fin 2 → Nat :=
  let arg0 : BitVec 32 := BitVec.ofNat 32 (i 0).val
  let v63 : Index := Scalar.indexCast arg0
  let c0_i32_17 : BitVec 32 := 0#32
  let c1_i32_19 : BitVec 32 := 1#32
  let arg22 : BitVec 32 := Scf.iv c0_i32_17 c1_i32_19 k0_t4
  let v64 : Index := Scalar.indexCast arg22
  ![v63.toNat, v64.toNat]
def k0_off12 (k0_t4 : Fin k0_t4_loop.trips) : Fin 5 → Nat :=
  let c0_61 : Index := 0#32
  let c0_i32_17 : BitVec 32 := 0#32
  let c1_i32_19 : BitVec 32 := 1#32
  let arg22 : BitVec 32 := Scf.iv c0_i32_17 c1_i32_19 k0_t4
  let v66 : Index := Scalar.indexCast arg22
  let c0_62 : Index := 0#32
  let c0_63 : Index := 0#32
  let c0_64 : Index := 0#32
  ![0, v66.toNat, 0, 0, 0]
def k0_off13 (v65 : BitVec 32) : Fin 2 → Nat :=
  let v72 : Index := Scalar.indexCast v65
  let c0_67 : Index := 0#32
  ![v72.toNat, 0]

def k0_chk4 (v65 : BitVec 32) : Prop :=
  (∀ a, (k0_off13 v65) a + S1x128.size a ≤ S1024x128.size a)
theorem k0_off13_inb : ∀ (v65 : BitVec 32) (k0_hw4 : k0_chk4 v65), ∀ a, (k0_off13 v65) a + S1x128.size a ≤ S1024x128.size a := fun v65 k0_hw4 => k0_hw4

def k0_off14 (k0_t4 : Fin k0_t4_loop.trips) : Fin 3 → Nat :=
  let c0_i32_17 : BitVec 32 := 0#32
  let c1_i32_19 : BitVec 32 := 1#32
  let arg22 : BitVec 32 := Scf.iv c0_i32_17 c1_i32_19 k0_t4
  let v110 : Index := Scalar.indexCast arg22
  let c0_78 : Index := 0#32
  let c0_79 : Index := 0#32
  ![v110.toNat, 0, 0]
def k0_off15 (k0_t4 : Fin k0_t4_loop.trips) : Fin 5 → Nat :=
  let c0_80 : Index := 0#32
  let c0_i32_17 : BitVec 32 := 0#32
  let c1_i32_19 : BitVec 32 := 1#32
  let arg22 : BitVec 32 := Scf.iv c0_i32_17 c1_i32_19 k0_t4
  let v114 : Index := Scalar.indexCast arg22
  let c0_81 : Index := 0#32
  let c0_82 : Index := 0#32
  let c0_83 : Index := 0#32
  ![0, v114.toNat, 0, 0, 0]
def k0_off16 (k0_t4 : Fin k0_t4_loop.trips) : Fin 3 → Nat :=
  let c0_i32_17 : BitVec 32 := 0#32
  let c1_i32_19 : BitVec 32 := 1#32
  let arg22 : BitVec 32 := Scf.iv c0_i32_17 c1_i32_19 k0_t4
  let v120 : Index := Scalar.indexCast arg22
  let c0_84 : Index := 0#32
  let c0_85 : Index := 0#32
  ![v120.toNat, 0, 0]
@[reducible] def k0_t5_loop : Scf.Loop 32 :=
  let c0_i32_58 : BitVec 32 := 0#32
  let c15_i32 : BitVec 32 := 15#32
  let v62 : BitVec 32 := Scalar.addi c0_i32_58 c15_i32
  let c1_i32_59 : BitVec 32 := 1#32
  ⟨c0_i32_58, v62, c1_i32_59⟩
def k0_mult1 (k0_t5 : Fin k0_t5_loop.trips) : BitVec 32 :=
  let c0_i32_58 : BitVec 32 := 0#32
  let c1_i32_59 : BitVec 32 := 1#32
  let arg22 : BitVec 32 := Scf.iv c0_i32_58 c1_i32_59 k0_t5
  let c312_i32 : BitVec 32 := 312#32
  let v80 : BitVec 32 := Scalar.muli arg22 c312_i32
  v80
def k0_off17 (k0_t5 : Fin k0_t5_loop.trips) : Fin 4 → Nat :=
  let c0_67 : Index := 0#32
  let c0_68 : Index := 0#32
  let c0_i32_58 : BitVec 32 := 0#32
  let c1_i32_59 : BitVec 32 := 1#32
  let arg22 : BitVec 32 := Scf.iv c0_i32_58 c1_i32_59 k0_t5
  let c312_i32 : BitVec 32 := 312#32
  let v80 : BitVec 32 := Scalar.muli arg22 c312_i32
  let v81 : BitVec 32 := v80
  let v82 : Index := Scalar.indexCast v81
  let c0_69 : Index := 0#32
  ![0, 0, v82.toNat, 0]
def k0_off18 (k0_t5 : Fin k0_t5_loop.trips) : Fin 1 → Nat :=
  let c0_i32_58 : BitVec 32 := 0#32
  let c1_i32_59 : BitVec 32 := 1#32
  let arg22 : BitVec 32 := Scf.iv c0_i32_58 c1_i32_59 k0_t5
  let c0_i32_61 : BitVec 32 := 0#32
  let v64 : BitVec 1 := Scalar.cmpi .sgt arg22 c0_i32_61
  let v65 : BitVec 32 := Scalar.extui v64
  let c0_i32_62 : BitVec 32 := 0#32
  let v66 : BitVec 1 := Scalar.cmpi .slt arg22 c0_i32_62
  let v67 : BitVec 32 := Scalar.extui v66
  let v68 : BitVec 32 := Scalar.subi v65 v67
  let c5_i32 : BitVec 32 := 5#32
  let c0_i32_63 : BitVec 32 := 0#32
  let v69 : BitVec 1 := Scalar.cmpi .sgt c5_i32 c0_i32_63
  let v70 : BitVec 32 := Scalar.extui v69
  let c0_i32_64 : BitVec 32 := 0#32
  let v71 : BitVec 1 := Scalar.cmpi .slt c5_i32 c0_i32_64
  let v72 : BitVec 32 := Scalar.extui v71
  let v73 : BitVec 32 := Scalar.subi v70 v72
  let v74 : BitVec 1 := Scalar.cmpi .ne v68 v73
  let v75 : BitVec 32 := Scalar.remsi arg22 c5_i32
  let c0_i32_65 : BitVec 32 := 0#32
  let v76 : BitVec 1 := Scalar.cmpi .ne v75 c0_i32_65
  let v77 : BitVec 1 := Scalar.andi v74 v76
  let v63 : BitVec 32 := Scalar.divsi arg22 c5_i32
  let c1_i32_66 : BitVec 32 := 1#32
  let v78 : BitVec 32 := Scalar.subi v63 c1_i32_66
  let v79 : BitVec 32 := Scalar.select v77 v78 v63
  let v85 : Index := Scalar.indexCast v79
  ![v85.toNat]
@[reducible] def k0_t6_loop (v86 : BitVec 32) : Scf.Loop 32 :=
  let c0_i32_72 : BitVec 32 := 0#32
  let c3_i32 : BitVec 32 := 3#32
  let v90 : BitVec 32 := Scalar.addi v86 c3_i32
  let v91 : BitVec 32 := Scalar.subi v90 c0_i32_72
  let c1_i32_73 : BitVec 32 := 1#32
  let v93 : BitVec 32 := Scalar.divsi v91 c1_i32_73
  let v94 : BitVec 32 := Scalar.muli v93 c1_i32_73
  let v95 : BitVec 32 := Scalar.addi c0_i32_72 v94
  let c1_i32_74 : BitVec 32 := 1#32
  ⟨c0_i32_72, v95, c1_i32_74⟩

def k0_off19 (k0_t5 : Fin k0_t5_loop.trips) (v86 : BitVec 32) (k0_t6 : Fin (k0_t6_loop v86).trips) : Fin 2 → Nat :=
  let c0_i32_58 : BitVec 32 := 0#32
  let c1_i32_59 : BitVec 32 := 1#32
  let arg22 : BitVec 32 := Scf.iv c0_i32_58 c1_i32_59 k0_t5
  let c0_i32_61 : BitVec 32 := 0#32
  let v64 : BitVec 1 := Scalar.cmpi .sgt arg22 c0_i32_61
  let v65 : BitVec 32 := Scalar.extui v64
  let c0_i32_62 : BitVec 32 := 0#32
  let v66 : BitVec 1 := Scalar.cmpi .slt arg22 c0_i32_62
  let v67 : BitVec 32 := Scalar.extui v66
  let v68 : BitVec 32 := Scalar.subi v65 v67
  let c5_i32 : BitVec 32 := 5#32
  let c0_i32_63 : BitVec 32 := 0#32
  let v69 : BitVec 1 := Scalar.cmpi .sgt c5_i32 c0_i32_63
  let v70 : BitVec 32 := Scalar.extui v69
  let c0_i32_64 : BitVec 32 := 0#32
  let v71 : BitVec 1 := Scalar.cmpi .slt c5_i32 c0_i32_64
  let v72 : BitVec 32 := Scalar.extui v71
  let v73 : BitVec 32 := Scalar.subi v70 v72
  let v74 : BitVec 1 := Scalar.cmpi .ne v68 v73
  let v75 : BitVec 32 := Scalar.remsi arg22 c5_i32
  let c0_i32_65 : BitVec 32 := 0#32
  let v76 : BitVec 1 := Scalar.cmpi .ne v75 c0_i32_65
  let v77 : BitVec 1 := Scalar.andi v74 v76
  let v63 : BitVec 32 := Scalar.divsi arg22 c5_i32
  let c1_i32_66 : BitVec 32 := 1#32
  let v78 : BitVec 32 := Scalar.subi v63 c1_i32_66
  let v79 : BitVec 32 := Scalar.select v77 v78 v63
  let v107 : Index := Scalar.indexCast v79
  let c0_i32_72 : BitVec 32 := 0#32
  let c1_i32_74 : BitVec 32 := 1#32
  let arg23 : BitVec 32 := Scf.iv c0_i32_72 c1_i32_74 k0_t6
  let c20_i32 : BitVec 32 := 20#32
  let v106 : BitVec 32 := Scalar.minsi arg23 c20_i32
  let v108 : Index := Scalar.indexCast v106
  ![v107.toNat, v108.toNat]
def k0_off20 (i : grid0.Coords) (v86 : BitVec 32) (k0_t6 : Fin (k0_t6_loop v86).trips) (v109 : BitVec 32) : Fin 1 → Nat :=
  let arg0 : BitVec 32 := BitVec.ofNat 32 (i 0).val
  let c21_i32_81 : BitVec 32 := 21#32
  let v115 : BitVec 32 := Scalar.muli arg0 c21_i32_81
  let c0_i32_72 : BitVec 32 := 0#32
  let c1_i32_74 : BitVec 32 := 1#32
  let arg23 : BitVec 32 := Scf.iv c0_i32_72 c1_i32_74 k0_t6
  let v105 : BitVec 1 := Scalar.cmpi .slt arg23 v86
  let c21_i32_79 : BitVec 32 := 21#32
  let v110 : BitVec 32 := Scalar.addi c21_i32_79 arg23
  let v111 : BitVec 32 := Scalar.subi v110 v86
  let v112 : BitVec 32 := Scalar.select v105 v109 v111
  let c20_i32_80 : BitVec 32 := 20#32
  let v113 : BitVec 32 := Scalar.minsi v112 c20_i32_80
  let v116 : BitVec 32 := Scalar.addi v115 v113
  let c12_i32 : BitVec 32 := 12#32
  let v117 : BitVec 32 := Scalar.muli v116 c12_i32
  let arg1 : BitVec 32 := BitVec.ofNat 32 (i 1).val
  let v118 : BitVec 32 := Scalar.addi v117 arg1
  let v119 : Index := Scalar.indexCast v118
  ![v119.toNat]

def k0_off21 (v86 : BitVec 32) (k0_t6 : Fin (k0_t6_loop v86).trips) (v109 : BitVec 32) : Fin 3 → Nat :=
  let c0_i32_72 : BitVec 32 := 0#32
  let c1_i32_74 : BitVec 32 := 1#32
  let arg23 : BitVec 32 := Scf.iv c0_i32_72 c1_i32_74 k0_t6
  let v105 : BitVec 1 := Scalar.cmpi .slt arg23 v86
  let c21_i32_79 : BitVec 32 := 21#32
  let v110 : BitVec 32 := Scalar.addi c21_i32_79 arg23
  let v111 : BitVec 32 := Scalar.subi v110 v86
  let v112 : BitVec 32 := Scalar.select v105 v109 v111
  let v130 : Index := Scalar.indexCast v112
  let c0_86 : Index := 0#32
  let c0_87 : Index := 0#32
  ![v130.toNat, 0, 0]
def k0_off22 (v86 : BitVec 32) (k0_t6 : Fin (k0_t6_loop v86).trips) (v109 : BitVec 32) : Fin 3 → Nat :=
  let c0_i32_72 : BitVec 32 := 0#32
  let c1_i32_74 : BitVec 32 := 1#32
  let arg23 : BitVec 32 := Scf.iv c0_i32_72 c1_i32_74 k0_t6
  let v105 : BitVec 1 := Scalar.cmpi .slt arg23 v86
  let c21_i32_79 : BitVec 32 := 21#32
  let v110 : BitVec 32 := Scalar.addi c21_i32_79 arg23
  let v111 : BitVec 32 := Scalar.subi v110 v86
  let v112 : BitVec 32 := Scalar.select v105 v109 v111
  let v153 : Index := Scalar.indexCast v112
  let c0_93 : Index := 0#32
  let c0_94 : Index := 0#32
  ![v153.toNat, 0, 0]

def k0_chk6 (i : grid0.Coords) (v86 : BitVec 32) (k0_t6 : Fin (k0_t6_loop v86).trips) (v109 : BitVec 32) : Prop :=
  (∀ a, (k0_off20 i v86 k0_t6 v109) a + S1.size a ≤ S504.size a) ∧
  (∀ a, (k0_off21 v86 k0_t6 v109) a + S1x1560x128.size a ≤ S24x1560x128.size a) ∧
  (∀ a, (k0_off22 v86 k0_t6 v109) a + S1x128x1560.size a ≤ S24x128x1560.size a)
theorem k0_off20_inb : ∀ (i : grid0.Coords) (v86 : BitVec 32) (k0_t6 : Fin (k0_t6_loop v86).trips) (v109 : BitVec 32) (k0_hw6 : k0_chk6 i v86 k0_t6 v109), ∀ a, (k0_off20 i v86 k0_t6 v109) a + S1.size a ≤ S504.size a := fun i v86 k0_t6 v109 k0_hw6 => k0_hw6.1
theorem k0_off21_inb : ∀ (i : grid0.Coords) (v86 : BitVec 32) (k0_t6 : Fin (k0_t6_loop v86).trips) (v109 : BitVec 32) (k0_hw6 : k0_chk6 i v86 k0_t6 v109), ∀ a, (k0_off21 v86 k0_t6 v109) a + S1x1560x128.size a ≤ S24x1560x128.size a := fun i v86 k0_t6 v109 k0_hw6 => k0_hw6.2.1
theorem k0_off22_inb : ∀ (i : grid0.Coords) (v86 : BitVec 32) (k0_t6 : Fin (k0_t6_loop v86).trips) (v109 : BitVec 32) (k0_hw6 : k0_chk6 i v86 k0_t6 v109), ∀ a, (k0_off22 v86 k0_t6 v109) a + S1x128x1560.size a ≤ S24x128x1560.size a := fun i v86 k0_t6 v109 k0_hw6 => k0_hw6.2.2

@[reducible] def k0_t7_loop (v86 : BitVec 32) : Scf.Loop 32 :=
  let c0_i32_72 : BitVec 32 := 0#32
  let c3_i32 : BitVec 32 := 3#32
  let v90 : BitVec 32 := Scalar.addi v86 c3_i32
  let v91 : BitVec 32 := Scalar.subi v90 c0_i32_72
  let c1_i32_73 : BitVec 32 := 1#32
  let v93 : BitVec 32 := Scalar.divsi v91 c1_i32_73
  let v94 : BitVec 32 := Scalar.muli v93 c1_i32_73
  let v95 : BitVec 32 := Scalar.addi c0_i32_72 v94
  let v92 : BitVec 32 := Scalar.addi c0_i32_72 v91
  let c1_i32_75 : BitVec 32 := 1#32
  ⟨v95, v92, c1_i32_75⟩
def k0_off23 (k0_t5 : Fin k0_t5_loop.trips) (v86 : BitVec 32) (k0_t7 : Fin (k0_t7_loop v86).trips) : Fin 2 → Nat :=
  let c0_i32_58 : BitVec 32 := 0#32
  let c1_i32_59 : BitVec 32 := 1#32
  let arg22 : BitVec 32 := Scf.iv c0_i32_58 c1_i32_59 k0_t5
  let c0_i32_61 : BitVec 32 := 0#32
  let v64 : BitVec 1 := Scalar.cmpi .sgt arg22 c0_i32_61
  let v65 : BitVec 32 := Scalar.extui v64
  let c0_i32_62 : BitVec 32 := 0#32
  let v66 : BitVec 1 := Scalar.cmpi .slt arg22 c0_i32_62
  let v67 : BitVec 32 := Scalar.extui v66
  let v68 : BitVec 32 := Scalar.subi v65 v67
  let c5_i32 : BitVec 32 := 5#32
  let c0_i32_63 : BitVec 32 := 0#32
  let v69 : BitVec 1 := Scalar.cmpi .sgt c5_i32 c0_i32_63
  let v70 : BitVec 32 := Scalar.extui v69
  let c0_i32_64 : BitVec 32 := 0#32
  let v71 : BitVec 1 := Scalar.cmpi .slt c5_i32 c0_i32_64
  let v72 : BitVec 32 := Scalar.extui v71
  let v73 : BitVec 32 := Scalar.subi v70 v72
  let v74 : BitVec 1 := Scalar.cmpi .ne v68 v73
  let v75 : BitVec 32 := Scalar.remsi arg22 c5_i32
  let c0_i32_65 : BitVec 32 := 0#32
  let v76 : BitVec 1 := Scalar.cmpi .ne v75 c0_i32_65
  let v77 : BitVec 1 := Scalar.andi v74 v76
  let v63 : BitVec 32 := Scalar.divsi arg22 c5_i32
  let c1_i32_66 : BitVec 32 := 1#32
  let v78 : BitVec 32 := Scalar.subi v63 c1_i32_66
  let v79 : BitVec 32 := Scalar.select v77 v78 v63
  let v107 : Index := Scalar.indexCast v79
  let c0_i32_72 : BitVec 32 := 0#32
  let c3_i32 : BitVec 32 := 3#32
  let v90 : BitVec 32 := Scalar.addi v86 c3_i32
  let v91 : BitVec 32 := Scalar.subi v90 c0_i32_72
  let c1_i32_73 : BitVec 32 := 1#32
  let v93 : BitVec 32 := Scalar.divsi v91 c1_i32_73
  let v94 : BitVec 32 := Scalar.muli v93 c1_i32_73
  let v95 : BitVec 32 := Scalar.addi c0_i32_72 v94
  let c1_i32_75 : BitVec 32 := 1#32
  let arg23 : BitVec 32 := Scf.iv v95 c1_i32_75 k0_t7
  let c20_i32 : BitVec 32 := 20#32
  let v106 : BitVec 32 := Scalar.minsi arg23 c20_i32
  let v108 : Index := Scalar.indexCast v106
  ![v107.toNat, v108.toNat]

def k0_chk5 (k0_t5 : Fin k0_t5_loop.trips) (v86 : BitVec 32) : Prop :=
  ((k0_t6_loop v86).OK) ∧
  (∀ k0_t6 : Fin (k0_t6_loop v86).trips, ∀ a, (k0_off19 k0_t5 v86 k0_t6) a + S1x1.size a ≤ S3x21.size a) ∧
  ((k0_t7_loop v86).OK) ∧
  (∀ k0_t7 : Fin (k0_t7_loop v86).trips, ∀ a, (k0_off23 k0_t5 v86 k0_t7) a + S1x1.size a ≤ S3x21.size a)
theorem k0_t6_ok : ∀ (k0_t5 : Fin k0_t5_loop.trips) (v86 : BitVec 32) (k0_hw5 : k0_chk5 k0_t5 v86), (k0_t6_loop v86).OK := fun k0_t5 v86 k0_hw5 => k0_hw5.1
theorem k0_off19_inb : ∀ (k0_t5 : Fin k0_t5_loop.trips) (v86 : BitVec 32) (k0_hw5 : k0_chk5 k0_t5 v86) (k0_t6 : Fin (k0_t6_loop v86).trips), ∀ a, (k0_off19 k0_t5 v86 k0_t6) a + S1x1.size a ≤ S3x21.size a := fun k0_t5 v86 k0_hw5 k0_t6 => k0_hw5.2.1 k0_t6
theorem k0_t7_ok : ∀ (k0_t5 : Fin k0_t5_loop.trips) (v86 : BitVec 32) (k0_hw5 : k0_chk5 k0_t5 v86), (k0_t7_loop v86).OK := fun k0_t5 v86 k0_hw5 => k0_hw5.2.2.1
theorem k0_off23_inb : ∀ (k0_t5 : Fin k0_t5_loop.trips) (v86 : BitVec 32) (k0_hw5 : k0_chk5 k0_t5 v86) (k0_t7 : Fin (k0_t7_loop v86).trips), ∀ a, (k0_off23 k0_t5 v86 k0_t7) a + S1x1.size a ≤ S3x21.size a := fun k0_t5 v86 k0_hw5 k0_t7 => k0_hw5.2.2.2 k0_t7

def k0_off24 (i : grid0.Coords) (v86 : BitVec 32) (k0_t7 : Fin (k0_t7_loop v86).trips) (v109 : BitVec 32) : Fin 1 → Nat :=
  let arg0 : BitVec 32 := BitVec.ofNat 32 (i 0).val
  let c21_i32_81 : BitVec 32 := 21#32
  let v115 : BitVec 32 := Scalar.muli arg0 c21_i32_81
  let c0_i32_72 : BitVec 32 := 0#32
  let c3_i32 : BitVec 32 := 3#32
  let v90 : BitVec 32 := Scalar.addi v86 c3_i32
  let v91 : BitVec 32 := Scalar.subi v90 c0_i32_72
  let c1_i32_73 : BitVec 32 := 1#32
  let v93 : BitVec 32 := Scalar.divsi v91 c1_i32_73
  let v94 : BitVec 32 := Scalar.muli v93 c1_i32_73
  let v95 : BitVec 32 := Scalar.addi c0_i32_72 v94
  let c1_i32_75 : BitVec 32 := 1#32
  let arg23 : BitVec 32 := Scf.iv v95 c1_i32_75 k0_t7
  let v105 : BitVec 1 := Scalar.cmpi .slt arg23 v86
  let c21_i32_79 : BitVec 32 := 21#32
  let v110 : BitVec 32 := Scalar.addi c21_i32_79 arg23
  let v111 : BitVec 32 := Scalar.subi v110 v86
  let v112 : BitVec 32 := Scalar.select v105 v109 v111
  let c20_i32_80 : BitVec 32 := 20#32
  let v113 : BitVec 32 := Scalar.minsi v112 c20_i32_80
  let v116 : BitVec 32 := Scalar.addi v115 v113
  let c12_i32 : BitVec 32 := 12#32
  let v117 : BitVec 32 := Scalar.muli v116 c12_i32
  let arg1 : BitVec 32 := BitVec.ofNat 32 (i 1).val
  let v118 : BitVec 32 := Scalar.addi v117 arg1
  let v119 : Index := Scalar.indexCast v118
  ![v119.toNat]

def k0_off25 (v86 : BitVec 32) (k0_t7 : Fin (k0_t7_loop v86).trips) (v109 : BitVec 32) : Fin 3 → Nat :=
  let c0_i32_72 : BitVec 32 := 0#32
  let c3_i32 : BitVec 32 := 3#32
  let v90 : BitVec 32 := Scalar.addi v86 c3_i32
  let v91 : BitVec 32 := Scalar.subi v90 c0_i32_72
  let c1_i32_73 : BitVec 32 := 1#32
  let v93 : BitVec 32 := Scalar.divsi v91 c1_i32_73
  let v94 : BitVec 32 := Scalar.muli v93 c1_i32_73
  let v95 : BitVec 32 := Scalar.addi c0_i32_72 v94
  let c1_i32_75 : BitVec 32 := 1#32
  let arg23 : BitVec 32 := Scf.iv v95 c1_i32_75 k0_t7
  let v105 : BitVec 1 := Scalar.cmpi .slt arg23 v86
  let c21_i32_79 : BitVec 32 := 21#32
  let v110 : BitVec 32 := Scalar.addi c21_i32_79 arg23
  let v111 : BitVec 32 := Scalar.subi v110 v86
  let v112 : BitVec 32 := Scalar.select v105 v109 v111
  let v130 : Index := Scalar.indexCast v112
  let c0_86 : Index := 0#32
  let c0_87 : Index := 0#32
  ![v130.toNat, 0, 0]
def k0_off26 (v86 : BitVec 32) (k0_t7 : Fin (k0_t7_loop v86).trips) (v109 : BitVec 32) : Fin 3 → Nat :=
  let c0_i32_72 : BitVec 32 := 0#32
  let c3_i32 : BitVec 32 := 3#32
  let v90 : BitVec 32 := Scalar.addi v86 c3_i32
  let v91 : BitVec 32 := Scalar.subi v90 c0_i32_72
  let c1_i32_73 : BitVec 32 := 1#32
  let v93 : BitVec 32 := Scalar.divsi v91 c1_i32_73
  let v94 : BitVec 32 := Scalar.muli v93 c1_i32_73
  let v95 : BitVec 32 := Scalar.addi c0_i32_72 v94
  let c1_i32_75 : BitVec 32 := 1#32
  let arg23 : BitVec 32 := Scf.iv v95 c1_i32_75 k0_t7
  let v105 : BitVec 1 := Scalar.cmpi .slt arg23 v86
  let c21_i32_79 : BitVec 32 := 21#32
  let v110 : BitVec 32 := Scalar.addi c21_i32_79 arg23
  let v111 : BitVec 32 := Scalar.subi v110 v86
  let v112 : BitVec 32 := Scalar.select v105 v109 v111
  let v153 : Index := Scalar.indexCast v112
  let c0_93 : Index := 0#32
  let c0_94 : Index := 0#32
  ![v153.toNat, 0, 0]

def k0_chk7 (i : grid0.Coords) (v86 : BitVec 32) (k0_t7 : Fin (k0_t7_loop v86).trips) (v109 : BitVec 32) : Prop :=
  (∀ a, (k0_off24 i v86 k0_t7 v109) a + S1.size a ≤ S504.size a) ∧
  (∀ a, (k0_off25 v86 k0_t7 v109) a + S1x1560x128.size a ≤ S24x1560x128.size a) ∧
  (∀ a, (k0_off26 v86 k0_t7 v109) a + S1x128x1560.size a ≤ S24x128x1560.size a)
theorem k0_off24_inb : ∀ (i : grid0.Coords) (v86 : BitVec 32) (k0_t7 : Fin (k0_t7_loop v86).trips) (v109 : BitVec 32) (k0_hw7 : k0_chk7 i v86 k0_t7 v109), ∀ a, (k0_off24 i v86 k0_t7 v109) a + S1.size a ≤ S504.size a := fun i v86 k0_t7 v109 k0_hw7 => k0_hw7.1
theorem k0_off25_inb : ∀ (i : grid0.Coords) (v86 : BitVec 32) (k0_t7 : Fin (k0_t7_loop v86).trips) (v109 : BitVec 32) (k0_hw7 : k0_chk7 i v86 k0_t7 v109), ∀ a, (k0_off25 v86 k0_t7 v109) a + S1x1560x128.size a ≤ S24x1560x128.size a := fun i v86 k0_t7 v109 k0_hw7 => k0_hw7.2.1
theorem k0_off26_inb : ∀ (i : grid0.Coords) (v86 : BitVec 32) (k0_t7 : Fin (k0_t7_loop v86).trips) (v109 : BitVec 32) (k0_hw7 : k0_chk7 i v86 k0_t7 v109), ∀ a, (k0_off26 v86 k0_t7 v109) a + S1x128x1560.size a ≤ S24x128x1560.size a := fun i v86 k0_t7 v109 k0_hw7 => k0_hw7.2.2

def k0_off27 (k0_t5 : Fin k0_t5_loop.trips) : Fin 4 → Nat :=
  let c0_76 : Index := 0#32
  let c0_77 : Index := 0#32
  let c0_i32_58 : BitVec 32 := 0#32
  let c1_i32_59 : BitVec 32 := 1#32
  let arg22 : BitVec 32 := Scf.iv c0_i32_58 c1_i32_59 k0_t5
  let c312_i32 : BitVec 32 := 312#32
  let v80 : BitVec 32 := Scalar.muli arg22 c312_i32
  let v81 : BitVec 32 := v80
  let v101 : Index := Scalar.indexCast v81
  let c0_78 : Index := 0#32
  ![0, 0, v101.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S504 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S504 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4680x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4680x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4680x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x21x1x1560x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x21x1x1560x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1560x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1560x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x4680x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x12x4680x128 : Shape := ⟨4, ![2, 12, 4680, 128]⟩
abbrev S2x21x1560x12x128 : Shape := ⟨5, ![2, 21, 1560, 12, 128]⟩
abbrev S2x21x12 : Shape := ⟨3, ![2, 21, 12]⟩
abbrev S2 : Shape := ⟨1, ![2]⟩
abbrev S2x21 : Shape := ⟨2, ![2, 21]⟩
abbrev S2x3 : Shape := ⟨2, ![2, 3]⟩
abbrev S1024x22 : Shape := ⟨2, ![1024, 22]⟩
abbrev S1560x42 : Shape := ⟨2, ![1560, 42]⟩
abbrev S_ : Shape := ⟨0, ![]⟩
abbrev S2x21x1 : Shape := ⟨3, ![2, 21, 1]⟩
abbrev S2x21x22 : Shape := ⟨3, ![2, 21, 22]⟩
abbrev S2x21x1x22 : Shape := ⟨4, ![2, 21, 1, 22]⟩
abbrev S2x21x1560x22 : Shape := ⟨4, ![2, 21, 1560, 22]⟩
abbrev S2x21x1560x42 : Shape := ⟨4, ![2, 21, 1560, 42]⟩
abbrev S2x21x1560x64 : Shape := ⟨4, ![2, 21, 1560, 64]⟩
abbrev S2x21x1560x1x64 : Shape := ⟨5, ![2, 21, 1560, 1, 64]⟩
abbrev S2x21x1560x12x64 : Shape := ⟨5, ![2, 21, 1560, 12, 64]⟩
abbrev S2x21x1560x12x64x1 : Shape := ⟨6, ![2, 21, 1560, 12, 64, 1]⟩
abbrev S2x21x1560x12x64x2 : Shape := ⟨6, ![2, 21, 1560, 12, 64, 2]⟩
abbrev S21 : Shape := ⟨1, ![21]⟩
abbrev S2x1 : Shape := ⟨2, ![2, 1]⟩
abbrev S1x21 : Shape := ⟨2, ![1, 21]⟩
abbrev S2x1x21 : Shape := ⟨3, ![2, 1, 21]⟩
abbrev S2x3x1 : Shape := ⟨3, ![2, 3, 1]⟩
abbrev S2x3x21 : Shape := ⟨3, ![2, 3, 21]⟩
abbrev S1x1x21 : Shape := ⟨3, ![1, 1, 21]⟩
abbrev S2x12x3x1560x128 : Shape := ⟨5, ![2, 12, 3, 1560, 128]⟩
abbrev S2x12x21 : Shape := ⟨3, ![2, 12, 21]⟩
abbrev S2x12x1x1x21x1 : Shape := ⟨6, ![2, 12, 1, 1, 21, 1]⟩
abbrev S2x12x3x1560x21x1560 : Shape := ⟨6, ![2, 12, 3, 1560, 21, 1560]⟩
abbrev S2x1x3x1x21x1 : Shape := ⟨6, ![2, 1, 3, 1, 21, 1]⟩
abbrev S2x12x3x1560x4680 : Shape := ⟨5, ![2, 12, 3, 1560, 4680]⟩
abbrev S2x12x3x1560 : Shape := ⟨4, ![2, 12, 3, 1560]⟩
abbrev S2x12x3x1560x1x1 : Shape := ⟨6, ![2, 12, 3, 1560, 1, 1]⟩
abbrev S2x12x3x1560x1 : Shape := ⟨5, ![2, 12, 3, 1560, 1]⟩

abbrev nBuf : Space → Nat
  | .hbm => 175
  | .vmem => 4
  | .smem => 0
  | _ => 0

abbrev hbmTy0_0 (i : Nat) : BufTy := match i % 128 with
  | 0 => ⟨S2x12x4680x128, .bf16⟩
  | 1 => ⟨S2x12x4680x128, .bf16⟩
  | 2 => ⟨S2x12x4680x128, .bf16⟩
  | 3 => ⟨S2x21x1560x12x128, .fp8e4m3⟩
  | 4 => ⟨S2x21x1560x12x128, .fp8e4m3⟩
  | 5 => ⟨S2x21x12, .f32⟩
  | 6 => ⟨S2x21x12, .f32⟩
  | 7 => ⟨S2, .i32⟩
  | 8 => ⟨S2, .i32⟩
  | 9 => ⟨S2x21, .i32⟩
  | 10 => ⟨S2x3, .i32⟩
  | 11 => ⟨S1024x22, .f32⟩
  | 12 => ⟨S1024x22, .f32⟩
  | 13 => ⟨S1560x42, .f32⟩
  | 14 => ⟨S1560x42, .f32⟩
  | 15 => ⟨S2x21x1560x12x128, .f32⟩
  | 16 => ⟨S2x21x1560x12x128, .bf16⟩
  | 17 => ⟨S_, .i32⟩
  | 18 => ⟨S2x21, .i32⟩
  | 19 => ⟨S2x21, .i1⟩
  | 20 => ⟨S_, .i32⟩
  | 21 => ⟨S2x21, .i32⟩
  | 22 => ⟨S2x21, .i32⟩
  | 23 => ⟨S2x21, .i32⟩
  | 24 => ⟨S2x21x1, .i32⟩
  | 25 => ⟨S2x21x22, .f32⟩
  | 26 => ⟨S2x21x1x22, .f32⟩
  | 27 => ⟨S2x21x1560x22, .f32⟩
  | 28 => ⟨S2x21x1560x42, .f32⟩
  | 29 => ⟨S2x21x1560x64, .f32⟩
  | 30 => ⟨S2x21x1560x1x64, .f32⟩
  | 31 => ⟨S_, .i32⟩
  | 32 => ⟨S2x21, .i32⟩
  | 33 => ⟨S2x21, .i1⟩
  | 34 => ⟨S_, .i32⟩
  | 35 => ⟨S2x21, .i32⟩
  | 36 => ⟨S2x21, .i32⟩
  | 37 => ⟨S2x21, .i32⟩
  | 38 => ⟨S2x21x1, .i32⟩
  | 39 => ⟨S2x21x22, .f32⟩
  | 40 => ⟨S2x21x1x22, .f32⟩
  | 41 => ⟨S2x21x1560x22, .f32⟩
  | 42 => ⟨S2x21x1560x42, .f32⟩
  | 43 => ⟨S2x21x1560x64, .f32⟩
  | 44 => ⟨S2x21x1560x1x64, .f32⟩
  | 45 => ⟨S2x21x1560x12x64, .f32⟩
  | 46 => ⟨S2x21x1560x12x64, .f32⟩
  | 47 => ⟨S2x21x1560x12x64, .f32⟩
  | 48 => ⟨S2x21x1560x12x64, .f32⟩
  | 49 => ⟨S2x21x1560x12x64, .f32⟩
  | 50 => ⟨S2x21x1560x12x64, .f32⟩
  | 51 => ⟨S2x21x1560x12x64, .f32⟩
  | 52 => ⟨S2x21x1560x12x64, .f32⟩
  | 53 => ⟨S2x21x1560x12x64, .f32⟩
  | 54 => ⟨S2x21x1560x12x64, .f32⟩
  | 55 => ⟨S2x21x1560x12x64, .f32⟩
  | 56 => ⟨S2x21x1560x12x64, .f32⟩
  | 57 => ⟨S2x21x1560x12x64x1, .f32⟩
  | 58 => ⟨S2x21x1560x12x64x1, .f32⟩
  | 59 => ⟨S2x21x1560x12x64x2, .f32⟩
  | 60 => ⟨S2x21x1560x12x128, .f32⟩
  | 61 => ⟨S2x21x1560x12x128, .bf16⟩
  | 62 => ⟨S21, .i32⟩
  | 63 => ⟨S_, .i32⟩
  | 64 => ⟨S21, .i32⟩
  | 65 => ⟨S21, .i32⟩
  | 66 => ⟨S2x1, .i32⟩
  | 67 => ⟨S1x21, .i32⟩
  | 68 => ⟨S2x21, .i32⟩
  | 69 => ⟨S2x21, .i32⟩
  | 70 => ⟨S2x21, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S2x21, .i32⟩
  | 78 => ⟨S2x21, .i32⟩
  | 79 => ⟨S_, .i32⟩
  | 80 => ⟨S2x21, .i32⟩
  | 81 => ⟨S2x21, .i1⟩
  | 82 => ⟨S_, .i32⟩
  | 83 => ⟨S2x21, .i32⟩
  | 84 => ⟨S2x21, .i1⟩
  | 85 => ⟨S_, .i32⟩
  | 86 => ⟨S_, .i1⟩
  | 87 => ⟨S2x21, .i1⟩
  | 88 => ⟨S2x21, .i1⟩
  | 89 => ⟨S2x21, .i1⟩
  | 90 => ⟨S2x21, .i32⟩
  | 91 => ⟨S2x21, .i32⟩
  | 92 => ⟨S2x21, .i32⟩
  | 93 => ⟨S2x1, .i32⟩
  | 94 => ⟨S2x21, .i32⟩
  | 95 => ⟨S2x21, .i1⟩
  | 96 => ⟨S2x1x21, .i1⟩
  | 97 => ⟨S2x1x21, .i32⟩
  | 98 => ⟨S2x3x1, .i32⟩
  | 99 => ⟨S_, .i32⟩
  | 100 => ⟨S2x3x1, .i32⟩
  | 101 => ⟨S2x3x1, .i32⟩
  | 102 => ⟨S2x3x21, .i32⟩
  | 103 => ⟨S2x3x21, .i32⟩
  | 104 => ⟨S2x3x21, .i1⟩
  | 105 => ⟨S21, .i32⟩
  | 106 => ⟨S_, .i32⟩
  | 107 => ⟨S21, .i32⟩
  | 108 => ⟨S21, .i1⟩
  | 109 => ⟨S2x3x21, .i1⟩
  | 110 => ⟨S2x3x21, .i1⟩
  | 111 => ⟨S1x1x21, .i1⟩
  | 112 => ⟨S2x3x21, .i1⟩
  | 113 => ⟨S2x3x21, .i1⟩
  | 114 => ⟨S2x12x3x1560x128, .bf16⟩
  | 115 => ⟨S2x12x21, .f32⟩
  | 116 => ⟨S2x12x1x1x21x1, .f32⟩
  | 117 => ⟨S2x12x21, .f32⟩
  | 118 => ⟨S2x12x1x1x21x1, .f32⟩
  | 119 => ⟨S2x12x3x1560x21x1560, .f32⟩
  | 120 => ⟨S2x1x3x1x21x1, .i1⟩
  | 121 => ⟨S_, .f32⟩
  | 122 => ⟨S2x12x3x1560x21x1560, .f32⟩
  | 123 => ⟨S2x12x3x1560x21x1560, .f32⟩
  | 124 => ⟨S2x12x3x1560x21x1560, .f32⟩
  | 125 => ⟨S2x12x3x1560x21x1560, .f32⟩
  | 126 => ⟨S_, .f32⟩
  | 127 => ⟨S2x12x3x1560x21x1560, .f32⟩
  | _ => ⟨S2x12x4680x128, .bf16⟩

abbrev hbmTy0_1 (i : Nat) : BufTy := match i % 128 with
  | 0 => ⟨S2x12x3x1560x21x1560, .f32⟩
  | 1 => ⟨S_, .f32⟩
  | 2 => ⟨S_, .f32⟩
  | 3 => ⟨S2x12x3x1560x21x1560, .i1⟩
  | 4 => ⟨S2x12x3x1560x21x1560, .f32⟩
  | 5 => ⟨S2x12x3x1560x21x1560, .f32⟩
  | 6 => ⟨S2x12x3x1560x4680, .f32⟩
  | 7 => ⟨S_, .f32⟩
  | 8 => ⟨S2x12x3x1560x4680, .f32⟩
  | 9 => ⟨S2x12x3x1560x4680, .f32⟩
  | 10 => ⟨S_, .f32⟩
  | 11 => ⟨S2x12x3x1560x4680, .f32⟩
  | 12 => ⟨S2x12x3x1560x4680, .f32⟩
  | 13 => ⟨S_, .f32⟩
  | 14 => ⟨S2x12x3x1560, .f32⟩
  | 15 => ⟨S_, .f32⟩
  | 16 => ⟨S2x12x3x1560, .f32⟩
  | 17 => ⟨S2x12x3x1560, .f32⟩
  | 18 => ⟨S2x12x3x1560, .f32⟩
  | 19 => ⟨S2x12x3x1560x1x1, .f32⟩
  | 20 => ⟨S2x12x3x1560x21x1560, .f32⟩
  | 21 => ⟨S2x12x3x1560x21x1560, .f32⟩
  | 22 => ⟨S_, .f32⟩
  | 23 => ⟨S2x12x3x1560x21x1560, .f32⟩
  | 24 => ⟨S2x12x3x1560x21x1560, .f32⟩
  | 25 => ⟨S2x12x3x1560x1, .f32⟩
  | 26 => ⟨S2x12x3x1560x4680, .f32⟩
  | 27 => ⟨S2x12x3x1560x4680, .f32⟩
  | 28 => ⟨S_, .f32⟩
  | 29 => ⟨S2x12x3x1560x4680, .f32⟩
  | 30 => ⟨S2x12x3x1560x4680, .f32⟩
  | 31 => ⟨S_, .f32⟩
  | 32 => ⟨S2x12x3x1560, .f32⟩
  | 33 => ⟨S_, .f32⟩
  | 34 => ⟨S2x12x3x1560, .f32⟩
  | 35 => ⟨S2x12x3x1560, .f32⟩
  | 36 => ⟨S2x12x3x1560x21x1560, .f32⟩
  | 37 => ⟨S2x12x3x1560x21x1560, .f32⟩
  | 38 => ⟨S2x12x3x1560x21x1560, .bf16⟩
  | 39 => ⟨S2x12x3x1560x128, .f32⟩
  | 40 => ⟨S2x12x3x1560x4680, .bf16⟩
  | 41 => ⟨S2x12x3x1560x128, .f32⟩
  | 42 => ⟨S2x12x3x1560x128, .f32⟩
  | 43 => ⟨S2x12x3x1560x1, .f32⟩
  | 44 => ⟨S2x12x3x1560x128, .f32⟩
  | 45 => ⟨S2x12x3x1560x128, .f32⟩
  | 46 => ⟨S2x12x4680x128, .f32⟩
  | _ => ⟨S2x12x4680x128, .bf16⟩

abbrev hbmTy (i : Nat) : BufTy := match i / 128 with
  | 0 => hbmTy0_0 i
  | 1 => hbmTy0_1 i
  | _ => ⟨S2x12x4680x128, .bf16⟩

abbrev bufTy : (tb : Table) → Fin (tcTables nBuf tb) → BufTy
  | .hbm, ⟨i, _⟩ => hbmTy i
  | .local _ .vmem, ⟨0, _⟩ => ⟨S2x21x1560x12x128, .fp8e4m3⟩
  | .local _ .vmem, ⟨1, _⟩ => ⟨S2x21x1560x12x128, .fp8e4m3⟩
  | .local _ .vmem, ⟨2, _⟩ => ⟨S2x21x1560x12x128, .f32⟩
  | .local _ .vmem, ⟨3, _⟩ => ⟨S2x21x1560x12x128, .bf16⟩
  | _, _ => ⟨S2x12x4680x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_4 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_c_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_1 : Ref sig .tc := ⟨.hbm, 79, rfl⟩
abbrev main_call0_v5 : Ref sig .tc := ⟨.hbm, 80, rfl⟩
abbrev main_call0_v6 : Ref sig .tc := ⟨.hbm, 81, rfl⟩
abbrev main_call0_c_2 : Ref sig .tc := ⟨.hbm, 82, rfl⟩
abbrev main_call0_v7 : Ref sig .tc := ⟨.hbm, 83, rfl⟩
abbrev main_call0_v8 : Ref sig .tc := ⟨.hbm, 84, rfl⟩
abbrev main_call0_c_3 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_v12 : Ref sig .tc := ⟨.hbm, 89, rfl⟩
abbrev main_call0_v13 : Ref sig .tc := ⟨.hbm, 90, rfl⟩
abbrev main_call0_v14 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_5 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_c_6 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_7 : Ref sig .tc := ⟨.hbm, 126, rfl⟩
abbrev main_v81 : Ref sig .tc := ⟨.hbm, 127, rfl⟩
abbrev main_v82 : Ref sig .tc := ⟨.hbm, 128, rfl⟩
abbrev main_cst_8 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_v83 : Ref sig .tc := ⟨.hbm, 133, rfl⟩
abbrev main_v84 : Ref sig .tc := ⟨.hbm, 134, rfl⟩
abbrev main_cst_9 : Ref sig .tc := ⟨.hbm, 135, rfl⟩
abbrev main_v85 : Ref sig .tc := ⟨.hbm, 136, rfl⟩
abbrev main_v86 : Ref sig .tc := ⟨.hbm, 137, rfl⟩
abbrev main_cst_10 : Ref sig .tc := ⟨.hbm, 138, rfl⟩
abbrev main_v87 : Ref sig .tc := ⟨.hbm, 139, rfl⟩
abbrev main_v88 : Ref sig .tc := ⟨.hbm, 140, rfl⟩
abbrev main_cst_11 : Ref sig .tc := ⟨.hbm, 141, rfl⟩
abbrev main_v89 : Ref sig .tc := ⟨.hbm, 142, rfl⟩
abbrev main_cst_12 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_13 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_14 : Ref sig .tc := ⟨.hbm, 156, rfl⟩
abbrev main_v101 : Ref sig .tc := ⟨.hbm, 157, rfl⟩
abbrev main_v102 : Ref sig .tc := ⟨.hbm, 158, rfl⟩
abbrev main_cst_15 : Ref sig .tc := ⟨.hbm, 159, rfl⟩
abbrev main_v103 : Ref sig .tc := ⟨.hbm, 160, rfl⟩
abbrev main_cst_16 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x21x1560x12x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x21x1560x12x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x21x1560x12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x21x1560x12x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Ffn.lean ====
abbrev S2x4680x1536 : Shape := ⟨3, ![2, 4680, 1536]⟩
abbrev S2x15x1x312 : Shape := ⟨4, ![2, 15, 1, 312]⟩
abbrev S6x1536 : Shape := ⟨2, ![6, 1536]⟩
abbrev S2x3x6x1536 : Shape := ⟨4, ![2, 3, 6, 1536]⟩
abbrev S1536x8960 : Shape := ⟨2, ![1536, 8960]⟩
abbrev S8960 : Shape := ⟨1, ![8960]⟩
abbrev S8960x1536 : Shape := ⟨2, ![8960, 1536]⟩
abbrev S1536 : Shape := ⟨1, ![1536]⟩
abbrev S1x8960 : Shape := ⟨2, ![1, 8960]⟩
abbrev S1x1536 : Shape := ⟨2, ![1, 1536]⟩
abbrev S2x4680x8960 : Shape := ⟨3, ![2, 4680, 8960]⟩
abbrev S1x312x1536 : Shape := ⟨3, ![1, 312, 1536]⟩
abbrev S1x1x1x312 : Shape := ⟨4, ![1, 1, 1, 312]⟩
abbrev S1x1x6x1536 : Shape := ⟨4, ![1, 1, 6, 1536]⟩
abbrev S1x312x8960 : Shape := ⟨3, ![1, 312, 8960]⟩
abbrev S312x8960 : Shape := ⟨2, ![312, 8960]⟩
abbrev S1x1x1x1536 : Shape := ⟨4, ![1, 1, 1, 1536]⟩
abbrev S312x1536 : Shape := ⟨2, ![312, 1536]⟩
abbrev S1x312 : Shape := ⟨2, ![1, 312]⟩
abbrev S128x312 : Shape := ⟨2, ![128, 312]⟩
abbrev S312x128 : Shape := ⟨2, ![312, 128]⟩
abbrev S312x1 : Shape := ⟨2, ![312, 1]⟩
abbrev S1536x256 : Shape := ⟨2, ![1536, 256]⟩
abbrev S312x256 : Shape := ⟨2, ![312, 256]⟩
abbrev S1x256 : Shape := ⟨2, ![1, 256]⟩
abbrev S312 : Shape := ⟨1, ![312]⟩
abbrev S1x312x256 : Shape := ⟨3, ![1, 312, 256]⟩

abbrev nBuf : Space → Nat
  | .hbm => 18
  | .vmem => 22
  | .smem => 0
  | _ => 0

abbrev bufTy : (tb : Table) → Fin (tcTables nBuf tb) → BufTy
  | .hbm, ⟨0, _⟩ => ⟨S2x4680x1536, .fp8e4m3⟩
  | .hbm, ⟨1, _⟩ => ⟨S2x15x1x312, .f32⟩
  | .hbm, ⟨2, _⟩ => ⟨S2x4680x1536, .f32⟩
  | .hbm, ⟨3, _⟩ => ⟨S6x1536, .f32⟩
  | .hbm, ⟨4, _⟩ => ⟨S2x3x6x1536, .f32⟩
  | .hbm, ⟨5, _⟩ => ⟨S1536x8960, .fp8e4m3⟩
  | .hbm, ⟨6, _⟩ => ⟨S8960, .f32⟩
  | .hbm, ⟨7, _⟩ => ⟨S8960, .f32⟩
  | .hbm, ⟨8, _⟩ => ⟨S8960x1536, .fp8e4m3⟩
  | .hbm, ⟨9, _⟩ => ⟨S1536, .f32⟩
  | .hbm, ⟨10, _⟩ => ⟨S1536, .f32⟩
  | .hbm, ⟨11, _⟩ => ⟨S1x8960, .f32⟩
  | .hbm, ⟨12, _⟩ => ⟨S1x8960, .f32⟩
  | .hbm, ⟨13, _⟩ => ⟨S1x1536, .f32⟩
  | .hbm, ⟨14, _⟩ => ⟨S1x1536, .f32⟩
  | .hbm, ⟨15, _⟩ => ⟨S2x4680x8960, .fp8e4m3⟩
  | .hbm, ⟨16, _⟩ => ⟨S2x15x1x312, .f32⟩
  | .hbm, ⟨17, _⟩ => ⟨S2x4680x1536, .bf16⟩
  | .local _ .vmem, ⟨0, _⟩ => ⟨S1x312x1536, .fp8e4m3⟩
  | .local _ .vmem, ⟨1, _⟩ => ⟨S1x312x1536, .fp8e4m3⟩
  | .local _ .vmem, ⟨2, _⟩ => ⟨S1x1x1x312, .f32⟩
  | .local _ .vmem, ⟨3, _⟩ => ⟨S1x1x1x312, .f32⟩
  | .local _ .vmem, ⟨4, _⟩ => ⟨S1x312x1536, .f32⟩
  | .local _ .vmem, ⟨5, _⟩ => ⟨S1x312x1536, .f32⟩
  | .local _ .vmem, ⟨6, _⟩ => ⟨S6x1536, .f32⟩
  | .local _ .vmem, ⟨7, _⟩ => ⟨S1x1x6x1536, .f32⟩
  | .local _ .vmem, ⟨8, _⟩ => ⟨S1x1x6x1536, .f32⟩
  | .local _ .vmem, ⟨9, _⟩ => ⟨S1536x8960, .fp8e4m3⟩
  | .local _ .vmem, ⟨10, _⟩ => ⟨S1x8960, .f32⟩
  | .local _ .vmem, ⟨11, _⟩ => ⟨S1x8960, .f32⟩
  | .local _ .vmem, ⟨12, _⟩ => ⟨S8960x1536, .fp8e4m3⟩
  | .local _ .vmem, ⟨13, _⟩ => ⟨S1x1536, .f32⟩
  | .local _ .vmem, ⟨14, _⟩ => ⟨S1x1536, .f32⟩
  | .local _ .vmem, ⟨15, _⟩ => ⟨S1x312x8960, .fp8e4m3⟩
  | .local _ .vmem, ⟨16, _⟩ => ⟨S1x312x8960, .fp8e4m3⟩
  | .local _ .vmem, ⟨17, _⟩ => ⟨S1x1x1x312, .f32⟩
  | .local _ .vmem, ⟨18, _⟩ => ⟨S1x1x1x312, .f32⟩
  | .local _ .vmem, ⟨19, _⟩ => ⟨S1x312x1536, .bf16⟩
  | .local _ .vmem, ⟨20, _⟩ => ⟨S1x312x1536, .bf16⟩
  | .local _ .vmem, ⟨21, _⟩ => ⟨S312x8960, .f32⟩
  | _, _ => ⟨S2x4680x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![2, 15], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x312x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x312 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x312x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x6x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1536x8960 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8960x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x312x8960 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x312 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x312x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FfnReferenceIdeal.lean ====
abbrev S2x4680x1536 : Shape := ⟨3, ![2, 4680, 1536]⟩
abbrev S2x15x1x312 : Shape := ⟨4, ![2, 15, 1, 312]⟩
abbrev S6x1536 : Shape := ⟨2, ![6, 1536]⟩
abbrev S2x3x6x1536 : Shape := ⟨4, ![2, 3, 6, 1536]⟩
abbrev S1536x8960 : Shape := ⟨2, ![1536, 8960]⟩
abbrev S8960 : Shape := ⟨1, ![8960]⟩
abbrev S8960x1536 : Shape := ⟨2, ![8960, 1536]⟩
abbrev S1536 : Shape := ⟨1, ![1536]⟩
abbrev S1x1x6x1536 : Shape := ⟨4, ![1, 1, 6, 1536]⟩
abbrev S2x3x1x1536 : Shape := ⟨4, ![2, 3, 1, 1536]⟩
abbrev S2x3x1536 : Shape := ⟨3, ![2, 3, 1536]⟩
abbrev S9360x1 : Shape := ⟨2, ![9360, 1]⟩
abbrev S1x8960 : Shape := ⟨2, ![1, 8960]⟩
abbrev S1x1536 : Shape := ⟨2, ![1, 1536]⟩
abbrev S2x4680x8960 : Shape := ⟨3, ![2, 4680, 8960]⟩
abbrev S9360x1536 : Shape := ⟨2, ![9360, 1536]⟩
abbrev S9360x8960 : Shape := ⟨2, ![9360, 8960]⟩
abbrev S9360 : Shape := ⟨1, ![9360]⟩
abbrev S2x3x1560x1536 : Shape := ⟨4, ![2, 3, 1560, 1536]⟩

abbrev nBuf : Space → Nat
  | .hbm => 24
  | .vmem => 13
  | .smem => 0
  | _ => 0

abbrev bufTy : (tb : Table) → Fin (tcTables nBuf tb) → BufTy
  | .hbm, ⟨0, _⟩ => ⟨S2x4680x1536, .fp8e4m3⟩
  | .hbm, ⟨1, _⟩ => ⟨S2x15x1x312, .f32⟩
  | .hbm, ⟨2, _⟩ => ⟨S2x4680x1536, .f32⟩
  | .hbm, ⟨3, _⟩ => ⟨S6x1536, .f32⟩
  | .hbm, ⟨4, _⟩ => ⟨S2x3x6x1536, .f32⟩
  | .hbm, ⟨5, _⟩ => ⟨S1536x8960, .fp8e4m3⟩
  | .hbm, ⟨6, _⟩ => ⟨S8960, .f32⟩
  | .hbm, ⟨7, _⟩ => ⟨S8960, .f32⟩
  | .hbm, ⟨8, _⟩ => ⟨S8960x1536, .fp8e4m3⟩
  | .hbm, ⟨9, _⟩ => ⟨S1536, .f32⟩
  | .hbm, ⟨10, _⟩ => ⟨S1536, .f32⟩
  | .hbm, ⟨11, _⟩ => ⟨S1x1x6x1536, .f32⟩
  | .hbm, ⟨12, _⟩ => ⟨S2x3x6x1536, .f32⟩
  | .hbm, ⟨13, _⟩ => ⟨S2x3x6x1536, .f32⟩
  | .hbm, ⟨14, _⟩ => ⟨S2x3x1x1536, .f32⟩
  | .hbm, ⟨15, _⟩ => ⟨S2x3x1536, .f32⟩
  | .hbm, ⟨16, _⟩ => ⟨S9360x1, .f32⟩
  | .hbm, ⟨17, _⟩ => ⟨S1x8960, .f32⟩
  | .hbm, ⟨18, _⟩ => ⟨S1x8960, .f32⟩
  | .hbm, ⟨19, _⟩ => ⟨S1x1536, .f32⟩
  | .hbm, ⟨20, _⟩ => ⟨S1x1536, .f32⟩
  | .hbm, ⟨21, _⟩ => ⟨S2x4680x8960, .fp8e4m3⟩
  | .hbm, ⟨22, _⟩ => ⟨S2x15x1x312, .f32⟩
  | .hbm, ⟨23, _⟩ => ⟨S2x4680x1536, .bf16⟩
  | .local _ .vmem, ⟨0, _⟩ => ⟨S2x4680x1536, .fp8e4m3⟩
  | .local _ .vmem, ⟨1, _⟩ => ⟨S9360x1, .f32⟩
  | .local _ .vmem, ⟨2, _⟩ => ⟨S2x4680x1536, .f32⟩
  | .local _ .vmem, ⟨3, _⟩ => ⟨S2x3x1536, .f32⟩
  | .local _ .vmem, ⟨4, _⟩ => ⟨S1536x8960, .fp8e4m3⟩
  | .local _ .vmem, ⟨5, _⟩ => ⟨S1x8960, .f32⟩
  | .local _ .vmem, ⟨6, _⟩ => ⟨S1x8960, .f32⟩
  | .local _ .vmem, ⟨7, _⟩ => ⟨S8960x1536, .fp8e4m3⟩
  | .local _ .vmem, ⟨8, _⟩ => ⟨S1x1536, .f32⟩
  | .local _ .vmem, ⟨9, _⟩ => ⟨S1x1536, .f32⟩
  | .local _ .vmem, ⟨10, _⟩ => ⟨S2x4680x8960, .fp8e4m3⟩
  | .local _ .vmem, ⟨11, _⟩ => ⟨S2x15x1x312, .f32⟩
  | .local _ .vmem, ⟨12, _⟩ => ⟨S2x4680x1536, .bf16⟩
  | _, _ => ⟨S2x4680x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2x4680x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9360x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4680x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8960 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8960x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4680x8960 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x15x1x312 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x4680x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Attn.Points.lean ====
/-
  The windows of the call at the points of its grid.
-/
module

public import proofs.«01_k».proof.Proof.Gen.Attn
public import Idealize.ShloMosaic.Lib.Pipeline.Kit

@[expose] public section

noncomputable section

namespace Cert.Attn.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 4 (%32)) is fetched at the first point only, at any contents of the tables (its index map reads none). -/
theorem fetch0_0 (a : (pcfg0 (F := F)).Adm) : ∀ t : Fin (cfg0 a).N, ((cfg0 a).win 0).fetch t = true ↔ t.val % 24 = 0 :=
  (fun t => Pipeline.Window.fetchOf_const cc0_transform_0 (fun _ _ => rfl) (n := 24) (by decide) t : ∀ t : Fin grid0.N, Pipeline.Window.fetchOf grid0 false cc0_transform_0 t = true ↔ t.val % 24 = 0)
/-- Window 1 (operand 5 (%33)) is fetched at the first point only, at any contents of the tables (its index map reads none). -/
theorem fetch0_1 (a : (pcfg0 (F := F)).Adm) : ∀ t : Fin (cfg0 a).N, ((cfg0 a).win 1).fetch t = true ↔ t.val % 24 = 0 :=
  (fun t => Pipeline.Window.fetchOf_const cc0_transform_1 (fun _ _ => rfl) (n := 24) (by decide) t : ∀ t : Fin grid0.N, Pipeline.Window.fetchOf grid0 false cc0_transform_1 t = true ↔ t.val % 24 = 0)
/-- Window 2 (operand 6 (%arg0)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 7 (%arg1)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 1 (fun _ => rfl) (by decide)) (P := 1) (by decide) t).mpr (Nat.mod_one _) : ∀ t : Fin grid0.N, Pipeline.Window.fetchOf grid0 false cc0_transform_3 t = true)
/-- Window 4 (operand 8 (%arg2)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)
/-- Window 5 (operand 9 (%30)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 2 (fun _ => rfl) (by decide)) (P := 1) (by decide) t).mpr (Nat.mod_one _) : ∀ t : Fin grid0.N, Pipeline.Window.fetchOf grid0 false cc0_transform_5 t = true)
/-- Window 6 (operand 10 (%31)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 2 (fun _ => rfl) (by decide)) (P := 1) (by decide) t).mpr (Nat.mod_one _) : ∀ t : Fin grid0.N, Pipeline.Window.fetchOf grid0 false cc0_transform_6 t = true)
/-- Window 7 (operand 11 (%2)) is fetched at the first point only, at any contents of the tables (its index map reads none). -/
theorem fetch0_7 (a : (pcfg0 (F := F)).Adm) : ∀ t : Fin (cfg0 a).N, ((cfg0 a).win 7).fetch t = true ↔ t.val % 24 = 0 :=
  (fun t => Pipeline.Window.fetchOf_const cc0_transform_7 (fun _ _ => rfl) (n := 24) (by decide) t : ∀ t : Fin grid0.N, Pipeline.Window.fetchOf grid0 false cc0_transform_7 t = true ↔ t.val % 24 = 0)
/-- Window 8 (operand 12 (%17)) is fetched at the first point only, at any contents of the tables (its index map reads none). -/
theorem fetch0_8 (a : (pcfg0 (F := F)).Adm) : ∀ t : Fin (cfg0 a).N, ((cfg0 a).win 8).fetch t = true ↔ t.val % 24 = 0 :=
  (fun t => Pipeline.Window.fetchOf_const cc0_transform_8 (fun _ _ => rfl) (n := 24) (by decide) t : ∀ t : Fin grid0.N, Pipeline.Window.fetchOf grid0 false cc0_transform_8 t = true ↔ t.val % 24 = 0)
/-- Window 9 (operand 13 (%5)) is fetched at the first point only, at any contents of the tables (its index map reads none). -/
theorem fetch0_9 (a : (pcfg0 (F := F)).Adm) : ∀ t : Fin (cfg0 a).N, ((cfg0 a).win 9).fetch t = true ↔ t.val % 24 = 0 :=
  (fun t => Pipeline.Window.fetchOf_const cc0_transform_9 (fun _ _ => rfl) (n := 24) (by decide) t : ∀ t : Fin grid0.N, Pipeline.Window.fetchOf grid0 false cc0_transform_9 t = true ↔ t.val % 24 = 0)
/-- Window 10 (operand 14 (%29)) is fetched at the first point only, at any contents of the tables (its index map reads none). -/
theorem fetch0_10 (a : (pcfg0 (F := F)).Adm) : ∀ t : Fin (cfg0 a).N, ((cfg0 a).win 10).fetch t = true ↔ t.val % 24 = 0 :=
  (fun t => Pipeline.Window.fetchOf_const cc0_transform_10 (fun _ _ => rfl) (n := 24) (by decide) t : ∀ t : Fin grid0.N, Pipeline.Window.fetchOf grid0 false cc0_transform_10 t = true ↔ t.val % 24 = 0)
/-- Window 11 (result 0 (%34)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 1 (fun _ => rfl) (by decide)) (P := 1) (m := 0) (by decide) rfl t).mpr (Nat.mod_one _) : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn (grid0.coords t) (Memref.whole main_arg7) (Memref.isWhole_whole _) (Memref.whole main_arg8) (Memref.isWhole_whole _) (Memref.whole main_arg9) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Attn.Gen

end
-- ==== Proof.Attn.Windows.lean ====
/-
  The state the call starts from: what the host operations before it leave, the tables, and each window's blocks.
-/
module

public import proofs.«01_k».proof.Proof.Gen.Attn.Launch
public import proofs.«01_k».proof.Proof.Gen.Attn.Skeleton
public import proofs.«01_k».proof.Proof.Attn.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- What the host operations before the region write, in order. -/
abbrev written : List (Ref sig .tc) :=
  [main_v0, main_v1, main_c, main_call0_v0, main_v2, main_v3, main_v4, main_c_0, main_call1_v0, main_v5, main_v6,
   main_v7, main_v8, main_c_1, main_call2_v0, main_call2_c, main_call2_v1, main_call2_c_0, main_call2_v2,
   main_call2_v3, main_call2_v4, main_call2_c_1, main_call2_v5, main_call2_v6, main_call2_c_2, main_call2_v7,
   main_call2_v8, main_call2_c_3, main_call2_v9, main_call2_v10, main_call2_v11, main_call2_v12, main_call2_v13,
   main_call2_v14, main_v9, main_c_2, main_v10, main_v11, main_cst, main_cst_3, main_call3_v0, main_call3_v1,
   main_v12, main_v13, main_v14, main_v15, main_v16, main_c_4, main_call4_v0, main_v17, main_v18, main_v19,
   main_v20, main_c_5, main_call5_v0, main_call5_c, main_call5_v1, main_call5_c_0, main_call5_v2, main_call5_v3,
   main_call5_v4, main_call5_c_1, main_call5_v5, main_call5_v6, main_call5_c_2, main_call5_v7, main_call5_v8,
   main_call5_c_3, main_call5_v9, main_call5_v10, main_call5_v11, main_call5_v12, main_call5_v13, main_call5_v14,
   main_v21, main_c_6, main_v22, main_v23, main_cst_7, main_cst_8, main_call6_v0, main_call6_v1, main_v24,
   main_v25, main_v26, main_v27, main_v28, main_c_9, main_call7_v0, main_v29, main_v30, main_v31, main_v32,
   main_v33]

theorem written_writes : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] : List (HloOp τ sig (Elt F))).Forall
    fun op => op.writes ⊆ (written.map (Proc.devRef (τ := τ) .tc)).toFinset :=
  StableHlo.forall_writes_sub_of_map rfl

/-- A buffer that no host operation before the region writes: the region finds it as launched. -/
theorem V_kept {b : Ref sig .tc} (hb : b ∉ written) (c : Dev nD) : V m c b = m ((c : Thread nD τ).loc b) :=
  StableHlo.after_of_writes_sub (r := b) _ _ written_writes hb

theorem V_main_arg0 (c : Dev nD) : V m c main_arg0 = m ((c : Thread nD τ).loc main_arg0) := V_kept m (by decide +kernel) c
theorem V_main_arg1 (c : Dev nD) : V m c main_arg1 = m ((c : Thread nD τ).loc main_arg1) := V_kept m (by decide +kernel) c
theorem V_main_arg2 (c : Dev nD) : V m c main_arg2 = m ((c : Thread nD τ).loc main_arg2) := V_kept m (by decide +kernel) c
theorem V_main_arg3 (c : Dev nD) : V m c main_arg3 = m ((c : Thread nD τ).loc main_arg3) := V_kept m (by decide +kernel) c
theorem V_main_arg4 (c : Dev nD) : V m c main_arg4 = m ((c : Thread nD τ).loc main_arg4) := V_kept m (by decide +kernel) c
theorem V_main_arg5 (c : Dev nD) : V m c main_arg5 = m ((c : Thread nD τ).loc main_arg5) := V_kept m (by decide +kernel) c
theorem V_main_arg6 (c : Dev nD) : V m c main_arg6 = m ((c : Thread nD τ).loc main_arg6) := V_kept m (by decide +kernel) c
theorem V_main_arg7 (c : Dev nD) : V m c main_arg7 = m ((c : Thread nD τ).loc main_arg7) := V_kept m (by decide +kernel) c
theorem V_main_arg8 (c : Dev nD) : V m c main_arg8 = m ((c : Thread nD τ).loc main_arg8) := V_kept m (by decide +kernel) c
theorem V_main_arg9 (c : Dev nD) : V m c main_arg9 = m ((c : Thread nD τ).loc main_arg9) := V_kept m (by decide +kernel) c
theorem V_main_arg10 (c : Dev nD) : V m c main_arg10 = m ((c : Thread nD τ).loc main_arg10) := V_kept m (by decide +kernel) c
theorem V_main_arg11 (c : Dev nD) : V m c main_arg11 = m ((c : Thread nD τ).loc main_arg11) := V_kept m (by decide +kernel) c
theorem V_main_arg12 (c : Dev nD) : V m c main_arg12 = m ((c : Thread nD τ).loc main_arg12) := V_kept m (by decide +kernel) c
theorem V_main_arg13 (c : Dev nD) : V m c main_arg13 = m ((c : Thread nD τ).loc main_arg13) := V_kept m (by decide +kernel) c
theorem V_main_arg14 (c : Dev nD) : V m c main_arg14 = m ((c : Thread nD τ).loc main_arg14) := V_kept m (by decide +kernel) c

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg7
abbrev htbM0_0 : tbM0_0.IsWhole := Memref.isWhole_whole _
abbrev tbM0_1 : Memref sig .tc .smem S2 .i32 := Memref.whole main_arg8
abbrev htbM0_1 : tbM0_1.IsWhole := Memref.isWhole_whole _
abbrev tbM0_2 : Memref sig .tc .smem S2x21 .i32 := Memref.whole main_arg9
abbrev htbM0_2 : tbM0_2.IsWhole := Memref.isWhole_whole _
abbrev tbM0_3 : Memref sig .tc .smem S2x3 .i32 := Memref.whole main_arg10
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The staging and scratch memrefs -/

/-- Each window's current staging memref at point `t`, spelled as the pipeline passes it (`bodyAt0`), and its wholeness. -/
abbrev ms0_0 (hO : Ok m) (t : Fin (cfgM m hO).N) : Memref sig .tc .smem S504 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S504 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x4680x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x4680x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x4680x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x21x1x1560x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x21x1x1560x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1024x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1560x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1560x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1x4680x128 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S24x1560x128 .bf16 := Memref.whole cc0_scratch0
abbrev scM0_1 : Memref sig .tc .vmem S24x128x1560 .bf16 := Memref.whole cc0_scratch1
abbrev scM0_2 : Memref sig .tc .smem S3x21 .i32 := Memref.whole cc0_scratch2
abbrev scM0_3 : Memref sig .tc .smem S3 .i32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Attn.Gen

end
-- ==== Proof.Mem.lean ====
/-
  Loads, stores and assumed side conditions at the head of a program, stated over the VALUES a memref holds: a memref
  owned at `X` is loaded at a rectangle as `X` there, and stored at a rectangle it is owned at `X` with the payload put
  over that window. No view and no buffer contents appear in what these rules leave.
-/
module

public import Idealize.ShloMosaic.Lib.VecWindow
public import Idealize.ShloMosaic.Lib.Memref

@[expose] public section

noncomputable section

namespace OwnedMem

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name] {U : Type} [URA U] {Lvl : Type} [Preorder Lvl] {Λ : Labels}
local notation "𝕄" => MT nD τ sig Ix Val Name U Lvl

variable {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a rectangle of a memref owned at `X` reads `X` there. -/
theorem load {cs : CoreSpace} {m : Memref sig c.2.kind cs s e} {r : Rect s} {hl : m.view.LoadsAt r.toLoadRect}
    {k : (r.toLoadRect.shape.Idx → Val e) → Prog (TpuEff nD τ sig Val Λ c.2) α} {q : PosShare TreeShare} {X : s.Idx → Val e}
    {v : r.toLoadRect.shape.Idx → Val e} (hv : View.ld X r = v) :
    (owns c m q X : sProp 𝕄)
      ⊢ iprop((owns c m q X -∗ wp frame (wpE defs 𝒱 c bd) E (k v) Q)
        -∗ wp frame (wpE defs 𝒱 c bd) E (Prog.lift (.load m r.toLoadRect hl) >>= k) Q) := by
  unfold owns
  iintro ⟨%f, %hf, H⟩ Hk
  iapply (wp_load 𝒱 c bd E (k := k) (r := r.toLoadRect) (hl := hl) (q := q) (f := f) (S := m.view.set) (Finset.map_subset_map.mpr (Finset.subset_univ _))) $$ H
  iintro H
  have h : m.view.readAt Val r.toLoadRect f = v := by rw [View.readAt_eq_ld, hf, hv]
  rw [h]
  iapply Hk
  iexists f
  isplitr
  · ipureintro; exact hf
  iexact H

/-- An unmasked store at a unit-stride rectangle of a memref owned at `X` leaves `X` with the payload put there. -/
theorem store {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e}
    {X' : s.Idx → Val e} (hv : VecWindow.put X off size w = X') :
    (owns c m fullShare X : sProp 𝕄)
      ⊢ iprop((owns c m fullShare X' -∗ wp frame (wpE defs 𝒱 c bd) E (k ⟨⟩) Q)
        -∗ wp frame (wpE defs 𝒱 c bd) E (Prog.lift (.store m (Rect.unit off size inb) w Finset.univ hx hm) >>= k) Q) := by
  unfold owns
  iintro ⟨%f, %hf, H⟩ Hk
  iapply (wp_store 𝒱 c bd E (m := m) (r := Rect.unit off size inb) (w := w) (Mk := Finset.univ) (hx := hx) (hm := hm) (k := k) (f := f) (S := m.view.set)
    ((View.set_slice m.view _).subset.trans (Finset.map_subset_map.mpr (Finset.subset_univ _)))) $$ H
  iintro H
  iapply Hk
  iexists _
  isplitr
  swap
  · iexact H
  ipureintro
  have h := View.read_writes_cons_put m.view f inb w [] rfl
  rw [View.writes_nil, hf, hv] at h
  exact h

/-- A load of one scalar word of a memref owned at `X`. -/
theorem smem {m : Memref sig c.2.kind .smem s e} {r : Rect s} {h1 : r.shape.numel = 1} {hp : e.packing = 1}
    {k : Val e → Prog (TpuEff nD τ sig Val Λ c.2) α} {q : PosShare TreeShare} {X : s.Idx → Val e}
    {v : Val e} (hv : ∀ y, X (r.idx y) = v) :
    (owns c m q X : sProp 𝕄)
      ⊢ iprop((owns c m q X -∗ wp frame (wpE defs 𝒱 c bd) E (k v) Q)
        -∗ wp frame (wpE defs 𝒱 c bd) E (smemLoad m r h1 hp >>= k) Q) := by
  unfold owns
  iintro ⟨%f, %hf, H⟩ Hk
  iapply (wp_smemLoadElt 𝒱 c bd E (m := m) (r := r) (hw := View.loads_smem_one hp h1) (k := k) (q := q) (f := f) (S := m.view.set)
    ((View.set_slice m.view _).subset.trans (Finset.map_subset_map.mpr (Finset.subset_univ _)))) $$ H
  iintro H
  have h : (m.access r).read Val f (Shape.Idx.first (h1.symm ▸ Nat.one_pos)) = v := by rw [← hv (Shape.Idx.first (h1.symm ▸ Nat.one_pos)), ← hf]; rfl
  rw [h]
  iapply Hk
  iexists f
  isplitr
  · ipureintro; exact hf
  iexact H

/-- A load of one scalar word, whatever it is. -/
theorem smemAny {m : Memref sig c.2.kind .smem s e} {r : Rect s} {h1 : r.shape.numel = 1} {hp : e.packing = 1}
    {k : Val e → Prog (TpuEff nD τ sig Val Λ c.2) α} {q : PosShare TreeShare} {X : s.Idx → Val e} :
    (owns c m q X : sProp 𝕄)
      ⊢ iprop((owns c m q X -∗ ∀ v, wp frame (wpE defs 𝒱 c bd) E (k v) Q)
        -∗ wp frame (wpE defs 𝒱 c bd) E (smemLoad m r h1 hp >>= k) Q) := by
  iintro H Hk
  iapply (smem 𝒱 c bd E (m := m) (r := r) (h1 := h1) (hp := hp) (X := X) (v := X (r.idx (Shape.Idx.first (h1.symm ▸ Nat.one_pos))))
    (fun y => congrArg (fun z => X (r.idx z)) (by
      have := Fintype.card_le_one_iff_subsingleton.mp ((Shape.card_idx (s := r.shape)).trans h1).le
      exact Subsingleton.elim _ _))) $$ H
  iintro H
  iapply Hk $$ H

/-- A counted loop by an invariant, followed by a continuation. -/
theorem loop {σ : Type} {w : ℕ} {l : Scf.Loop w} {hok : l.OK} {init : σ} {body : Fin l.trips → σ → Prog (TpuEff nD τ sig Val Λ c.2) σ}
    {kk : σ → Prog (TpuEff nD τ sig Val Λ c.2) α} (I : ℕ → σ → sProp (MT nD τ sig Ix Val Name U Lvl))
    (hbody : ∀ (k : Fin l.trips) (acc : σ), I k.val acc ⊢ wp frame (wpE defs 𝒱 c bd) E (body k acc) (I (k.val + 1))) :
    I 0 init ⊢ iprop((∀ acc, I l.trips acc -∗ wp frame (wpE defs 𝒱 c bd) E (kk acc) Q)
      -∗ wp frame (wpE defs 𝒱 c bd) E (Scf.Loop.for l hok init body >>= kk) Q) :=
  Scf.wp_for_bind frame (wpE defs 𝒱 c bd) E l.lb l.ub l.st hok init body I hbody

/-- The end of a program, its value restated. -/
theorem ret {a a' : α} (h : a = a') :
    (Q a' : sProp (MT nD τ sig Ix Val Name U Lvl)) ⊢ wp frame (wpE defs 𝒱 c bd) E (Pure.pure a : Prog (TpuEff nD τ sig Val Λ c.2) α) Q := by
  subst h
  rw [wp_pure]
  iintro H
  imodintro
  iexact H

/-- An assumed side condition that holds. -/
theorem assume {P : Prop} {d : Decidable P} {k : PLift P → Prog (TpuEff nD τ sig Val Λ c.2) α} (h : P) :
    (wp frame (wpE defs 𝒱 c bd) E (k ⟨h⟩) Q : sProp 𝕄) ⊢ wp frame (wpE defs 𝒱 c bd) E (Prog.lift (.assume P d) >>= k) Q :=
  wp_assume 𝒱 c bd E (k := k) h

end OwnedMem

end
-- ==== Proof.Words.lean ====
/-
  Which cache frames a latent chunk sees, and the list of them the kernel keeps in scalar memory.

  `seen v1 v3 vc w p` is the kernel's one-bit test on words: frame `w` is a sink (`w < 3`), or its age in the ring
  `(w − 3 − v1) mod 18` is below the number of valid ring frames `v3` and its position `p` is within the window of the
  chunk's position `vc`. `vis P k` lists, in order, the frames below `k` that pass a test `P`; the scan over the frames
  keeps its length in a carried word and its entries in one row of a table (`ListOK`), and one trip of the scan
  preserves that (`ListOK.step_true`, `ListOK.step_false`).
-/
module

public import Idealize.ShloMosaic.Lib.VecWindow
public import Idealize.ShloMosaic.Lib.ValueIdx
public import Idealize.ShloMosaic.Lib.Scf

@[expose] public section

noncomputable section

namespace AttnWords

open Idealize.ShloMosaic Idealize.ShloMosaic.ValueIdx

/-- The word of a table of words at a row and a column; 0 outside the table. -/
def at2 {a b : ℕ} (x : (⟨2, ![a, b]⟩ : Shape).Idx → BitVec 32) (r j : ℕ) : BitVec 32 :=
  if h : r < a ∧ j < b then x (ix2 ⟨r, h.1⟩ ⟨j, h.2⟩) else 0#32

/-- The word of a vector of words at a position; 0 outside. -/
def at1 {a : ℕ} (x : (⟨1, ![a]⟩ : Shape).Idx → BitVec 32) (r : ℕ) : BitVec 32 :=
  if h : r < a then x (ix1 ⟨r, h⟩) else 0#32

theorem at2_idx {a b : ℕ} (x : (⟨2, ![a, b]⟩ : Shape).Idx → BitVec 32) (y : (⟨2, ![a, b]⟩ : Shape).Idx) (r j : ℕ)
    (h0 : (y 0).val = r) (h1 : (y 1).val = j) : x y = at2 x r j := by
  subst h0 h1
  have e : (y 0).val < a ∧ (y 1).val < b := ⟨idx2_lt0 y, idx2_lt1 y⟩
  unfold at2
  rw [dif_pos e]
  exact congrArg x (eq_ix2 y)

theorem at1_idx {a : ℕ} (x : (⟨1, ![a]⟩ : Shape).Idx → BitVec 32) (y : (⟨1, ![a]⟩ : Shape).Idx) (r : ℕ)
    (h0 : (y 0).val = r) : x y = at1 x r := by
  subst h0
  have e : (y 0).val < a := (y 0).isLt
  unfold at1
  rw [dif_pos e]
  exact congrArg x (eq_ix1 y)

/-- The kernel's test whether the chunk at position `vc` sees frame `w` at position `p`. -/
def seen (v1 v3 vc w p : BitVec 32) : BitVec 1 :=
  let v64 : BitVec 32 := Scalar.subi (Scalar.subi w 3#32) v1
  let v65 : BitVec 32 := Scalar.remsi v64 18#32
  let v68 : BitVec 32 := Scalar.select (Scalar.cmpi .slt v65 0#32) (Scalar.addi v65 18#32) v65
  Scalar.ori (Scalar.cmpi .slt w 3#32) (Scalar.andi (Scalar.cmpi .slt v68 v3) (Scalar.cmpi .sge p (Scalar.subi vc 8#32)))

/-- A one-bit value is widened to a word that differs from zero exactly when it is 1. -/
theorem widen_ne_zero (b : BitVec 1) : Scalar.cmpi .ne (Scalar.extui b : BitVec 32) 0#32 = 1#1 ↔ b = 1#1 := by
  revert b; decide

theorem iv01 (k : ℕ) : Scf.iv (0#32) (1#32) k = BitVec.ofNat 32 k := by
  unfold Scf.iv; simp

/-- The frames below `k` that pass the test, in order. -/
def vis (P : ℕ → Bool) (k : ℕ) : List ℕ := (List.range k).filter P

theorem vis_zero (P : ℕ → Bool) : vis P 0 = [] := rfl

theorem vis_succ_true (P : ℕ → Bool) (k : ℕ) (h : P k = true) : vis P (k + 1) = vis P k ++ [k] := by
  unfold vis; rw [List.range_succ, List.filter_append]; simp [h]

theorem vis_succ_false (P : ℕ → Bool) (k : ℕ) (h : P k = false) : vis P (k + 1) = vis P k := by
  unfold vis; rw [List.range_succ, List.filter_append]; simp [h]

theorem vis_length_le (P : ℕ → Bool) (k : ℕ) : (vis P k).length ≤ k := by
  unfold vis; exact (List.length_filter_le _ _).trans (by simp)

theorem vis_lt (P : ℕ → Bool) (k j : ℕ) (h : j < (vis P k).length) : (vis P k)[j] < k := by
  have := List.getElem_mem h
  unfold vis at this
  exact List.mem_range.mp (List.mem_filter.mp this).1

/-- Before trip `k` of the scan that fills row `row`: the carried word is the number of frames found, the row starts
    with them, and the other rows are as they were. -/
structure ListOK (row : ℕ) (P : ℕ → Bool) (y₀ : (⟨2, ![3, 21]⟩ : Shape).Idx → BitVec 32) (k : ℕ) (n : BitVec 32)
    (y : (⟨2, ![3, 21]⟩ : Shape).Idx → BitVec 32) : Prop where
  count : n = BitVec.ofNat 32 (vis P k).length
  entry : ∀ j (h : j < (vis P k).length), at2 y row j = BitVec.ofNat 32 (vis P k)[j]
  other : ∀ r j, r ≠ row → at2 y r j = at2 y₀ r j

theorem ListOK.zero (row : ℕ) (P : ℕ → Bool) (y : (⟨2, ![3, 21]⟩ : Shape).Idx → BitVec 32) : ListOK row P y 0 0#32 y :=
  ⟨rfl, fun j h => absurd h (Nat.not_lt_zero j), fun _ _ _ => rfl⟩

theorem ListOK.step_false {row : ℕ} {P : ℕ → Bool} {y₀ y : (⟨2, ![3, 21]⟩ : Shape).Idx → BitVec 32} {k : ℕ} {n : BitVec 32}
    (h : ListOK row P y₀ k n y) (hP : P k = false) : ListOK row P y₀ (k + 1) (n + 0#32) y := by
  obtain ⟨a, b, c⟩ := h
  refine ⟨?_, ?_, c⟩
  · rw [vis_succ_false P k hP, a, BitVec.add_zero]
  · simp only [vis_succ_false P k hP]; exact b

/-- What a table reads after one word is stored in it. -/
theorem at2_put (y : (⟨2, ![3, 21]⟩ : Shape).Idx → BitVec 32) (off : Fin 2 → ℕ) (row l : ℕ) (h0 : off 0 = row) (h1 : off 1 = l)
    (w : BitVec 32) (hr : row < 3) (hl : l < 21) (r j : ℕ) :
    at2 (VecWindow.put (s := ⟨2, ![3, 21]⟩) y off ![1, 1] (fun _ => w)) r j = if r = row ∧ j = l then w else at2 y r j := by
  unfold at2
  by_cases e : r < 3 ∧ j < 21
  · rw [dif_pos e, dif_pos e]
    unfold VecWindow.put
    by_cases hh : r = row ∧ j = l
    · rw [if_pos hh, dif_pos]
      intro a; fin_cases a
      · show off 0 ≤ r ∧ r < off 0 + 1; omega
      · show off 1 ≤ j ∧ j < off 1 + 1; omega
    · rw [if_neg hh, dif_neg]
      intro H
      have a0 : off 0 ≤ r ∧ r < off 0 + 1 := H 0
      have a1 : off 1 ≤ j ∧ j < off 1 + 1 := H 1
      omega
  · rw [dif_neg e, dif_neg e, if_neg]; omega

theorem ListOK.step_true {row : ℕ} {P : ℕ → Bool} {y₀ y : (⟨2, ![3, 21]⟩ : Shape).Idx → BitVec 32} {k : ℕ} {n : BitVec 32}
    (h : ListOK row P y₀ k n y) (hP : P k = true) (hr : row < 3) (hk : k < 21) (off : Fin 2 → ℕ) (h0 : off 0 = row) (h1 : off 1 = n.toNat) :
    ListOK row P y₀ (k + 1) (n + 1#32) (VecWindow.put (s := ⟨2, ![3, 21]⟩) y off ![1, 1] (fun _ => BitVec.ofNat 32 k)) := by
  obtain ⟨a, b, c⟩ := h
  have hl := vis_length_le P k
  have hn : n.toNat = (vis P k).length := by rw [a, BitVec.toNat_ofNat, Nat.mod_eq_of_lt (by omega)]
  have hput := at2_put y off row (vis P k).length h0 (h1.trans hn) (BitVec.ofNat 32 k) hr (by omega)
  refine ⟨?_, ?_, ?_⟩
  · rw [vis_succ_true P k hP, a, List.length_append, List.length_singleton, BitVec.ofNat_add]
  · simp only [vis_succ_true P k hP]
    intro j hj
    rw [hput]
    rw [List.length_append, List.length_singleton] at hj
    by_cases e : j = (vis P k).length
    · subst e; simp
    · rw [if_neg (by tauto), b j (by omega), List.getElem_append_left]
  · intro r j hrr
    rw [hput, if_neg (by tauto), c r j hrr]

/-- The carried word stays within the row. -/
theorem ListOK.lt {row : ℕ} {P : ℕ → Bool} {y₀ y : (⟨2, ![3, 21]⟩ : Shape).Idx → BitVec 32} {k : ℕ} {n : BitVec 32}
    (h : ListOK row P y₀ k n y) (hk : k < 21) : n.toNat < 21 := by
  have hl := vis_length_le P k
  rw [h.count, BitVec.toNat_ofNat, Nat.mod_eq_of_lt (by omega)]; omega

/-- The frames a chunk attends to: the cached ones it sees, then the three of the current block. -/
def frames (P : ℕ → Bool) : List ℕ := vis P 21 ++ [21, 22, 23]

theorem frames_length (P : ℕ → Bool) : (frames P).length = (vis P 21).length + 3 := by
  unfold frames; simp

theorem frames_left (P : ℕ → Bool) (j : ℕ) (h : j < (vis P 21).length) (hj : j < (frames P).length) :
    (frames P)[j] = (vis P 21)[j] :=
  List.getElem_append_left h

theorem frames_right (P : ℕ → Bool) (d : ℕ) (hd : d < 3) (hj : (vis P 21).length + d < (frames P).length) :
    (frames P)[(vis P 21).length + d] = 21 + d := by
  refine (List.getElem_append_right (Nat.le_add_right _ d)).trans ?_
  simp only [Nat.add_sub_cancel_left]
  interval_cases d <;> rfl

theorem frames_lt (P : ℕ → Bool) (j : ℕ) (h : j < (frames P).length) : (frames P)[j] < 24 := by
  by_cases hl : j < (vis P 21).length
  · rw [frames_left P j hl h]
    have := vis_lt P 21 j hl
    omega
  · obtain ⟨d, rfl⟩ : ∃ d, j = (vis P 21).length + d := ⟨j - (vis P 21).length, by omega⟩
    have hd : d < 3 := by rw [frames_length] at h; omega
    rw [frames_right P d hd h]; omega

theorem slt_words : ∀ (n : Fin 22) (j : Fin 24),
    Scalar.cmpi .slt (BitVec.ofNat 32 j.val) (BitVec.ofNat 32 n.val) = if j.val < n.val then 1#1 else 0#1 := by
  decide +kernel

theorem tail_words : ∀ (n : Fin 22) (d : Fin 3),
    Scalar.subi (Scalar.addi 21#32 (BitVec.ofNat 32 (n.val + d.val))) (BitVec.ofNat 32 n.val) = BitVec.ofNat 32 (21 + d.val) := by
  decide +kernel

/-- The frame the kernel picks in trip `j`: the list's entry while there is one, then the current block's frames. -/
theorem pick_eq (P : ℕ → Bool) (j : ℕ) (hj : j < (frames P).length) (w : BitVec 32)
    (hw : ∀ h : j < (vis P 21).length, w = BitVec.ofNat 32 (vis P 21)[j]) :
    Scalar.select (Scalar.cmpi .slt (BitVec.ofNat 32 j) (BitVec.ofNat 32 (vis P 21).length)) w
      (Scalar.subi (Scalar.addi 21#32 (BitVec.ofNat 32 j)) (BitVec.ofNat 32 (vis P 21).length)) = BitVec.ofNat 32 (frames P)[j] := by
  have hl := vis_length_le P 21
  have hj' := hj
  rw [frames_length] at hj'
  have e := slt_words ⟨(vis P 21).length, by omega⟩ ⟨j, by omega⟩
  simp only at e
  rw [e]
  by_cases h : j < (vis P 21).length
  · rw [if_pos h, select_one, hw h, frames_left P j h hj]
  · rw [if_neg h, select_zero]
    obtain ⟨d, rfl⟩ : ∃ d, j = (vis P 21).length + d := ⟨j - (vis P 21).length, by omega⟩
    have hd : d < 3 := by omega
    have := tail_words ⟨(vis P 21).length, by omega⟩ ⟨d, hd⟩
    simp only at this
    rw [this, frames_right P d hd hj]

end AttnWords

end
-- ==== Proof.Blocks.lean ====
/-
  A scratch buffer of blocks, filled one block after the other.

  `Filled n X B` says that the first `n` blocks of the buffer `X` are `B 0, …, B (n-1)`. Storing block `n` extends it
  (`Filled.put`), and a load of a filled block reads it (`Filled.ld`).
-/
module

public import Idealize.ShloMosaic.Lib.VecWindow
public import Idealize.ShloMosaic.Lib.ValueIdx
public import Idealize.ShloMosaic.Lib.Memref

@[expose] public section

noncomputable section

namespace AttnBlocks

open Idealize.ShloMosaic Idealize.ShloMosaic.ValueIdx

variable {V : Type} {n a b : ℕ}

/-- The first `k` blocks of a buffer of `n` blocks are those of `B`. -/
def Filled (k : ℕ) (X : (⟨3, ![n, a, b]⟩ : Shape).Idx → V) (B : ℕ → (⟨3, ![1, a, b]⟩ : Shape).Idx → V) : Prop :=
  ∀ f (hf : f < n), f < k → ∀ (p : Fin a) (q : Fin b), X (ix3 ⟨f, hf⟩ p q) = B f (ix3 0 p q)

theorem Filled.zero (X : (⟨3, ![n, a, b]⟩ : Shape).Idx → V) (B : ℕ → (⟨3, ![1, a, b]⟩ : Shape).Idx → V) : Filled 0 X B :=
  fun f _ h => absurd h (Nat.not_lt_zero f)

theorem Filled.put {k : ℕ} {X : (⟨3, ![n, a, b]⟩ : Shape).Idx → V} {B : ℕ → (⟨3, ![1, a, b]⟩ : Shape).Idx → V} (h : Filled k X B)
    (off : Fin 3 → ℕ) (ho : off = ![k, 0, 0]) (w : (⟨3, ![1, a, b]⟩ : Shape).Idx → V) (hw : w = B k) :
    Filled (k + 1) (VecWindow.put (s := ⟨3, ![n, a, b]⟩) X off ![1, a, b] w) B := by
  subst ho hw
  intro f hf hk p q
  unfold VecWindow.put
  by_cases e : f = k
  · subst e
    rw [dif_pos]
    · congr 1
      funext d; fin_cases d
      · exact Fin.ext (by show f - f = 0; omega)
      · exact Fin.ext (by show p.val - 0 = p.val; omega)
      · exact Fin.ext (by show q.val - 0 = q.val; omega)
    · intro d; fin_cases d
      · show f ≤ f ∧ f < f + 1; omega
      · show 0 ≤ p.val ∧ p.val < 0 + a; omega
      · show 0 ≤ q.val ∧ q.val < 0 + b; omega
  · rw [dif_neg]
    · exact h f hf (by omega) p q
    · intro H
      have := H 0
      have h1 : k ≤ f ∧ f < k + 1 := this
      omega

theorem Filled.ld {k : ℕ} {X : (⟨3, ![n, a, b]⟩ : Shape).Idx → V} {B : ℕ → (⟨3, ![1, a, b]⟩ : Shape).Idx → V} (h : Filled k X B)
    (f : ℕ) (hf : f < k) (off : Fin 3 → ℕ) (ho : off = ![f, 0, 0]) (inb) :
    (fun y => X ((Rect.unit (s := ⟨3, ![n, a, b]⟩) off ![1, a, b] inb).idx y)) = B f := by
  subst ho
  funext y
  have h0 : f + 1 ≤ n := inb 0
  have e0 : (y 0).val < 1 := (y 0).isLt
  refine Eq.trans ?_ ((h f (by omega) hf (y 1) (y 2)).trans ?_)
  · show X _ = X _
    congr 1
    refine (eq_ix3 _).trans ?_
    congr 1
    · exact Fin.ext (by show f + 1 * (y 0).val = f; omega)
    · exact Fin.ext (by show 0 + 1 * (y 1).val = (y 1).val; omega)
    · exact Fin.ext (by show 0 + 1 * (y 2).val = (y 2).val; omega)
  · congr 1
    refine ((eq_ix3 y).trans ?_).symm
    congr 1
    exact Fin.ext (by show (y 0).val = 0; omega)

end AttnBlocks

end
-- ==== Proof.Attn.Values.lean ====
/-
  The values one grid point of the kernel works with, as functions of what its blocks hold.

  The kernel gathers 24 frames of keys and values: 21 from the cache, whose keys it rotates by the tables' row at the
  frame's position, and three from the current block. `keyAt f` and `valAt f` are what it writes to its scratch for
  frame `f`. For each tile of 312 queries it then walks over the frames the tile's chunk sees (`frames`), with a running
  maximum, sum and weighted sum (`stepOf`), and divides at the end (`tileOut`).
-/
module

public import proofs.«01_k».proof.Proof.Gen.Attn.Skeleton
public import proofs.«01_k».proof.Proof.Mem
public import proofs.«01_k».proof.Proof.Words
public import proofs.«01_k».proof.Proof.Blocks

@[expose] public section

set_option maxRecDepth 16384

noncomputable section

namespace Cert.Attn.Body

open Cert.Attn Cert.Attn.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Frame `f` of a block of cached codes. -/
def frameOf (x : Vec F S1x21x1x1560x128 .fp8e4m3) (f : ℕ) : Vec F S1x1x1x1560x128 .fp8e4m3 :=
  fun y => x (ix5 0 ⟨f % 21, Nat.mod_lt _ (by decide)⟩ 0 (y 3) (y 4))

/-- Row `p` of a table of rotations. -/
def rowOf (x : Vec F S1024x128 .f32) (p : ℕ) : Vec F S1x128 .f32 :=
  fun y => x (ix2 ⟨p % 1024, Nat.mod_lt _ (by decide)⟩ (y 1))

/-- Chunk `r` of a block of the current keys or values. -/
def chunkOf (x : Vec F S1x1x4680x128 .bf16) (r : ℕ) : Vec F S1x1x1560x128 .bf16 :=
  fun y => x (ix4 0 0 ⟨(r * 1560 + (y 2).val) % 4680, Nat.mod_lt _ (by decide)⟩ (y 3))

/-- Tile `t` of a block of queries. -/
def tileOf (x : Vec F S1x1x4680x128 .bf16) (t : ℕ) : Vec F S1x1x312x128 .bf16 :=
  fun y => x (ix4 0 0 ⟨(t * 312 + (y 2).val) % 4680, Nat.mod_lt _ (by decide)⟩ (y 3))

/-- What the kernel keeps as the keys of frame `f`: `p f` is the position of cached frame `f`. -/
def keyAt (k : Vec F S1x1x4680x128 .bf16) (kc : Vec F S1x21x1x1560x128 .fp8e4m3) (tc ts : Vec F S1024x128 .f32)
    (sc ss : Vec F S1560x128 .f32) (p : ℕ → ℕ) (f : ℕ) : FVec F S1x1560x128 .bf16 :=
  if f < 21 then
    k0_pay29 (k0_pay4 (frameOf kc f)) (k0_pay5 ss (rowOf ts (p f))) (k0_pay6 (frameOf kc f) sc (rowOf tc (p f))) k0_pay7
  else k0_pay1 (chunkOf k (f - 21))

/-- What the kernel keeps as the values of frame `f`, transposed. -/
def valAt (v : Vec F S1x1x4680x128 .bf16) (vc : Vec F S1x21x1x1560x128 .fp8e4m3) (f : ℕ) : FVec F S1x128x1560 .bf16 :=
  if f < 21 then k0_pay30 (frameOf vc f) else k0_pay2 (chunkOf v (f - 21))

/-- The scale of frame `f` for batch `b` and head `h`: 1 for the frames of the current block. -/
def scaleAt (x : Vec F S504 .f32) (b h f : ℕ) : F .f32 :=
  if f < 21 then x (ix1 ⟨((b * 21 + f) * 12 + h) % 504, Nat.mod_lt _ (by decide)⟩) else Scalar.ofBits .f32 0x3F800000#32

/-- The scores of a tile of queries against the keys of a frame. -/
def scoreOf (q : FVec F S312x128 .bf16) (kr : FVec F S1x1560x128 .bf16) (ks : F .f32) : FVec F S1560x312 .f32 :=
  mulf (matmul dot_S1560x128_S312x128_S1560x312_1_1_0_0_n_n none (shapeCast S1560x128 kr shapeCasts_S1x1560x128_S1560x128) q
      (constant S1560x312 .f32 0x00000000#32))
    (broadcast S1560x312 (Scalar.mulf (Scalar.mulf (Scalar.ofBits .f32 0x3DB504F3#32) ks) (Scalar.ofBits .f32 0x3FB8AA3B#32)))

/-- The running maximum after a frame. -/
def maxOf (s : FVec F S1560x312 .f32) (m : FVec F S1x312 .f32) : FVec F S1x312 .f32 :=
  maximumf m (ceil (shapeCast S1x312 (multiReduction .maximumf [0] S312 s 0xFF800000#32 reduces_S1560x312_S312 (.inl rfl) rfl) shapeCasts_S312_S1x312))

/-- The weights of a frame's keys against the running maximum. -/
def expOf (s : FVec F S1560x312 .f32) (m' : FVec F S1x312 .f32) : FVec F S1560x312 .f32 :=
  exp2 (subf s (broadcastTo S1560x312 m' broadcasts_S1x312_S1560x312))

/-- The running maximum, sum and weighted sum. -/
abbrev Acc (F : FTy → Type) : Type := FVec F S1x312 .f32 × FVec F S1x312 .f32 × FVec F S128x312 .f32

/-- What one frame does to the running maximum, sum and weighted sum of a tile. -/
def stepOf (q : FVec F S312x128 .bf16) (kr : FVec F S1x1560x128 .bf16) (vt : FVec F S1x128x1560 .bf16) (ks vs : F .f32)
    (a : Acc F) : Acc F :=
  let s := scoreOf q kr ks
  let m' := maxOf s a.1
  let p := expOf s m'
  let g := exp2 (subf a.1 m')
  (m', k0_pay24 p (mulf a.2.1 g), k0_pay25 a.2.2 vs p g vt)

/-- The running values before the first frame. -/
def acc0 : Acc F := (k0_pay21, k0_pay22, k0_pay23)

/-- The running values of a tile after the frames `fs`. -/
def accOf (q : FVec F S312x128 .bf16) (K : ℕ → FVec F S1x1560x128 .bf16) (V : ℕ → FVec F S1x128x1560 .bf16) (KS VS : ℕ → F .f32)
    (fs : List ℕ) : Acc F :=
  fs.foldl (fun a f => stepOf q (K f) (V f) (KS f) (VS f) a) acc0

theorem accOf_succ (q : FVec F S312x128 .bf16) (K : ℕ → FVec F S1x1560x128 .bf16) (V : ℕ → FVec F S1x128x1560 .bf16)
    (KS VS : ℕ → F .f32) (fs : List ℕ) (j : ℕ) (h : j < fs.length) :
    accOf q K V KS VS (fs.take (j + 1)) = stepOf q (K fs[j]) (V fs[j]) (KS fs[j]) (VS fs[j]) (accOf q K V KS VS (fs.take j)) := by
  unfold accOf
  rw [← List.take_concat_get' fs j h, List.foldl_append]
  rfl

/-- What the kernel writes for a tile whose chunk sees the frames `fs`. -/
def tileOut (q : FVec F S312x128 .bf16) (K : ℕ → FVec F S1x1560x128 .bf16) (V : ℕ → FVec F S1x128x1560 .bf16) (KS VS : ℕ → F .f32)
    (fs : List ℕ) : FVec F S1x1x312x128 .f32 :=
  k0_pay3 (k0_pay28 (accOf q K V KS VS fs).2.1 (accOf q K V KS VS fs).2.2)

/-- The test of one chunk over the frames, at a batch: `vc` the chunk's position, `x4` the frames' positions. -/
def sees (v1 v3 vc : BitVec 32) (b : ℕ) (x4 : Vec F S2x21 .i32) (r : ℕ) : Bool :=
  seen v1 v3 vc (BitVec.ofNat 32 r) (at2 (a := 2) (b := 21) x4 b r) == 1#1

/-- The block of results of the grid point of batch `b` and head `h`. `t2 … t5` are the tables of ring starts, valid
    ring frames, frame positions and chunk positions. -/
def outBlock (b h : ℕ) (t2 t3 : Vec F S2 .i32) (t4 : Vec F S2x21 .i32) (t5 : Vec F S2x3 .i32) (ks vs : Vec F S504 .f32)
    (q k v : Vec F S1x1x4680x128 .bf16) (kc vc : Vec F S1x21x1x1560x128 .fp8e4m3) (tc ts : Vec F S1024x128 .f32)
    (sc ss : Vec F S1560x128 .f32) : Vec F S1x1x4680x128 .f32 :=
  fun y =>
    tileOut (k0_pay20 (tileOf q ((y 2).val / 312)))
      (keyAt k kc tc ts sc ss (fun f => (at2 (a := 2) (b := 21) t4 b f).toNat)) (valAt v vc) (scaleAt ks b h) (scaleAt vs b h)
      (frames (sees (at1 (a := 2) t2 b) (at1 (a := 2) t3 b) (at2 (a := 2) (b := 3) t5 b ((y 2).val / 312 / 5)) b t4))
      (ix4 0 0 ⟨(y 2).val % 312, Nat.mod_lt _ (by decide)⟩ (y 3))

end Cert.Attn.Body

end
-- ==== Proof.Attn.Scan.lean ====
/-
  The three scans of the attention kernel: for each of the three latent chunks a counted loop over the 21 cache frames
  lists, in one row of a table in scalar memory, the frames that chunk sees.
-/
module

public import proofs.«01_k».proof.Proof.Gen.Attn.Loops
public import proofs.«01_k».proof.Proof.Mem
public import proofs.«01_k».proof.Proof.Attn.Values

@[expose] public section

set_option maxRecDepth 16384

noncomputable section

namespace Cert.Attn.Body

open Cert.Attn Cert.Attn.Gen AttnWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

/-- The batch of a grid point. -/
abbrev bat (i : grid0.Coords) : ℕ := (i 0).val

theorem bit_zero {b : BitVec 1} (h : ¬ b = 1#1) : b = 0#1 := by
  revert b; decide

/-- What the scan that fills row `row` holds before trip `k`. -/
def inv (row : ℕ) (v1 v3 vc : BitVec 32) (x4 : Vec F S2x21 .i32) (y₀ : Vec F S3x21 .i32) (k : ℕ) (n : BitVec 32) : sProp 𝕄 :=
  iprop(owns (c : Thread nD τ) arg4 fullShare.right x4
    ∗ ∃ y, ⌜ListOK row (sees v1 v3 vc (bat i) x4) y₀ k n y⌝ ∗ owns (c : Thread nD τ) arg20 fullShare y)

theorem off3_eq : ∀ (i : grid0.Coords) (t : Fin k0_t1_loop.trips), k0_off3 i t = ![(i 0).val, t.val] := by
  decide +kernel

theorem pos1 (x4 : Vec F S2x21 .i32) (t : Fin k0_t1_loop.trips) (y) :
    x4 ((Rect.unit (s := S2x21) (k0_off3 i t) S1x1.size (k0_off3_inb i t)).idx y) = at2 (a := 2) (b := 21) x4 (bat i) t.val := by
  have h0 : k0_off3 i t 0 = (i 0).val := congrFun (off3_eq i t) 0
  have h1 : k0_off3 i t 1 = t.val := congrFun (off3_eq i t) 1
  refine at2_idx (a := 2) (b := 21) x4 _ _ _ ?_ ?_
  · show k0_off3 i t 0 + 1 * (y 0).val = _
    have : (y 0).val < 1 := (y 0).isLt
    unfold bat; omega
  · show k0_off3 i t 1 + 1 * (y 1).val = _
    have : (y 1).val < 1 := (y 1).isLt
    omega

/-- One trip of the scan for chunk 0. -/
theorem trip1 (v1 v3 vc : BitVec 32) (x4 : Vec F S2x21 .i32) (y₀ : Vec F S3x21 .i32) (t : Fin k0_t1_loop.trips) (n : BitVec 32) :
    inv (F := F) c i arg4 arg20 0 v1 v3 vc x4 y₀ t.val n
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 vc (Scalar.subi vc 8#32) t n)
          (inv (F := F) c i arg4 arg20 0 v1 v3 vc x4 y₀ (t.val + 1)) := by
  unfold inv k0_t1_body
  iintro ⟨H4, %y, %hy, H20⟩
  have ht : t.val < 21 := t.isLt
  have hn := hy.lt ht
  iapply (OwnedMem.smem Variants.none (c : Thread nD τ) none E (pos1 i x4 t)) $$ H4
  iintro H4
  have hc : k0_chk1 v1 v3 vc t n (at2 (a := 2) (b := 21) x4 (bat i) t.val) := by
    intro _ a
    fin_cases a
    · show 0 + 1 ≤ 3; omega
    · show n.toNat + 1 ≤ 21; omega
  iapply (OwnedMem.assume Variants.none (c : Thread nD τ) none E hc)
  by_cases hs : k0_cond1 v1 v3 vc t (at2 (a := 2) (b := 21) x4 (bat i) t.val) = 1#1
  · rw [dif_pos hs]
    have e : seen v1 v3 vc (Scf.iv 0#32 1#32 t.val) (at2 (a := 2) (b := 21) x4 (bat i) t.val) = 1#1 := (widen_ne_zero _).mp hs
    have key : Scalar.addi n (Scalar.extui (seen v1 v3 vc (Scf.iv 0#32 1#32 t.val) (at2 (a := 2) (b := 21) x4 (bat i) t.val)) : BitVec 32) = n + 1#32 := by
      rw [e]; rfl
    iapply (OwnedMem.smemAny Variants.none (c : Thread nD τ) none E (X := y)) $$ H20
    iintro H20 %_
    iapply (OwnedMem.store Variants.none (c : Thread nD τ) none E (X := y) rfl) $$ H20
    iintro H20
    iapply (OwnedMem.ret Variants.none (c : Thread nD τ) none E key)
    isplitl [H4]; · iexact H4
    iexists _
    isplitr
    rotate_left
    · iexact H20
    · ipureintro
      rw [iv01] at e ⊢
      exact hy.step_true (by unfold sees; rw [e]; rfl) (by omega) ht (k0_off4 n) rfl rfl
  · rw [dif_neg hs]
    have e : seen v1 v3 vc (Scf.iv 0#32 1#32 t.val) (at2 (a := 2) (b := 21) x4 (bat i) t.val) = 0#1 := by
      have := fun h => hs ((widen_ne_zero _).mpr h)
      exact bit_zero this
    have key : Scalar.addi n (Scalar.extui (seen v1 v3 vc (Scf.iv 0#32 1#32 t.val) (at2 (a := 2) (b := 21) x4 (bat i) t.val)) : BitVec 32) = n + 0#32 := by
      rw [e]; rfl
    iapply (OwnedMem.ret Variants.none (c : Thread nD τ) none E key)
    isplitl [H4]; · iexact H4
    iexists y
    isplitr
    · ipureintro
      rw [iv01] at e
      exact hy.step_false (by unfold sees; rw [e]; rfl)
    · iexact H20

theorem off6_eq : ∀ (i : grid0.Coords) (t : Fin k0_t2_loop.trips), k0_off6 i t = ![(i 0).val, t.val] := by
  decide +kernel

theorem pos2 (x4 : Vec F S2x21 .i32) (t : Fin k0_t2_loop.trips) (y) :
    x4 ((Rect.unit (s := S2x21) (k0_off6 i t) S1x1.size (k0_off6_inb i t)).idx y) = at2 (a := 2) (b := 21) x4 (bat i) t.val := by
  have h0 : k0_off6 i t 0 = (i 0).val := congrFun (off6_eq i t) 0
  have h1 : k0_off6 i t 1 = t.val := congrFun (off6_eq i t) 1
  refine at2_idx (a := 2) (b := 21) x4 _ _ _ ?_ ?_
  · show k0_off6 i t 0 + 1 * (y 0).val = _
    have : (y 0).val < 1 := (y 0).isLt
    unfold bat; omega
  · show k0_off6 i t 1 + 1 * (y 1).val = _
    have : (y 1).val < 1 := (y 1).isLt
    omega

/-- One trip of the scan for chunk 1. -/
theorem trip2 (v1 v3 vc : BitVec 32) (x4 : Vec F S2x21 .i32) (y₀ : Vec F S3x21 .i32) (t : Fin k0_t2_loop.trips) (n : BitVec 32) :
    inv (F := F) c i arg4 arg20 1 v1 v3 vc x4 y₀ t.val n
      ⊢ wp frame (wpE (defs₀ (F := F)) Variants.none c none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 vc (Scalar.subi vc 8#32) t n)
          (inv (F := F) c i arg4 arg20 1 v1 v3 vc x4 y₀ (t.val + 1)) := by
  unfold inv k0_t2_body
  iintro ⟨H4, %y, %hy, H20⟩
  have ht : t.val < 21 := t.isLt
  have hn := hy.lt ht
  iapply (OwnedMem.smem Variants.none (c : Thread nD τ) none E (pos2 i x4 t)) $$ H4
  iintro H4
  have hc : k0_chk2 v1 v3 vc t n (at2 (a := 2) (b := 21) x4 (bat i) t.val) := by
    intro _ a
    fin_cases a
    · show 1 + 1 ≤ 3; omega
    · show n.toNat + 1 ≤ 21; omega
  iapply (OwnedMem.assume Variants.none (c : Thread nD τ) none E hc)
  by_cases hs : k0_cond2 v1 v3 vc t (at2 (a := 2) (b := 21) x4 (bat i) t.val) = 1#1
  · rw [dif_pos hs]
    have e : seen v1 v3 vc (Scf.iv 0#32 1#32 t.val) (at2 (a := 2) (b := 21) x4 (bat i) t.val) = 1#1 := (widen_ne_zero _).mp hs
    have key : Scalar.addi n (Scalar.extui (seen v1 v3 vc (Scf.iv 0#32 1#32 t.val) (at2 (a := 2) (b := 21) x4 (bat i) t.val)) : BitVec 32) = n + 1#32 := by
      rw [e]; rfl
    iapply (OwnedMem.smemAny Variants.none (c : Thread nD τ) none E (X := y)) $$ H20
    iintro H20 %_
    iapply (OwnedMem.store Variants.none (c : Thread nD τ) none E (X := y) rfl) $$ H20
    iintro H20
    iapply (OwnedMem.ret Variants.none (c : Thread nD τ) none E key)
    isplitl [H4]; · iexact H4
    iexists _
    isplitr
    rotate_left
    · iexact H20
    · ipureintro
      rw [iv01] at e ⊢
      exact hy.step_true (by unfold sees; rw [e]; rfl) (by omega) ht (k0_off7 n) rfl rfl
  · rw [dif_neg hs]
    have e : seen v1 v3 vc (Scf.iv 0#32 1#32 t.val) (at2 (a := 2) (b := 21) x4 (bat i) t.val) = 0#1 := by
      have := fun h => hs ((widen_ne_zero _).mpr h)
      exact bit_zero this
    have key : Scalar.addi n (Scalar.extui (seen v1 v3 vc (Scf.iv 0#32 1#32 t.val) (at2 (a := 2) (b := 21) x4 (bat i) t.val)) : BitVec 32) = n + 0#32 := by
      rw [e]; rfl
    iapply (OwnedMem.ret Variants.none (c : Thread nD τ) none E key)
    isplitl [H4]; · iexact H4
    iexists y
    isplitr
    · ipureintro
      rw [iv01] at e
      exact hy.step_false (by unfold sees; rw [e]; rfl)
    · iexact H20

theorem off9_eq : ∀ (i : grid0.Coords) (t : Fin k0_t3_loop.trips), k0_off9 i t = ![(i 0).val, t.val] := by
  decide +kernel

theorem pos3 (x4 : Vec F S2x21 .i32) (t : Fin k0_t3_loop.trips) (y) :
    x4 ((Rect.unit (s := S2x21) (k0_off9 i t) S1x1.size (k0_off9_inb i t)).idx y) = at2 (a := 2) (b := 21) x4 (bat i) t.val := by
  have h0 : k0_off9 i t 0 = (i 0).val := congrFun (off9_eq i t) 0
  have h1 : k0_off9 i t 1 = t.val := congrFun (off9_eq i t) 1
  refine at2_idx (a := 2) (b := 21) x4 _ _ _ ?_ ?_
  · show k0_off9 i t 0 + 1 * (y 0).val = _
    have : (y 0).val < 1 := (y 0).isLt
    unfold bat; omega
  · show k0_off9 i t 1 + 1 * (y 1).val = _
    have : (y 1).val < 1 := (y 1).isLt
    omega

/-- One trip of the scan for chunk 2. -/
theorem trip3 (v1 v3 vc : BitVec 32) (x4 : Vec F S2x21 .i32) (y₀ : Vec F S3x21 .i32) (t : Fin k0_t3_loop.trips) (n : BitVec 32) :
    inv (F := F) c i arg4 arg20 2 v1 v3 vc x4 y₀ t.val n
      ⊢ wp frame (wpE (defs₀ (F := F)) Variants.none c none) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 vc (Scalar.subi vc 8#32) t n)
          (inv (F := F) c i arg4 arg20 2 v1 v3 vc x4 y₀ (t.val + 1)) := by
  unfold inv k0_t3_body
  iintro ⟨H4, %y, %hy, H20⟩
  have ht : t.val < 21 := t.isLt
  have hn := hy.lt ht
  iapply (OwnedMem.smem Variants.none (c : Thread nD τ) none E (pos3 i x4 t)) $$ H4
  iintro H4
  have hc : k0_chk3 v1 v3 vc t n (at2 (a := 2) (b := 21) x4 (bat i) t.val) := by
    intro _ a
    fin_cases a
    · show 2 + 1 ≤ 3; omega
    · show n.toNat + 1 ≤ 21; omega
  iapply (OwnedMem.assume Variants.none (c : Thread nD τ) none E hc)
  by_cases hs : k0_cond3 v1 v3 vc t (at2 (a := 2) (b := 21) x4 (bat i) t.val) = 1#1
  · rw [dif_pos hs]
    have e : seen v1 v3 vc (Scf.iv 0#32 1#32 t.val) (at2 (a := 2) (b := 21) x4 (bat i) t.val) = 1#1 := (widen_ne_zero _).mp hs
    have key : Scalar.addi n (Scalar.extui (seen v1 v3 vc (Scf.iv 0#32 1#32 t.val) (at2 (a := 2) (b := 21) x4 (bat i) t.val)) : BitVec 32) = n + 1#32 := by
      rw [e]; rfl
    iapply (OwnedMem.smemAny Variants.none (c : Thread nD τ) none E (X := y)) $$ H20
    iintro H20 %_
    iapply (OwnedMem.store Variants.none (c : Thread nD τ) none E (X := y) rfl) $$ H20
    iintro H20
    iapply (OwnedMem.ret Variants.none (c : Thread nD τ) none E key)
    isplitl [H4]; · iexact H4
    iexists _
    isplitr
    rotate_left
    · iexact H20
    · ipureintro
      rw [iv01] at e ⊢
      exact hy.step_true (by unfold sees; rw [e]; rfl) (by omega) ht (k0_off10 n) rfl rfl
  · rw [dif_neg hs]
    have e : seen v1 v3 vc (Scf.iv 0#32 1#32 t.val) (at2 (a := 2) (b := 21) x4 (bat i) t.val) = 0#1 := by
      have := fun h => hs ((widen_ne_zero _).mpr h)
      exact bit_zero this
    have key : Scalar.addi n (Scalar.extui (seen v1 v3 vc (Scf.iv 0#32 1#32 t.val) (at2 (a := 2) (b := 21) x4 (bat i) t.val)) : BitVec 32) = n + 0#32 := by
      rw [e]; rfl
    iapply (OwnedMem.ret Variants.none (c : Thread nD τ) none E key)
    isplitl [H4]; · iexact H4
    iexists y
    isplitr
    · ipureintro
      rw [iv01] at e
      exact hy.step_false (by unfold sees; rw [e]; rfl)
    · iexact H20

end Cert.Attn.Body

end
-- ==== Proof.Attn.Fill.lean ====
/-
  The loop that gathers the cached frames: trip `t` writes frame `t`'s rotated keys and transposed values.
-/
module

public import proofs.«01_k».proof.Proof.Attn.Values

@[expose] public section

set_option maxRecDepth 16384

noncomputable section

namespace Cert.Attn.Body

open Cert.Attn Cert.Attn.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

theorem off11_eq : ∀ (i : grid0.Coords) (t : Fin k0_t4_loop.trips), k0_off11 i t = ![(i 0).val, t.val] := by decide +kernel
theorem off12_eq : ∀ t : Fin k0_t4_loop.trips, k0_off12 t = ![0, t.val, 0, 0, 0] := by decide +kernel
theorem off14_eq : ∀ t : Fin k0_t4_loop.trips, k0_off14 t = ![t.val, 0, 0] := by decide +kernel
theorem off15_eq : ∀ t : Fin k0_t4_loop.trips, k0_off15 t = ![0, t.val, 0, 0, 0] := by decide +kernel
theorem off16_eq : ∀ t : Fin k0_t4_loop.trips, k0_off16 t = ![t.val, 0, 0] := by decide +kernel

theorem pos4 (x4 : Vec F S2x21 .i32) (t : Fin k0_t4_loop.trips) (y) :
    x4 ((Rect.unit (s := S2x21) (k0_off11 i t) S1x1.size (k0_off11_inb i t)).idx y) = at2 (a := 2) (b := 21) x4 (i 0).val t.val := by
  have h0 : k0_off11 i t 0 = (i 0).val := congrFun (off11_eq i t) 0
  have h1 : k0_off11 i t 1 = t.val := congrFun (off11_eq i t) 1
  refine at2_idx (a := 2) (b := 21) x4 _ _ _ ?_ ?_
  · show k0_off11 i t 0 + 1 * (y 0).val = _
    have : (y 0).val < 1 := (y 0).isLt
    omega
  · show k0_off11 i t 1 + 1 * (y 1).val = _
    have : (y 1).val < 1 := (y 1).isLt
    omega

theorem ld_frame (x : Vec F S1x21x1x1560x128 .fp8e4m3) (off : Fin 5 → ℕ) (f : ℕ) (ho : off = ![0, f, 0, 0, 0]) (hf : f < 21) (inb) :
    View.ld x (Rect.unit (s := S1x21x1x1560x128) off S1x1x1x1560x128.size inb) = frameOf x f := by
  subst ho
  funext y
  have e0 : (y 0).val < 1 := (y 0).isLt
  have e1 : (y 1).val < 1 := (y 1).isLt
  have e2 : (y 2).val < 1 := (y 2).isLt
  show x _ = x _
  congr 1
  funext d; fin_cases d
  · exact Fin.ext (by show 0 + 1 * (y 0).val = 0; omega)
  · exact Fin.ext (by show f + 1 * (y 1).val = f % 21; omega)
  · exact Fin.ext (by show 0 + 1 * (y 2).val = 0; omega)
  · exact Fin.ext (by show 0 + 1 * (y 3).val = (y 3).val; omega)
  · exact Fin.ext (by show 0 + 1 * (y 4).val = (y 4).val; omega)

theorem ld_row (x : Vec F S1024x128 .f32) (p : BitVec 32) (hp : p.toNat < 1024) (inb) :
    View.ld x (Rect.unit (s := S1024x128) (k0_off13 p) S1x128.size inb) = rowOf x p.toNat := by
  funext y
  have e0 : (y 0).val < 1 := (y 0).isLt
  show x _ = x _
  congr 1
  funext d; fin_cases d
  · exact Fin.ext (by show p.toNat + 1 * (y 0).val = p.toNat % 1024; omega)
  · exact Fin.ext (by show 0 + 1 * (y 1).val = (y 1).val; omega)

theorem ld_whole (x : Vec F S1560x128 .f32) (inb) :
    View.ld x (Rect.unit (s := S1560x128) ![0, 0] S1560x128.size inb) = x := by
  funext y
  show x _ = x _
  congr 1
  funext d; fin_cases d
  · exact Fin.ext (by show 0 + 1 * (y 0).val = (y 0).val; omega)
  · exact Fin.ext (by show 0 + 1 * (y 1).val = (y 1).val; omega)

theorem keyAt_cache (k : Vec F S1x1x4680x128 .bf16) (kc : Vec F S1x21x1x1560x128 .fp8e4m3) (tc ts : Vec F S1024x128 .f32)
    (sc ss : Vec F S1560x128 .f32) (p : ℕ → ℕ) (f : ℕ) (h : f < 21) :
    keyAt k kc tc ts sc ss p f
      = k0_pay29 (k0_pay4 (frameOf kc f)) (k0_pay5 ss (rowOf ts (p f))) (k0_pay6 (frameOf kc f) sc (rowOf tc (p f))) k0_pay7 :=
  if_pos h

theorem valAt_cache (v : Vec F S1x1x4680x128 .bf16) (vc : Vec F S1x21x1x1560x128 .fp8e4m3) (f : ℕ) (h : f < 21) :
    valAt v vc f = k0_pay30 (frameOf vc f) := if_pos h

/-- What the gathering loop holds before trip `n`: the blocks it reads, and the frames below `n` in the scratch. -/
def inv4 (t4 : Vec F S2x21 .i32) (k v : Vec F S1x1x4680x128 .bf16) (kc vc : Vec F S1x21x1x1560x128 .fp8e4m3)
    (tc ts : Vec F S1024x128 .f32) (sc ss : Vec F S1560x128 .f32) (n : ℕ) (_ : Unit) : sProp 𝕄 :=
  iprop(owns (c : Thread nD τ) arg4 fullShare.right t4 ∗ owns (c : Thread nD τ) arg11 fullShare kc ∗ owns (c : Thread nD τ) arg12 fullShare vc
    ∗ owns (c : Thread nD τ) arg13 fullShare tc ∗ owns (c : Thread nD τ) arg14 fullShare ts ∗ owns (c : Thread nD τ) arg15 fullShare sc
    ∗ owns (c : Thread nD τ) arg16 fullShare ss
    ∗ (∃ x, ⌜Filled n x (keyAt k kc tc ts sc ss (fun f => (at2 (a := 2) (b := 21) t4 (i 0).val f).toNat))⌝ ∗ owns (c : Thread nD τ) arg18 fullShare x)
    ∗ (∃ x, ⌜Filled n x (valAt v vc)⌝ ∗ owns (c : Thread nD τ) arg19 fullShare x))

set_option maxHeartbeats 4000000 in
theorem trip4 (a0 : BitVec 32) (t4 : Vec F S2x21 .i32) (k v : Vec F S1x1x4680x128 .bf16) (kc vc : Vec F S1x21x1x1560x128 .fp8e4m3)
    (tc ts : Vec F S1024x128 .f32) (sc ss : Vec F S1560x128 .f32)
    (hpos : ∀ f < 21, (at2 (a := 2) (b := 21) t4 (i 0).val f).toNat < 1024) (t : Fin k0_t4_loop.trips) (u : Unit) :
    inv4 (F := F) c i arg4 arg11 arg12 arg13 arg14 arg15 arg16 arg18 arg19 t4 k v kc vc tc ts sc ss t.val u
      ⊢ wp frame (wpE (defs₀ (F := F)) Variants.none c none) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 t u)
          (inv4 (F := F) c i arg4 arg11 arg12 arg13 arg14 arg15 arg16 arg18 arg19 t4 k v kc vc tc ts sc ss (t.val + 1)) := by
  unfold inv4 k0_t4_body
  rw [k0_part1_eq_skeleton]
  unfold k0_part1_skel
  rw [wp_bind]
  iintro ⟨H4, H11, H12, H13, H14, H15, H16, ⟨%x18, %h18, H18⟩, ⟨%x19, %h19, H19⟩⟩
  have ht : t.val < 21 := t.isLt
  have hp := hpos t.val ht
  iapply (OwnedMem.smem Variants.none (c : Thread nD τ) none E (pos4 i t4 t)) $$ H4
  iintro H4
  have hc : k0_chk4 (at2 (a := 2) (b := 21) t4 (i 0).val t.val) := by
    intro a; fin_cases a
    · show (at2 (a := 2) (b := 21) t4 (i 0).val t.val).toNat + 1 ≤ 1024; omega
    · show 0 + 128 ≤ 128; omega
  iapply (OwnedMem.assume Variants.none (c : Thread nD τ) none E hc)
  iapply (OwnedMem.load Variants.none (c : Thread nD τ) none E (ld_frame kc _ t.val (off12_eq t) ht _)) $$ H11
  iintro H11
  iapply (OwnedMem.load Variants.none (c : Thread nD τ) none E (ld_whole sc _)) $$ H15
  iintro H15
  iapply (OwnedMem.load Variants.none (c : Thread nD τ) none E (ld_row tc _ hp _)) $$ H13
  iintro H13
  iapply (OwnedMem.load Variants.none (c : Thread nD τ) none E (ld_whole ss _)) $$ H16
  iintro H16
  iapply (OwnedMem.load Variants.none (c : Thread nD τ) none E (ld_row ts _ hp _)) $$ H14
  iintro H14
  iapply (OwnedMem.ret Variants.none (c : Thread nD τ) none E rfl)
  iapply (OwnedMem.load Variants.none (c : Thread nD τ) none E (X := x18) rfl) $$ H18
  iintro H18
  iapply (OwnedMem.store Variants.none (c : Thread nD τ) none E (X := x18) rfl) $$ H18
  iintro H18
  iapply (OwnedMem.load Variants.none (c : Thread nD τ) none E (ld_frame vc _ t.val (off15_eq t) ht _)) $$ H12
  iintro H12
  iapply (OwnedMem.load Variants.none (c : Thread nD τ) none E (X := x19) rfl) $$ H19
  iintro H19
  iapply (OwnedMem.store Variants.none (c : Thread nD τ) none E (X := x19) rfl) $$ H19
  iintro H19
  iapply (OwnedMem.ret Variants.none (c : Thread nD τ) none E rfl)
  iframe H4 H11 H12 H13 H14 H15 H16
  isplitl [H18]
  · iexists _
    isplitr
    rotate_left
    · iexact H18
    · ipureintro
      exact h18.put _ (off14_eq t) _ (keyAt_cache k kc tc ts sc ss (fun f => (at2 (a := 2) (b := 21) t4 (i 0).val f).toNat) t.val ht).symm
  · iexists _
    isplitr
    rotate_left
    · iexact H19
    · ipureintro
      exact h19.put _ (off16_eq t) _ (valAt_cache v vc t.val ht).symm

end Cert.Attn.Body

end
-- ==== Proof.Attn.Tile.lean ====
/-
  The loop over the tiles of queries: trip `t` walks over the frames the tile's chunk sees and writes the tile's rows.
-/
module

public import proofs.«01_k».proof.Proof.Attn.Fill

@[expose] public section

set_option maxRecDepth 16384

noncomputable section

namespace Cert.Attn.Body

open Cert.Attn Cert.Attn.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

theorem off17_eq : ∀ t : Fin k0_t5_loop.trips, k0_off17 t = ![0, 0, t.val * 312, 0] := by decide +kernel
theorem off18_eq : ∀ t : Fin k0_t5_loop.trips, k0_off18 t = ![t.val / 5] := by decide +kernel
theorem off27_eq : ∀ t : Fin k0_t5_loop.trips, k0_off27 t = ![0, 0, t.val * 312, 0] := by decide +kernel
theorem trips6 : ∀ n : Fin 22, (k0_t6_loop (BitVec.ofNat 32 n.val)).trips = n.val + 3 := by decide +kernel
theorem trips7 : ∀ n : Fin 22, (k0_t7_loop (BitVec.ofNat 32 n.val)).trips = 0 := by decide +kernel
theorem chk5 : ∀ (t : Fin k0_t5_loop.trips) (n : Fin 22), k0_chk5 t (BitVec.ofNat 32 n.val) := by decide +kernel
theorem off19_eq : ∀ (t : Fin k0_t5_loop.trips) (n : Fin 22) (j : Fin (k0_t6_loop (BitVec.ofNat 32 n.val)).trips),
    k0_off19 t (BitVec.ofNat 32 n.val) j = ![t.val / 5, min j.val 20] := by decide +kernel
theorem off20_words : ∀ (b : Fin 2) (h : Fin 12) (f : Fin 24),
    (Scalar.addi (Scalar.muli (Scalar.addi (Scalar.muli (BitVec.ofNat 32 b.val) 21#32) (Scalar.minsi (BitVec.ofNat 32 f.val) 20#32)) 12#32)
      (BitVec.ofNat 32 h.val) : BitVec 32).toNat = (b.val * 21 + min f.val 20) * 12 + h.val := by decide +kernel

/-- The word of the frame picked in a trip, from the loaded entry. -/
def pick (n : BitVec 32) (j : ℕ) (w : BitVec 32) : BitVec 32 :=
  Scalar.select (Scalar.cmpi .slt (Scf.iv 0#32 1#32 j) n) w (Scalar.subi (Scalar.addi 21#32 (Scf.iv 0#32 1#32 j)) n)

theorem off20_eq (n : BitVec 32) (t : Fin (k0_t6_loop n).trips) (w : BitVec 32) (f : ℕ) (hf : f < 24) (h : pick n t.val w = BitVec.ofNat 32 f) :
    k0_off20 i n t w = ![((i 0).val * 21 + min f 20) * 12 + (i 1).val] := by
  have e : k0_off20 i n t w = ![(Scalar.addi (Scalar.muli (Scalar.addi (Scalar.muli (BitVec.ofNat 32 (i 0).val) 21#32)
      (Scalar.minsi (pick n t.val w) 20#32)) 12#32) (BitVec.ofNat 32 (i 1).val) : BitVec 32).toNat] := rfl
  rw [e, h]
  exact congrArg (fun x => ![x]) (off20_words (i 0) (i 1) ⟨f, hf⟩)

theorem off21_eq (n : BitVec 32) (t : Fin (k0_t6_loop n).trips) (w : BitVec 32) (f : ℕ) (hf : f < 24) (h : pick n t.val w = BitVec.ofNat 32 f) :
    k0_off21 n t w = ![f, 0, 0] := by
  have e : k0_off21 n t w = ![(pick n t.val w).toNat, 0, 0] := rfl
  rw [e, h, BitVec.toNat_ofNat, Nat.mod_eq_of_lt (by omega)]

theorem off22_eq (n : BitVec 32) (t : Fin (k0_t6_loop n).trips) (w : BitVec 32) (f : ℕ) (hf : f < 24) (h : pick n t.val w = BitVec.ofNat 32 f) :
    k0_off22 n t w = ![f, 0, 0] := off21_eq n t w f hf h

theorem chk6 (n : BitVec 32) (t : Fin (k0_t6_loop n).trips) (w : BitVec 32) (f : ℕ) (hf : f < 24) (h : pick n t.val w = BitVec.ofNat 32 f) :
    k0_chk6 i n t w := by
  have h0 : (i 0).val < 2 := (i 0).isLt
  have h1 : (i 1).val < 12 := (i 1).isLt
  refine ⟨?_, ?_, ?_⟩
  · rw [off20_eq i n t w f hf h]
    intro a; fin_cases a
    show ((i 0).val * 21 + min f 20) * 12 + (i 1).val + 1 ≤ 504
    omega
  · rw [off21_eq n t w f hf h]
    intro a; fin_cases a
    · show f + 1 ≤ 24; omega
    · show 0 + 1560 ≤ 1560; omega
    · show 0 + 128 ≤ 128; omega
  · rw [off22_eq n t w f hf h]
    intro a; fin_cases a
    · show f + 1 ≤ 24; omega
    · show 0 + 128 ≤ 128; omega
    · show 0 + 1560 ≤ 1560; omega

/-- The scale word the kernel loads for frame `f`. -/
def scaleWord (x : Vec F S504 .f32) (b h f : ℕ) : F .f32 :=
  x (ix1 ⟨((b * 21 + min f 20) * 12 + h) % 504, Nat.mod_lt _ (by decide)⟩)

theorem ld_scale (x : Vec F S504 .f32) (n : BitVec 32) (t : Fin (k0_t6_loop n).trips) (w : BitVec 32) (f : ℕ) (hf : f < 24)
    (h : pick n t.val w = BitVec.ofNat 32 f) (inb) (y) :
    x ((Rect.unit (s := S504) (k0_off20 i n t w) S1.size inb).idx y) = scaleWord x (i 0).val (i 1).val f := by
  have h0 : (i 0).val < 2 := (i 0).isLt
  have h1 : (i 1).val < 12 := (i 1).isLt
  have e : k0_off20 i n t w 0 = ((i 0).val * 21 + min f 20) * 12 + (i 1).val := congrFun (off20_eq i n t w f hf h) 0
  have e0 : (y 0).val < 1 := (y 0).isLt
  unfold scaleWord
  congr 1
  funext d; fin_cases d
  refine Fin.ext ?_
  show k0_off20 i n t w 0 + 1 * (y 0).val = (((i 0).val * 21 + min f 20) * 12 + (i 1).val) % 504
  omega

theorem scale_select (P : ℕ → Bool) (x : Vec F S504 .f32) (b h j : ℕ) (hj : j < (frames P).length) :
    Scalar.select (Scalar.cmpi .slt (Scf.iv 0#32 1#32 j) (BitVec.ofNat 32 (vis P 21).length)) (scaleWord x b h (frames P)[j])
      (Scalar.ofBits .f32 0x3F800000#32) = scaleAt x b h (frames P)[j] := by
  have hl := vis_length_le P 21
  have hj' := hj
  rw [frames_length] at hj'
  have e := slt_words ⟨(vis P 21).length, by omega⟩ ⟨j, by omega⟩
  simp only at e
  rw [iv01, e]
  by_cases hlt : j < (vis P 21).length
  · have hf : (frames P)[j] < 21 := by rw [frames_left P j hlt hj]; exact vis_lt P 21 j hlt
    rw [if_pos hlt]
    unfold scaleAt scaleWord
    rw [if_pos hf]
    have : min (frames P)[j] 20 = (frames P)[j] := by omega
    simp only [this]
    rfl
  · have hf : ¬ (frames P)[j] < 21 := by
      obtain ⟨d, rfl⟩ : ∃ d, j = (vis P 21).length + d := ⟨j - (vis P 21).length, by omega⟩
      rw [frames_right P d (by omega) hj]; omega
    rw [if_neg hlt]
    unfold scaleAt
    rw [if_neg hf]
    rfl

/-- The kernel's trip is `stepOf`. -/
theorem step_eq (q : FVec F S312x128 .bf16) (n : BitVec 32) (t : Fin (k0_t6_loop n).trips) (x0 x1 : F .f32)
    (kr : FVec F S1x1560x128 .bf16) (vt : FVec F S1x128x1560 .bf16) (m l : FVec F S1x312 .f32) (w : FVec F S128x312 .f32) :
    ((k0_pay10 q n 0#32 1#32 t m x0 kr,
      k0_pay24 (k0_pay11 q n 0#32 1#32 t m x0 kr) (k0_pay13 q n 0#32 1#32 t m l x0 kr),
      k0_pay25 w (k0_pay8 n 0#32 1#32 t x1) (k0_pay11 q n 0#32 1#32 t m x0 kr) (k0_pay12 q n 0#32 1#32 t m x0 kr) vt) : Acc F)
      = stepOf q kr vt (Scalar.select (Scalar.cmpi .slt (Scf.iv 0#32 1#32 t.val) n) x0 (Scalar.ofBits .f32 0x3F800000#32))
          (Scalar.select (Scalar.cmpi .slt (Scf.iv 0#32 1#32 t.val) n) x1 (Scalar.ofBits .f32 0x3F800000#32)) (m, l, w) := rfl

/-- What the walk over the frames holds before trip `j`. -/
def inv6 (P : ℕ → Bool) (q : FVec F S312x128 .bf16) (K : ℕ → FVec F S1x1560x128 .bf16) (V : ℕ → FVec F S1x128x1560 .bf16)
    (ks vs : Vec F S504 .f32) (x18 : Vec F S24x1560x128 .bf16) (x19 : Vec F S24x128x1560 .bf16) (y : Vec F S3x21 .i32) (j : ℕ) (a : Acc F) : sProp 𝕄 :=
  iprop(⌜a = accOf q K V (scaleAt ks (i 0).val (i 1).val) (scaleAt vs (i 0).val (i 1).val) ((frames P).take j)⌝
    ∗ owns (c : Thread nD τ) arg20 fullShare y ∗ owns (c : Thread nD τ) arg6 fullShare ks ∗ owns (c : Thread nD τ) arg7 fullShare vs
    ∗ owns (c : Thread nD τ) arg18 fullShare x18 ∗ owns (c : Thread nD τ) arg19 fullShare x19)

set_option maxHeartbeats 4000000 in
theorem trip6 (a0 a1 v79 : BitVec 32) (t : Fin k0_t5_loop.trips) (v83 : Vec F S1x1x312x128 .bf16) (P : ℕ → Bool)
    (K : ℕ → FVec F S1x1560x128 .bf16) (V : ℕ → FVec F S1x128x1560 .bf16)
    (ks vs : Vec F S504 .f32) (x18 : Vec F S24x1560x128 .bf16) (x19 : Vec F S24x128x1560 .bf16) (y : Vec F S3x21 .i32)
    (h18 : Filled 24 x18 K) (h19 : Filled 24 x19 V)
    (hy : ∀ j (h : j < (vis P 21).length), at2 (a := 3) (b := 21) y (t.val / 5) j = BitVec.ofNat 32 (vis P 21)[j])
    (hw5 : k0_chk5 t (BitVec.ofNat 32 (vis P 21).length)) (j : Fin (k0_t6_loop (BitVec.ofNat 32 (vis P 21).length)).trips) (a : Acc F) :
    inv6 (F := F) c i arg6 arg7 arg18 arg19 arg20 P (k0_pay20 v83) K V ks vs x18 x19 y j.val a
      ⊢ wp frame (wpE (defs₀ (F := F)) Variants.none c none) E
          (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 0#32 1#32 t v79 v83 (BitVec.ofNat 32 (vis P 21).length) hw5 j a)
          (inv6 (F := F) c i arg6 arg7 arg18 arg19 arg20 P (k0_pay20 v83) K V ks vs x18 x19 y (j.val + 1)) := by
  obtain ⟨m, l, w⟩ := a
  have hl := vis_length_le P 21
  have hjt : j.val < (vis P 21).length + 3 := by
    have := trips6 ⟨(vis P 21).length, by omega⟩
    have h2 := j.isLt
    simp only at this
    omega
  have hj : j.val < (frames P).length := by rw [frames_length]; exact hjt
  have hf := frames_lt P j.val hj
  unfold inv6 k0_t6_body
  simp only
  rw [k0_part2_eq_skeleton]
  unfold k0_part2_skel
  rw [wp_bind]
  iintro ⟨%ha, H20, H6, H7, H18, H19⟩
  have hv : ∀ z, y ((Rect.unit (s := S3x21) (k0_off19 t (BitVec.ofNat 32 (vis P 21).length) j) S1x1.size (k0_off19_inb t _ hw5 j)).idx z)
      = at2 (a := 3) (b := 21) y (t.val / 5) (min j.val 20) := by
    intro z
    have e := off19_eq t ⟨(vis P 21).length, by omega⟩ j
    have h0 : k0_off19 t (BitVec.ofNat 32 (vis P 21).length) j 0 = t.val / 5 := congrFun e 0
    have h1 : k0_off19 t (BitVec.ofNat 32 (vis P 21).length) j 1 = min j.val 20 := congrFun e 1
    have z0 : (z 0).val < 1 := (z 0).isLt
    have z1 : (z 1).val < 1 := (z 1).isLt
    refine at2_idx (a := 3) (b := 21) y _ _ _ ?_ ?_
    · show k0_off19 t (BitVec.ofNat 32 (vis P 21).length) j 0 + 1 * (z 0).val = _
      omega
    · show k0_off19 t (BitVec.ofNat 32 (vis P 21).length) j 1 + 1 * (z 1).val = _
      omega
  iapply (OwnedMem.smem Variants.none (c : Thread nD τ) none E hv) $$ H20
  iintro H20
  have hpick : pick (BitVec.ofNat 32 (vis P 21).length) j.val (at2 (a := 3) (b := 21) y (t.val / 5) (min j.val 20)) = BitVec.ofNat 32 (frames P)[j.val] := by
    unfold pick
    rw [iv01]
    refine pick_eq P j.val hj _ fun h => ?_
    have : min j.val 20 = j.val := by omega
    rw [this]; exact hy j.val h
  iapply (OwnedMem.assume Variants.none (c : Thread nD τ) none E (chk6 i _ j _ _ hf hpick))
  iapply (OwnedMem.smem Variants.none (c : Thread nD τ) none E (ld_scale i ks _ j _ _ hf hpick _)) $$ H6
  iintro H6
  iapply (OwnedMem.smem Variants.none (c : Thread nD τ) none E (ld_scale i vs _ j _ _ hf hpick _)) $$ H7
  iintro H7
  iapply (OwnedMem.load Variants.none (c : Thread nD τ) none E (h18.ld _ hf _ (off21_eq _ j _ _ hf hpick) _)) $$ H18
  iintro H18
  iapply (OwnedMem.ret Variants.none (c : Thread nD τ) none E rfl)
  iapply (OwnedMem.load Variants.none (c : Thread nD τ) none E (h19.ld _ hf _ (off22_eq _ j _ _ hf hpick) _)) $$ H19
  iintro H19
  iapply (OwnedMem.ret Variants.none (c : Thread nD τ) none E rfl)
  iframe H20 H6 H7 H18 H19
  ipureintro
  rw [accOf_succ _ _ _ _ _ _ _ hj, ← ha, ← scale_select P ks _ _ _ hj, ← scale_select P vs _ _ _ hj]
  exact step_eq _ _ j _ _ _ _ m l w

end Cert.Attn.Body

end
-- ==== Proof.Attn.Walk.lean ====
/-
  The loop over the tiles of queries: a trip reads the tile's queries and the list of its chunk, walks over the
  frames, and writes the tile's rows of the result.
-/
module

public import proofs.«01_k».proof.Proof.Attn.Tile

@[expose] public section

set_option maxRecDepth 16384

noncomputable section

namespace Cert.Attn.Body

open Cert.Attn Cert.Attn.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

theorem ld_tile (x : Vec F S1x1x4680x128 .bf16) (off : Fin 4 → ℕ) (t : ℕ) (ho : off = ![0, 0, t * 312, 0]) (ht : t < 15) (inb) :
    View.ld x (Rect.unit (s := S1x1x4680x128) off S1x1x312x128.size inb) = tileOf x t := by
  subst ho
  funext y
  have e0 : (y 0).val < 1 := (y 0).isLt
  have e1 : (y 1).val < 1 := (y 1).isLt
  have e2 : (y 2).val < 312 := (y 2).isLt
  show x _ = x _
  congr 1
  funext d; fin_cases d
  · exact Fin.ext (by show 0 + 1 * (y 0).val = 0; omega)
  · exact Fin.ext (by show 0 + 1 * (y 1).val = 0; omega)
  · exact Fin.ext (by show t * 312 + 1 * (y 2).val = (t * 312 + (y 2).val) % 4680; omega)
  · exact Fin.ext (by show 0 + 1 * (y 3).val = (y 3).val; omega)

/-- The rows below `n` tiles of a block are those of `O`. -/
def Rows (n : ℕ) (X O : Vec F S1x1x4680x128 .f32) : Prop := ∀ y, (y 2).val < n * 312 → X y = O y

theorem Rows.put {t : ℕ} {X O : Vec F S1x1x4680x128 .f32} (h : Rows t X O) (off : Fin 4 → ℕ) (ho : off = ![0, 0, t * 312, 0])
    (w : Vec F S1x1x312x128 .f32)
    (hw : ∀ y, t * 312 ≤ (y 2).val → (y 2).val < t * 312 + 312 → O y = w (ix4 0 0 ⟨(y 2).val % 312, Nat.mod_lt _ (by decide)⟩ (y 3))) :
    Rows (t + 1) (VecWindow.put (s := S1x1x4680x128) X off S1x1x312x128.size w) O := by
  subst ho
  intro y hy
  have e0 : (y 0).val < 1 := (y 0).isLt
  have e1 : (y 1).val < 1 := (y 1).isLt
  have e3 : (y 3).val < 128 := (y 3).isLt
  unfold VecWindow.put
  by_cases e : t * 312 ≤ (y 2).val
  · rw [dif_pos]
    · rw [hw y e (by omega)]
      congr 1
      funext d; fin_cases d
      · exact Fin.ext (by show (y 0).val - 0 = 0; omega)
      · exact Fin.ext (by show (y 1).val - 0 = 0; omega)
      · exact Fin.ext (by show (y 2).val - t * 312 = (y 2).val % 312; omega)
      · exact Fin.ext (by show (y 3).val - 0 = (y 3).val; omega)
    · intro d; fin_cases d
      · show 0 ≤ (y 0).val ∧ (y 0).val < 0 + 1; omega
      · show 0 ≤ (y 1).val ∧ (y 1).val < 0 + 1; omega
      · show t * 312 ≤ (y 2).val ∧ (y 2).val < t * 312 + 312; omega
      · show 0 ≤ (y 3).val ∧ (y 3).val < 0 + 128; omega
  · rw [dif_neg]
    · exact h y (by omega)
    · intro H
      have h2 : t * 312 ≤ (y 2).val ∧ (y 2).val < t * 312 + 312 := H 2
      omega

/-- What the loop over the tiles reads: the queries, the scales, the gathered frames, the lists and their lengths. -/
def reads5 (ks vs : Vec F S504 .f32) (q : Vec F S1x1x4680x128 .bf16) (x18 : Vec F S24x1560x128 .bf16) (x19 : Vec F S24x128x1560 .bf16)
    (y : Vec F S3x21 .i32) (z : Vec F S3 .i32) : sProp 𝕄 :=
  iprop(owns (c : Thread nD τ) arg6 fullShare ks ∗ owns (c : Thread nD τ) arg7 fullShare vs ∗ owns (c : Thread nD τ) arg8 fullShare q
    ∗ owns (c : Thread nD τ) arg18 fullShare x18 ∗ owns (c : Thread nD τ) arg19 fullShare x19
    ∗ owns (c : Thread nD τ) arg20 fullShare y ∗ owns (c : Thread nD τ) arg21 fullShare z)

set_option maxHeartbeats 4000000 in
theorem part4_wp (a0 a1 : BitVec 32) (t : Fin k0_t5_loop.trips) (P : ℕ → Bool)
    (K : ℕ → FVec F S1x1560x128 .bf16) (V : ℕ → FVec F S1x128x1560 .bf16)
    (ks vs : Vec F S504 .f32) (q : Vec F S1x1x4680x128 .bf16) (x18 : Vec F S24x1560x128 .bf16) (x19 : Vec F S24x128x1560 .bf16)
    (y : Vec F S3x21 .i32) (z : Vec F S3 .i32) (h18 : Filled 24 x18 K) (h19 : Filled 24 x19 V)
    (hy : ∀ j (h : j < (vis P 21).length), at2 (a := 3) (b := 21) y (t.val / 5) j = BitVec.ofNat 32 (vis P 21)[j])
    (hz : at1 (a := 3) z (t.val / 5) = BitVec.ofNat 32 (vis P 21).length) :
    reads5 (F := F) c arg6 arg7 arg8 arg18 arg19 arg20 arg21 ks vs q x18 x19 y z
      ⊢ wp frame (wpE (defs₀ (F := F)) Variants.none c none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 0#32 1#32 t)
          (fun r => iprop(⌜r.2 = k0_pay28 (accOf (k0_pay20 (tileOf q t.val)) K V (scaleAt ks (i 0).val (i 1).val) (scaleAt vs (i 0).val (i 1).val) (frames P)).2.1
              (accOf (k0_pay20 (tileOf q t.val)) K V (scaleAt ks (i 0).val (i 1).val) (scaleAt vs (i 0).val (i 1).val) (frames P)).2.2⌝
            ∗ reads5 (F := F) c arg6 arg7 arg8 arg18 arg19 arg20 arg21 ks vs q x18 x19 y z)) := by
  have hl := vis_length_le P 21
  have ht : t.val < 15 := t.isLt
  rw [k0_part4_eq_skeleton]
  unfold k0_part4_skel reads5
  iintro ⟨H6, H7, H8, H18, H19, H20, H21⟩
  iapply (OwnedMem.load Variants.none (c : Thread nD τ) none E (ld_tile q _ t.val (off17_eq t) ht _)) $$ H8
  iintro H8
  have hv : ∀ u, z ((Rect.unit (s := S3) (k0_off18 t) S1.size (k0_off18_inb t)).idx u) = BitVec.ofNat 32 (vis P 21).length := by
    intro u
    have h0 : k0_off18 t 0 = t.val / 5 := congrFun (off18_eq t) 0
    have u0 : (u 0).val < 1 := (u 0).isLt
    rw [← hz]
    refine at1_idx (a := 3) z _ _ ?_
    show k0_off18 t 0 + 1 * (u 0).val = _
    omega
  iapply (OwnedMem.smem Variants.none (c : Thread nD τ) none E hv) $$ H21
  iintro H21
  have hw5 : k0_chk5 t (BitVec.ofNat 32 (vis P 21).length) := chk5 t ⟨(vis P 21).length, by omega⟩
  iapply (OwnedMem.assume Variants.none (c : Thread nD τ) none E hw5)
  have h6 := trips6 ⟨(vis P 21).length, by omega⟩
  have h7 := trips7 ⟨(vis P 21).length, by omega⟩
  simp only at h6 h7
  iapply (OwnedMem.loop Variants.none (c : Thread nD τ) none E
    (inv6 (F := F) c i arg6 arg7 arg18 arg19 arg20 P (k0_pay20 (tileOf q t.val)) K V ks vs x18 x19 y)
    (trip6 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 _ t (tileOf q t.val) P K V ks vs x18 x19 y h18 h19 hy hw5)) $$ [H6 H7 H18 H19 H20]
  · unfold inv6
    iframe H20 H6 H7 H18 H19
    ipureintro
    rfl
  iintro %acc HI
  unfold inv6
  icases HI with ⟨%hacc, H20, H6, H7, H18, H19⟩
  obtain ⟨m, l, w⟩ := acc
  have hfull : (frames P).take (k0_t6_loop (BitVec.ofNat 32 (vis P 21).length)).trips = frames P := by
    rw [h6, ← frames_length]; exact List.take_length
  rw [hfull] at hacc
  iapply (OwnedMem.loop Variants.none (c : Thread nD τ) none E
    (fun _ a => (iprop(⌜a = (m, l, w)⌝) : sProp 𝕄))
    (fun k => (Nat.not_lt_zero _ (lt_of_lt_of_eq k.isLt h7)).elim)) $$ []
  · ipureintro; rfl
  iintro %acc %h2
  subst h2
  iapply (OwnedMem.ret Variants.none (c : Thread nD τ) none E rfl)
  iframe H6 H7 H8 H18 H19 H20 H21
  ipureintro
  rw [← hacc]

/-- What the loop over the tiles holds before trip `n`. -/
def inv5 (O : Vec F S1x1x4680x128 .f32) (ks vs : Vec F S504 .f32) (q : Vec F S1x1x4680x128 .bf16) (x18 : Vec F S24x1560x128 .bf16)
    (x19 : Vec F S24x128x1560 .bf16) (y : Vec F S3x21 .i32) (z : Vec F S3 .i32) (n : ℕ) (_ : Unit) : sProp 𝕄 :=
  iprop(reads5 (F := F) c arg6 arg7 arg8 arg18 arg19 arg20 arg21 ks vs q x18 x19 y z
    ∗ ∃ x, ⌜Rows n x O⌝ ∗ owns (c : Thread nD τ) arg17 fullShare x)

set_option maxHeartbeats 4000000 in
theorem trip5 (a0 a1 : BitVec 32) (P : ℕ → ℕ → Bool) (O : Vec F S1x1x4680x128 .f32)
    (K : ℕ → FVec F S1x1560x128 .bf16) (V : ℕ → FVec F S1x128x1560 .bf16)
    (ks vs : Vec F S504 .f32) (q : Vec F S1x1x4680x128 .bf16) (x18 : Vec F S24x1560x128 .bf16) (x19 : Vec F S24x128x1560 .bf16)
    (y : Vec F S3x21 .i32) (z : Vec F S3 .i32) (h18 : Filled 24 x18 K) (h19 : Filled 24 x19 V)
    (hy : ∀ r < 3, ∀ j (h : j < (vis (P r) 21).length), at2 (a := 3) (b := 21) y r j = BitVec.ofNat 32 (vis (P r) 21)[j])
    (hz : ∀ r < 3, at1 (a := 3) z r = BitVec.ofNat 32 (vis (P r) 21).length)
    (hO : ∀ u, O u = tileOut (k0_pay20 (tileOf q ((u 2).val / 312))) K V (scaleAt ks (i 0).val (i 1).val) (scaleAt vs (i 0).val (i 1).val)
      (frames (P ((u 2).val / 312 / 5))) (ix4 0 0 ⟨(u 2).val % 312, Nat.mod_lt _ (by decide)⟩ (u 3)))
    (t : Fin k0_t5_loop.trips) (u : Unit) :
    inv5 (F := F) c arg6 arg7 arg8 arg17 arg18 arg19 arg20 arg21 O ks vs q x18 x19 y z t.val u
      ⊢ wp frame (wpE (defs₀ (F := F)) Variants.none c none) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 t u)
          (inv5 (F := F) c arg6 arg7 arg8 arg17 arg18 arg19 arg20 arg21 O ks vs q x18 x19 y z (t.val + 1)) := by
  have ht : t.val < 15 := t.isLt
  unfold inv5 k0_t5_body
  rw [wp_bind]
  iintro ⟨HR, %x, %hx, H17⟩
  iapply (wp_wand_r frame (wpE (defs₀ (F := F)) Variants.none c none) E)
  isplitl [HR]
  · iapply (part4_wp c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 t (P (t.val / 5)) K V ks vs q x18 x19 y z h18 h19
      (hy (t.val / 5) (by omega)) (hz (t.val / 5) (by omega)))
    iexact HR
  iintro %r ⟨%hr, HR⟩
  obtain ⟨r1, r2⟩ := r
  iapply (OwnedMem.load Variants.none (c : Thread nD τ) none E (X := x) rfl) $$ H17
  iintro H17
  iapply (OwnedMem.store Variants.none (c : Thread nD τ) none E (X := x) rfl) $$ H17
  iintro H17
  iapply (OwnedMem.ret Variants.none (c : Thread nD τ) none E rfl)
  iframe HR
  iexists _
  isplitr
  rotate_left
  · iexact H17
  · ipureintro
    simp only at hr
    subst hr
    refine hx.put _ (off27_eq t) _ fun u h1 h2 => ?_
    have e : (u 2).val / 312 = t.val := by omega
    rw [hO u]
    simp only [e]
    rfl

end Cert.Attn.Body

end
-- ==== Proof.Attn.Body.lean ====
/-
  The whole body of the kernel at one grid point: from what the blocks, the tables and the scratch hold to the block of
  results, `outBlock`.
-/
module

public import proofs.«01_k».proof.Proof.Attn.Scan
public import proofs.«01_k».proof.Proof.Attn.Walk

@[expose] public section

set_option maxRecDepth 16384

noncomputable section

namespace Cert.Attn.Body

open Cert.Attn Cert.Attn.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

theorem off1_eq : ∀ i : grid0.Coords, k0_off1 i = ![(i 0).val] := by decide +kernel
theorem off2_eq : ∀ i : grid0.Coords, k0_off2 i = ![(i 0).val, 0] := by decide +kernel
theorem off5_eq : ∀ i : grid0.Coords, k0_off5 i = ![(i 0).val, 1] := by decide +kernel
theorem off8_eq : ∀ i : grid0.Coords, k0_off8 i = ![(i 0).val, 2] := by decide +kernel

theorem word1 (x : Vec F S2 .i32) (off : Fin 1 → ℕ) (r : ℕ) (ho : off = ![r]) (inb) (y) :
    x ((Rect.unit (s := S2) off S1.size inb).idx y) = at1 (a := 2) x r := by
  subst ho
  have y0 : (y 0).val < 1 := (y 0).isLt
  refine at1_idx (a := 2) x _ _ ?_
  show r + 1 * (y 0).val = r
  omega

theorem word2 (x : Vec F S2x3 .i32) (off : Fin 2 → ℕ) (r j : ℕ) (ho : off = ![r, j]) (inb) (y) :
    x ((Rect.unit (s := S2x3) off S1x1.size inb).idx y) = at2 (a := 2) (b := 3) x r j := by
  subst ho
  have y0 : (y 0).val < 1 := (y 0).isLt
  have y1 : (y 1).val < 1 := (y 1).isLt
  refine at2_idx (a := 2) (b := 3) x _ _ _ ?_ ?_
  · show r + 1 * (y 0).val = r
    omega
  · show j + 1 * (y 1).val = j
    omega

theorem at1_put (z : Vec F S3 .i32) (l : ℕ) (hl : l < 3) (w : BitVec 32) (r : ℕ) :
    at1 (a := 3) (VecWindow.put (s := S3) z ![l] S1.size (fun _ => w)) r = if r = l then w else at1 (a := 3) z r := by
  unfold at1
  by_cases e : r < 3
  · rw [dif_pos e, dif_pos e]
    unfold VecWindow.put
    by_cases hh : r = l
    · rw [if_pos hh, dif_pos]
      intro a; fin_cases a
      show l ≤ r ∧ r < l + 1; omega
    · rw [if_neg hh, dif_neg]
      intro H
      have a0 : l ≤ r ∧ r < l + 1 := H 0
      omega
  · rw [dif_neg e, dif_neg e, if_neg]; omega

/-- The test of chunk `r` at batch `b`. -/
def test (b : ℕ) (t2 t3 : Vec F S2 .i32) (t4 : Vec F S2x21 .i32) (t5 : Vec F S2x3 .i32) (r : ℕ) : ℕ → Bool :=
  sees (at1 (a := 2) t2 b) (at1 (a := 2) t3 b) (at2 (a := 2) (b := 3) t5 b r) b t4

/-- The lists of the three chunks and their lengths. -/
structure Lists (P : ℕ → ℕ → Bool) (y : Vec F S3x21 .i32) (z : Vec F S3 .i32) : Prop where
  entry : ∀ r < 3, ∀ j (h : j < (vis (P r) 21).length), at2 (a := 3) (b := 21) y r j = BitVec.ofNat 32 (vis (P r) 21)[j]
  count : ∀ r < 3, at1 (a := 3) z r = BitVec.ofNat 32 (vis (P r) 21).length

theorem lists_of (P : ℕ → ℕ → Bool) (y0 y1 y2 y3 : Vec F S3x21 .i32) (z : Vec F S3 .i32) (n0 n1 n2 : BitVec 32)
    (h0 : ListOK 0 (P 0) y0 21 n0 y1) (h1 : ListOK 1 (P 1) y1 21 n1 y2) (h2 : ListOK 2 (P 2) y2 21 n2 y3) :
    Lists P y3 (VecWindow.put (s := S3) (VecWindow.put (s := S3) (VecWindow.put (s := S3) z ![0] S1.size (fun _ => n0)) ![1] S1.size (fun _ => n1))
      ![2] S1.size (fun _ => n2)) := by
  refine ⟨?_, ?_⟩
  · intro r hr j hj
    interval_cases r
    · rw [h2.other 0 j (by decide), h1.other 0 j (by decide)]; exact h0.entry j hj
    · rw [h2.other 1 j (by decide)]; exact h1.entry j hj
    · exact h2.entry j hj
  · intro r hr
    simp only [at1_put _ 2 (by decide), at1_put _ 1 (by decide), at1_put _ 0 (by decide)]
    interval_cases r
    · exact h0.count
    · exact h1.count
    · exact h2.count

/-- The tables of ring starts, valid ring frames and chunk positions, in scalar memory. -/
def tables (t2 t3 : Vec F S2 .i32) (t5 : Vec F S2x3 .i32) : sProp 𝕄 :=
  iprop(owns (c : Thread nD τ) arg2 fullShare.right t2 ∗ owns (c : Thread nD τ) arg3 fullShare.right t3 ∗ owns (c : Thread nD τ) arg5 fullShare.right t5)

set_option maxHeartbeats 4000000 in
theorem part5_wp (t2 t3 : Vec F S2 .i32) (t4 : Vec F S2x21 .i32) (t5 : Vec F S2x3 .i32) (k v : Vec F S1x1x4680x128 .bf16)
    (kc vc : Vec F S1x21x1x1560x128 .fp8e4m3) (tc ts : Vec F S1024x128 .f32) (sc ss : Vec F S1560x128 .f32)
    (hpos : ∀ f < 21, (at2 (a := 2) (b := 21) t4 (i 0).val f).toNat < 1024) (y0 : Vec F S3x21 .i32) (z : Vec F S3 .i32) :
    iprop(tables (F := F) c arg2 arg3 arg5 t2 t3 t5 ∗ inv4 (F := F) c i arg4 arg11 arg12 arg13 arg14 arg15 arg16 arg18 arg19 t4 k v kc vc tc ts sc ss 0 ()
        ∗ owns (c : Thread nD τ) arg20 fullShare y0 ∗ owns (c : Thread nD τ) arg21 fullShare z)
      ⊢ wp frame (wpE (defs₀ (F := F)) Variants.none c none) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(tables (F := F) c arg2 arg3 arg5 t2 t3 t5 ∗ inv4 (F := F) c i arg4 arg11 arg12 arg13 arg14 arg15 arg16 arg18 arg19 t4 k v kc vc tc ts sc ss 21 ()
            ∗ ∃ y z, ⌜Lists (test (i 0).val t2 t3 t4 t5) y z⌝ ∗ owns (c : Thread nD τ) arg20 fullShare y ∗ owns (c : Thread nD τ) arg21 fullShare z)) := by
  rw [k0_part5_eq_skeleton]
  unfold k0_part5_skel tables
  iintro ⟨⟨H2, H3, H5⟩, HI, H20, H21⟩
  iapply (OwnedMem.smem Variants.none (c : Thread nD τ) none E (word1 t2 _ _ (off1_eq i) _)) $$ H2
  iintro H2
  iapply (OwnedMem.smem Variants.none (c : Thread nD τ) none E (word1 t3 _ _ (off1_eq i) _)) $$ H3
  iintro H3
  iapply (OwnedMem.smem Variants.none (c : Thread nD τ) none E (word2 t5 _ _ _ (off2_eq i) _)) $$ H5
  iintro H5
  unfold inv4
  icases HI with ⟨H4, H11, H12, H13, H14, H15, H16, H18, H19⟩
  iapply (OwnedMem.loop Variants.none (c : Thread nD τ) none E
    (inv (F := F) c i arg4 arg20 0 (at1 (a := 2) t2 (i 0).val) (at1 (a := 2) t3 (i 0).val) (at2 (a := 2) (b := 3) t5 (i 0).val 0) t4 y0)
    (trip1 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ t4 y0)) $$ [H4 H20]
  · unfold inv
    iframe H4
    iexists y0
    iframe H20
    ipureintro
    exact ListOK.zero _ _ _
  iintro %n0 HL
  unfold inv
  icases HL with ⟨H4, %y1, %hl0, H20⟩
  iapply (OwnedMem.smemAny Variants.none (c : Thread nD τ) none E) $$ H21
  iintro H21 %_
  iapply (OwnedMem.store Variants.none (c : Thread nD τ) none E rfl) $$ H21
  iintro H21
  iapply (OwnedMem.smem Variants.none (c : Thread nD τ) none E (word2 t5 _ _ _ (off5_eq i) _)) $$ H5
  iintro H5
  iapply (OwnedMem.loop Variants.none (c : Thread nD τ) none E
    (inv (F := F) c i arg4 arg20 1 (at1 (a := 2) t2 (i 0).val) (at1 (a := 2) t3 (i 0).val) (at2 (a := 2) (b := 3) t5 (i 0).val 1) t4 y1)
    (trip2 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ t4 y1)) $$ [H4 H20]
  · unfold inv
    iframe H4
    iexists y1
    iframe H20
    ipureintro
    exact ListOK.zero _ _ _
  iintro %n1 HL
  unfold inv
  icases HL with ⟨H4, %y2, %hl1, H20⟩
  iapply (OwnedMem.smemAny Variants.none (c : Thread nD τ) none E) $$ H21
  iintro H21 %_
  iapply (OwnedMem.store Variants.none (c : Thread nD τ) none E rfl) $$ H21
  iintro H21
  iapply (OwnedMem.smem Variants.none (c : Thread nD τ) none E (word2 t5 _ _ _ (off8_eq i) _)) $$ H5
  iintro H5
  iapply (OwnedMem.loop Variants.none (c : Thread nD τ) none E
    (inv (F := F) c i arg4 arg20 2 (at1 (a := 2) t2 (i 0).val) (at1 (a := 2) t3 (i 0).val) (at2 (a := 2) (b := 3) t5 (i 0).val 2) t4 y2)
    (trip3 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ t4 y2)) $$ [H4 H20]
  · unfold inv
    iframe H4
    iexists y2
    iframe H20
    ipureintro
    exact ListOK.zero _ _ _
  iintro %n2 HL
  unfold inv
  icases HL with ⟨H4, %y3, %hl2, H20⟩
  iapply (OwnedMem.smemAny Variants.none (c : Thread nD τ) none E) $$ H21
  iintro H21 %_
  iapply (OwnedMem.store Variants.none (c : Thread nD τ) none E rfl) $$ H21
  iintro H21
  iapply (OwnedMem.loop Variants.none (c : Thread nD τ) none E
    (inv4 (F := F) c i arg4 arg11 arg12 arg13 arg14 arg15 arg16 arg18 arg19 t4 k v kc vc tc ts sc ss)
    (trip4 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ t4 k v kc vc tc ts sc ss hpos)) $$ [H4 H11 H12 H13 H14 H15 H16 H18 H19]
  · unfold inv4
    iframe H4 H11 H12 H13 H14 H15 H16 H18 H19
  iintro %_ HI
  iapply (OwnedMem.ret Variants.none (c : Thread nD τ) none E rfl)
  unfold inv4
  icases HI with ⟨H4, H11, H12, H13, H14, H15, H16, H18, H19⟩
  isplitl [H2 H3 H5]
  · iframe H2 H3 H5
  isplitl [H4 H11 H12 H13 H14 H15 H16 H18 H19]
  · iframe H4 H11 H12 H13 H14 H15 H16 H18 H19
  iexists y3, _
  isplitr
  rotate_left
  · iframe H20
    iexact H21
  · ipureintro
    exact lists_of (test (i 0).val t2 t3 t4 t5) y0 y1 y2 y3 z n0 n1 n2 hl0 hl1 hl2

theorem ld_chunk (x : Vec F S1x1x4680x128 .bf16) (off : Fin 4 → ℕ) (r : ℕ) (ho : off = ![0, 0, r * 1560, 0]) (hr : r < 3) (inb) :
    View.ld x (Rect.unit (s := S1x1x4680x128) off S1x1x1560x128.size inb) = chunkOf x r := by
  subst ho
  funext y
  have e0 : (y 0).val < 1 := (y 0).isLt
  have e1 : (y 1).val < 1 := (y 1).isLt
  have e2 : (y 2).val < 1560 := (y 2).isLt
  show x _ = x _
  congr 1
  funext d; fin_cases d
  · exact Fin.ext (by show 0 + 1 * (y 0).val = 0; omega)
  · exact Fin.ext (by show 0 + 1 * (y 1).val = 0; omega)
  · exact Fin.ext (by show r * 1560 + 1 * (y 2).val = (r * 1560 + (y 2).val) % 4680; omega)
  · exact Fin.ext (by show 0 + 1 * (y 3).val = (y 3).val; omega)

theorem keyAt_new (k : Vec F S1x1x4680x128 .bf16) (kc : Vec F S1x21x1x1560x128 .fp8e4m3) (tc ts : Vec F S1024x128 .f32)
    (sc ss : Vec F S1560x128 .f32) (p : ℕ → ℕ) (r : ℕ) : keyAt k kc tc ts sc ss p (21 + r) = k0_pay1 (chunkOf k r) := by
  unfold keyAt
  rw [if_neg (by omega), Nat.add_sub_cancel_left]

theorem valAt_new (v : Vec F S1x1x4680x128 .bf16) (vc : Vec F S1x21x1x1560x128 .fp8e4m3) (r : ℕ) :
    valAt v vc (21 + r) = k0_pay2 (chunkOf v r) := by
  unfold valAt
  rw [if_neg (by omega), Nat.add_sub_cancel_left]

set_option maxHeartbeats 4000000 in
/-- The frames of the current block: after the second part all but the last are in the scratch. -/
theorem part6_wp (k v : Vec F S1x1x4680x128 .bf16) (x18 : Vec F S24x1560x128 .bf16) (x19 : Vec F S24x128x1560 .bf16)
    (K : ℕ → FVec F S1x1560x128 .bf16) (V : ℕ → FVec F S1x128x1560 .bf16) (h18 : Filled 21 x18 K) (h19 : Filled 21 x19 V)
    (hK : ∀ r, K (21 + r) = k0_pay1 (chunkOf k r)) (hV : ∀ r, V (21 + r) = k0_pay2 (chunkOf v r)) :
    (iprop(owns (c : Thread nD τ) arg9 fullShare k ∗ owns (c : Thread nD τ) arg10 fullShare v
        ∗ owns (c : Thread nD τ) arg18 fullShare x18 ∗ owns (c : Thread nD τ) arg19 fullShare x19) : sProp 𝕄)
      ⊢ wp frame (wpE (defs₀ (F := F)) Variants.none c none) E (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun r => iprop(⌜r = chunkOf k 2⌝ ∗ owns (c : Thread nD τ) arg9 fullShare k ∗ owns (c : Thread nD τ) arg10 fullShare v
            ∗ (∃ x, ⌜Filled 23 x K⌝ ∗ owns (c : Thread nD τ) arg18 fullShare x) ∗ (∃ x, ⌜Filled 23 x V⌝ ∗ owns (c : Thread nD τ) arg19 fullShare x))) := by
  rw [k0_part6_eq_skeleton]
  unfold k0_part6_skel
  iintro ⟨H9, H10, H18, H19⟩
  iapply (OwnedMem.load Variants.none (c : Thread nD τ) none E (ld_chunk k _ 0 rfl (by decide) _)) $$ H9
  iintro H9
  iapply (OwnedMem.load Variants.none (c : Thread nD τ) none E rfl) $$ H18
  iintro H18
  iapply (OwnedMem.store Variants.none (c : Thread nD τ) none E rfl) $$ H18
  iintro H18
  iapply (OwnedMem.load Variants.none (c : Thread nD τ) none E (ld_chunk v _ 0 rfl (by decide) _)) $$ H10
  iintro H10
  iapply (OwnedMem.load Variants.none (c : Thread nD τ) none E rfl) $$ H19
  iintro H19
  iapply (OwnedMem.store Variants.none (c : Thread nD τ) none E rfl) $$ H19
  iintro H19
  iapply (OwnedMem.load Variants.none (c : Thread nD τ) none E (ld_chunk k _ 1 rfl (by decide) _)) $$ H9
  iintro H9
  iapply (OwnedMem.load Variants.none (c : Thread nD τ) none E rfl) $$ H18
  iintro H18
  iapply (OwnedMem.store Variants.none (c : Thread nD τ) none E rfl) $$ H18
  iintro H18
  iapply (OwnedMem.load Variants.none (c : Thread nD τ) none E (ld_chunk v _ 1 rfl (by decide) _)) $$ H10
  iintro H10
  iapply (OwnedMem.load Variants.none (c : Thread nD τ) none E rfl) $$ H19
  iintro H19
  iapply (OwnedMem.store Variants.none (c : Thread nD τ) none E rfl) $$ H19
  iintro H19
  iapply (OwnedMem.load Variants.none (c : Thread nD τ) none E (ld_chunk k _ 2 rfl (by decide) _)) $$ H9
  iintro H9
  iapply (OwnedMem.ret Variants.none (c : Thread nD τ) none E rfl)
  isplitr; · ipureintro; rfl
  iframe H9 H10
  isplitl [H18]
  · iexists _
    isplitr
    rotate_left
    · iexact H18
    · ipureintro
      exact (h18.put _ rfl _ (hK 0).symm).put _ rfl _ (hK 1).symm
  · iexists _
    isplitr
    rotate_left
    · iexact H19
    · ipureintro
      exact (h19.put _ rfl _ (hV 0).symm).put _ rfl _ (hV 1).symm

set_option maxHeartbeats 4000000 in
/-- The body at a grid point. -/
theorem body_wp (t2 t3 : Vec F S2 .i32) (t4 : Vec F S2x21 .i32) (t5 : Vec F S2x3 .i32) (ks vs : Vec F S504 .f32) (q k v : Vec F S1x1x4680x128 .bf16)
    (kc vc : Vec F S1x21x1x1560x128 .fp8e4m3) (tc ts : Vec F S1024x128 .f32) (sc ss : Vec F S1560x128 .f32)
    (hpos : ∀ f < 21, (at2 (a := 2) (b := 21) t4 (i 0).val f).toNat < 1024) :
    (iprop(owns (c : Thread nD τ) arg2 fullShare.right t2 ∗ owns (c : Thread nD τ) arg3 fullShare.right t3 ∗ owns (c : Thread nD τ) arg4 fullShare.right t4 ∗ owns (c : Thread nD τ) arg5 fullShare.right t5 ∗ owns (c : Thread nD τ) arg6 fullShare ks ∗ owns (c : Thread nD τ) arg7 fullShare vs ∗ owns (c : Thread nD τ) arg8 fullShare q ∗ owns (c : Thread nD τ) arg9 fullShare k ∗ owns (c : Thread nD τ) arg10 fullShare v ∗ owns (c : Thread nD τ) arg11 fullShare kc ∗ owns (c : Thread nD τ) arg12 fullShare vc ∗ owns (c : Thread nD τ) arg13 fullShare tc ∗ owns (c : Thread nD τ) arg14 fullShare ts ∗ owns (c : Thread nD τ) arg15 fullShare sc ∗ owns (c : Thread nD τ) arg16 fullShare ss ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) : sProp 𝕄)
      ⊢ wp frame (wpE (defs₀ (F := F)) Variants.none c none) E (cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(owns (c : Thread nD τ) arg2 fullShare.right t2 ∗ owns (c : Thread nD τ) arg3 fullShare.right t3 ∗ owns (c : Thread nD τ) arg4 fullShare.right t4 ∗ owns (c : Thread nD τ) arg5 fullShare.right t5 ∗ owns (c : Thread nD τ) arg6 fullShare ks ∗ owns (c : Thread nD τ) arg7 fullShare vs ∗ owns (c : Thread nD τ) arg8 fullShare q ∗ owns (c : Thread nD τ) arg9 fullShare k ∗ owns (c : Thread nD τ) arg10 fullShare v ∗ owns (c : Thread nD τ) arg11 fullShare kc ∗ owns (c : Thread nD τ) arg12 fullShare vc ∗ owns (c : Thread nD τ) arg13 fullShare tc ∗ owns (c : Thread nD τ) arg14 fullShare ts ∗ owns (c : Thread nD τ) arg15 fullShare sc ∗ owns (c : Thread nD τ) arg16 fullShare ss ∗ owns (c : Thread nD τ) arg17 fullShare (outBlock (i 0).val (i 1).val t2 t3 t4 t5 ks vs q k v kc vc tc ts sc ss) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d))) := by
  rw [cc0_attn_eq_skeleton]
  unfold cc0_attn_skel
  rw [wp_bind]
  iintro ⟨H2, H3, H4, H5, H6, H7, H8, H9, H10, H11, H12, H13, H14, H15, H16, ⟨%x17, H17⟩, ⟨%x18, H18⟩, ⟨%x19, H19⟩, ⟨%x20, H20⟩, ⟨%x21, H21⟩⟩
  iapply (wp_wand_r frame (wpE (defs₀ (F := F)) Variants.none c none) E)
  isplitl [H2 H3 H4 H5 H11 H12 H13 H14 H15 H16 H18 H19 H20 H21]
  · iapply (part5_wp c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t2 t3 t4 t5 k v kc vc tc ts sc ss hpos x20 x21)
    unfold tables inv4
    isplitl [H2 H3 H5]; · iframe H2 H3 H5
    iframe H20 H21
    iframe H4 H11 H12 H13 H14 H15 H16
    isplitl [H18]
    · iexists x18
      iframe H18
      ipureintro
      exact Filled.zero _ _
    · iexists x19
      iframe H19
      ipureintro
      exact Filled.zero _ _
  iintro %r HP
  unfold tables inv4
  icases HP with ⟨⟨H2, H3, H5⟩, ⟨H4, H11, H12, H13, H14, H15, H16, ⟨%u18, %h18, H18⟩, ⟨%u19, %h19, H19⟩⟩, %y, %z, %hyz, H20, H21⟩
  obtain ⟨a0, a1⟩ := r
  simp only
  rw [wp_bind]
  iapply (wp_wand_r frame (wpE (defs₀ (F := F)) Variants.none c none) E)
  isplitl [H9 H10 H18 H19]
  · iapply (part6_wp c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k v u18 u19 _ _ h18 h19 (keyAt_new k kc tc ts sc ss _) (valAt_new v vc))
    iframe H9 H10 H18 H19
  iintro %r ⟨%hr, H9, H10, ⟨%w18, %h18', H18⟩, ⟨%w19, %h19', H19⟩⟩
  subst hr
  iapply (OwnedMem.load Variants.none (c : Thread nD τ) none E rfl) $$ H18
  iintro H18
  iapply (OwnedMem.store Variants.none (c : Thread nD τ) none E rfl) $$ H18
  iintro H18
  iapply (OwnedMem.load Variants.none (c : Thread nD τ) none E (ld_chunk v _ 2 rfl (by decide) _)) $$ H10
  iintro H10
  iapply (OwnedMem.load Variants.none (c : Thread nD τ) none E rfl) $$ H19
  iintro H19
  iapply (OwnedMem.store Variants.none (c : Thread nD τ) none E rfl) $$ H19
  iintro H19
  have g18 := h18'.put ![23, 0, 0] rfl (k0_pay1 (chunkOf k 2)) (keyAt_new k kc tc ts sc ss (fun f => (at2 (a := 2) (b := 21) t4 (i 0).val f).toNat) 2).symm
  have g19 := h19'.put ![23, 0, 0] rfl (k0_pay2 (chunkOf v 2)) (valAt_new v vc 2).symm
  iapply (OwnedMem.loop Variants.none (c : Thread nD τ) none E
    (inv5 (F := F) c arg6 arg7 arg8 arg17 arg18 arg19 arg20 arg21 (outBlock (i 0).val (i 1).val t2 t3 t4 t5 ks vs q k v kc vc tc ts sc ss) ks vs q _ _ y z)
    (trip5 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (test (i 0).val t2 t3 t4 t5) _ _ _ ks vs q _ _ y z g18 g19 hyz.entry hyz.count (fun u => rfl))) $$ [H6 H7 H8 H17 H18 H19 H20 H21]
  · unfold inv5 reads5
    isplitl [H6 H7 H8 H18 H19 H20 H21]; · iframe H6 H7 H8 H18 H19 H20 H21
    iexists x17
    iframe H17
    ipureintro
    intro u hu
    omega
  iintro %_ HI
  iapply (OwnedMem.ret Variants.none (c : Thread nD τ) none E rfl)
  unfold inv5 reads5
  icases HI with ⟨⟨H6, H7, H8, H18, H19, H20, H21⟩, %o, %ho, H17⟩
  have e : o = outBlock (i 0).val (i 1).val t2 t3 t4 t5 ks vs q k v kc vc tc ts sc ss := by
    funext u
    exact ho u (show (u 2).val < 4680 from (u 2).isLt)
  subst e
  iframe H2 H3 H4 H5 H6 H7 H8 H9 H10 H11 H12 H13 H14 H15 H16 H17
  isplitl [H18]; · iexists _; iexact H18
  isplitl [H19]; · iexists _; iexact H19
  isplitl [H20]; · iexists _; iexact H20
  iexists _; iexact H21

end Cert.Attn.Body

end
-- ==== Proof.Attn.Run.lean ====
/-
  The run of the whole call, and its frame.
-/
module

public import proofs.«01_k».proof.Proof.Attn.Windows
public import proofs.«01_k».proof.Proof.Attn.Body
public import Idealize.ShloMosaic.Lib.Claim

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

open Cert.Attn.Body AttnWords
/-- The tables as vectors. -/
abbrev tab0 : Vec F S2 .i32 := tbl m 0
abbrev tab1 : Vec F S2 .i32 := tbl m 1
abbrev tab2 : Vec F S2x21 .i32 := tbl m 2
abbrev tab3 : Vec F S2x3 .i32 := tbl m 3

/-- Every frame position is a row of the table of temporal angles. -/
def PosOk : Prop := ∀ b < 2, ∀ f < 21, (at2 (a := 2) (b := 21) (tab2 m) b f).toNat < 1024

/-- The block of results at point `t`. -/
def outAt (hO : Ok m) (c : Dev nD) (t : Fin (cfgM m hO).N) : Vec F S1x1x4680x128 .f32 :=
  outBlock (grid0.coords t 0).val (grid0.coords t 1).val (tab0 m) (tab1 m) (tab2 m) (tab3 m) (iblk m hO c 0 t) (iblk m hO c 1 t) (iblk m hO c 2 t)
    (iblk m hO c 3 t) (iblk m hO c 4 t) (iblk m hO c 5 t) (iblk m hO c 6 t) (iblk m hO c 7 t) (iblk m hO c 8 t) (iblk m hO c 9 t) (iblk m hO c 10 t)

/-- The proof data of the pipeline on core `c`: the arrays as the region finds them; after the body at point `t` each
    input's buffer at its block and the output's at the block of results. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => outAt m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

/-- The tables' halves as memrefs owned at the tables. -/
theorem PhiT0_owns (c : Dev nD) : (Pipeline.ΦT pre0 (tbl m) c : sProp 𝕄) = iprop(owns (c : Thread nD τ) tbM0_0 fullShare.right (tab0 m)
    ∗ owns (c : Thread nD τ) tbM0_1 fullShare.right (tab1 m) ∗ owns (c : Thread nD τ) tbM0_2 fullShare.right (tab2 m)
    ∗ owns (c : Thread nD τ) tbM0_3 fullShare.right (tab3 m)) := by
  rw [show (owns (c : Thread nD τ) tbM0_0 fullShare.right (tab0 m) : sProp 𝕄) = tbPt0 c tbM0_0 (tbl m 0) from owns_whole (c : Thread nD τ) main_arg7 _ _,
    show (owns (c : Thread nD τ) tbM0_1 fullShare.right (tab1 m) : sProp 𝕄) = tbPt0 c tbM0_1 (tbl m 1) from owns_whole (c : Thread nD τ) main_arg8 _ _,
    show (owns (c : Thread nD τ) tbM0_2 fullShare.right (tab2 m) : sProp 𝕄) = tbPt0 c tbM0_2 (tbl m 2) from owns_whole (c : Thread nD τ) main_arg9 _ _,
    show (owns (c : Thread nD τ) tbM0_3 fullShare.right (tab3 m) : sProp 𝕄) = tbPt0 c tbM0_3 (tbl m 3) from owns_whole (c : Thread nD τ) main_arg10 _ _]
  exact PhiT0_eq m c

set_option maxHeartbeats 1600000 in
/-- The body at any point: the inputs' memrefs hold their blocks; the invariant hands the body its scratch buffers at
    some contents and takes them back at some contents. -/
theorem sound_body (hO : Ok m) (hP : PosOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11]
  rw [show (dats m hO 0 c).Φ t.castSucc = iprop(Pipeline.ΦA spec0 c ∗ Pipeline.ΦT pre0 (tbl m) c) from rfl, PhiT0_owns, PhiA0_eq]
  iintro ⟨⟨⟨⟨HS0, HS1, HS2, HS3⟩, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r frame (wpE (defs₀ (F := F)) Variants.none c none) Set.univ)
  isplitl [HS0 HS1 HS2 HS3 HT0 HT1 HT2 HT3 H0 H1 H2 H3 H4 H5 H6 H7 H8 H9 H10 H11]
  · iapply (body_wp c Set.univ (grid0.coords t) _ _ _ _ _ _ _ _ _ _ _ _ _ _ _ _ _ _ _ _ _ _ _ _ _ _ _ _ _ _ _ _ _ _ _ _ _ _ _ _ (tab0 m) (tab1 m) (tab2 m) (tab3 m)
      (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t)
      (hP _ (grid0.coords t 0).isLt))
    isplitl [HT0]; · iexact HT0
    isplitl [HT1]; · iexact HT1
    isplitl [HT2]; · iexact HT2
    isplitl [HT3]; · iexact HT3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    iexact HS3
  iintro %_ ⟨HT0, HT1, HT2, HT3, H0, H1, H2, H3, H4, H5, H6, H7, H8, H9, H10, H11, HS0, HS1, HS2, HS3⟩
  isplitl [HS0 HS1 HS2 HS3 Hg HT0 HT1 HT2 HT3]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hP : PosOk m) (c : Dev nD) : BodyObligation (dats (F := F) m hO 0 c) (defs₀ (F := F)) Variants.none () Set.univ := fun t => by
  rw [bigSep_W0, bigSep_W0, defs₀_row m hO]
  exact triple_restated (sound_body m hO hP c t) rfl .rfl fun _ => .rfl

/-! ## The run and the frame -/

set_option maxHeartbeats 1600000 in
set_option backward.isDefEq.respectTransparency.types false in
/-- The run: the output array ends at the blocks of results, every input array and every other buffer as the region
    found it, every semaphore counter at zero. -/
theorem run_main_quiescent (hO : Ok m) (hP : PosOk m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO hP c).loose) (hshare := fun c => (dats m hO 0 c).share_full fun _ => rfl)
    (howed := fun _ _ => rfl) (V := V m) (hmain := hmain m Variants.none) (hA := A_eq m hO) (hpf := V_pre m) (hΦ := fun _ _ => rfl)

/-- The argument arrays end unchanged. -/
theorem unchanged (hO : Ok m) (hP : PosOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ hh c => have h := hh.1; ⟨(((h c).1 2).trans (((dats m hO 0 c).arrAt_in 2 rfl _).trans (A_eq m hO c 2))).trans (V_main_arg0 m c),
      (((h c).1 3).trans (((dats m hO 0 c).arrAt_in 3 rfl _).trans (A_eq m hO c 3))).trans (V_main_arg1 m c),
      (((h c).1 4).trans (((dats m hO 0 c).arrAt_in 4 rfl _).trans (A_eq m hO c 4))).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c)⟩) (run_main_quiescent m ρ hO hP)

/-- The frame. -/
theorem frame (hO : Ok m) (hP : PosOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ hO hP) ((θ_run defs _ _).mono (fun _ h => h.2) (run_main_quiescent m ρ hO hP))

end Cert.Attn.Gen

end
-- ==== Proof.AttnIdeal.Points.lean ====
/-
  The windows of the call at the points of its grid.
-/
module

public import proofs.«01_k».proof.Proof.Gen.AttnIdeal
public import Idealize.ShloMosaic.Lib.Pipeline.Kit

@[expose] public section

noncomputable section

namespace Cert.AttnIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 4 (%32)) is fetched at the first point only, at any contents of the tables (its index map reads none). -/
theorem fetch0_0 (a : (pcfg0 (F := F)).Adm) : ∀ t : Fin (cfg0 a).N, ((cfg0 a).win 0).fetch t = true ↔ t.val % 24 = 0 :=
  (fun t => Pipeline.Window.fetchOf_const cc0_transform_0 (fun _ _ => rfl) (n := 24) (by decide) t : ∀ t : Fin grid0.N, Pipeline.Window.fetchOf grid0 false cc0_transform_0 t = true ↔ t.val % 24 = 0)
/-- Window 1 (operand 5 (%33)) is fetched at the first point only, at any contents of the tables (its index map reads none). -/
theorem fetch0_1 (a : (pcfg0 (F := F)).Adm) : ∀ t : Fin (cfg0 a).N, ((cfg0 a).win 1).fetch t = true ↔ t.val % 24 = 0 :=
  (fun t => Pipeline.Window.fetchOf_const cc0_transform_1 (fun _ _ => rfl) (n := 24) (by decide) t : ∀ t : Fin grid0.N, Pipeline.Window.fetchOf grid0 false cc0_transform_1 t = true ↔ t.val % 24 = 0)
/-- Window 2 (operand 6 (%arg0)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 7 (%arg1)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 1 (fun _ => rfl) (by decide)) (P := 1) (by decide) t).mpr (Nat.mod_one _) : ∀ t : Fin grid0.N, Pipeline.Window.fetchOf grid0 false cc0_transform_3 t = true)
/-- Window 4 (operand 8 (%arg2)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)
/-- Window 5 (operand 9 (%30)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 2 (fun _ => rfl) (by decide)) (P := 1) (by decide) t).mpr (Nat.mod_one _) : ∀ t : Fin grid0.N, Pipeline.Window.fetchOf grid0 false cc0_transform_5 t = true)
/-- Window 6 (operand 10 (%31)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 2 (fun _ => rfl) (by decide)) (P := 1) (by decide) t).mpr (Nat.mod_one _) : ∀ t : Fin grid0.N, Pipeline.Window.fetchOf grid0 false cc0_transform_6 t = true)
/-- Window 7 (operand 11 (%2)) is fetched at the first point only, at any contents of the tables (its index map reads none). -/
theorem fetch0_7 (a : (pcfg0 (F := F)).Adm) : ∀ t : Fin (cfg0 a).N, ((cfg0 a).win 7).fetch t = true ↔ t.val % 24 = 0 :=
  (fun t => Pipeline.Window.fetchOf_const cc0_transform_7 (fun _ _ => rfl) (n := 24) (by decide) t : ∀ t : Fin grid0.N, Pipeline.Window.fetchOf grid0 false cc0_transform_7 t = true ↔ t.val % 24 = 0)
/-- Window 8 (operand 12 (%17)) is fetched at the first point only, at any contents of the tables (its index map reads none). -/
theorem fetch0_8 (a : (pcfg0 (F := F)).Adm) : ∀ t : Fin (cfg0 a).N, ((cfg0 a).win 8).fetch t = true ↔ t.val % 24 = 0 :=
  (fun t => Pipeline.Window.fetchOf_const cc0_transform_8 (fun _ _ => rfl) (n := 24) (by decide) t : ∀ t : Fin grid0.N, Pipeline.Window.fetchOf grid0 false cc0_transform_8 t = true ↔ t.val % 24 = 0)
/-- Window 9 (operand 13 (%5)) is fetched at the first point only, at any contents of the tables (its index map reads none). -/
theorem fetch0_9 (a : (pcfg0 (F := F)).Adm) : ∀ t : Fin (cfg0 a).N, ((cfg0 a).win 9).fetch t = true ↔ t.val % 24 = 0 :=
  (fun t => Pipeline.Window.fetchOf_const cc0_transform_9 (fun _ _ => rfl) (n := 24) (by decide) t : ∀ t : Fin grid0.N, Pipeline.Window.fetchOf grid0 false cc0_transform_9 t = true ↔ t.val % 24 = 0)
/-- Window 10 (operand 14 (%29)) is fetched at the first point only, at any contents of the tables (its index map reads none). -/
theorem fetch0_10 (a : (pcfg0 (F := F)).Adm) : ∀ t : Fin (cfg0 a).N, ((cfg0 a).win 10).fetch t = true ↔ t.val % 24 = 0 :=
  (fun t => Pipeline.Window.fetchOf_const cc0_transform_10 (fun _ _ => rfl) (n := 24) (by decide) t : ∀ t : Fin grid0.N, Pipeline.Window.fetchOf grid0 false cc0_transform_10 t = true ↔ t.val % 24 = 0)
/-- Window 11 (result 0 (%34)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 1 (fun _ => rfl) (by decide)) (P := 1) (m := 0) (by decide) rfl t).mpr (Nat.mod_one _) : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn (grid0.coords t) (Memref.whole main_arg7) (Memref.isWhole_whole _) (Memref.whole main_arg8) (Memref.isWhole_whole _) (Memref.whole main_arg9) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.AttnIdeal.Gen

end
-- ==== Proof.AttnIdeal.Windows.lean ====
/-
  The state the call starts from: what the host operations before it leave, the tables, and each window's blocks.
-/
module

public import proofs.«01_k».proof.Proof.Gen.AttnIdeal.Launch
public import proofs.«01_k».proof.Proof.Gen.AttnIdeal.Skeleton
public import proofs.«01_k».proof.Proof.AttnIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- What the host operations before the region write, in order. -/
abbrev written : List (Ref sig .tc) :=
  [main_v0, main_v1, main_c, main_call0_v0, main_v2, main_v3, main_v4, main_c_0, main_call1_v0, main_v5, main_v6,
   main_v7, main_v8, main_c_1, main_call2_v0, main_call2_c, main_call2_v1, main_call2_c_0, main_call2_v2,
   main_call2_v3, main_call2_v4, main_call2_c_1, main_call2_v5, main_call2_v6, main_call2_c_2, main_call2_v7,
   main_call2_v8, main_call2_c_3, main_call2_v9, main_call2_v10, main_call2_v11, main_call2_v12, main_call2_v13,
   main_call2_v14, main_v9, main_c_2, main_v10, main_v11, main_cst, main_cst_3, main_call3_v0, main_call3_v1,
   main_v12, main_v13, main_v14, main_v15, main_v16, main_c_4, main_call4_v0, main_v17, main_v18, main_v19,
   main_v20, main_c_5, main_call5_v0, main_call5_c, main_call5_v1, main_call5_c_0, main_call5_v2, main_call5_v3,
   main_call5_v4, main_call5_c_1, main_call5_v5, main_call5_v6, main_call5_c_2, main_call5_v7, main_call5_v8,
   main_call5_c_3, main_call5_v9, main_call5_v10, main_call5_v11, main_call5_v12, main_call5_v13, main_call5_v14,
   main_v21, main_c_6, main_v22, main_v23, main_cst_7, main_cst_8, main_call6_v0, main_call6_v1, main_v24,
   main_v25, main_v26, main_v27, main_v28, main_c_9, main_call7_v0, main_v29, main_v30, main_v31, main_v32,
   main_v33]

theorem written_writes : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] : List (HloOp τ sig (Elt F))).Forall
    fun op => op.writes ⊆ (written.map (Proc.devRef (τ := τ) .tc)).toFinset :=
  StableHlo.forall_writes_sub_of_map rfl

/-- A buffer that no host operation before the region writes: the region finds it as launched. -/
theorem V_kept {b : Ref sig .tc} (hb : b ∉ written) (c : Dev nD) : V m c b = m ((c : Thread nD τ).loc b) :=
  StableHlo.after_of_writes_sub (r := b) _ _ written_writes hb

theorem V_main_arg0 (c : Dev nD) : V m c main_arg0 = m ((c : Thread nD τ).loc main_arg0) := V_kept m (by decide +kernel) c
theorem V_main_arg1 (c : Dev nD) : V m c main_arg1 = m ((c : Thread nD τ).loc main_arg1) := V_kept m (by decide +kernel) c
theorem V_main_arg2 (c : Dev nD) : V m c main_arg2 = m ((c : Thread nD τ).loc main_arg2) := V_kept m (by decide +kernel) c
theorem V_main_arg3 (c : Dev nD) : V m c main_arg3 = m ((c : Thread nD τ).loc main_arg3) := V_kept m (by decide +kernel) c
theorem V_main_arg4 (c : Dev nD) : V m c main_arg4 = m ((c : Thread nD τ).loc main_arg4) := V_kept m (by decide +kernel) c
theorem V_main_arg5 (c : Dev nD) : V m c main_arg5 = m ((c : Thread nD τ).loc main_arg5) := V_kept m (by decide +kernel) c
theorem V_main_arg6 (c : Dev nD) : V m c main_arg6 = m ((c : Thread nD τ).loc main_arg6) := V_kept m (by decide +kernel) c
theorem V_main_arg7 (c : Dev nD) : V m c main_arg7 = m ((c : Thread nD τ).loc main_arg7) := V_kept m (by decide +kernel) c
theorem V_main_arg8 (c : Dev nD) : V m c main_arg8 = m ((c : Thread nD τ).loc main_arg8) := V_kept m (by decide +kernel) c
theorem V_main_arg9 (c : Dev nD) : V m c main_arg9 = m ((c : Thread nD τ).loc main_arg9) := V_kept m (by decide +kernel) c
theorem V_main_arg10 (c : Dev nD) : V m c main_arg10 = m ((c : Thread nD τ).loc main_arg10) := V_kept m (by decide +kernel) c
theorem V_main_arg11 (c : Dev nD) : V m c main_arg11 = m ((c : Thread nD τ).loc main_arg11) := V_kept m (by decide +kernel) c
theorem V_main_arg12 (c : Dev nD) : V m c main_arg12 = m ((c : Thread nD τ).loc main_arg12) := V_kept m (by decide +kernel) c
theorem V_main_arg13 (c : Dev nD) : V m c main_arg13 = m ((c : Thread nD τ).loc main_arg13) := V_kept m (by decide +kernel) c
theorem V_main_arg14 (c : Dev nD) : V m c main_arg14 = m ((c : Thread nD τ).loc main_arg14) := V_kept m (by decide +kernel) c

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg7
abbrev htbM0_0 : tbM0_0.IsWhole := Memref.isWhole_whole _
abbrev tbM0_1 : Memref sig .tc .smem S2 .i32 := Memref.whole main_arg8
abbrev htbM0_1 : tbM0_1.IsWhole := Memref.isWhole_whole _
abbrev tbM0_2 : Memref sig .tc .smem S2x21 .i32 := Memref.whole main_arg9
abbrev htbM0_2 : tbM0_2.IsWhole := Memref.isWhole_whole _
abbrev tbM0_3 : Memref sig .tc .smem S2x3 .i32 := Memref.whole main_arg10
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The staging and scratch memrefs -/

/-- Each window's current staging memref at point `t`, spelled as the pipeline passes it (`bodyAt0`), and its wholeness. -/
abbrev ms0_0 (hO : Ok m) (t : Fin (cfgM m hO).N) : Memref sig .tc .smem S504 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S504 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x4680x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x4680x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x4680x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x21x1x1560x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x21x1x1560x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1024x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1560x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1560x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1x4680x128 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S24x1560x128 .bf16 := Memref.whole cc0_scratch0
abbrev scM0_1 : Memref sig .tc .vmem S24x128x1560 .bf16 := Memref.whole cc0_scratch1
abbrev scM0_2 : Memref sig .tc .smem S3x21 .i32 := Memref.whole cc0_scratch2
abbrev scM0_3 : Memref sig .tc .smem S3 .i32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.AttnIdeal.Gen

end
-- ==== Proof.AttnIdeal.Values.lean ====
/-
  The values one grid point of the kernel works with, as functions of what its blocks hold.

  The kernel gathers 24 frames of keys and values: 21 from the cache, whose keys it rotates by the tables' row at the
  frame's position, and three from the current block. `keyAt f` and `valAt f` are what it writes to its scratch for
  frame `f`. For each tile of 312 queries it then walks over the frames the tile's chunk sees (`frames`), with a running
  maximum, sum and weighted sum (`stepOf`), and divides at the end (`tileOut`).
-/
module

public import proofs.«01_k».proof.Proof.Gen.AttnIdeal.Skeleton
public import proofs.«01_k».proof.Proof.Mem
public import proofs.«01_k».proof.Proof.Words
public import proofs.«01_k».proof.Proof.Blocks

@[expose] public section

set_option maxRecDepth 16384

noncomputable section

namespace Cert.AttnIdeal.Body

open Cert.AttnIdeal Cert.AttnIdeal.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Frame `f` of a block of cached codes. -/
def frameOf (x : Vec F S1x21x1x1560x128 .fp8e4m3) (f : ℕ) : Vec F S1x1x1x1560x128 .fp8e4m3 :=
  fun y => x (ix5 0 ⟨f % 21, Nat.mod_lt _ (by decide)⟩ 0 (y 3) (y 4))

/-- Row `p` of a table of rotations. -/
def rowOf (x : Vec F S1024x128 .f32) (p : ℕ) : Vec F S1x128 .f32 :=
  fun y => x (ix2 ⟨p % 1024, Nat.mod_lt _ (by decide)⟩ (y 1))

/-- Chunk `r` of a block of the current keys or values. -/
def chunkOf (x : Vec F S1x1x4680x128 .bf16) (r : ℕ) : Vec F S1x1x1560x128 .bf16 :=
  fun y => x (ix4 0 0 ⟨(r * 1560 + (y 2).val) % 4680, Nat.mod_lt _ (by decide)⟩ (y 3))

/-- Tile `t` of a block of queries. -/
def tileOf (x : Vec F S1x1x4680x128 .bf16) (t : ℕ) : Vec F S1x1x312x128 .bf16 :=
  fun y => x (ix4 0 0 ⟨(t * 312 + (y 2).val) % 4680, Nat.mod_lt _ (by decide)⟩ (y 3))

/-- What the kernel keeps as the keys of frame `f`: `p f` is the position of cached frame `f`. -/
def keyAt (k : Vec F S1x1x4680x128 .bf16) (kc : Vec F S1x21x1x1560x128 .fp8e4m3) (tc ts : Vec F S1024x128 .f32)
    (sc ss : Vec F S1560x128 .f32) (p : ℕ → ℕ) (f : ℕ) : FVec F S1x1560x128 .bf16 :=
  if f < 21 then
    k0_pay29 (k0_pay4 (frameOf kc f)) (k0_pay5 ss (rowOf ts (p f))) (k0_pay6 (frameOf kc f) sc (rowOf tc (p f))) k0_pay7
  else k0_pay1 (chunkOf k (f - 21))

/-- What the kernel keeps as the values of frame `f`, transposed. -/
def valAt (v : Vec F S1x1x4680x128 .bf16) (vc : Vec F S1x21x1x1560x128 .fp8e4m3) (f : ℕ) : FVec F S1x128x1560 .bf16 :=
  if f < 21 then k0_pay30 (frameOf vc f) else k0_pay2 (chunkOf v (f - 21))

/-- The scale of frame `f` for batch `b` and head `h`: 1 for the frames of the current block. -/
def scaleAt (x : Vec F S504 .f32) (b h f : ℕ) : F .f32 :=
  if f < 21 then x (ix1 ⟨((b * 21 + f) * 12 + h) % 504, Nat.mod_lt _ (by decide)⟩) else Scalar.ofBits .f32 0x3F800000#32

/-- The scores of a tile of queries against the keys of a frame. -/
def scoreOf (q : FVec F S312x128 .bf16) (kr : FVec F S1x1560x128 .bf16) (ks : F .f32) : FVec F S1560x312 .f32 :=
  mulf (matmul dot_S1560x128_S312x128_S1560x312_1_1_0_0_n_n none (shapeCast S1560x128 kr shapeCasts_S1x1560x128_S1560x128) q
      (constant S1560x312 .f32 0x00000000#32))
    (broadcast S1560x312 (Scalar.mulf (Scalar.mulf (Scalar.ofBits .f32 0x3DB504F3#32) ks) (Scalar.ofBits .f32 0x3FB8AA3B#32)))

/-- The running maximum after a frame. -/
def maxOf (s : FVec F S1560x312 .f32) (m : FVec F S1x312 .f32) : FVec F S1x312 .f32 :=
  maximumf m (ceil (shapeCast S1x312 (multiReduction .maximumf [0] S312 s 0xFF800000#32 reduces_S1560x312_S312 (.inl rfl) rfl) shapeCasts_S312_S1x312))

/-- The weights of a frame's keys against the running maximum. -/
def expOf (s : FVec F S1560x312 .f32) (m' : FVec F S1x312 .f32) : FVec F S1560x312 .f32 :=
  exp2 (subf s (broadcastTo S1560x312 m' broadcasts_S1x312_S1560x312))

/-- The running maximum, sum and weighted sum. -/
abbrev Acc (F : FTy → Type) : Type := FVec F S1x312 .f32 × FVec F S1x312 .f32 × FVec F S128x312 .f32

/-- What one frame does to the running maximum, sum and weighted sum of a tile. -/
def stepOf (q : FVec F S312x128 .bf16) (kr : FVec F S1x1560x128 .bf16) (vt : FVec F S1x128x1560 .bf16) (ks vs : F .f32)
    (a : Acc F) : Acc F :=
  let s := scoreOf q kr ks
  let m' := maxOf s a.1
  let p := expOf s m'
  let g := exp2 (subf a.1 m')
  (m', k0_pay24 p (mulf a.2.1 g), k0_pay25 a.2.2 vs p g vt)

/-- The running values before the first frame. -/
def acc0 : Acc F := (k0_pay21, k0_pay22, k0_pay23)

/-- The running values of a tile after the frames `fs`. -/
def accOf (q : FVec F S312x128 .bf16) (K : ℕ → FVec F S1x1560x128 .bf16) (V : ℕ → FVec F S1x128x1560 .bf16) (KS VS : ℕ → F .f32)
    (fs : List ℕ) : Acc F :=
  fs.foldl (fun a f => stepOf q (K f) (V f) (KS f) (VS f) a) acc0

theorem accOf_succ (q : FVec F S312x128 .bf16) (K : ℕ → FVec F S1x1560x128 .bf16) (V : ℕ → FVec F S1x128x1560 .bf16)
    (KS VS : ℕ → F .f32) (fs : List ℕ) (j : ℕ) (h : j < fs.length) :
    accOf q K V KS VS (fs.take (j + 1)) = stepOf q (K fs[j]) (V fs[j]) (KS fs[j]) (VS fs[j]) (accOf q K V KS VS (fs.take j)) := by
  unfold accOf
  rw [← List.take_concat_get' fs j h, List.foldl_append]
  rfl

/-- What the kernel writes for a tile whose chunk sees the frames `fs`. -/
def tileOut (q : FVec F S312x128 .bf16) (K : ℕ → FVec F S1x1560x128 .bf16) (V : ℕ → FVec F S1x128x1560 .bf16) (KS VS : ℕ → F .f32)
    (fs : List ℕ) : FVec F S1x1x312x128 .f32 :=
  k0_pay3 (k0_pay28 (accOf q K V KS VS fs).2.1 (accOf q K V KS VS fs).2.2)

/-- The test of one chunk over the frames, at a batch: `vc` the chunk's position, `x4` the frames' positions. -/
def sees (v1 v3 vc : BitVec 32) (b : ℕ) (x4 : Vec F S2x21 .i32) (r : ℕ) : Bool :=
  seen v1 v3 vc (BitVec.ofNat 32 r) (at2 (a := 2) (b := 21) x4 b r) == 1#1

/-- The block of results of the grid point of batch `b` and head `h`. `t2 … t5` are the tables of ring starts, valid
    ring frames, frame positions and chunk positions. -/
def outBlock (b h : ℕ) (t2 t3 : Vec F S2 .i32) (t4 : Vec F S2x21 .i32) (t5 : Vec F S2x3 .i32) (ks vs : Vec F S504 .f32)
    (q k v : Vec F S1x1x4680x128 .bf16) (kc vc : Vec F S1x21x1x1560x128 .fp8e4m3) (tc ts : Vec F S1024x128 .f32)
    (sc ss : Vec F S1560x128 .f32) : Vec F S1x1x4680x128 .f32 :=
  fun y =>
    tileOut (k0_pay20 (tileOf q ((y 2).val / 312)))
      (keyAt k kc tc ts sc ss (fun f => (at2 (a := 2) (b := 21) t4 b f).toNat)) (valAt v vc) (scaleAt ks b h) (scaleAt vs b h)
      (frames (sees (at1 (a := 2) t2 b) (at1 (a := 2) t3 b) (at2 (a := 2) (b := 3) t5 b ((y 2).val / 312 / 5)) b t4))
      (ix4 0 0 ⟨(y 2).val % 312, Nat.mod_lt _ (by decide)⟩ (y 3))

end Cert.AttnIdeal.Body

end
-- ==== Proof.AttnIdeal.Scan.lean ====
/-
  The three scans of the attention kernel: for each of the three latent chunks a counted loop over the 21 cache frames
  lists, in one row of a table in scalar memory, the frames that chunk sees.
-/
module

public import proofs.«01_k».proof.Proof.Gen.AttnIdeal.Loops
public import proofs.«01_k».proof.Proof.Mem
public import proofs.«01_k».proof.Proof.AttnIdeal.Values

@[expose] public section

set_option maxRecDepth 16384

noncomputable section

namespace Cert.AttnIdeal.Body

open Cert.AttnIdeal Cert.AttnIdeal.Gen AttnWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

/-- The batch of a grid point. -/
abbrev bat (i : grid0.Coords) : ℕ := (i 0).val

theorem bit_zero {b : BitVec 1} (h : ¬ b = 1#1) : b = 0#1 := by
  revert b; decide

/-- What the scan that fills row `row` holds before trip `k`. -/
def inv (row : ℕ) (v1 v3 vc : BitVec 32) (x4 : Vec F S2x21 .i32) (y₀ : Vec F S3x21 .i32) (k : ℕ) (n : BitVec 32) : sProp 𝕄 :=
  iprop(owns (c : Thread nD τ) arg4 fullShare.right x4
    ∗ ∃ y, ⌜ListOK row (sees v1 v3 vc (bat i) x4) y₀ k n y⌝ ∗ owns (c : Thread nD τ) arg20 fullShare y)

theorem off3_eq : ∀ (i : grid0.Coords) (t : Fin k0_t1_loop.trips), k0_off3 i t = ![(i 0).val, t.val] := by
  decide +kernel

theorem pos1 (x4 : Vec F S2x21 .i32) (t : Fin k0_t1_loop.trips) (y) :
    x4 ((Rect.unit (s := S2x21) (k0_off3 i t) S1x1.size (k0_off3_inb i t)).idx y) = at2 (a := 2) (b := 21) x4 (bat i) t.val := by
  have h0 : k0_off3 i t 0 = (i 0).val := congrFun (off3_eq i t) 0
  have h1 : k0_off3 i t 1 = t.val := congrFun (off3_eq i t) 1
  refine at2_idx (a := 2) (b := 21) x4 _ _ _ ?_ ?_
  · show k0_off3 i t 0 + 1 * (y 0).val = _
    have : (y 0).val < 1 := (y 0).isLt
    unfold bat; omega
  · show k0_off3 i t 1 + 1 * (y 1).val = _
    have : (y 1).val < 1 := (y 1).isLt
    omega

/-- One trip of the scan for chunk 0. -/
theorem trip1 (v1 v3 vc : BitVec 32) (x4 : Vec F S2x21 .i32) (y₀ : Vec F S3x21 .i32) (t : Fin k0_t1_loop.trips) (n : BitVec 32) :
    inv (F := F) c i arg4 arg20 0 v1 v3 vc x4 y₀ t.val n
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 vc (Scalar.subi vc 8#32) t n)
          (inv (F := F) c i arg4 arg20 0 v1 v3 vc x4 y₀ (t.val + 1)) := by
  unfold inv k0_t1_body
  iintro ⟨H4, %y, %hy, H20⟩
  have ht : t.val < 21 := t.isLt
  have hn := hy.lt ht
  iapply (OwnedMem.smem Variants.none (c : Thread nD τ) none E (pos1 i x4 t)) $$ H4
  iintro H4
  have hc : k0_chk1 v1 v3 vc t n (at2 (a := 2) (b := 21) x4 (bat i) t.val) := by
    intro _ a
    fin_cases a
    · show 0 + 1 ≤ 3; omega
    · show n.toNat + 1 ≤ 21; omega
  iapply (OwnedMem.assume Variants.none (c : Thread nD τ) none E hc)
  by_cases hs : k0_cond1 v1 v3 vc t (at2 (a := 2) (b := 21) x4 (bat i) t.val) = 1#1
  · rw [dif_pos hs]
    have e : seen v1 v3 vc (Scf.iv 0#32 1#32 t.val) (at2 (a := 2) (b := 21) x4 (bat i) t.val) = 1#1 := (widen_ne_zero _).mp hs
    have key : Scalar.addi n (Scalar.extui (seen v1 v3 vc (Scf.iv 0#32 1#32 t.val) (at2 (a := 2) (b := 21) x4 (bat i) t.val)) : BitVec 32) = n + 1#32 := by
      rw [e]; rfl
    iapply (OwnedMem.smemAny Variants.none (c : Thread nD τ) none E (X := y)) $$ H20
    iintro H20 %_
    iapply (OwnedMem.store Variants.none (c : Thread nD τ) none E (X := y) rfl) $$ H20
    iintro H20
    iapply (OwnedMem.ret Variants.none (c : Thread nD τ) none E key)
    isplitl [H4]; · iexact H4
    iexists _
    isplitr
    rotate_left
    · iexact H20
    · ipureintro
      rw [iv01] at e ⊢
      exact hy.step_true (by unfold sees; rw [e]; rfl) (by omega) ht (k0_off4 n) rfl rfl
  · rw [dif_neg hs]
    have e : seen v1 v3 vc (Scf.iv 0#32 1#32 t.val) (at2 (a := 2) (b := 21) x4 (bat i) t.val) = 0#1 := by
      have := fun h => hs ((widen_ne_zero _).mpr h)
      exact bit_zero this
    have key : Scalar.addi n (Scalar.extui (seen v1 v3 vc (Scf.iv 0#32 1#32 t.val) (at2 (a := 2) (b := 21) x4 (bat i) t.val)) : BitVec 32) = n + 0#32 := by
      rw [e]; rfl
    iapply (OwnedMem.ret Variants.none (c : Thread nD τ) none E key)
    isplitl [H4]; · iexact H4
    iexists y
    isplitr
    · ipureintro
      rw [iv01] at e
      exact hy.step_false (by unfold sees; rw [e]; rfl)
    · iexact H20

theorem off6_eq : ∀ (i : grid0.Coords) (t : Fin k0_t2_loop.trips), k0_off6 i t = ![(i 0).val, t.val] := by
  decide +kernel

theorem pos2 (x4 : Vec F S2x21 .i32) (t : Fin k0_t2_loop.trips) (y) :
    x4 ((Rect.unit (s := S2x21) (k0_off6 i t) S1x1.size (k0_off6_inb i t)).idx y) = at2 (a := 2) (b := 21) x4 (bat i) t.val := by
  have h0 : k0_off6 i t 0 = (i 0).val := congrFun (off6_eq i t) 0
  have h1 : k0_off6 i t 1 = t.val := congrFun (off6_eq i t) 1
  refine at2_idx (a := 2) (b := 21) x4 _ _ _ ?_ ?_
  · show k0_off6 i t 0 + 1 * (y 0).val = _
    have : (y 0).val < 1 := (y 0).isLt
    unfold bat; omega
  · show k0_off6 i t 1 + 1 * (y 1).val = _
    have : (y 1).val < 1 := (y 1).isLt
    omega

/-- One trip of the scan for chunk 1. -/
theorem trip2 (v1 v3 vc : BitVec 32) (x4 : Vec F S2x21 .i32) (y₀ : Vec F S3x21 .i32) (t : Fin k0_t2_loop.trips) (n : BitVec 32) :
    inv (F := F) c i arg4 arg20 1 v1 v3 vc x4 y₀ t.val n
      ⊢ wp frame (wpE (defs₀ (F := F)) Variants.none c none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 vc (Scalar.subi vc 8#32) t n)
          (inv (F := F) c i arg4 arg20 1 v1 v3 vc x4 y₀ (t.val + 1)) := by
  unfold inv k0_t2_body
  iintro ⟨H4, %y, %hy, H20⟩
  have ht : t.val < 21 := t.isLt
  have hn := hy.lt ht
  iapply (OwnedMem.smem Variants.none (c : Thread nD τ) none E (pos2 i x4 t)) $$ H4
  iintro H4
  have hc : k0_chk2 v1 v3 vc t n (at2 (a := 2) (b := 21) x4 (bat i) t.val) := by
    intro _ a
    fin_cases a
    · show 1 + 1 ≤ 3; omega
    · show n.toNat + 1 ≤ 21; omega
  iapply (OwnedMem.assume Variants.none (c : Thread nD τ) none E hc)
  by_cases hs : k0_cond2 v1 v3 vc t (at2 (a := 2) (b := 21) x4 (bat i) t.val) = 1#1
  · rw [dif_pos hs]
    have e : seen v1 v3 vc (Scf.iv 0#32 1#32 t.val) (at2 (a := 2) (b := 21) x4 (bat i) t.val) = 1#1 := (widen_ne_zero _).mp hs
    have key : Scalar.addi n (Scalar.extui (seen v1 v3 vc (Scf.iv 0#32 1#32 t.val) (at2 (a := 2) (b := 21) x4 (bat i) t.val)) : BitVec 32) = n + 1#32 := by
      rw [e]; rfl
    iapply (OwnedMem.smemAny Variants.none (c : Thread nD τ) none E (X := y)) $$ H20
    iintro H20 %_
    iapply (OwnedMem.store Variants.none (c : Thread nD τ) none E (X := y) rfl) $$ H20
    iintro H20
    iapply (OwnedMem.ret Variants.none (c : Thread nD τ) none E key)
    isplitl [H4]; · iexact H4
    iexists _
    isplitr
    rotate_left
    · iexact H20
    · ipureintro
      rw [iv01] at e ⊢
      exact hy.step_true (by unfold sees; rw [e]; rfl) (by omega) ht (k0_off7 n) rfl rfl
  · rw [dif_neg hs]
    have e : seen v1 v3 vc (Scf.iv 0#32 1#32 t.val) (at2 (a := 2) (b := 21) x4 (bat i) t.val) = 0#1 := by
      have := fun h => hs ((widen_ne_zero _).mpr h)
      exact bit_zero this
    have key : Scalar.addi n (Scalar.extui (seen v1 v3 vc (Scf.iv 0#32 1#32 t.val) (at2 (a := 2) (b := 21) x4 (bat i) t.val)) : BitVec 32) = n + 0#32 := by
      rw [e]; rfl
    iapply (OwnedMem.ret Variants.none (c : Thread nD τ) none E key)
    isplitl [H4]; · iexact H4
    iexists y
    isplitr
    · ipureintro
      rw [iv01] at e
      exact hy.step_false (by unfold sees; rw [e]; rfl)
    · iexact H20

theorem off9_eq : ∀ (i : grid0.Coords) (t : Fin k0_t3_loop.trips), k0_off9 i t = ![(i 0).val, t.val] := by
  decide +kernel

theorem pos3 (x4 : Vec F S2x21 .i32) (t : Fin k0_t3_loop.trips) (y) :
    x4 ((Rect.unit (s := S2x21) (k0_off9 i t) S1x1.size (k0_off9_inb i t)).idx y) = at2 (a := 2) (b := 21) x4 (bat i) t.val := by
  have h0 : k0_off9 i t 0 = (i 0).val := congrFun (off9_eq i t) 0
  have h1 : k0_off9 i t 1 = t.val := congrFun (off9_eq i t) 1
  refine at2_idx (a := 2) (b := 21) x4 _ _ _ ?_ ?_
  · show k0_off9 i t 0 + 1 * (y 0).val = _
    have : (y 0).val < 1 := (y 0).isLt
    unfold bat; omega
  · show k0_off9 i t 1 + 1 * (y 1).val = _
    have : (y 1).val < 1 := (y 1).isLt
    omega

/-- One trip of the scan for chunk 2. -/
theorem trip3 (v1 v3 vc : BitVec 32) (x4 : Vec F S2x21 .i32) (y₀ : Vec F S3x21 .i32) (t : Fin k0_t3_loop.trips) (n : BitVec 32) :
    inv (F := F) c i arg4 arg20 2 v1 v3 vc x4 y₀ t.val n
      ⊢ wp frame (wpE (defs₀ (F := F)) Variants.none c none) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 vc (Scalar.subi vc 8#32) t n)
          (inv (F := F) c i arg4 arg20 2 v1 v3 vc x4 y₀ (t.val + 1)) := by
  unfold inv k0_t3_body
  iintro ⟨H4, %y, %hy, H20⟩
  have ht : t.val < 21 := t.isLt
  have hn := hy.lt ht
  iapply (OwnedMem.smem Variants.none (c : Thread nD τ) none E (pos3 i x4 t)) $$ H4
  iintro H4
  have hc : k0_chk3 v1 v3 vc t n (at2 (a := 2) (b := 21) x4 (bat i) t.val) := by
    intro _ a
    fin_cases a
    · show 2 + 1 ≤ 3; omega
    · show n.toNat + 1 ≤ 21; omega
  iapply (OwnedMem.assume Variants.none (c : Thread nD τ) none E hc)
  by_cases hs : k0_cond3 v1 v3 vc t (at2 (a := 2) (b := 21) x4 (bat i) t.val) = 1#1
  · rw [dif_pos hs]
    have e : seen v1 v3 vc (Scf.iv 0#32 1#32 t.val) (at2 (a := 2) (b := 21) x4 (bat i) t.val) = 1#1 := (widen_ne_zero _).mp hs
    have key : Scalar.addi n (Scalar.extui (seen v1 v3 vc (Scf.iv 0#32 1#32 t.val) (at2 (a := 2) (b := 21) x4 (bat i) t.val)) : BitVec 32) = n + 1#32 := by
      rw [e]; rfl
    iapply (OwnedMem.smemAny Variants.none (c : Thread nD τ) none E (X := y)) $$ H20
    iintro H20 %_
    iapply (OwnedMem.store Variants.none (c : Thread nD τ) none E (X := y) rfl) $$ H20
    iintro H20
    iapply (OwnedMem.ret Variants.none (c : Thread nD τ) none E key)
    isplitl [H4]; · iexact H4
    iexists _
    isplitr
    rotate_left
    · iexact H20
    · ipureintro
      rw [iv01] at e ⊢
      exact hy.step_true (by unfold sees; rw [e]; rfl) (by omega) ht (k0_off10 n) rfl rfl
  · rw [dif_neg hs]
    have e : seen v1 v3 vc (Scf.iv 0#32 1#32 t.val) (at2 (a := 2) (b := 21) x4 (bat i) t.val) = 0#1 := by
      have := fun h => hs ((widen_ne_zero _).mpr h)
      exact bit_zero this
    have key : Scalar.addi n (Scalar.extui (seen v1 v3 vc (Scf.iv 0#32 1#32 t.val) (at2 (a := 2) (b := 21) x4 (bat i) t.val)) : BitVec 32) = n + 0#32 := by
      rw [e]; rfl
    iapply (OwnedMem.ret Variants.none (c : Thread nD τ) none E key)
    isplitl [H4]; · iexact H4
    iexists y
    isplitr
    · ipureintro
      rw [iv01] at e
      exact hy.step_false (by unfold sees; rw [e]; rfl)
    · iexact H20

end Cert.AttnIdeal.Body

end
-- ==== Proof.AttnIdeal.Fill.lean ====
/-
  The loop that gathers the cached frames: trip `t` writes frame `t`'s rotated keys and transposed values.
-/
module

public import proofs.«01_k».proof.Proof.AttnIdeal.Values

@[expose] public section

set_option maxRecDepth 16384

noncomputable section

namespace Cert.AttnIdeal.Body

open Cert.AttnIdeal Cert.AttnIdeal.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

theorem off11_eq : ∀ (i : grid0.Coords) (t : Fin k0_t4_loop.trips), k0_off11 i t = ![(i 0).val, t.val] := by decide +kernel
theorem off12_eq : ∀ t : Fin k0_t4_loop.trips, k0_off12 t = ![0, t.val, 0, 0, 0] := by decide +kernel
theorem off14_eq : ∀ t : Fin k0_t4_loop.trips, k0_off14 t = ![t.val, 0, 0] := by decide +kernel
theorem off15_eq : ∀ t : Fin k0_t4_loop.trips, k0_off15 t = ![0, t.val, 0, 0, 0] := by decide +kernel
theorem off16_eq : ∀ t : Fin k0_t4_loop.trips, k0_off16 t = ![t.val, 0, 0] := by decide +kernel

theorem pos4 (x4 : Vec F S2x21 .i32) (t : Fin k0_t4_loop.trips) (y) :
    x4 ((Rect.unit (s := S2x21) (k0_off11 i t) S1x1.size (k0_off11_inb i t)).idx y) = at2 (a := 2) (b := 21) x4 (i 0).val t.val := by
  have h0 : k0_off11 i t 0 = (i 0).val := congrFun (off11_eq i t) 0
  have h1 : k0_off11 i t 1 = t.val := congrFun (off11_eq i t) 1
  refine at2_idx (a := 2) (b := 21) x4 _ _ _ ?_ ?_
  · show k0_off11 i t 0 + 1 * (y 0).val = _
    have : (y 0).val < 1 := (y 0).isLt
    omega
  · show k0_off11 i t 1 + 1 * (y 1).val = _
    have : (y 1).val < 1 := (y 1).isLt
    omega

theorem ld_frame (x : Vec F S1x21x1x1560x128 .fp8e4m3) (off : Fin 5 → ℕ) (f : ℕ) (ho : off = ![0, f, 0, 0, 0]) (hf : f < 21) (inb) :
    View.ld x (Rect.unit (s := S1x21x1x1560x128) off S1x1x1x1560x128.size inb) = frameOf x f := by
  subst ho
  funext y
  have e0 : (y 0).val < 1 := (y 0).isLt
  have e1 : (y 1).val < 1 := (y 1).isLt
  have e2 : (y 2).val < 1 := (y 2).isLt
  show x _ = x _
  congr 1
  funext d; fin_cases d
  · exact Fin.ext (by show 0 + 1 * (y 0).val = 0; omega)
  · exact Fin.ext (by show f + 1 * (y 1).val = f % 21; omega)
  · exact Fin.ext (by show 0 + 1 * (y 2).val = 0; omega)
  · exact Fin.ext (by show 0 + 1 * (y 3).val = (y 3).val; omega)
  · exact Fin.ext (by show 0 + 1 * (y 4).val = (y 4).val; omega)

theorem ld_row (x : Vec F S1024x128 .f32) (p : BitVec 32) (hp : p.toNat < 1024) (inb) :
    View.ld x (Rect.unit (s := S1024x128) (k0_off13 p) S1x128.size inb) = rowOf x p.toNat := by
  funext y
  have e0 : (y 0).val < 1 := (y 0).isLt
  show x _ = x _
  congr 1
  funext d; fin_cases d
  · exact Fin.ext (by show p.toNat + 1 * (y 0).val = p.toNat % 1024; omega)
  · exact Fin.ext (by show 0 + 1 * (y 1).val = (y 1).val; omega)

theorem ld_whole (x : Vec F S1560x128 .f32) (inb) :
    View.ld x (Rect.unit (s := S1560x128) ![0, 0] S1560x128.size inb) = x := by
  funext y
  show x _ = x _
  congr 1
  funext d; fin_cases d
  · exact Fin.ext (by show 0 + 1 * (y 0).val = (y 0).val; omega)
  · exact Fin.ext (by show 0 + 1 * (y 1).val = (y 1).val; omega)

theorem keyAt_cache (k : Vec F S1x1x4680x128 .bf16) (kc : Vec F S1x21x1x1560x128 .fp8e4m3) (tc ts : Vec F S1024x128 .f32)
    (sc ss : Vec F S1560x128 .f32) (p : ℕ → ℕ) (f : ℕ) (h : f < 21) :
    keyAt k kc tc ts sc ss p f
      = k0_pay29 (k0_pay4 (frameOf kc f)) (k0_pay5 ss (rowOf ts (p f))) (k0_pay6 (frameOf kc f) sc (rowOf tc (p f))) k0_pay7 :=
  if_pos h

theorem valAt_cache (v : Vec F S1x1x4680x128 .bf16) (vc : Vec F S1x21x1x1560x128 .fp8e4m3) (f : ℕ) (h : f < 21) :
    valAt v vc f = k0_pay30 (frameOf vc f) := if_pos h

/-- What the gathering loop holds before trip `n`: the blocks it reads, and the frames below `n` in the scratch. -/
def inv4 (t4 : Vec F S2x21 .i32) (k v : Vec F S1x1x4680x128 .bf16) (kc vc : Vec F S1x21x1x1560x128 .fp8e4m3)
    (tc ts : Vec F S1024x128 .f32) (sc ss : Vec F S1560x128 .f32) (n : ℕ) (_ : Unit) : sProp 𝕄 :=
  iprop(owns (c : Thread nD τ) arg4 fullShare.right t4 ∗ owns (c : Thread nD τ) arg11 fullShare kc ∗ owns (c : Thread nD τ) arg12 fullShare vc
    ∗ owns (c : Thread nD τ) arg13 fullShare tc ∗ owns (c : Thread nD τ) arg14 fullShare ts ∗ owns (c : Thread nD τ) arg15 fullShare sc
    ∗ owns (c : Thread nD τ) arg16 fullShare ss
    ∗ (∃ x, ⌜Filled n x (keyAt k kc tc ts sc ss (fun f => (at2 (a := 2) (b := 21) t4 (i 0).val f).toNat))⌝ ∗ owns (c : Thread nD τ) arg18 fullShare x)
    ∗ (∃ x, ⌜Filled n x (valAt v vc)⌝ ∗ owns (c : Thread nD τ) arg19 fullShare x))

set_option maxHeartbeats 4000000 in
theorem trip4 (a0 : BitVec 32) (t4 : Vec F S2x21 .i32) (k v : Vec F S1x1x4680x128 .bf16) (kc vc : Vec F S1x21x1x1560x128 .fp8e4m3)
    (tc ts : Vec F S1024x128 .f32) (sc ss : Vec F S1560x128 .f32)
    (hpos : ∀ f < 21, (at2 (a := 2) (b := 21) t4 (i 0).val f).toNat < 1024) (t : Fin k0_t4_loop.trips) (u : Unit) :
    inv4 (F := F) c i arg4 arg11 arg12 arg13 arg14 arg15 arg16 arg18 arg19 t4 k v kc vc tc ts sc ss t.val u
      ⊢ wp frame (wpE (defs₀ (F := F)) Variants.none c none) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 t u)
          (inv4 (F := F) c i arg4 arg11 arg12 arg13 arg14 arg15 arg16 arg18 arg19 t4 k v kc vc tc ts sc ss (t.val + 1)) := by
  unfold inv4 k0_t4_body
  rw [k0_part1_eq_skeleton]
  unfold k0_part1_skel
  rw [wp_bind]
  iintro ⟨H4, H11, H12, H13, H14, H15, H16, ⟨%x18, %h18, H18⟩, ⟨%x19, %h19, H19⟩⟩
  have ht : t.val < 21 := t.isLt
  have hp := hpos t.val ht
  iapply (OwnedMem.smem Variants.none (c : Thread nD τ) none E (pos4 i t4 t)) $$ H4
  iintro H4
  have hc : k0_chk4 (at2 (a := 2) (b := 21) t4 (i 0).val t.val) := by
    intro a; fin_cases a
    · show (at2 (a := 2) (b := 21) t4 (i 0).val t.val).toNat + 1 ≤ 1024; omega
    · show 0 + 128 ≤ 128; omega
  iapply (OwnedMem.assume Variants.none (c : Thread nD τ) none E hc)
  iapply (OwnedMem.load Variants.none (c : Thread nD τ) none E (ld_frame kc _ t.val (off12_eq t) ht _)) $$ H11
  iintro H11
  iapply (OwnedMem.load Variants.none (c : Thread nD τ) none E (ld_whole sc _)) $$ H15
  iintro H15
  iapply (OwnedMem.load Variants.none (c : Thread nD τ) none E (ld_row tc _ hp _)) $$ H13
  iintro H13
  iapply (OwnedMem.load Variants.none (c : Thread nD τ) none E (ld_whole ss _)) $$ H16
  iintro H16
  iapply (OwnedMem.load Variants.none (c : Thread nD τ) none E (ld_row ts _ hp _)) $$ H14
  iintro H14
  iapply (OwnedMem.ret Variants.none (c : Thread nD τ) none E rfl)
  iapply (OwnedMem.load Variants.none (c : Thread nD τ) none E (X := x18) rfl) $$ H18
  iintro H18
  iapply (OwnedMem.store Variants.none (c : Thread nD τ) none E (X := x18) rfl) $$ H18
  iintro H18
  iapply (OwnedMem.load Variants.none (c : Thread nD τ) none E (ld_frame vc _ t.val (off15_eq t) ht _)) $$ H12
  iintro H12
  iapply (OwnedMem.load Variants.none (c : Thread nD τ) none E (X := x19) rfl) $$ H19
  iintro H19
  iapply (OwnedMem.store Variants.none (c : Thread nD τ) none E (X := x19) rfl) $$ H19
  iintro H19
  iapply (OwnedMem.ret Variants.none (c : Thread nD τ) none E rfl)
  iframe H4 H11 H12 H13 H14 H15 H16
  isplitl [H18]
  · iexists _
    isplitr
    rotate_left
    · iexact H18
    · ipureintro
      exact h18.put _ (off14_eq t) _ (keyAt_cache k kc tc ts sc ss (fun f => (at2 (a := 2) (b := 21) t4 (i 0).val f).toNat) t.val ht).symm
  · iexists _
    isplitr
    rotate_left
    · iexact H19
    · ipureintro
      exact h19.put _ (off16_eq t) _ (valAt_cache v vc t.val ht).symm

end Cert.AttnIdeal.Body

end
-- ==== Proof.AttnIdeal.Tile.lean ====
/-
  The loop over the tiles of queries: trip `t` walks over the frames the tile's chunk sees and writes the tile's rows.
-/
module

public import proofs.«01_k».proof.Proof.AttnIdeal.Fill

@[expose] public section

set_option maxRecDepth 16384

noncomputable section

namespace Cert.AttnIdeal.Body

open Cert.AttnIdeal Cert.AttnIdeal.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

theorem off17_eq : ∀ t : Fin k0_t5_loop.trips, k0_off17 t = ![0, 0, t.val * 312, 0] := by decide +kernel
theorem off18_eq : ∀ t : Fin k0_t5_loop.trips, k0_off18 t = ![t.val / 5] := by decide +kernel
theorem off27_eq : ∀ t : Fin k0_t5_loop.trips, k0_off27 t = ![0, 0, t.val * 312, 0] := by decide +kernel
theorem trips6 : ∀ n : Fin 22, (k0_t6_loop (BitVec.ofNat 32 n.val)).trips = n.val + 3 := by decide +kernel
theorem trips7 : ∀ n : Fin 22, (k0_t7_loop (BitVec.ofNat 32 n.val)).trips = 0 := by decide +kernel
theorem chk5 : ∀ (t : Fin k0_t5_loop.trips) (n : Fin 22), k0_chk5 t (BitVec.ofNat 32 n.val) := by decide +kernel
theorem off19_eq : ∀ (t : Fin k0_t5_loop.trips) (n : Fin 22) (j : Fin (k0_t6_loop (BitVec.ofNat 32 n.val)).trips),
    k0_off19 t (BitVec.ofNat 32 n.val) j = ![t.val / 5, min j.val 20] := by decide +kernel
theorem off20_words : ∀ (b : Fin 2) (h : Fin 12) (f : Fin 24),
    (Scalar.addi (Scalar.muli (Scalar.addi (Scalar.muli (BitVec.ofNat 32 b.val) 21#32) (Scalar.minsi (BitVec.ofNat 32 f.val) 20#32)) 12#32)
      (BitVec.ofNat 32 h.val) : BitVec 32).toNat = (b.val * 21 + min f.val 20) * 12 + h.val := by decide +kernel

/-- The word of the frame picked in a trip, from the loaded entry. -/
def pick (n : BitVec 32) (j : ℕ) (w : BitVec 32) : BitVec 32 :=
  Scalar.select (Scalar.cmpi .slt (Scf.iv 0#32 1#32 j) n) w (Scalar.subi (Scalar.addi 21#32 (Scf.iv 0#32 1#32 j)) n)

theorem off20_eq (n : BitVec 32) (t : Fin (k0_t6_loop n).trips) (w : BitVec 32) (f : ℕ) (hf : f < 24) (h : pick n t.val w = BitVec.ofNat 32 f) :
    k0_off20 i n t w = ![((i 0).val * 21 + min f 20) * 12 + (i 1).val] := by
  have e : k0_off20 i n t w = ![(Scalar.addi (Scalar.muli (Scalar.addi (Scalar.muli (BitVec.ofNat 32 (i 0).val) 21#32)
      (Scalar.minsi (pick n t.val w) 20#32)) 12#32) (BitVec.ofNat 32 (i 1).val) : BitVec 32).toNat] := rfl
  rw [e, h]
  exact congrArg (fun x => ![x]) (off20_words (i 0) (i 1) ⟨f, hf⟩)

theorem off21_eq (n : BitVec 32) (t : Fin (k0_t6_loop n).trips) (w : BitVec 32) (f : ℕ) (hf : f < 24) (h : pick n t.val w = BitVec.ofNat 32 f) :
    k0_off21 n t w = ![f, 0, 0] := by
  have e : k0_off21 n t w = ![(pick n t.val w).toNat, 0, 0] := rfl
  rw [e, h, BitVec.toNat_ofNat, Nat.mod_eq_of_lt (by omega)]

theorem off22_eq (n : BitVec 32) (t : Fin (k0_t6_loop n).trips) (w : BitVec 32) (f : ℕ) (hf : f < 24) (h : pick n t.val w = BitVec.ofNat 32 f) :
    k0_off22 n t w = ![f, 0, 0] := off21_eq n t w f hf h

theorem chk6 (n : BitVec 32) (t : Fin (k0_t6_loop n).trips) (w : BitVec 32) (f : ℕ) (hf : f < 24) (h : pick n t.val w = BitVec.ofNat 32 f) :
    k0_chk6 i n t w := by
  have h0 : (i 0).val < 2 := (i 0).isLt
  have h1 : (i 1).val < 12 := (i 1).isLt
  refine ⟨?_, ?_, ?_⟩
  · rw [off20_eq i n t w f hf h]
    intro a; fin_cases a
    show ((i 0).val * 21 + min f 20) * 12 + (i 1).val + 1 ≤ 504
    omega
  · rw [off21_eq n t w f hf h]
    intro a; fin_cases a
    · show f + 1 ≤ 24; omega
    · show 0 + 1560 ≤ 1560; omega
    · show 0 + 128 ≤ 128; omega
  · rw [off22_eq n t w f hf h]
    intro a; fin_cases a
    · show f + 1 ≤ 24; omega
    · show 0 + 128 ≤ 128; omega
    · show 0 + 1560 ≤ 1560; omega

/-- The scale word the kernel loads for frame `f`. -/
def scaleWord (x : Vec F S504 .f32) (b h f : ℕ) : F .f32 :=
  x (ix1 ⟨((b * 21 + min f 20) * 12 + h) % 504, Nat.mod_lt _ (by decide)⟩)

theorem ld_scale (x : Vec F S504 .f32) (n : BitVec 32) (t : Fin (k0_t6_loop n).trips) (w : BitVec 32) (f : ℕ) (hf : f < 24)
    (h : pick n t.val w = BitVec.ofNat 32 f) (inb) (y) :
    x ((Rect.unit (s := S504) (k0_off20 i n t w) S1.size inb).idx y) = scaleWord x (i 0).val (i 1).val f := by
  have h0 : (i 0).val < 2 := (i 0).isLt
  have h1 : (i 1).val < 12 := (i 1).isLt
  have e : k0_off20 i n t w 0 = ((i 0).val * 21 + min f 20) * 12 + (i 1).val := congrFun (off20_eq i n t w f hf h) 0
  have e0 : (y 0).val < 1 := (y 0).isLt
  unfold scaleWord
  congr 1
  funext d; fin_cases d
  refine Fin.ext ?_
  show k0_off20 i n t w 0 + 1 * (y 0).val = (((i 0).val * 21 + min f 20) * 12 + (i 1).val) % 504
  omega

theorem scale_select (P : ℕ → Bool) (x : Vec F S504 .f32) (b h j : ℕ) (hj : j < (frames P).length) :
    Scalar.select (Scalar.cmpi .slt (Scf.iv 0#32 1#32 j) (BitVec.ofNat 32 (vis P 21).length)) (scaleWord x b h (frames P)[j])
      (Scalar.ofBits .f32 0x3F800000#32) = scaleAt x b h (frames P)[j] := by
  have hl := vis_length_le P 21
  have hj' := hj
  rw [frames_length] at hj'
  have e := slt_words ⟨(vis P 21).length, by omega⟩ ⟨j, by omega⟩
  simp only at e
  rw [iv01, e]
  by_cases hlt : j < (vis P 21).length
  · have hf : (frames P)[j] < 21 := by rw [frames_left P j hlt hj]; exact vis_lt P 21 j hlt
    rw [if_pos hlt]
    unfold scaleAt scaleWord
    rw [if_pos hf]
    have : min (frames P)[j] 20 = (frames P)[j] := by omega
    simp only [this]
    rfl
  · have hf : ¬ (frames P)[j] < 21 := by
      obtain ⟨d, rfl⟩ : ∃ d, j = (vis P 21).length + d := ⟨j - (vis P 21).length, by omega⟩
      rw [frames_right P d (by omega) hj]; omega
    rw [if_neg hlt]
    unfold scaleAt
    rw [if_neg hf]
    rfl

/-- The kernel's trip is `stepOf`. -/
theorem step_eq (q : FVec F S312x128 .bf16) (n : BitVec 32) (t : Fin (k0_t6_loop n).trips) (x0 x1 : F .f32)
    (kr : FVec F S1x1560x128 .bf16) (vt : FVec F S1x128x1560 .bf16) (m l : FVec F S1x312 .f32) (w : FVec F S128x312 .f32) :
    ((k0_pay10 q n 0#32 1#32 t m x0 kr,
      k0_pay24 (k0_pay11 q n 0#32 1#32 t m x0 kr) (k0_pay13 q n 0#32 1#32 t m l x0 kr),
      k0_pay25 w (k0_pay8 n 0#32 1#32 t x1) (k0_pay11 q n 0#32 1#32 t m x0 kr) (k0_pay12 q n 0#32 1#32 t m x0 kr) vt) : Acc F)
      = stepOf q kr vt (Scalar.select (Scalar.cmpi .slt (Scf.iv 0#32 1#32 t.val) n) x0 (Scalar.ofBits .f32 0x3F800000#32))
          (Scalar.select (Scalar.cmpi .slt (Scf.iv 0#32 1#32 t.val) n) x1 (Scalar.ofBits .f32 0x3F800000#32)) (m, l, w) := rfl

/-- What the walk over the frames holds before trip `j`. -/
def inv6 (P : ℕ → Bool) (q : FVec F S312x128 .bf16) (K : ℕ → FVec F S1x1560x128 .bf16) (V : ℕ → FVec F S1x128x1560 .bf16)
    (ks vs : Vec F S504 .f32) (x18 : Vec F S24x1560x128 .bf16) (x19 : Vec F S24x128x1560 .bf16) (y : Vec F S3x21 .i32) (j : ℕ) (a : Acc F) : sProp 𝕄 :=
  iprop(⌜a = accOf q K V (scaleAt ks (i 0).val (i 1).val) (scaleAt vs (i 0).val (i 1).val) ((frames P).take j)⌝
    ∗ owns (c : Thread nD τ) arg20 fullShare y ∗ owns (c : Thread nD τ) arg6 fullShare ks ∗ owns (c : Thread nD τ) arg7 fullShare vs
    ∗ owns (c : Thread nD τ) arg18 fullShare x18 ∗ owns (c : Thread nD τ) arg19 fullShare x19)

set_option maxHeartbeats 4000000 in
theorem trip6 (a0 a1 v79 : BitVec 32) (t : Fin k0_t5_loop.trips) (v83 : Vec F S1x1x312x128 .bf16) (P : ℕ → Bool)
    (K : ℕ → FVec F S1x1560x128 .bf16) (V : ℕ → FVec F S1x128x1560 .bf16)
    (ks vs : Vec F S504 .f32) (x18 : Vec F S24x1560x128 .bf16) (x19 : Vec F S24x128x1560 .bf16) (y : Vec F S3x21 .i32)
    (h18 : Filled 24 x18 K) (h19 : Filled 24 x19 V)
    (hy : ∀ j (h : j < (vis P 21).length), at2 (a := 3) (b := 21) y (t.val / 5) j = BitVec.ofNat 32 (vis P 21)[j])
    (hw5 : k0_chk5 t (BitVec.ofNat 32 (vis P 21).length)) (j : Fin (k0_t6_loop (BitVec.ofNat 32 (vis P 21).length)).trips) (a : Acc F) :
    inv6 (F := F) c i arg6 arg7 arg18 arg19 arg20 P (k0_pay20 v83) K V ks vs x18 x19 y j.val a
      ⊢ wp frame (wpE (defs₀ (F := F)) Variants.none c none) E
          (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 0#32 1#32 t v79 v83 (BitVec.ofNat 32 (vis P 21).length) hw5 j a)
          (inv6 (F := F) c i arg6 arg7 arg18 arg19 arg20 P (k0_pay20 v83) K V ks vs x18 x19 y (j.val + 1)) := by
  obtain ⟨m, l, w⟩ := a
  have hl := vis_length_le P 21
  have hjt : j.val < (vis P 21).length + 3 := by
    have := trips6 ⟨(vis P 21).length, by omega⟩
    have h2 := j.isLt
    simp only at this
    omega
  have hj : j.val < (frames P).length := by rw [frames_length]; exact hjt
  have hf := frames_lt P j.val hj
  unfold inv6 k0_t6_body
  simp only
  rw [k0_part2_eq_skeleton]
  unfold k0_part2_skel
  rw [wp_bind]
  iintro ⟨%ha, H20, H6, H7, H18, H19⟩
  have hv : ∀ z, y ((Rect.unit (s := S3x21) (k0_off19 t (BitVec.ofNat 32 (vis P 21).length) j) S1x1.size (k0_off19_inb t _ hw5 j)).idx z)
      = at2 (a := 3) (b := 21) y (t.val / 5) (min j.val 20) := by
    intro z
    have e := off19_eq t ⟨(vis P 21).length, by omega⟩ j
    have h0 : k0_off19 t (BitVec.ofNat 32 (vis P 21).length) j 0 = t.val / 5 := congrFun e 0
    have h1 : k0_off19 t (BitVec.ofNat 32 (vis P 21).length) j 1 = min j.val 20 := congrFun e 1
    have z0 : (z 0).val < 1 := (z 0).isLt
    have z1 : (z 1).val < 1 := (z 1).isLt
    refine at2_idx (a := 3) (b := 21) y _ _ _ ?_ ?_
    · show k0_off19 t (BitVec.ofNat 32 (vis P 21).length) j 0 + 1 * (z 0).val = _
      omega
    · show k0_off19 t (BitVec.ofNat 32 (vis P 21).length) j 1 + 1 * (z 1).val = _
      omega
  iapply (OwnedMem.smem Variants.none (c : Thread nD τ) none E hv) $$ H20
  iintro H20
  have hpick : pick (BitVec.ofNat 32 (vis P 21).length) j.val (at2 (a := 3) (b := 21) y (t.val / 5) (min j.val 20)) = BitVec.ofNat 32 (frames P)[j.val] := by
    unfold pick
    rw [iv01]
    refine pick_eq P j.val hj _ fun h => ?_
    have : min j.val 20 = j.val := by omega
    rw [this]; exact hy j.val h
  iapply (OwnedMem.assume Variants.none (c : Thread nD τ) none E (chk6 i _ j _ _ hf hpick))
  iapply (OwnedMem.smem Variants.none (c : Thread nD τ) none E (ld_scale i ks _ j _ _ hf hpick _)) $$ H6
  iintro H6
  iapply (OwnedMem.smem Variants.none (c : Thread nD τ) none E (ld_scale i vs _ j _ _ hf hpick _)) $$ H7
  iintro H7
  iapply (OwnedMem.load Variants.none (c : Thread nD τ) none E (h18.ld _ hf _ (off21_eq _ j _ _ hf hpick) _)) $$ H18
  iintro H18
  iapply (OwnedMem.ret Variants.none (c : Thread nD τ) none E rfl)
  iapply (OwnedMem.load Variants.none (c : Thread nD τ) none E (h19.ld _ hf _ (off22_eq _ j _ _ hf hpick) _)) $$ H19
  iintro H19
  iapply (OwnedMem.ret Variants.none (c : Thread nD τ) none E rfl)
  iframe H20 H6 H7 H18 H19
  ipureintro
  rw [accOf_succ _ _ _ _ _ _ _ hj, ← ha, ← scale_select P ks _ _ _ hj, ← scale_select P vs _ _ _ hj]
  exact step_eq _ _ j _ _ _ _ m l w

end Cert.AttnIdeal.Body

end
-- ==== Proof.AttnIdeal.Walk.lean ====
/-
  The loop over the tiles of queries: a trip reads the tile's queries and the list of its chunk, walks over the
  frames, and writes the tile's rows of the result.
-/
module

public import proofs.«01_k».proof.Proof.AttnIdeal.Tile

@[expose] public section

set_option maxRecDepth 16384

noncomputable section

namespace Cert.AttnIdeal.Body

open Cert.AttnIdeal Cert.AttnIdeal.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

theorem ld_tile (x : Vec F S1x1x4680x128 .bf16) (off : Fin 4 → ℕ) (t : ℕ) (ho : off = ![0, 0, t * 312, 0]) (ht : t < 15) (inb) :
    View.ld x (Rect.unit (s := S1x1x4680x128) off S1x1x312x128.size inb) = tileOf x t := by
  subst ho
  funext y
  have e0 : (y 0).val < 1 := (y 0).isLt
  have e1 : (y 1).val < 1 := (y 1).isLt
  have e2 : (y 2).val < 312 := (y 2).isLt
  show x _ = x _
  congr 1
  funext d; fin_cases d
  · exact Fin.ext (by show 0 + 1 * (y 0).val = 0; omega)
  · exact Fin.ext (by show 0 + 1 * (y 1).val = 0; omega)
  · exact Fin.ext (by show t * 312 + 1 * (y 2).val = (t * 312 + (y 2).val) % 4680; omega)
  · exact Fin.ext (by show 0 + 1 * (y 3).val = (y 3).val; omega)

/-- The rows below `n` tiles of a block are those of `O`. -/
def Rows (n : ℕ) (X O : Vec F S1x1x4680x128 .f32) : Prop := ∀ y, (y 2).val < n * 312 → X y = O y

theorem Rows.put {t : ℕ} {X O : Vec F S1x1x4680x128 .f32} (h : Rows t X O) (off : Fin 4 → ℕ) (ho : off = ![0, 0, t * 312, 0])
    (w : Vec F S1x1x312x128 .f32)
    (hw : ∀ y, t * 312 ≤ (y 2).val → (y 2).val < t * 312 + 312 → O y = w (ix4 0 0 ⟨(y 2).val % 312, Nat.mod_lt _ (by decide)⟩ (y 3))) :
    Rows (t + 1) (VecWindow.put (s := S1x1x4680x128) X off S1x1x312x128.size w) O := by
  subst ho
  intro y hy
  have e0 : (y 0).val < 1 := (y 0).isLt
  have e1 : (y 1).val < 1 := (y 1).isLt
  have e3 : (y 3).val < 128 := (y 3).isLt
  unfold VecWindow.put
  by_cases e : t * 312 ≤ (y 2).val
  · rw [dif_pos]
    · rw [hw y e (by omega)]
      congr 1
      funext d; fin_cases d
      · exact Fin.ext (by show (y 0).val - 0 = 0; omega)
      · exact Fin.ext (by show (y 1).val - 0 = 0; omega)
      · exact Fin.ext (by show (y 2).val - t * 312 = (y 2).val % 312; omega)
      · exact Fin.ext (by show (y 3).val - 0 = (y 3).val; omega)
    · intro d; fin_cases d
      · show 0 ≤ (y 0).val ∧ (y 0).val < 0 + 1; omega
      · show 0 ≤ (y 1).val ∧ (y 1).val < 0 + 1; omega
      · show t * 312 ≤ (y 2).val ∧ (y 2).val < t * 312 + 312; omega
      · show 0 ≤ (y 3).val ∧ (y 3).val < 0 + 128; omega
  · rw [dif_neg]
    · exact h y (by omega)
    · intro H
      have h2 : t * 312 ≤ (y 2).val ∧ (y 2).val < t * 312 + 312 := H 2
      omega

/-- What the loop over the tiles reads: the queries, the scales, the gathered frames, the lists and their lengths. -/
def reads5 (ks vs : Vec F S504 .f32) (q : Vec F S1x1x4680x128 .bf16) (x18 : Vec F S24x1560x128 .bf16) (x19 : Vec F S24x128x1560 .bf16)
    (y : Vec F S3x21 .i32) (z : Vec F S3 .i32) : sProp 𝕄 :=
  iprop(owns (c : Thread nD τ) arg6 fullShare ks ∗ owns (c : Thread nD τ) arg7 fullShare vs ∗ owns (c : Thread nD τ) arg8 fullShare q
    ∗ owns (c : Thread nD τ) arg18 fullShare x18 ∗ owns (c : Thread nD τ) arg19 fullShare x19
    ∗ owns (c : Thread nD τ) arg20 fullShare y ∗ owns (c : Thread nD τ) arg21 fullShare z)

set_option maxHeartbeats 4000000 in
theorem part4_wp (a0 a1 : BitVec 32) (t : Fin k0_t5_loop.trips) (P : ℕ → Bool)
    (K : ℕ → FVec F S1x1560x128 .bf16) (V : ℕ → FVec F S1x128x1560 .bf16)
    (ks vs : Vec F S504 .f32) (q : Vec F S1x1x4680x128 .bf16) (x18 : Vec F S24x1560x128 .bf16) (x19 : Vec F S24x128x1560 .bf16)
    (y : Vec F S3x21 .i32) (z : Vec F S3 .i32) (h18 : Filled 24 x18 K) (h19 : Filled 24 x19 V)
    (hy : ∀ j (h : j < (vis P 21).length), at2 (a := 3) (b := 21) y (t.val / 5) j = BitVec.ofNat 32 (vis P 21)[j])
    (hz : at1 (a := 3) z (t.val / 5) = BitVec.ofNat 32 (vis P 21).length) :
    reads5 (F := F) c arg6 arg7 arg8 arg18 arg19 arg20 arg21 ks vs q x18 x19 y z
      ⊢ wp frame (wpE (defs₀ (F := F)) Variants.none c none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 0#32 1#32 t)
          (fun r => iprop(⌜r.2 = k0_pay28 (accOf (k0_pay20 (tileOf q t.val)) K V (scaleAt ks (i 0).val (i 1).val) (scaleAt vs (i 0).val (i 1).val) (frames P)).2.1
              (accOf (k0_pay20 (tileOf q t.val)) K V (scaleAt ks (i 0).val (i 1).val) (scaleAt vs (i 0).val (i 1).val) (frames P)).2.2⌝
            ∗ reads5 (F := F) c arg6 arg7 arg8 arg18 arg19 arg20 arg21 ks vs q x18 x19 y z)) := by
  have hl := vis_length_le P 21
  have ht : t.val < 15 := t.isLt
  rw [k0_part4_eq_skeleton]
  unfold k0_part4_skel reads5
  iintro ⟨H6, H7, H8, H18, H19, H20, H21⟩
  iapply (OwnedMem.load Variants.none (c : Thread nD τ) none E (ld_tile q _ t.val (off17_eq t) ht _)) $$ H8
  iintro H8
  have hv : ∀ u, z ((Rect.unit (s := S3) (k0_off18 t) S1.size (k0_off18_inb t)).idx u) = BitVec.ofNat 32 (vis P 21).length := by
    intro u
    have h0 : k0_off18 t 0 = t.val / 5 := congrFun (off18_eq t) 0
    have u0 : (u 0).val < 1 := (u 0).isLt
    rw [← hz]
    refine at1_idx (a := 3) z _ _ ?_
    show k0_off18 t 0 + 1 * (u 0).val = _
    omega
  iapply (OwnedMem.smem Variants.none (c : Thread nD τ) none E hv) $$ H21
  iintro H21
  have hw5 : k0_chk5 t (BitVec.ofNat 32 (vis P 21).length) := chk5 t ⟨(vis P 21).length, by omega⟩
  iapply (OwnedMem.assume Variants.none (c : Thread nD τ) none E hw5)
  have h6 := trips6 ⟨(vis P 21).length, by omega⟩
  have h7 := trips7 ⟨(vis P 21).length, by omega⟩
  simp only at h6 h7
  iapply (OwnedMem.loop Variants.none (c : Thread nD τ) none E
    (inv6 (F := F) c i arg6 arg7 arg18 arg19 arg20 P (k0_pay20 (tileOf q t.val)) K V ks vs x18 x19 y)
    (trip6 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 _ t (tileOf q t.val) P K V ks vs x18 x19 y h18 h19 hy hw5)) $$ [H6 H7 H18 H19 H20]
  · unfold inv6
    iframe H20 H6 H7 H18 H19
    ipureintro
    rfl
  iintro %acc HI
  unfold inv6
  icases HI with ⟨%hacc, H20, H6, H7, H18, H19⟩
  obtain ⟨m, l, w⟩ := acc
  have hfull : (frames P).take (k0_t6_loop (BitVec.ofNat 32 (vis P 21).length)).trips = frames P := by
    rw [h6, ← frames_length]; exact List.take_length
  rw [hfull] at hacc
  iapply (OwnedMem.loop Variants.none (c : Thread nD τ) none E
    (fun _ a => (iprop(⌜a = (m, l, w)⌝) : sProp 𝕄))
    (fun k => (Nat.not_lt_zero _ (lt_of_lt_of_eq k.isLt h7)).elim)) $$ []
  · ipureintro; rfl
  iintro %acc %h2
  subst h2
  iapply (OwnedMem.ret Variants.none (c : Thread nD τ) none E rfl)
  iframe H6 H7 H8 H18 H19 H20 H21
  ipureintro
  rw [← hacc]

/-- What the loop over the tiles holds before trip `n`. -/
def inv5 (O : Vec F S1x1x4680x128 .f32) (ks vs : Vec F S504 .f32) (q : Vec F S1x1x4680x128 .bf16) (x18 : Vec F S24x1560x128 .bf16)
    (x19 : Vec F S24x128x1560 .bf16) (y : Vec F S3x21 .i32) (z : Vec F S3 .i32) (n : ℕ) (_ : Unit) : sProp 𝕄 :=
  iprop(reads5 (F := F) c arg6 arg7 arg8 arg18 arg19 arg20 arg21 ks vs q x18 x19 y z
    ∗ ∃ x, ⌜Rows n x O⌝ ∗ owns (c : Thread nD τ) arg17 fullShare x)

set_option maxHeartbeats 4000000 in
theorem trip5 (a0 a1 : BitVec 32) (P : ℕ → ℕ → Bool) (O : Vec F S1x1x4680x128 .f32)
    (K : ℕ → FVec F S1x1560x128 .bf16) (V : ℕ → FVec F S1x128x1560 .bf16)
    (ks vs : Vec F S504 .f32) (q : Vec F S1x1x4680x128 .bf16) (x18 : Vec F S24x1560x128 .bf16) (x19 : Vec F S24x128x1560 .bf16)
    (y : Vec F S3x21 .i32) (z : Vec F S3 .i32) (h18 : Filled 24 x18 K) (h19 : Filled 24 x19 V)
    (hy : ∀ r < 3, ∀ j (h : j < (vis (P r) 21).length), at2 (a := 3) (b := 21) y r j = BitVec.ofNat 32 (vis (P r) 21)[j])
    (hz : ∀ r < 3, at1 (a := 3) z r = BitVec.ofNat 32 (vis (P r) 21).length)
    (hO : ∀ u, O u = tileOut (k0_pay20 (tileOf q ((u 2).val / 312))) K V (scaleAt ks (i 0).val (i 1).val) (scaleAt vs (i 0).val (i 1).val)
      (frames (P ((u 2).val / 312 / 5))) (ix4 0 0 ⟨(u 2).val % 312, Nat.mod_lt _ (by decide)⟩ (u 3)))
    (t : Fin k0_t5_loop.trips) (u : Unit) :
    inv5 (F := F) c arg6 arg7 arg8 arg17 arg18 arg19 arg20 arg21 O ks vs q x18 x19 y z t.val u
      ⊢ wp frame (wpE (defs₀ (F := F)) Variants.none c none) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 t u)
          (inv5 (F := F) c arg6 arg7 arg8 arg17 arg18 arg19 arg20 arg21 O ks vs q x18 x19 y z (t.val + 1)) := by
  have ht : t.val < 15 := t.isLt
  unfold inv5 k0_t5_body
  rw [wp_bind]
  iintro ⟨HR, %x, %hx, H17⟩
  iapply (wp_wand_r frame (wpE (defs₀ (F := F)) Variants.none c none) E)
  isplitl [HR]
  · iapply (part4_wp c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 t (P (t.val / 5)) K V ks vs q x18 x19 y z h18 h19
      (hy (t.val / 5) (by omega)) (hz (t.val / 5) (by omega)))
    iexact HR
  iintro %r ⟨%hr, HR⟩
  obtain ⟨r1, r2⟩ := r
  iapply (OwnedMem.load Variants.none (c : Thread nD τ) none E (X := x) rfl) $$ H17
  iintro H17
  iapply (OwnedMem.store Variants.none (c : Thread nD τ) none E (X := x) rfl) $$ H17
  iintro H17
  iapply (OwnedMem.ret Variants.none (c : Thread nD τ) none E rfl)
  iframe HR
  iexists _
  isplitr
  rotate_left
  · iexact H17
  · ipureintro
    simp only at hr
    subst hr
    refine hx.put _ (off27_eq t) _ fun u h1 h2 => ?_
    have e : (u 2).val / 312 = t.val := by omega
    rw [hO u]
    simp only [e]
    rfl

end Cert.AttnIdeal.Body

end
-- ==== Proof.AttnIdeal.Body.lean ====
/-
  The whole body of the kernel at one grid point: from what the blocks, the tables and the scratch hold to the block of
  results, `outBlock`.
-/
module

public import proofs.«01_k».proof.Proof.AttnIdeal.Scan
public import proofs.«01_k».proof.Proof.AttnIdeal.Walk

@[expose] public section

set_option maxRecDepth 16384

noncomputable section

namespace Cert.AttnIdeal.Body

open Cert.AttnIdeal Cert.AttnIdeal.Gen AttnWords AttnBlocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg2 : Memref sig .tc .smem S2 .i32) (harg2 : arg2.IsWhole) (arg3 : Memref sig .tc .smem S2 .i32) (harg3 : arg3.IsWhole) (arg4 : Memref sig .tc .smem S2x21 .i32) (harg4 : arg4.IsWhole) (arg5 : Memref sig .tc .smem S2x3 .i32) (harg5 : arg5.IsWhole) (arg6 : Memref sig .tc .smem S504 .f32) (harg6 : arg6.IsWhole) (arg7 : Memref sig .tc .smem S504 .f32) (harg7 : arg7.IsWhole)
  (arg8 : Memref sig .tc .vmem S1x1x4680x128 .bf16) (harg8 : arg8.IsWhole) (arg9 : Memref sig .tc .vmem S1x1x4680x128 .bf16) (harg9 : arg9.IsWhole) (arg10 : Memref sig .tc .vmem S1x1x4680x128 .bf16) (harg10 : arg10.IsWhole) (arg11 : Memref sig .tc .vmem S1x21x1x1560x128 .fp8e4m3) (harg11 : arg11.IsWhole) (arg12 : Memref sig .tc .vmem S1x21x1x1560x128 .fp8e4m3) (harg12 : arg12.IsWhole) (arg13 : Memref sig .tc .vmem S1024x128 .f32) (harg13 : arg13.IsWhole)
  (arg14 : Memref sig .tc .vmem S1024x128 .f32) (harg14 : arg14.IsWhole) (arg15 : Memref sig .tc .vmem S1560x128 .f32) (harg15 : arg15.IsWhole) (arg16 : Memref sig .tc .vmem S1560x128 .f32) (harg16 : arg16.IsWhole) (arg17 : Memref sig .tc .vmem S1x1x4680x128 .f32) (harg17 : arg17.IsWhole) (arg18 : Memref sig .tc .vmem S24x1560x128 .bf16) (harg18 : arg18.IsWhole) (arg19 : Memref sig .tc .vmem S24x128x1560 .bf16) (harg19 : arg19.IsWhole)
  (arg20 : Memref sig .tc .smem S3x21 .i32) (harg20 : arg20.IsWhole) (arg21 : Memref sig .tc .smem S3 .i32) (harg21 : arg21.IsWhole)

theorem off1_eq : ∀ i : grid0.Coords, k0_off1 i = ![(i 0).val] := by decide +kernel
theorem off2_eq : ∀ i : grid0.Coords, k0_off2 i = ![(i 0).val, 0] := by decide +kernel
theorem off5_eq : ∀ i : grid0.Coords, k0_off5 i = ![(i 0).val, 1] := by decide +kernel
theorem off8_eq : ∀ i : grid0.Coords, k0_off8 i = ![(i 0).val, 2] := by decide +kernel

theorem word1 (x : Vec F S2 .i32) (off : Fin 1 → ℕ) (r : ℕ) (ho : off = ![r]) (inb) (y) :
    x ((Rect.unit (s := S2) off S1.size inb).idx y) = at1 (a := 2) x r := by
  subst ho
  have y0 : (y 0).val < 1 := (y 0).isLt
  refine at1_idx (a := 2) x _ _ ?_
  show r + 1 * (y 0).val = r
  omega

theorem word2 (x : Vec F S2x3 .i32) (off : Fin 2 → ℕ) (r j : ℕ) (ho : off = ![r, j]) (inb) (y) :
    x ((Rect.unit (s := S2x3) off S1x1.size inb).idx y) = at2 (a := 2) (b := 3) x r j := by
  subst ho
  have y0 : (y 0).val < 1 := (y 0).isLt
  have y1 : (y 1).val < 1 := (y 1).isLt
  refine at2_idx (a := 2) (b := 3) x _ _ _ ?_ ?_
  · show r + 1 * (y 0).val = r
    omega
  · show j + 1 * (y 1).val = j
    omega

theorem at1_put (z : Vec F S3 .i32) (l : ℕ) (hl : l < 3) (w : BitVec 32) (r : ℕ) :
    at1 (a := 3) (VecWindow.put (s := S3) z ![l] S1.size (fun _ => w)) r = if r = l then w else at1 (a := 3) z r := by
  unfold at1
  by_cases e : r < 3
  · rw [dif_pos e, dif_pos e]
    unfold VecWindow.put
    by_cases hh : r = l
    · rw [if_pos hh, dif_pos]
      intro a; fin_cases a
      show l ≤ r ∧ r < l + 1; omega
    · rw [if_neg hh, dif_neg]
      intro H
      have a0 : l ≤ r ∧ r < l + 1 := H 0
      omega
  · rw [dif_neg e, dif_neg e, if_neg]; omega

/-- The test of chunk `r` at batch `b`. -/
def test (b : ℕ) (t2 t3 : Vec F S2 .i32) (t4 : Vec F S2x21 .i32) (t5 : Vec F S2x3 .i32) (r : ℕ) : ℕ → Bool :=
  sees (at1 (a := 2) t2 b) (at1 (a := 2) t3 b) (at2 (a := 2) (b := 3) t5 b r) b t4

/-- The lists of the three chunks and their lengths. -/
structure Lists (P : ℕ → ℕ → Bool) (y : Vec F S3x21 .i32) (z : Vec F S3 .i32) : Prop where
  entry : ∀ r < 3, ∀ j (h : j < (vis (P r) 21).length), at2 (a := 3) (b := 21) y r j = BitVec.ofNat 32 (vis (P r) 21)[j]
  count : ∀ r < 3, at1 (a := 3) z r = BitVec.ofNat 32 (vis (P r) 21).length

theorem lists_of (P : ℕ → ℕ → Bool) (y0 y1 y2 y3 : Vec F S3x21 .i32) (z : Vec F S3 .i32) (n0 n1 n2 : BitVec 32)
    (h0 : ListOK 0 (P 0) y0 21 n0 y1) (h1 : ListOK 1 (P 1) y1 21 n1 y2) (h2 : ListOK 2 (P 2) y2 21 n2 y3) :
    Lists P y3 (VecWindow.put (s := S3) (VecWindow.put (s := S3) (VecWindow.put (s := S3) z ![0] S1.size (fun _ => n0)) ![1] S1.size (fun _ => n1))
      ![2] S1.size (fun _ => n2)) := by
  refine ⟨?_, ?_⟩
  · intro r hr j hj
    interval_cases r
    · rw [h2.other 0 j (by decide), h1.other 0 j (by decide)]; exact h0.entry j hj
    · rw [h2.other 1 j (by decide)]; exact h1.entry j hj
    · exact h2.entry j hj
  · intro r hr
    simp only [at1_put _ 2 (by decide), at1_put _ 1 (by decide), at1_put _ 0 (by decide)]
    interval_cases r
    · exact h0.count
    · exact h1.count
    · exact h2.count

/-- The tables of ring starts, valid ring frames and chunk positions, in scalar memory. -/
def tables (t2 t3 : Vec F S2 .i32) (t5 : Vec F S2x3 .i32) : sProp 𝕄 :=
  iprop(owns (c : Thread nD τ) arg2 fullShare.right t2 ∗ owns (c : Thread nD τ) arg3 fullShare.right t3 ∗ owns (c : Thread nD τ) arg5 fullShare.right t5)

set_option maxHeartbeats 4000000 in
theorem part5_wp (t2 t3 : Vec F S2 .i32) (t4 : Vec F S2x21 .i32) (t5 : Vec F S2x3 .i32) (k v : Vec F S1x1x4680x128 .bf16)
    (kc vc : Vec F S1x21x1x1560x128 .fp8e4m3) (tc ts : Vec F S1024x128 .f32) (sc ss : Vec F S1560x128 .f32)
    (hpos : ∀ f < 21, (at2 (a := 2) (b := 21) t4 (i 0).val f).toNat < 1024) (y0 : Vec F S3x21 .i32) (z : Vec F S3 .i32) :
    iprop(tables (F := F) c arg2 arg3 arg5 t2 t3 t5 ∗ inv4 (F := F) c i arg4 arg11 arg12 arg13 arg14 arg15 arg16 arg18 arg19 t4 k v kc vc tc ts sc ss 0 ()
        ∗ owns (c : Thread nD τ) arg20 fullShare y0 ∗ owns (c : Thread nD τ) arg21 fullShare z)
      ⊢ wp frame (wpE (defs₀ (F := F)) Variants.none c none) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(tables (F := F) c arg2 arg3 arg5 t2 t3 t5 ∗ inv4 (F := F) c i arg4 arg11 arg12 arg13 arg14 arg15 arg16 arg18 arg19 t4 k v kc vc tc ts sc ss 21 ()
            ∗ ∃ y z, ⌜Lists (test (i 0).val t2 t3 t4 t5) y z⌝ ∗ owns (c : Thread nD τ) arg20 fullShare y ∗ owns (c : Thread nD τ) arg21 fullShare z)) := by
  rw [k0_part5_eq_skeleton]
  unfold k0_part5_skel tables
  iintro ⟨⟨H2, H3, H5⟩, HI, H20, H21⟩
  iapply (OwnedMem.smem Variants.none (c : Thread nD τ) none E (word1 t2 _ _ (off1_eq i) _)) $$ H2
  iintro H2
  iapply (OwnedMem.smem Variants.none (c : Thread nD τ) none E (word1 t3 _ _ (off1_eq i) _)) $$ H3
  iintro H3
  iapply (OwnedMem.smem Variants.none (c : Thread nD τ) none E (word2 t5 _ _ _ (off2_eq i) _)) $$ H5
  iintro H5
  unfold inv4
  icases HI with ⟨H4, H11, H12, H13, H14, H15, H16, H18, H19⟩
  iapply (OwnedMem.loop Variants.none (c : Thread nD τ) none E
    (inv (F := F) c i arg4 arg20 0 (at1 (a := 2) t2 (i 0).val) (at1 (a := 2) t3 (i 0).val) (at2 (a := 2) (b := 3) t5 (i 0).val 0) t4 y0)
    (trip1 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ t4 y0)) $$ [H4 H20]
  · unfold inv
    iframe H4
    iexists y0
    iframe H20
    ipureintro
    exact ListOK.zero _ _ _
  iintro %n0 HL
  unfold inv
  icases HL with ⟨H4, %y1, %hl0, H20⟩
  iapply (OwnedMem.smemAny Variants.none (c : Thread nD τ) none E) $$ H21
  iintro H21 %_
  iapply (OwnedMem.store Variants.none (c : Thread nD τ) none E rfl) $$ H21
  iintro H21
  iapply (OwnedMem.smem Variants.none (c : Thread nD τ) none E (word2 t5 _ _ _ (off5_eq i) _)) $$ H5
  iintro H5
  iapply (OwnedMem.loop Variants.none (c : Thread nD τ) none E
    (inv (F := F) c i arg4 arg20 1 (at1 (a := 2) t2 (i 0).val) (at1 (a := 2) t3 (i 0).val) (at2 (a := 2) (b := 3) t5 (i 0).val 1) t4 y1)
    (trip2 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ t4 y1)) $$ [H4 H20]
  · unfold inv
    iframe H4
    iexists y1
    iframe H20
    ipureintro
    exact ListOK.zero _ _ _
  iintro %n1 HL
  unfold inv
  icases HL with ⟨H4, %y2, %hl1, H20⟩
  iapply (OwnedMem.smemAny Variants.none (c : Thread nD τ) none E) $$ H21
  iintro H21 %_
  iapply (OwnedMem.store Variants.none (c : Thread nD τ) none E rfl) $$ H21
  iintro H21
  iapply (OwnedMem.smem Variants.none (c : Thread nD τ) none E (word2 t5 _ _ _ (off8_eq i) _)) $$ H5
  iintro H5
  iapply (OwnedMem.loop Variants.none (c : Thread nD τ) none E
    (inv (F := F) c i arg4 arg20 2 (at1 (a := 2) t2 (i 0).val) (at1 (a := 2) t3 (i 0).val) (at2 (a := 2) (b := 3) t5 (i 0).val 2) t4 y2)
    (trip3 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ t4 y2)) $$ [H4 H20]
  · unfold inv
    iframe H4
    iexists y2
    iframe H20
    ipureintro
    exact ListOK.zero _ _ _
  iintro %n2 HL
  unfold inv
  icases HL with ⟨H4, %y3, %hl2, H20⟩
  iapply (OwnedMem.smemAny Variants.none (c : Thread nD τ) none E) $$ H21
  iintro H21 %_
  iapply (OwnedMem.store Variants.none (c : Thread nD τ) none E rfl) $$ H21
  iintro H21
  iapply (OwnedMem.loop Variants.none (c : Thread nD τ) none E
    (inv4 (F := F) c i arg4 arg11 arg12 arg13 arg14 arg15 arg16 arg18 arg19 t4 k v kc vc tc ts sc ss)
    (trip4 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ t4 k v kc vc tc ts sc ss hpos)) $$ [H4 H11 H12 H13 H14 H15 H16 H18 H19]
  · unfold inv4
    iframe H4 H11 H12 H13 H14 H15 H16 H18 H19
  iintro %_ HI
  iapply (OwnedMem.ret Variants.none (c : Thread nD τ) none E rfl)
  unfold inv4
  icases HI with ⟨H4, H11, H12, H13, H14, H15, H16, H18, H19⟩
  isplitl [H2 H3 H5]
  · iframe H2 H3 H5
  isplitl [H4 H11 H12 H13 H14 H15 H16 H18 H19]
  · iframe H4 H11 H12 H13 H14 H15 H16 H18 H19
  iexists y3, _
  isplitr
  rotate_left
  · iframe H20
    iexact H21
  · ipureintro
    exact lists_of (test (i 0).val t2 t3 t4 t5) y0 y1 y2 y3 z n0 n1 n2 hl0 hl1 hl2

theorem ld_chunk (x : Vec F S1x1x4680x128 .bf16) (off : Fin 4 → ℕ) (r : ℕ) (ho : off = ![0, 0, r * 1560, 0]) (hr : r < 3) (inb) :
    View.ld x (Rect.unit (s := S1x1x4680x128) off S1x1x1560x128.size inb) = chunkOf x r := by
  subst ho
  funext y
  have e0 : (y 0).val < 1 := (y 0).isLt
  have e1 : (y 1).val < 1 := (y 1).isLt
  have e2 : (y 2).val < 1560 := (y 2).isLt
  show x _ = x _
  congr 1
  funext d; fin_cases d
  · exact Fin.ext (by show 0 + 1 * (y 0).val = 0; omega)
  · exact Fin.ext (by show 0 + 1 * (y 1).val = 0; omega)
  · exact Fin.ext (by show r * 1560 + 1 * (y 2).val = (r * 1560 + (y 2).val) % 4680; omega)
  · exact Fin.ext (by show 0 + 1 * (y 3).val = (y 3).val; omega)

theorem keyAt_new (k : Vec F S1x1x4680x128 .bf16) (kc : Vec F S1x21x1x1560x128 .fp8e4m3) (tc ts : Vec F S1024x128 .f32)
    (sc ss : Vec F S1560x128 .f32) (p : ℕ → ℕ) (r : ℕ) : keyAt k kc tc ts sc ss p (21 + r) = k0_pay1 (chunkOf k r) := by
  unfold keyAt
  rw [if_neg (by omega), Nat.add_sub_cancel_left]

theorem valAt_new (v : Vec F S1x1x4680x128 .bf16) (vc : Vec F S1x21x1x1560x128 .fp8e4m3) (r : ℕ) :
    valAt v vc (21 + r) = k0_pay2 (chunkOf v r) := by
  unfold valAt
  rw [if_neg (by omega), Nat.add_sub_cancel_left]

set_option maxHeartbeats 4000000 in
/-- The frames of the current block: after the second part all but the last are in the scratch. -/
theorem part6_wp (k v : Vec F S1x1x4680x128 .bf16) (x18 : Vec F S24x1560x128 .bf16) (x19 : Vec F S24x128x1560 .bf16)
    (K : ℕ → FVec F S1x1560x128 .bf16) (V : ℕ → FVec F S1x128x1560 .bf16) (h18 : Filled 21 x18 K) (h19 : Filled 21 x19 V)
    (hK : ∀ r, K (21 + r) = k0_pay1 (chunkOf k r)) (hV : ∀ r, V (21 + r) = k0_pay2 (chunkOf v r)) :
    (iprop(owns (c : Thread nD τ) arg9 fullShare k ∗ owns (c : Thread nD τ) arg10 fullShare v
        ∗ owns (c : Thread nD τ) arg18 fullShare x18 ∗ owns (c : Thread nD τ) arg19 fullShare x19) : sProp 𝕄)
      ⊢ wp frame (wpE (defs₀ (F := F)) Variants.none c none) E (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun r => iprop(⌜r = chunkOf k 2⌝ ∗ owns (c : Thread nD τ) arg9 fullShare k ∗ owns (c : Thread nD τ) arg10 fullShare v
            ∗ (∃ x, ⌜Filled 23 x K⌝ ∗ owns (c : Thread nD τ) arg18 fullShare x) ∗ (∃ x, ⌜Filled 23 x V⌝ ∗ owns (c : Thread nD τ) arg19 fullShare x))) := by
  rw [k0_part6_eq_skeleton]
  unfold k0_part6_skel
  iintro ⟨H9, H10, H18, H19⟩
  iapply (OwnedMem.load Variants.none (c : Thread nD τ) none E (ld_chunk k _ 0 rfl (by decide) _)) $$ H9
  iintro H9
  iapply (OwnedMem.load Variants.none (c : Thread nD τ) none E rfl) $$ H18
  iintro H18
  iapply (OwnedMem.store Variants.none (c : Thread nD τ) none E rfl) $$ H18
  iintro H18
  iapply (OwnedMem.load Variants.none (c : Thread nD τ) none E (ld_chunk v _ 0 rfl (by decide) _)) $$ H10
  iintro H10
  iapply (OwnedMem.load Variants.none (c : Thread nD τ) none E rfl) $$ H19
  iintro H19
  iapply (OwnedMem.store Variants.none (c : Thread nD τ) none E rfl) $$ H19
  iintro H19
  iapply (OwnedMem.load Variants.none (c : Thread nD τ) none E (ld_chunk k _ 1 rfl (by decide) _)) $$ H9
  iintro H9
  iapply (OwnedMem.load Variants.none (c : Thread nD τ) none E rfl) $$ H18
  iintro H18
  iapply (OwnedMem.store Variants.none (c : Thread nD τ) none E rfl) $$ H18
  iintro H18
  iapply (OwnedMem.load Variants.none (c : Thread nD τ) none E (ld_chunk v _ 1 rfl (by decide) _)) $$ H10
  iintro H10
  iapply (OwnedMem.load Variants.none (c : Thread nD τ) none E rfl) $$ H19
  iintro H19
  iapply (OwnedMem.store Variants.none (c : Thread nD τ) none E rfl) $$ H19
  iintro H19
  iapply (OwnedMem.load Variants.none (c : Thread nD τ) none E (ld_chunk k _ 2 rfl (by decide) _)) $$ H9
  iintro H9
  iapply (OwnedMem.ret Variants.none (c : Thread nD τ) none E rfl)
  isplitr; · ipureintro; rfl
  iframe H9 H10
  isplitl [H18]
  · iexists _
    isplitr
    rotate_left
    · iexact H18
    · ipureintro
      exact (h18.put _ rfl _ (hK 0).symm).put _ rfl _ (hK 1).symm
  · iexists _
    isplitr
    rotate_left
    · iexact H19
    · ipureintro
      exact (h19.put _ rfl _ (hV 0).symm).put _ rfl _ (hV 1).symm

set_option maxHeartbeats 4000000 in
/-- The body at a grid point. -/
theorem body_wp (t2 t3 : Vec F S2 .i32) (t4 : Vec F S2x21 .i32) (t5 : Vec F S2x3 .i32) (ks vs : Vec F S504 .f32) (q k v : Vec F S1x1x4680x128 .bf16)
    (kc vc : Vec F S1x21x1x1560x128 .fp8e4m3) (tc ts : Vec F S1024x128 .f32) (sc ss : Vec F S1560x128 .f32)
    (hpos : ∀ f < 21, (at2 (a := 2) (b := 21) t4 (i 0).val f).toNat < 1024) :
    (iprop(owns (c : Thread nD τ) arg2 fullShare.right t2 ∗ owns (c : Thread nD τ) arg3 fullShare.right t3 ∗ owns (c : Thread nD τ) arg4 fullShare.right t4 ∗ owns (c : Thread nD τ) arg5 fullShare.right t5 ∗ owns (c : Thread nD τ) arg6 fullShare ks ∗ owns (c : Thread nD τ) arg7 fullShare vs ∗ owns (c : Thread nD τ) arg8 fullShare q ∗ owns (c : Thread nD τ) arg9 fullShare k ∗ owns (c : Thread nD τ) arg10 fullShare v ∗ owns (c : Thread nD τ) arg11 fullShare kc ∗ owns (c : Thread nD τ) arg12 fullShare vc ∗ owns (c : Thread nD τ) arg13 fullShare tc ∗ owns (c : Thread nD τ) arg14 fullShare ts ∗ owns (c : Thread nD τ) arg15 fullShare sc ∗ owns (c : Thread nD τ) arg16 fullShare ss ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) : sProp 𝕄)
      ⊢ wp frame (wpE (defs₀ (F := F)) Variants.none c none) E (cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(owns (c : Thread nD τ) arg2 fullShare.right t2 ∗ owns (c : Thread nD τ) arg3 fullShare.right t3 ∗ owns (c : Thread nD τ) arg4 fullShare.right t4 ∗ owns (c : Thread nD τ) arg5 fullShare.right t5 ∗ owns (c : Thread nD τ) arg6 fullShare ks ∗ owns (c : Thread nD τ) arg7 fullShare vs ∗ owns (c : Thread nD τ) arg8 fullShare q ∗ owns (c : Thread nD τ) arg9 fullShare k ∗ owns (c : Thread nD τ) arg10 fullShare v ∗ owns (c : Thread nD τ) arg11 fullShare kc ∗ owns (c : Thread nD τ) arg12 fullShare vc ∗ owns (c : Thread nD τ) arg13 fullShare tc ∗ owns (c : Thread nD τ) arg14 fullShare ts ∗ owns (c : Thread nD τ) arg15 fullShare sc ∗ owns (c : Thread nD τ) arg16 fullShare ss ∗ owns (c : Thread nD τ) arg17 fullShare (outBlock (i 0).val (i 1).val t2 t3 t4 t5 ks vs q k v kc vc tc ts sc ss) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d))) := by
  rw [cc0_attn_eq_skeleton]
  unfold cc0_attn_skel
  rw [wp_bind]
  iintro ⟨H2, H3, H4, H5, H6, H7, H8, H9, H10, H11, H12, H13, H14, H15, H16, ⟨%x17, H17⟩, ⟨%x18, H18⟩, ⟨%x19, H19⟩, ⟨%x20, H20⟩, ⟨%x21, H21⟩⟩
  iapply (wp_wand_r frame (wpE (defs₀ (F := F)) Variants.none c none) E)
  isplitl [H2 H3 H4 H5 H11 H12 H13 H14 H15 H16 H18 H19 H20 H21]
  · iapply (part5_wp c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t2 t3 t4 t5 k v kc vc tc ts sc ss hpos x20 x21)
    unfold tables inv4
    isplitl [H2 H3 H5]; · iframe H2 H3 H5
    iframe H20 H21
    iframe H4 H11 H12 H13 H14 H15 H16
    isplitl [H18]
    · iexists x18
      iframe H18
      ipureintro
      exact Filled.zero _ _
    · iexists x19
      iframe H19
      ipureintro
      exact Filled.zero _ _
  iintro %r HP
  unfold tables inv4
  icases HP with ⟨⟨H2, H3, H5⟩, ⟨H4, H11, H12, H13, H14, H15, H16, ⟨%u18, %h18, H18⟩, ⟨%u19, %h19, H19⟩⟩, %y, %z, %hyz, H20, H21⟩
  obtain ⟨a0, a1⟩ := r
  simp only
  rw [wp_bind]
  iapply (wp_wand_r frame (wpE (defs₀ (F := F)) Variants.none c none) E)
  isplitl [H9 H10 H18 H19]
  · iapply (part6_wp c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k v u18 u19 _ _ h18 h19 (keyAt_new k kc tc ts sc ss _) (valAt_new v vc))
    iframe H9 H10 H18 H19
  iintro %r ⟨%hr, H9, H10, ⟨%w18, %h18', H18⟩, ⟨%w19, %h19', H19⟩⟩
  subst hr
  iapply (OwnedMem.load Variants.none (c : Thread nD τ) none E rfl) $$ H18
  iintro H18
  iapply (OwnedMem.store Variants.none (c : Thread nD τ) none E rfl) $$ H18
  iintro H18
  iapply (OwnedMem.load Variants.none (c : Thread nD τ) none E (ld_chunk v _ 2 rfl (by decide) _)) $$ H10
  iintro H10
  iapply (OwnedMem.load Variants.none (c : Thread nD τ) none E rfl) $$ H19
  iintro H19
  iapply (OwnedMem.store Variants.none (c : Thread nD τ) none E rfl) $$ H19
  iintro H19
  have g18 := h18'.put ![23, 0, 0] rfl (k0_pay1 (chunkOf k 2)) (keyAt_new k kc tc ts sc ss (fun f => (at2 (a := 2) (b := 21) t4 (i 0).val f).toNat) 2).symm
  have g19 := h19'.put ![23, 0, 0] rfl (k0_pay2 (chunkOf v 2)) (valAt_new v vc 2).symm
  iapply (OwnedMem.loop Variants.none (c : Thread nD τ) none E
    (inv5 (F := F) c arg6 arg7 arg8 arg17 arg18 arg19 arg20 arg21 (outBlock (i 0).val (i 1).val t2 t3 t4 t5 ks vs q k v kc vc tc ts sc ss) ks vs q _ _ y z)
    (trip5 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (test (i 0).val t2 t3 t4 t5) _ _ _ ks vs q _ _ y z g18 g19 hyz.entry hyz.count (fun u => rfl))) $$ [H6 H7 H8 H17 H18 H19 H20 H21]
  · unfold inv5 reads5
    isplitl [H6 H7 H8 H18 H19 H20 H21]; · iframe H6 H7 H8 H18 H19 H20 H21
    iexists x17
    iframe H17
    ipureintro
    intro u hu
    omega
  iintro %_ HI
  iapply (OwnedMem.ret Variants.none (c : Thread nD τ) none E rfl)
  unfold inv5 reads5
  icases HI with ⟨⟨H6, H7, H8, H18, H19, H20, H21⟩, %o, %ho, H17⟩
  have e : o = outBlock (i 0).val (i 1).val t2 t3 t4 t5 ks vs q k v kc vc tc ts sc ss := by
    funext u
    exact ho u (show (u 2).val < 4680 from (u 2).isLt)
  subst e
  iframe H2 H3 H4 H5 H6 H7 H8 H9 H10 H11 H12 H13 H14 H15 H16 H17
  isplitl [H18]; · iexists _; iexact H18
  isplitl [H19]; · iexists _; iexact H19
  isplitl [H20]; · iexists _; iexact H20
  iexists _; iexact H21

end Cert.AttnIdeal.Body

end
-- ==== Proof.AttnIdeal.Run.lean ====
/-
  The run of the whole call, and its frame.
-/
module

public import proofs.«01_k».proof.Proof.AttnIdeal.Windows
public import proofs.«01_k».proof.Proof.AttnIdeal.Body
public import Idealize.ShloMosaic.Lib.Claim

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

open Cert.AttnIdeal.Body AttnWords
/-- The tables as vectors. -/
abbrev tab0 : Vec F S2 .i32 := tbl m 0
abbrev tab1 : Vec F S2 .i32 := tbl m 1
abbrev tab2 : Vec F S2x21 .i32 := tbl m 2
abbrev tab3 : Vec F S2x3 .i32 := tbl m 3

/-- Every frame position is a row of the table of temporal angles. -/
def PosOk : Prop := ∀ b < 2, ∀ f < 21, (at2 (a := 2) (b := 21) (tab2 m) b f).toNat < 1024

/-- The block of results at point `t`. -/
def outAt (hO : Ok m) (c : Dev nD) (t : Fin (cfgM m hO).N) : Vec F S1x1x4680x128 .f32 :=
  outBlock (grid0.coords t 0).val (grid0.coords t 1).val (tab0 m) (tab1 m) (tab2 m) (tab3 m) (iblk m hO c 0 t) (iblk m hO c 1 t) (iblk m hO c 2 t)
    (iblk m hO c 3 t) (iblk m hO c 4 t) (iblk m hO c 5 t) (iblk m hO c 6 t) (iblk m hO c 7 t) (iblk m hO c 8 t) (iblk m hO c 9 t) (iblk m hO c 10 t)

/-- The proof data of the pipeline on core `c`: the arrays as the region finds them; after the body at point `t` each
    input's buffer at its block and the output's at the block of results. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => outAt m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

/-- The tables' halves as memrefs owned at the tables. -/
theorem PhiT0_owns (c : Dev nD) : (Pipeline.ΦT pre0 (tbl m) c : sProp 𝕄) = iprop(owns (c : Thread nD τ) tbM0_0 fullShare.right (tab0 m)
    ∗ owns (c : Thread nD τ) tbM0_1 fullShare.right (tab1 m) ∗ owns (c : Thread nD τ) tbM0_2 fullShare.right (tab2 m)
    ∗ owns (c : Thread nD τ) tbM0_3 fullShare.right (tab3 m)) := by
  rw [show (owns (c : Thread nD τ) tbM0_0 fullShare.right (tab0 m) : sProp 𝕄) = tbPt0 c tbM0_0 (tbl m 0) from owns_whole (c : Thread nD τ) main_arg7 _ _,
    show (owns (c : Thread nD τ) tbM0_1 fullShare.right (tab1 m) : sProp 𝕄) = tbPt0 c tbM0_1 (tbl m 1) from owns_whole (c : Thread nD τ) main_arg8 _ _,
    show (owns (c : Thread nD τ) tbM0_2 fullShare.right (tab2 m) : sProp 𝕄) = tbPt0 c tbM0_2 (tbl m 2) from owns_whole (c : Thread nD τ) main_arg9 _ _,
    show (owns (c : Thread nD τ) tbM0_3 fullShare.right (tab3 m) : sProp 𝕄) = tbPt0 c tbM0_3 (tbl m 3) from owns_whole (c : Thread nD τ) main_arg10 _ _]
  exact PhiT0_eq m c

set_option maxHeartbeats 1600000 in
/-- The body at any point: the inputs' memrefs hold their blocks; the invariant hands the body its scratch buffers at
    some contents and takes them back at some contents. -/
theorem sound_body (hO : Ok m) (hP : PosOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11]
  rw [show (dats m hO 0 c).Φ t.castSucc = iprop(Pipeline.ΦA spec0 c ∗ Pipeline.ΦT pre0 (tbl m) c) from rfl, PhiT0_owns, PhiA0_eq]
  iintro ⟨⟨⟨⟨HS0, HS1, HS2, HS3⟩, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r frame (wpE (defs₀ (F := F)) Variants.none c none) Set.univ)
  isplitl [HS0 HS1 HS2 HS3 HT0 HT1 HT2 HT3 H0 H1 H2 H3 H4 H5 H6 H7 H8 H9 H10 H11]
  · iapply (body_wp c Set.univ (grid0.coords t) _ _ _ _ _ _ _ _ _ _ _ _ _ _ _ _ _ _ _ _ _ _ _ _ _ _ _ _ _ _ _ _ _ _ _ _ _ _ _ _ (tab0 m) (tab1 m) (tab2 m) (tab3 m)
      (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t)
      (hP _ (grid0.coords t 0).isLt))
    isplitl [HT0]; · iexact HT0
    isplitl [HT1]; · iexact HT1
    isplitl [HT2]; · iexact HT2
    isplitl [HT3]; · iexact HT3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    iexact HS3
  iintro %_ ⟨HT0, HT1, HT2, HT3, H0, H1, H2, H3, H4, H5, H6, H7, H8, H9, H10, H11, HS0, HS1, HS2, HS3⟩
  isplitl [HS0 HS1 HS2 HS3 Hg HT0 HT1 HT2 HT3]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hP : PosOk m) (c : Dev nD) : BodyObligation (dats (F := F) m hO 0 c) (defs₀ (F := F)) Variants.none () Set.univ := fun t => by
  rw [bigSep_W0, bigSep_W0, defs₀_row m hO]
  exact triple_restated (sound_body m hO hP c t) rfl .rfl fun _ => .rfl

/-! ## The run and the frame -/

set_option maxHeartbeats 1600000 in
set_option backward.isDefEq.respectTransparency.types false in
/-- The run: the output array ends at the blocks of results, every input array and every other buffer as the region
    found it, every semaphore counter at zero. -/
theorem run_main_quiescent (hO : Ok m) (hP : PosOk m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO hP c).loose) (hshare := fun c => (dats m hO 0 c).share_full fun _ => rfl)
    (howed := fun _ _ => rfl) (V := V m) (hmain := hmain m Variants.none) (hA := A_eq m hO) (hpf := V_pre m) (hΦ := fun _ _ => rfl)

/-- The argument arrays end unchanged. -/
theorem unchanged (hO : Ok m) (hP : PosOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ hh c => have h := hh.1; ⟨(((h c).1 2).trans (((dats m hO 0 c).arrAt_in 2 rfl _).trans (A_eq m hO c 2))).trans (V_main_arg0 m c),
      (((h c).1 3).trans (((dats m hO 0 c).arrAt_in 3 rfl _).trans (A_eq m hO c 3))).trans (V_main_arg1 m c),
      (((h c).1 4).trans (((dats m hO 0 c).arrAt_in 4 rfl _).trans (A_eq m hO c 4))).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c)⟩) (run_main_quiescent m ρ hO hP)

/-- The frame. -/
theorem frame (hO : Ok m) (hP : PosOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ hO hP) ((θ_run defs _ _).mono (fun _ h => h.2) (run_main_quiescent m ρ hO hP))

end Cert.AttnIdeal.Gen

end
-- ==== Proof.Positions.lean ====
/- The precondition read back: every frame position is a row of the table of rotations. -/
module

public import proofs.«01_k».proof.Defs
public import proofs.«01_k».proof.Proof.Gen.Pre_frame_positions_in_table
public import proofs.«01_k».proof.Proof.Attn.Run
public import proofs.«01_k».proof.Proof.AttnIdeal.Run
public import Idealize.ShloMosaic.Lib.StableHlo.Predicate

@[expose] public section

noncomputable section

namespace Cert.Positions

open Idealize.ShloMosaic Idealize.ShloMosaic.TcCoe Idealize.ShloMosaic.ValueIdx
open Idealize.SL Idealize.SL.Sem
open AttnWords

/-- A word that compares, as a signed number, at least 0 and below 1024 is below 1024 as a natural number. -/
theorem lt_of_bits (w : BitVec 32) (h : IntOp.cmpi .sge w 0#32 &&& IntOp.cmpi .slt w 1024#32 = 1#1) : w.toNat < 1024 := by
  have hb : ∀ a b : BitVec 1, a &&& b = 1#1 → a = 1#1 ∧ b = 1#1 := by decide
  obtain ⟨h0, h1⟩ := hb _ _ h
  replace h0 : (0#32).sle w = true := (StableHlo.Predicate.ofBool_eq_one_iff _).mp h0
  replace h1 : w.slt 1024#32 = true := (StableHlo.Predicate.ofBool_eq_one_iff _).mp h1
  simp only [BitVec.sle, BitVec.slt, decide_eq_true_eq] at h0 h1
  have := BitVec.toInt_eq_toNat_cond (x := w)
  have e0 : (0#32 : BitVec 32).toInt = 0 := by decide
  have e1 : (1024#32 : BitVec 32).toInt = 1024 := by decide
  split at this <;> omega

variable {F : FTy → Type} [FloatOps F]

open Cert.Pre_frame_positions_in_table in
/-- The predicate, all ones, bounds every word of the table of frame positions. -/
theorem positions {a0 a1 a2 : FVec F S2x12x4680x128 .bf16} {a3 a4 : FVec F S2x21x1560x12x128 .fp8e4m3}
    {a5 a6 : FVec F S2x21x12 .f32} {a7 a8 : IVec S2 32} {a9 : IVec S2x21 32} {a10 : IVec S2x3 32}
    {a11 a12 : FVec F S1024x22 .f32} {a13 a14 : FVec F S1560x42 .f32}
    (e : Cert.Pre_frame_positions_in_table.fn (F := F) a0 a1 a2 a3 a4 a5 a6 a7 a8 a9 a10 a11 a12 a13 a14 = fun _ => 1#1)
    (x : IVec S2x21 32) (hx : x = a9) :
    ∀ b < 2, ∀ f < 21, (at2 (a := 2) (b := 21) x b f).toNat < 1024 := by
  subst hx
  intro b hb f hf
  have e := congrFun e (ix2 ⟨b, hb⟩ ⟨f, hf⟩)
  unfold at2
  rw [dif_pos ⟨hb, hf⟩]
  exact lt_of_bits _ e

/-- Every frame position of `Attn`'s table is a row of the table of rotations. -/
theorem posOk_Attn (m : (ℓ : Loc Cert.Attn.nD Cert.Attn.τ Cert.Attn.sig) → Buf (Elt Bits) ℓ) (h : Cert.Pre_Attn m) :
    Cert.Attn.Gen.PosOk m := by
  have e := h 0
  refine positions (F := Bits) e _ ?_
  exact Cert.Attn.Gen.V_main_arg9 m 0

/-- Every frame position of `AttnIdeal`'s table is a row of the table of rotations. -/
theorem posOk_AttnIdeal (m : (ℓ : Loc Cert.AttnIdeal.nD Cert.AttnIdeal.τ Cert.AttnIdeal.sig) → Buf (Elt Ideal) ℓ) (h : Cert.Pre_AttnIdeal m) :
    Cert.AttnIdeal.Gen.PosOk m := by
  have e := h 0
  refine positions (F := Ideal) e _ ?_
  exact Cert.AttnIdeal.Gen.V_main_arg9 m 0

end Cert.Positions

end
-- ==== Proof.AttnIdeal.Blocks.lean ====
/-
  What the windows' blocks hold at a grid point, at an index.
-/
module

public import proofs.«01_k».proof.Proof.AttnIdeal.Run
public import Idealize.ShloMosaic.Lib.Pointwise
public import Idealize.ShloMosaic.Lib.Pipeline.ValueKit

@[expose] public section

set_option maxRecDepth 16384

noncomputable section

namespace Cert.AttnIdeal.Gen

open Cert.AttnIdeal Cert.AttnIdeal.Gen
open Idealize.ShloMosaic Idealize.ShloMosaic.TcCoe
open Idealize.SL Idealize.SL.Sem

variable {F : FTy → Type} [FloatOps F]
variable (m : (ℓ : Loc nD τ sig) → Buf (Elt F) ℓ) (hO : Ok m) (c : Dev nD) (t : Fin (cfgM m hO).N)

theorem index0 : (pcfg0.win (adm m hO) 0).index t = ![0] :=
  (by decide +kernel : ∀ t : Fin grid0.N, cc0_transform_0 (grid0.coords t) = ![0]) t

theorem index1 : (pcfg0.win (adm m hO) 1).index t = ![0] :=
  (by decide +kernel : ∀ t : Fin grid0.N, cc0_transform_1 (grid0.coords t) = ![0]) t

theorem index2 : (pcfg0.win (adm m hO) 2).index t = ![(grid0.coords t 0).val, (grid0.coords t 1).val, 0, 0] :=
  (by decide +kernel : ∀ t : Fin grid0.N, cc0_transform_2 (grid0.coords t) = ![(grid0.coords t 0).val, (grid0.coords t 1).val, 0, 0]) t

theorem index3 : (pcfg0.win (adm m hO) 3).index t = ![(grid0.coords t 0).val, (grid0.coords t 1).val, 0, 0] :=
  (by decide +kernel : ∀ t : Fin grid0.N, cc0_transform_3 (grid0.coords t) = ![(grid0.coords t 0).val, (grid0.coords t 1).val, 0, 0]) t

theorem index4 : (pcfg0.win (adm m hO) 4).index t = ![(grid0.coords t 0).val, (grid0.coords t 1).val, 0, 0] :=
  (by decide +kernel : ∀ t : Fin grid0.N, cc0_transform_4 (grid0.coords t) = ![(grid0.coords t 0).val, (grid0.coords t 1).val, 0, 0]) t

theorem index5 : (pcfg0.win (adm m hO) 5).index t = ![(grid0.coords t 0).val, 0, (grid0.coords t 1).val, 0, 0] :=
  (by decide +kernel : ∀ t : Fin grid0.N, cc0_transform_5 (grid0.coords t) = ![(grid0.coords t 0).val, 0, (grid0.coords t 1).val, 0, 0]) t

theorem index6 : (pcfg0.win (adm m hO) 6).index t = ![(grid0.coords t 0).val, 0, (grid0.coords t 1).val, 0, 0] :=
  (by decide +kernel : ∀ t : Fin grid0.N, cc0_transform_6 (grid0.coords t) = ![(grid0.coords t 0).val, 0, (grid0.coords t 1).val, 0, 0]) t

theorem index7 : (pcfg0.win (adm m hO) 7).index t = ![0, 0] :=
  (by decide +kernel : ∀ t : Fin grid0.N, cc0_transform_7 (grid0.coords t) = ![0, 0]) t

theorem index8 : (pcfg0.win (adm m hO) 8).index t = ![0, 0] :=
  (by decide +kernel : ∀ t : Fin grid0.N, cc0_transform_8 (grid0.coords t) = ![0, 0]) t

theorem index9 : (pcfg0.win (adm m hO) 9).index t = ![0, 0] :=
  (by decide +kernel : ∀ t : Fin grid0.N, cc0_transform_9 (grid0.coords t) = ![0, 0]) t

theorem index10 : (pcfg0.win (adm m hO) 10).index t = ![0, 0] :=
  (by decide +kernel : ∀ t : Fin grid0.N, cc0_transform_10 (grid0.coords t) = ![0, 0]) t

theorem index11 : (pcfg0.win (adm m hO) 11).index t = ![(grid0.coords t 0).val, (grid0.coords t 1).val, 0, 0] :=
  (by decide +kernel : ∀ t : Fin grid0.N, cc0_transform_11 (grid0.coords t) = ![(grid0.coords t 0).val, (grid0.coords t 1).val, 0, 0]) t

theorem iblk0_at (i : Fin 504) : iblk m hO c 0 t (ix1 i) = V m c main_v32 (ix1 i) := by
  blk_ext [iblk]
  all_goals rw [index0]; simp

theorem iblk1_at (i : Fin 504) : iblk m hO c 1 t (ix1 i) = V m c main_v33 (ix1 i) := by
  blk_ext [iblk]
  all_goals rw [index1]; simp

theorem iblk2_at (s : Fin 4680) (d : Fin 128) :
    iblk m hO c 2 t (ix4 0 0 s d) = V m c main_arg0 (ix4 (grid0.coords t 0) (grid0.coords t 1) s d) := by
  blk_ext [iblk]
  all_goals rw [index2]; simp

theorem iblk3_at (s : Fin 4680) (d : Fin 128) :
    iblk m hO c 3 t (ix4 0 0 s d) = V m c main_arg1 (ix4 (grid0.coords t 0) (grid0.coords t 1) s d) := by
  blk_ext [iblk]
  all_goals rw [index3]; simp

theorem iblk4_at (s : Fin 4680) (d : Fin 128) :
    iblk m hO c 4 t (ix4 0 0 s d) = V m c main_arg2 (ix4 (grid0.coords t 0) (grid0.coords t 1) s d) := by
  blk_ext [iblk]
  all_goals rw [index4]; simp

theorem iblk5_at (r : Fin 21) (n : Fin 1560) (d : Fin 128) :
    iblk m hO c 5 t (ix5 0 r 0 n d) = V m c main_v30 (ix5 (grid0.coords t 0) r (grid0.coords t 1) n d) := by
  blk_ext [iblk]
  all_goals rw [index5]; simp

theorem iblk6_at (r : Fin 21) (n : Fin 1560) (d : Fin 128) :
    iblk m hO c 6 t (ix5 0 r 0 n d) = V m c main_v31 (ix5 (grid0.coords t 0) r (grid0.coords t 1) n d) := by
  blk_ext [iblk]
  all_goals rw [index6]; simp

theorem iblk7_at (p : Fin 1024) (d : Fin 128) : iblk m hO c 7 t (ix2 p d) = V m c main_v2 (ix2 p d) := by
  blk_ext [iblk]
  all_goals rw [index7]; simp

theorem iblk8_at (p : Fin 1024) (d : Fin 128) : iblk m hO c 8 t (ix2 p d) = V m c main_v17 (ix2 p d) := by
  blk_ext [iblk]
  all_goals rw [index8]; simp

theorem iblk9_at (p : Fin 1560) (d : Fin 128) : iblk m hO c 9 t (ix2 p d) = V m c main_v5 (ix2 p d) := by
  blk_ext [iblk]
  all_goals rw [index9]; simp

theorem iblk10_at (p : Fin 1560) (d : Fin 128) : iblk m hO c 10 t (ix2 p d) = V m c main_v29 (ix2 p d) := by
  blk_ext [iblk]
  all_goals rw [index10]; simp

end Cert.AttnIdeal.Gen

end
-- ==== Proof.AttnIdeal.Out.lean ====
/-
  What the result array holds after the run: at batch `b` and head `h`, the block of that grid point.
-/
module

public import proofs.«01_k».proof.Proof.AttnIdeal.Blocks
public import Idealize.ShloMosaic.Lib.Pipeline.Covers

@[expose] public section

set_option maxRecDepth 16384

noncomputable section

namespace Cert.AttnIdeal.Gen

open Cert.AttnIdeal Cert.AttnIdeal.Gen
open Idealize.ShloMosaic Idealize.ShloMosaic.TcCoe
open Idealize.SL Idealize.SL.Sem

variable {F : FTy → Type} [FloatOps F]
variable (m : (ℓ : Loc nD τ sig) → Buf (Elt F) ℓ) (hO : Ok m) (c : Dev nD)

/-- The grid point of a batch and a head. -/
def point (b : Fin 2) (h : Fin 12) : Fin grid0.N := ⟨b.val * 12 + h.val, show b.val * 12 + h.val < 24 by omega⟩

theorem coords_point0 (b : Fin 2) (h : Fin 12) : grid0.coords (point b h) 0 = b :=
  Fin.ext ((by decide +kernel : ∀ (b : Fin 2) (h : Fin 12), (grid0.coords (point b h) 0).val = b.val) b h)
theorem coords_point1 (b : Fin 2) (h : Fin 12) : grid0.coords (point b h) 1 = h :=
  Fin.ext ((by decide +kernel : ∀ (b : Fin 2) (h : Fin 12), (grid0.coords (point b h) 1).val = h.val) b h)
theorem point_coords : ∀ t : Fin grid0.N, point (grid0.coords t 0) (grid0.coords t 1) = t := by decide +kernel

/-- The result array. -/
def outArr : Vec F S2x12x4680x128 .f32 := fun i => outAt m hO c (point (i 0) (i 1)) (ix4 0 0 (i 2) (i 3))

/-- A grid point's batch and head. -/
def batch (t : Fin grid0.N) : Fin 2 := grid0.coords t 0
def head (t : Fin grid0.N) : Fin 12 := grid0.coords t 1

theorem batch_point (b : Fin 2) (h : Fin 12) : batch (point b h) = b := coords_point0 b h
theorem head_point (b : Fin 2) (h : Fin 12) : head (point b h) = h := coords_point1 b h
theorem point_batch (t : Fin grid0.N) : point (batch t) (head t) = t := point_coords t

/-- Where the output block of a grid point lies in the array. -/
theorem emb11 (t : Fin (cfgM m hO).N) (y : S1x1x4680x128.Idx) :
    (((cfgM m hO).win 11).blk t).view.emb y = (ix4 (batch t) (head t) (y 2) (y 3) : S2x12x4680x128.Idx) := by
  have h0 : (y 0).val = 0 := Nat.lt_one_iff.mp (y 0).isLt
  have h1 : (y 1).val = 0 := Nat.lt_one_iff.mp (y 1).isLt
  have hi := index11 m hO t
  funext a
  refine Fin.ext ?_
  refine (Pipeline.Window.rect_emb_val ((cfgM m hO).win 11) t y a).trans ?_
  refine (congrArg (fun f : Fin 4 → ℕ => f a * S1x1x4680x128.size a + (y a).val) hi).trans ?_
  clear hi
  change Fin 4 at a
  fin_cases a
  · show (grid0.coords t 0).val * 1 + (y 0).val = (grid0.coords t 0).val
    omega
  · show (grid0.coords t 1).val * 1 + (y 1).val = (grid0.coords t 1).val
    omega
  · show 0 * 4680 + (y 2).val = (y 2).val
    omega
  · show 0 * 128 + (y 3).val = (y 3).val
    omega

theorem block_index (y : S1x1x4680x128.Idx) : (ix4 0 0 (y 2) (y 3) : S1x1x4680x128.Idx) = y := by
  have h0 : (y 0).val = 0 := Nat.lt_one_iff.mp (y 0).isLt
  have h1 : (y 1).val = 0 := Nat.lt_one_iff.mp (y 1).isLt
  funext a
  change Fin 4 at a
  fin_cases a
  · exact Fin.ext h0.symm
  · exact Fin.ext h1.symm
  · rfl
  · rfl

theorem array_index (i : S2x12x4680x128.Idx) : (ix4 (i 0) (i 1) (i 2) (i 3) : S2x12x4680x128.Idx) = i := by
  funext a
  change Fin 4 at a
  fin_cases a <;> rfl

theorem outArr_at (b : Fin 2) (h : Fin 12) (s : Fin 4680) (d : Fin 128) :
    outArr m hO c (ix4 b h s d) = outAt m hO c (point b h) (ix4 0 0 s d) := rfl

theorem outAt_eq (t : Fin (cfgM m hO).N) (y : S1x1x4680x128.Idx) :
    outAt m hO c t y = outArr m hO c (ix4 (batch t) (head t) (y 2) (y 3)) :=
  (congrArg (outAt m hO c t) (block_index y)).symm.trans
    ((congrArg (fun p => outAt m hO c p (ix4 0 0 (y 2) (y 3))) (point_batch t).symm).trans (outArr_at m hO c (batch t) (head t) (y 2) (y 3)).symm)

theorem emb_point (b : Fin 2) (h : Fin 12) (s : Fin 4680) (d : Fin 128) :
    (((cfgM m hO).win 11).blk (point b h)).view.emb (ix4 0 0 s d : S1x1x4680x128.Idx) = (ix4 b h s d : S2x12x4680x128.Idx) :=
  (emb11 m hO (point b h) (ix4 0 0 s d)).trans
    (congrArg₂ (fun (x : Fin 2) (z : Fin 12) => (ix4 x z s d : S2x12x4680x128.Idx)) (batch_point b h) (head_point b h))

theorem mem11 (i : S2x12x4680x128.Idx) :
    ∃ t : Fin (cfgM m hO).N, ((cfgM m hO).win 11).flush t = true ∧ i ∈ (((cfgM m hO).win 11).blk t).view.set := by
  refine ⟨point (i 0) (i 1), flush0_11 _ _, ?_⟩
  have h := View.emb_mem_set (((cfgM m hO).win 11).blk (point (i 0) (i 1))).view (ix4 0 0 (i 2) (i 3) : S1x1x4680x128.Idx)
  have e := (emb_point m hO (i 0) (i 1) (i 2) (i 3)).trans (array_index i)
  rw [e] at h
  exact h

theorem arr11 : (dats m hO 0 c).arrAt 11 (cfgM m hO).N = outArr m hO c := by
  refine (dats m hO 0 c).arrAt_eq_of_emb 11 (outArr m hO c) (fun t hf y => ?_) (mem11 m hO)
  blk_simp
  rw [after0_11]
  exact (outAt_eq m hO c t y).trans (congrArg (outArr m hO c) (emb11 m hO t y).symm)

end Cert.AttnIdeal.Gen

end
-- ==== Proof.AttnIdeal.Prefix.lean ====
/-
  The arrays the call gets, as functions of the arguments: what the host operations before it leave.
-/
module

public import proofs.«01_k».proof.Proof.AttnIdeal.Windows
public import Idealize.ShloMosaic.Lib.StableHlo.Run

@[expose] public section

set_option maxRecDepth 16384
set_option maxHeartbeats 4000000

noncomputable section

namespace Cert.AttnIdeal.Host

open Cert.AttnIdeal Cert.AttnIdeal.Gen
open Idealize.ShloMosaic Idealize.ShloMosaic.TcCoe Idealize.ShloMosaic.StableHlo
open Idealize.SL Idealize.SL.Sem

variable {F : FTy → Type} [FloatOps F]

/-- Operations 0 to 4 of the host program. -/
def preA : List (HloOp τ sig (Elt F)) :=
  [StableHlo.unary main_arg11 main_v0 (broadcastInDim S1024x22x2 ![0, 1] bcast_S1024x22_S1024x22x2_0_1 : (⟨S1024x22, .f32⟩ : BufTy).Contents (Elt F) → (⟨S1024x22x2, .f32⟩ : BufTy).Contents (Elt F)),
     StableHlo.reshape main_v0 main_v1 (rfl : (.f32 : EltTy) = .f32) shapeCasts_S1024x22x2_S1024x44,
     StableHlo.nullary main_c (constantI S_ 32 0#32),
     StableHlo.TRef.unary (.of main_c : StableHlo.TRef sig ⟨S_, .i32⟩) (.of main_call0_v0 : StableHlo.TRef sig ⟨S_, .f32⟩) (sitofp .f32),
     StableHlo.TRef.binary (.of main_v1 : StableHlo.TRef sig ⟨S1024x44, .f32⟩) (.of main_call0_v0 : StableHlo.TRef sig ⟨S_, .f32⟩) (.of main_v2 : StableHlo.TRef sig ⟨S1024x128, .f32⟩) (fun x v => pad S1024x128 ![0, 0] ![0, 84] ![0, 0] x v pads_S1024x44_S1024x128_000_0840 h_S_) ]
/-- What they write. -/
abbrev preA_W : List (Ref sig .tc) := [main_v0, main_v1, main_c, main_call0_v0, main_v2]
theorem preA_writes : (preA : List (HloOp τ sig (Elt F))).Forall fun op => op.writes ⊆ (preA_W.map (Proc.devRef (τ := τ) .tc)).toFinset :=
  StableHlo.forall_writes_sub_of_map rfl

/-- Operations 5 to 9 of the host program. -/
def preB : List (HloOp τ sig (Elt F)) :=
  [StableHlo.unary main_arg13 main_v3 (broadcastInDim S1560x42x2 ![0, 1] bcast_S1560x42_S1560x42x2_0_1 : (⟨S1560x42, .f32⟩ : BufTy).Contents (Elt F) → (⟨S1560x42x2, .f32⟩ : BufTy).Contents (Elt F)),
     StableHlo.reshape main_v3 main_v4 (rfl : (.f32 : EltTy) = .f32) shapeCasts_S1560x42x2_S1560x84,
     StableHlo.nullary main_c_0 (constantI S_ 32 0#32),
     StableHlo.TRef.unary (.of main_c_0 : StableHlo.TRef sig ⟨S_, .i32⟩) (.of main_call1_v0 : StableHlo.TRef sig ⟨S_, .f32⟩) (sitofp .f32),
     StableHlo.TRef.binary (.of main_v4 : StableHlo.TRef sig ⟨S1560x84, .f32⟩) (.of main_call1_v0 : StableHlo.TRef sig ⟨S_, .f32⟩) (.of main_v5 : StableHlo.TRef sig ⟨S1560x128, .f32⟩) (fun x v => pad S1560x128 ![0, 44] ![0, 0] ![0, 0] x v pads_S1560x84_S1560x128_000_4400 h_S_) ]
/-- What they write. -/
abbrev preB_W : List (Ref sig .tc) := [main_v3, main_v4, main_c_0, main_call1_v0, main_v5]
theorem preB_writes : (preB : List (HloOp τ sig (Elt F))).Forall fun op => op.writes ⊆ (preB_W.map (Proc.devRef (τ := τ) .tc)).toFinset :=
  StableHlo.forall_writes_sub_of_map rfl

/-- Operations 10 to 34 of the host program. -/
def preC : List (HloOp τ sig (Elt F)) :=
  [StableHlo.unary main_arg12 main_v6 (broadcastInDim S1024x22x2 ![0, 1] bcast_S1024x22_S1024x22x2_0_1 : (⟨S1024x22, .f32⟩ : BufTy).Contents (Elt F) → (⟨S1024x22x2, .f32⟩ : BufTy).Contents (Elt F)),
     StableHlo.reshape main_v6 main_v7 (rfl : (.f32 : EltTy) = .f32) shapeCasts_S1024x22x2_S1024x44,
     StableHlo.nullary main_v8 (iotaInDim S44 32 0),
     StableHlo.nullary main_c_1 (constantI S_ 32 2#32),
     StableHlo.TRef.unary (.of main_c_1 : StableHlo.TRef sig ⟨S_, .i32⟩) (.of main_call2_v0 : StableHlo.TRef sig ⟨S_, .i32⟩) id,
     StableHlo.TRef.nullary (.of main_call2_c : StableHlo.TRef sig ⟨S_, .i32⟩) (constantI S_ 32 0#32),
     StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
     StableHlo.TRef.nullary (.of main_call2_c_0 : StableHlo.TRef sig ⟨S_, .i32⟩) (constantI S_ 32 1#32),
     StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
     StableHlo.TRef.unary (.of main_call2_v2 : StableHlo.TRef sig ⟨S_, .i32⟩) (.of main_call2_v3 : StableHlo.TRef sig ⟨S44, .i32⟩) (broadcastInDim S44 ![] bcast_S_S44),
     StableHlo.TRef.binary (.of main_v8 : StableHlo.TRef sig ⟨S44, .i32⟩) (.of main_call2_v3 : StableHlo.TRef sig ⟨S44, .i32⟩) (.of main_call2_v4 : StableHlo.TRef sig ⟨S44, .i32⟩) Host.remsi,
     StableHlo.TRef.nullary (.of main_call2_c_1 : StableHlo.TRef sig ⟨S_, .i32⟩) (constantI S_ 32 0#32),
     StableHlo.TRef.unary (.of main_call2_c_1 : StableHlo.TRef sig ⟨S_, .i32⟩) (.of main_call2_v5 : StableHlo.TRef sig ⟨S44, .i32⟩) (broadcastInDim S44 ![] bcast_S_S44),
     StableHlo.TRef.binary (.of main_call2_v4 : StableHlo.TRef sig ⟨S44, .i32⟩) (.of main_call2_v5 : StableHlo.TRef sig ⟨S44, .i32⟩) (.of main_call2_v6 : StableHlo.TRef sig ⟨S44, .i1⟩) (cmpi .ne),
     StableHlo.TRef.nullary (.of main_call2_c_2 : StableHlo.TRef sig ⟨S_, .i32⟩) (constantI S_ 32 0#32),
     StableHlo.TRef.unary (.of main_call2_c_2 : StableHlo.TRef sig ⟨S_, .i32⟩) (.of main_call2_v7 : StableHlo.TRef sig ⟨S44, .i32⟩) (broadcastInDim S44 ![] bcast_S_S44),
     StableHlo.TRef.binary (.of main_call2_v4 : StableHlo.TRef sig ⟨S44, .i32⟩) (.of main_call2_v7 : StableHlo.TRef sig ⟨S44, .i32⟩) (.of main_call2_v8 : StableHlo.TRef sig ⟨S44, .i1⟩) (cmpi .slt),
     StableHlo.TRef.nullary (.of main_call2_c_3 : StableHlo.TRef sig ⟨S_, .i32⟩) (constantI S_ 32 0#32),
     StableHlo.TRef.binary (.of main_call2_v2 : StableHlo.TRef sig ⟨S_, .i32⟩) (.of main_call2_c_3 : StableHlo.TRef sig ⟨S_, .i32⟩) (.of main_call2_v9 : StableHlo.TRef sig ⟨S_, .i1⟩) (cmpi .slt),
     StableHlo.TRef.unary (.of main_call2_v9 : StableHlo.TRef sig ⟨S_, .i1⟩) (.of main_call2_v10 : StableHlo.TRef sig ⟨S44, .i1⟩) (broadcastInDim S44 ![] bcast_S_S44),
     StableHlo.TRef.binary (.of main_call2_v8 : StableHlo.TRef sig ⟨S44, .i1⟩) (.of main_call2_v10 : StableHlo.TRef sig ⟨S44, .i1⟩) (.of main_call2_v11 : StableHlo.TRef sig ⟨S44, .i1⟩) (cmpi .ne),
     StableHlo.TRef.binary (.of main_call2_v11 : StableHlo.TRef sig ⟨S44, .i1⟩) (.of main_call2_v6 : StableHlo.TRef sig ⟨S44, .i1⟩) (.of main_call2_v12 : StableHlo.TRef sig ⟨S44, .i1⟩) andi,
     StableHlo.TRef.unary (.of main_call2_v2 : StableHlo.TRef sig ⟨S_, .i32⟩) (.of main_call2_v13 : StableHlo.TRef sig ⟨S44, .i32⟩) (broadcastInDim S44 ![] bcast_S_S44),
     StableHlo.TRef.binary (.of main_call2_v4 : StableHlo.TRef sig ⟨S44, .i32⟩) (.of main_call2_v13 : StableHlo.TRef sig ⟨S44, .i32⟩) (.of main_call2_v14 : StableHlo.TRef sig ⟨S44, .i32⟩) addi,
     StableHlo.TRef.ternary (.of main_call2_v12 : StableHlo.TRef sig ⟨S44, .i1⟩) (.of main_call2_v14 : StableHlo.TRef sig ⟨S44, .i32⟩) (.of main_call2_v4 : StableHlo.TRef sig ⟨S44, .i32⟩) (.of main_v9 : StableHlo.TRef sig ⟨S44, .i32⟩) select ]
/-- What they write. -/
abbrev preC_W : List (Ref sig .tc) := [main_v6, main_v7, main_v8, main_c_1, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v9]
theorem preC_writes : (preC : List (HloOp τ sig (Elt F))).Forall fun op => op.writes ⊆ (preC_W.map (Proc.devRef (τ := τ) .tc)).toFinset :=
  StableHlo.forall_writes_sub_of_map rfl

/-- Operations 35 to 49 of the host program. -/
def preD : List (HloOp τ sig (Elt F)) :=
  [StableHlo.nullary main_c_2 (constantI S_ 32 0#32),
     StableHlo.unary main_c_2 main_v10 (broadcastInDim S44 ![] bcast_S_S44 : (⟨S_, .i32⟩ : BufTy).Contents (Elt F) → (⟨S44, .i32⟩ : BufTy).Contents (Elt F)),
     StableHlo.binary main_v9 main_v10 main_v11 (cmpi .eq : (⟨S44, .i32⟩ : BufTy).Contents (Elt F) → (⟨S44, .i32⟩ : BufTy).Contents (Elt F) → (⟨S44, .i1⟩ : BufTy).Contents (Elt F)),
     StableHlo.nullary main_cst (constant S_ .f32 0xBF800000#32),
     StableHlo.nullary main_cst_3 (constant S_ .f32 0x3F800000#32),
     StableHlo.TRef.unary (.of main_cst : StableHlo.TRef sig ⟨S_, .f32⟩) (.of main_call3_v0 : StableHlo.TRef sig ⟨S44, .f32⟩) (broadcastInDim S44 ![] bcast_S_S44),
     StableHlo.TRef.unary (.of main_cst_3 : StableHlo.TRef sig ⟨S_, .f32⟩) (.of main_call3_v1 : StableHlo.TRef sig ⟨S44, .f32⟩) (broadcastInDim S44 ![] bcast_S_S44),
     StableHlo.TRef.ternary (.of main_v11 : StableHlo.TRef sig ⟨S44, .i1⟩) (.of main_call3_v0 : StableHlo.TRef sig ⟨S44, .f32⟩) (.of main_call3_v1 : StableHlo.TRef sig ⟨S44, .f32⟩) (.of main_v12 : StableHlo.TRef sig ⟨S44, .f32⟩) select,
     StableHlo.unary main_v12 main_v13 (id : (⟨S44, .f32⟩ : BufTy).Contents (Elt F) → (⟨S44, .f32⟩ : BufTy).Contents (Elt F)),
     StableHlo.unary main_v13 main_v14 (broadcastInDim S1x44 ![1] bcast_S44_S1x44_1 : (⟨S44, .f32⟩ : BufTy).Contents (Elt F) → (⟨S1x44, .f32⟩ : BufTy).Contents (Elt F)),
     StableHlo.unary main_v14 main_v15 (broadcastInDim S1024x44 ![0, 1] bcast_S1x44_S1024x44_0_1 : (⟨S1x44, .f32⟩ : BufTy).Contents (Elt F) → (⟨S1024x44, .f32⟩ : BufTy).Contents (Elt F)),
     StableHlo.binary main_v7 main_v15 main_v16 (mulf : (⟨S1024x44, .f32⟩ : BufTy).Contents (Elt F) → (⟨S1024x44, .f32⟩ : BufTy).Contents (Elt F) → (⟨S1024x44, .f32⟩ : BufTy).Contents (Elt F)),
     StableHlo.nullary main_c_4 (constantI S_ 32 0#32),
     StableHlo.TRef.unary (.of main_c_4 : StableHlo.TRef sig ⟨S_, .i32⟩) (.of main_call4_v0 : StableHlo.TRef sig ⟨S_, .f32⟩) (sitofp .f32),
     StableHlo.TRef.binary (.of main_v16 : StableHlo.TRef sig ⟨S1024x44, .f32⟩) (.of main_call4_v0 : StableHlo.TRef sig ⟨S_, .f32⟩) (.of main_v17 : StableHlo.TRef sig ⟨S1024x128, .f32⟩) (fun x v => pad S1024x128 ![0, 0] ![0, 84] ![0, 0] x v pads_S1024x44_S1024x128_000_0840 h_S_) ]
/-- What they write. -/
abbrev preD_W : List (Ref sig .tc) := [main_c_2, main_v10, main_v11, main_cst, main_cst_3, main_call3_v0, main_call3_v1, main_v12, main_v13, main_v14, main_v15, main_v16, main_c_4, main_call4_v0, main_v17]
theorem preD_writes : (preD : List (HloOp τ sig (Elt F))).Forall fun op => op.writes ⊆ (preD_W.map (Proc.devRef (τ := τ) .tc)).toFinset :=
  StableHlo.forall_writes_sub_of_map rfl

/-- Operations 50 to 74 of the host program. -/
def preE : List (HloOp τ sig (Elt F)) :=
  [StableHlo.unary main_arg14 main_v18 (broadcastInDim S1560x42x2 ![0, 1] bcast_S1560x42_S1560x42x2_0_1 : (⟨S1560x42, .f32⟩ : BufTy).Contents (Elt F) → (⟨S1560x42x2, .f32⟩ : BufTy).Contents (Elt F)),
     StableHlo.reshape main_v18 main_v19 (rfl : (.f32 : EltTy) = .f32) shapeCasts_S1560x42x2_S1560x84,
     StableHlo.nullary main_v20 (iotaInDim S84 32 0),
     StableHlo.nullary main_c_5 (constantI S_ 32 2#32),
     StableHlo.TRef.unary (.of main_c_5 : StableHlo.TRef sig ⟨S_, .i32⟩) (.of main_call5_v0 : StableHlo.TRef sig ⟨S_, .i32⟩) id,
     StableHlo.TRef.nullary (.of main_call5_c : StableHlo.TRef sig ⟨S_, .i32⟩) (constantI S_ 32 0#32),
     StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
     StableHlo.TRef.nullary (.of main_call5_c_0 : StableHlo.TRef sig ⟨S_, .i32⟩) (constantI S_ 32 1#32),
     StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
     StableHlo.TRef.unary (.of main_call5_v2 : StableHlo.TRef sig ⟨S_, .i32⟩) (.of main_call5_v3 : StableHlo.TRef sig ⟨S84, .i32⟩) (broadcastInDim S84 ![] bcast_S_S84),
     StableHlo.TRef.binary (.of main_v20 : StableHlo.TRef sig ⟨S84, .i32⟩) (.of main_call5_v3 : StableHlo.TRef sig ⟨S84, .i32⟩) (.of main_call5_v4 : StableHlo.TRef sig ⟨S84, .i32⟩) Host.remsi,
     StableHlo.TRef.nullary (.of main_call5_c_1 : StableHlo.TRef sig ⟨S_, .i32⟩) (constantI S_ 32 0#32),
     StableHlo.TRef.unary (.of main_call5_c_1 : StableHlo.TRef sig ⟨S_, .i32⟩) (.of main_call5_v5 : StableHlo.TRef sig ⟨S84, .i32⟩) (broadcastInDim S84 ![] bcast_S_S84),
     StableHlo.TRef.binary (.of main_call5_v4 : StableHlo.TRef sig ⟨S84, .i32⟩) (.of main_call5_v5 : StableHlo.TRef sig ⟨S84, .i32⟩) (.of main_call5_v6 : StableHlo.TRef sig ⟨S84, .i1⟩) (cmpi .ne),
     StableHlo.TRef.nullary (.of main_call5_c_2 : StableHlo.TRef sig ⟨S_, .i32⟩) (constantI S_ 32 0#32),
     StableHlo.TRef.unary (.of main_call5_c_2 : StableHlo.TRef sig ⟨S_, .i32⟩) (.of main_call5_v7 : StableHlo.TRef sig ⟨S84, .i32⟩) (broadcastInDim S84 ![] bcast_S_S84),
     StableHlo.TRef.binary (.of main_call5_v4 : StableHlo.TRef sig ⟨S84, .i32⟩) (.of main_call5_v7 : StableHlo.TRef sig ⟨S84, .i32⟩) (.of main_call5_v8 : StableHlo.TRef sig ⟨S84, .i1⟩) (cmpi .slt),
     StableHlo.TRef.nullary (.of main_call5_c_3 : StableHlo.TRef sig ⟨S_, .i32⟩) (constantI S_ 32 0#32),
     StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
     StableHlo.TRef.unary (.of main_call5_v9 : StableHlo.TRef sig ⟨S_, .i1⟩) (.of main_call5_v10 : StableHlo.TRef sig ⟨S84, .i1⟩) (broadcastInDim S84 ![] bcast_S_S84),
     StableHlo.TRef.binary (.of main_call5_v8 : StableHlo.TRef sig ⟨S84, .i1⟩) (.of main_call5_v10 : StableHlo.TRef sig ⟨S84, .i1⟩) (.of main_call5_v11 : StableHlo.TRef sig ⟨S84, .i1⟩) (cmpi .ne),
     StableHlo.TRef.binary (.of main_call5_v11 : StableHlo.TRef sig ⟨S84, .i1⟩) (.of main_call5_v6 : StableHlo.TRef sig ⟨S84, .i1⟩) (.of main_call5_v12 : StableHlo.TRef sig ⟨S84, .i1⟩) andi,
     StableHlo.TRef.unary (.of main_call5_v2 : StableHlo.TRef sig ⟨S_, .i32⟩) (.of main_call5_v13 : StableHlo.TRef sig ⟨S84, .i32⟩) (broadcastInDim S84 ![] bcast_S_S84),
     StableHlo.TRef.binary (.of main_call5_v4 : StableHlo.TRef sig ⟨S84, .i32⟩) (.of main_call5_v13 : StableHlo.TRef sig ⟨S84, .i32⟩) (.of main_call5_v14 : StableHlo.TRef sig ⟨S84, .i32⟩) addi,
     StableHlo.TRef.ternary (.of main_call5_v12 : StableHlo.TRef sig ⟨S84, .i1⟩) (.of main_call5_v14 : StableHlo.TRef sig ⟨S84, .i32⟩) (.of main_call5_v4 : StableHlo.TRef sig ⟨S84, .i32⟩) (.of main_v21 : StableHlo.TRef sig ⟨S84, .i32⟩) select ]
/-- What they write. -/
abbrev preE_W : List (Ref sig .tc) := [main_v18, main_v19, main_v20, main_c_5, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v21]
theorem preE_writes : (preE : List (HloOp τ sig (Elt F))).Forall fun op => op.writes ⊆ (preE_W.map (Proc.devRef (τ := τ) .tc)).toFinset :=
  StableHlo.forall_writes_sub_of_map rfl

/-- Operations 75 to 89 of the host program. -/
def preG : List (HloOp τ sig (Elt F)) :=
  [StableHlo.nullary main_c_6 (constantI S_ 32 0#32),
     StableHlo.unary main_c_6 main_v22 (broadcastInDim S84 ![] bcast_S_S84 : (⟨S_, .i32⟩ : BufTy).Contents (Elt F) → (⟨S84, .i32⟩ : BufTy).Contents (Elt F)),
     StableHlo.binary main_v21 main_v22 main_v23 (cmpi .eq : (⟨S84, .i32⟩ : BufTy).Contents (Elt F) → (⟨S84, .i32⟩ : BufTy).Contents (Elt F) → (⟨S84, .i1⟩ : BufTy).Contents (Elt F)),
     StableHlo.nullary main_cst_7 (constant S_ .f32 0xBF800000#32),
     StableHlo.nullary main_cst_8 (constant S_ .f32 0x3F800000#32),
     StableHlo.TRef.unary (.of main_cst_7 : StableHlo.TRef sig ⟨S_, .f32⟩) (.of main_call6_v0 : StableHlo.TRef sig ⟨S84, .f32⟩) (broadcastInDim S84 ![] bcast_S_S84),
     StableHlo.TRef.unary (.of main_cst_8 : StableHlo.TRef sig ⟨S_, .f32⟩) (.of main_call6_v1 : StableHlo.TRef sig ⟨S84, .f32⟩) (broadcastInDim S84 ![] bcast_S_S84),
     StableHlo.TRef.ternary (.of main_v23 : StableHlo.TRef sig ⟨S84, .i1⟩) (.of main_call6_v0 : StableHlo.TRef sig ⟨S84, .f32⟩) (.of main_call6_v1 : StableHlo.TRef sig ⟨S84, .f32⟩) (.of main_v24 : StableHlo.TRef sig ⟨S84, .f32⟩) select,
     StableHlo.unary main_v24 main_v25 (id : (⟨S84, .f32⟩ : BufTy).Contents (Elt F) → (⟨S84, .f32⟩ : BufTy).Contents (Elt F)),
     StableHlo.unary main_v25 main_v26 (broadcastInDim S1x84 ![1] bcast_S84_S1x84_1 : (⟨S84, .f32⟩ : BufTy).Contents (Elt F) → (⟨S1x84, .f32⟩ : BufTy).Contents (Elt F)),
     StableHlo.unary main_v26 main_v27 (broadcastInDim S1560x84 ![0, 1] bcast_S1x84_S1560x84_0_1 : (⟨S1x84, .f32⟩ : BufTy).Contents (Elt F) → (⟨S1560x84, .f32⟩ : BufTy).Contents (Elt F)),
     StableHlo.binary main_v19 main_v27 main_v28 (mulf : (⟨S1560x84, .f32⟩ : BufTy).Contents (Elt F) → (⟨S1560x84, .f32⟩ : BufTy).Contents (Elt F) → (⟨S1560x84, .f32⟩ : BufTy).Contents (Elt F)),
     StableHlo.nullary main_c_9 (constantI S_ 32 0#32),
     StableHlo.TRef.unary (.of main_c_9 : StableHlo.TRef sig ⟨S_, .i32⟩) (.of main_call7_v0 : StableHlo.TRef sig ⟨S_, .f32⟩) (sitofp .f32),
     StableHlo.TRef.binary (.of main_v28 : StableHlo.TRef sig ⟨S1560x84, .f32⟩) (.of main_call7_v0 : StableHlo.TRef sig ⟨S_, .f32⟩) (.of main_v29 : StableHlo.TRef sig ⟨S1560x128, .f32⟩) (fun x v => pad S1560x128 ![0, 44] ![0, 0] ![0, 0] x v pads_S1560x84_S1560x128_000_4400 h_S_) ]
/-- What they write. -/
abbrev preG_W : List (Ref sig .tc) := [main_c_6, main_v22, main_v23, main_cst_7, main_cst_8, main_call6_v0, main_call6_v1, main_v24, main_v25, main_v26, main_v27, main_v28, main_c_9, main_call7_v0, main_v29]
theorem preG_writes : (preG : List (HloOp τ sig (Elt F))).Forall fun op => op.writes ⊆ (preG_W.map (Proc.devRef (τ := τ) .tc)).toFinset :=
  StableHlo.forall_writes_sub_of_map rfl

/-- Operations 90 to 93 of the host program. -/
def preH : List (HloOp τ sig (Elt F)) :=
  [StableHlo.unary main_arg3 main_v30 ((transpose S2x21x12x1560x128 [0, 1, 3, 2, 4] · transposes_S2x21x1560x12x128_S2x21x12x1560x128_0_1_3_2_4) : (⟨S2x21x1560x12x128, .fp8e4m3⟩ : BufTy).Contents (Elt F) → (⟨S2x21x12x1560x128, .fp8e4m3⟩ : BufTy).Contents (Elt F)),
     StableHlo.unary main_arg4 main_v31 ((transpose S2x21x12x1560x128 [0, 1, 3, 2, 4] · transposes_S2x21x1560x12x128_S2x21x12x1560x128_0_1_3_2_4) : (⟨S2x21x1560x12x128, .fp8e4m3⟩ : BufTy).Contents (Elt F) → (⟨S2x21x12x1560x128, .fp8e4m3⟩ : BufTy).Contents (Elt F)),
     StableHlo.reshape main_arg5 main_v32 (rfl : (.f32 : EltTy) = .f32) shapeCasts_S2x21x12_S504,
     StableHlo.reshape main_arg6 main_v33 (rfl : (.f32 : EltTy) = .f32) shapeCasts_S2x21x12_S504 ]
/-- What they write. -/
abbrev preH_W : List (Ref sig .tc) := [main_v30, main_v31, main_v32, main_v33]
theorem preH_writes : (preH : List (HloOp τ sig (Elt F))).Forall fun op => op.writes ⊆ (preH_W.map (Proc.devRef (τ := τ) .tc)).toFinset :=
  StableHlo.forall_writes_sub_of_map rfl

/-- The table of cosines of the frame positions, every entry twice, padded to 128 lanes. -/
def cosT (arg11 : Vec F S1024x22 .f32) : Vec F S1024x128 .f32 :=
  pad S1024x128 ![0, 0] ![0, 84] ![0, 0] (shapeCast S1024x44 (broadcastInDim S1024x22x2 ![0, 1] bcast_S1024x22_S1024x22x2_0_1 arg11) shapeCasts_S1024x22x2_S1024x44) (sitofp .f32 (constantI S_ 32 0#32)) pads_S1024x44_S1024x128_000_0840 h_S_

theorem read_cosT (W : Valuation τ sig (Elt F)) : StableHlo.after preA W (Proc.devRef .tc main_v2) =
    cosT (W (Proc.devRef .tc main_arg11)) := by
  simp only [preA, TRef.binary, TRef.nullary, TRef.ternary, TRef.unary, TRef.toBuf, TRef.ofBuf, cast_eq]
  after_results_simp <;> rfl

/-- The table of cosines of the places in a frame. -/
def cosS (arg13 : Vec F S1560x42 .f32) : Vec F S1560x128 .f32 :=
  pad S1560x128 ![0, 44] ![0, 0] ![0, 0] (shapeCast S1560x84 (broadcastInDim S1560x42x2 ![0, 1] bcast_S1560x42_S1560x42x2_0_1 arg13) shapeCasts_S1560x42x2_S1560x84) (sitofp .f32 (constantI S_ 32 0#32)) pads_S1560x84_S1560x128_000_4400 h_S_

theorem read_cosS (W : Valuation τ sig (Elt F)) : StableHlo.after preB W (Proc.devRef .tc main_v5) =
    cosS (W (Proc.devRef .tc main_arg13)) := by
  simp only [preB, TRef.binary, TRef.nullary, TRef.ternary, TRef.unary, TRef.toBuf, TRef.ofBuf, cast_eq]
  after_results_simp <;> rfl

/-- The sines of the frame positions, every entry twice. -/
def spreadT (arg12 : Vec F S1024x22 .f32) : Vec F S1024x44 .f32 :=
  shapeCast S1024x44 (broadcastInDim S1024x22x2 ![0, 1] bcast_S1024x22_S1024x22x2_0_1 arg12) shapeCasts_S1024x22x2_S1024x44

theorem read_spreadT (W : Valuation τ sig (Elt F)) : StableHlo.after preC W (Proc.devRef .tc main_v7) =
    spreadT (W (Proc.devRef .tc main_arg12)) := by
  simp only [preC, TRef.binary, TRef.nullary, TRef.ternary, TRef.unary, TRef.toBuf, TRef.ofBuf, cast_eq]
  after_results_simp <;> rfl

/-- The lane modulo two. -/
def parityT  : Vec F S44 .i32 :=
  select (andi (cmpi .ne (cmpi .slt (Host.remsi (iotaInDim S44 32 0) (broadcastInDim S44 ![] bcast_S_S44 (select (cmpi .eq (constantI S_ 32 2#32) (constantI S_ 32 0#32)) (constantI S_ 32 1#32) (constantI S_ 32 2#32)))) (broadcastInDim S44 ![] bcast_S_S44 (constantI S_ 32 0#32))) (broadcastInDim S44 ![] bcast_S_S44 (cmpi .slt (select (cmpi .eq (constantI S_ 32 2#32) (constantI S_ 32 0#32)) (constantI S_ 32 1#32) (constantI S_ 32 2#32)) (constantI S_ 32 0#32)))) (cmpi .ne (Host.remsi (iotaInDim S44 32 0) (broadcastInDim S44 ![] bcast_S_S44 (select (cmpi .eq (constantI S_ 32 2#32) (constantI S_ 32 0#32)) (constantI S_ 32 1#32) (constantI S_ 32 2#32)))) (broadcastInDim S44 ![] bcast_S_S44 (constantI S_ 32 0#32)))) (addi (Host.remsi (iotaInDim S44 32 0) (broadcastInDim S44 ![] bcast_S_S44 (select (cmpi .eq (constantI S_ 32 2#32) (constantI S_ 32 0#32)) (constantI S_ 32 1#32) (constantI S_ 32 2#32)))) (broadcastInDim S44 ![] bcast_S_S44 (select (cmpi .eq (constantI S_ 32 2#32) (constantI S_ 32 0#32)) (constantI S_ 32 1#32) (constantI S_ 32 2#32)))) (Host.remsi (iotaInDim S44 32 0) (broadcastInDim S44 ![] bcast_S_S44 (select (cmpi .eq (constantI S_ 32 2#32) (constantI S_ 32 0#32)) (constantI S_ 32 1#32) (constantI S_ 32 2#32))))

theorem read_parityT (W : Valuation τ sig (Elt F)) : StableHlo.after preC W (Proc.devRef .tc main_v9) =
    parityT  := by
  simp only [preC, TRef.binary, TRef.nullary, TRef.ternary, TRef.unary, TRef.toBuf, TRef.ofBuf, cast_eq]
  after_results_simp <;> rfl

/-- The table of sines of the frame positions, minus in the even lanes. -/
def sinT (v7 : Vec F S1024x44 .f32) (v9 : Vec F S44 .i32) : Vec F S1024x128 .f32 :=
  pad S1024x128 ![0, 0] ![0, 84] ![0, 0] (mulf v7 (broadcastInDim S1024x44 ![0, 1] bcast_S1x44_S1024x44_0_1 (broadcastInDim S1x44 ![1] bcast_S44_S1x44_1 (select (cmpi .eq v9 (broadcastInDim S44 ![] bcast_S_S44 (constantI S_ 32 0#32))) (broadcastInDim S44 ![] bcast_S_S44 (constant S_ .f32 0xBF800000#32)) (broadcastInDim S44 ![] bcast_S_S44 (constant S_ .f32 0x3F800000#32)))))) (sitofp .f32 (constantI S_ 32 0#32)) pads_S1024x44_S1024x128_000_0840 h_S_

theorem read_sinT (W : Valuation τ sig (Elt F)) : StableHlo.after preD W (Proc.devRef .tc main_v17) =
    sinT (W (Proc.devRef .tc main_v7)) (W (Proc.devRef .tc main_v9)) := by
  simp only [preD, TRef.binary, TRef.nullary, TRef.ternary, TRef.unary, TRef.toBuf, TRef.ofBuf, cast_eq]
  after_results_simp <;> rfl

/-- The sines of the places in a frame, every entry twice. -/
def spreadS (arg14 : Vec F S1560x42 .f32) : Vec F S1560x84 .f32 :=
  shapeCast S1560x84 (broadcastInDim S1560x42x2 ![0, 1] bcast_S1560x42_S1560x42x2_0_1 arg14) shapeCasts_S1560x42x2_S1560x84

theorem read_spreadS (W : Valuation τ sig (Elt F)) : StableHlo.after preE W (Proc.devRef .tc main_v19) =
    spreadS (W (Proc.devRef .tc main_arg14)) := by
  simp only [preE, TRef.binary, TRef.nullary, TRef.ternary, TRef.unary, TRef.toBuf, TRef.ofBuf, cast_eq]
  after_results_simp <;> rfl

/-- The lane modulo two. -/
def parityS  : Vec F S84 .i32 :=
  select (andi (cmpi .ne (cmpi .slt (Host.remsi (iotaInDim S84 32 0) (broadcastInDim S84 ![] bcast_S_S84 (select (cmpi .eq (constantI S_ 32 2#32) (constantI S_ 32 0#32)) (constantI S_ 32 1#32) (constantI S_ 32 2#32)))) (broadcastInDim S84 ![] bcast_S_S84 (constantI S_ 32 0#32))) (broadcastInDim S84 ![] bcast_S_S84 (cmpi .slt (select (cmpi .eq (constantI S_ 32 2#32) (constantI S_ 32 0#32)) (constantI S_ 32 1#32) (constantI S_ 32 2#32)) (constantI S_ 32 0#32)))) (cmpi .ne (Host.remsi (iotaInDim S84 32 0) (broadcastInDim S84 ![] bcast_S_S84 (select (cmpi .eq (constantI S_ 32 2#32) (constantI S_ 32 0#32)) (constantI S_ 32 1#32) (constantI S_ 32 2#32)))) (broadcastInDim S84 ![] bcast_S_S84 (constantI S_ 32 0#32)))) (addi (Host.remsi (iotaInDim S84 32 0) (broadcastInDim S84 ![] bcast_S_S84 (select (cmpi .eq (constantI S_ 32 2#32) (constantI S_ 32 0#32)) (constantI S_ 32 1#32) (constantI S_ 32 2#32)))) (broadcastInDim S84 ![] bcast_S_S84 (select (cmpi .eq (constantI S_ 32 2#32) (constantI S_ 32 0#32)) (constantI S_ 32 1#32) (constantI S_ 32 2#32)))) (Host.remsi (iotaInDim S84 32 0) (broadcastInDim S84 ![] bcast_S_S84 (select (cmpi .eq (constantI S_ 32 2#32) (constantI S_ 32 0#32)) (constantI S_ 32 1#32) (constantI S_ 32 2#32))))

theorem read_parityS (W : Valuation τ sig (Elt F)) : StableHlo.after preE W (Proc.devRef .tc main_v21) =
    parityS  := by
  simp only [preE, TRef.binary, TRef.nullary, TRef.ternary, TRef.unary, TRef.toBuf, TRef.ofBuf, cast_eq]
  after_results_simp <;> rfl

/-- The table of sines of the places in a frame. -/
def sinS (v19 : Vec F S1560x84 .f32) (v21 : Vec F S84 .i32) : Vec F S1560x128 .f32 :=
  pad S1560x128 ![0, 44] ![0, 0] ![0, 0] (mulf v19 (broadcastInDim S1560x84 ![0, 1] bcast_S1x84_S1560x84_0_1 (broadcastInDim S1x84 ![1] bcast_S84_S1x84_1 (select (cmpi .eq v21 (broadcastInDim S84 ![] bcast_S_S84 (constantI S_ 32 0#32))) (broadcastInDim S84 ![] bcast_S_S84 (constant S_ .f32 0xBF800000#32)) (broadcastInDim S84 ![] bcast_S_S84 (constant S_ .f32 0x3F800000#32)))))) (sitofp .f32 (constantI S_ 32 0#32)) pads_S1560x84_S1560x128_000_4400 h_S_

theorem read_sinS (W : Valuation τ sig (Elt F)) : StableHlo.after preG W (Proc.devRef .tc main_v29) =
    sinS (W (Proc.devRef .tc main_v19)) (W (Proc.devRef .tc main_v21)) := by
  simp only [preG, TRef.binary, TRef.nullary, TRef.ternary, TRef.unary, TRef.toBuf, TRef.ofBuf, cast_eq]
  after_results_simp <;> rfl

/-- The cached codes of the keys, heads before tokens. -/
def kcodes (arg3 : Vec F S2x21x1560x12x128 .fp8e4m3) : Vec F S2x21x12x1560x128 .fp8e4m3 :=
  transpose S2x21x12x1560x128 [0, 1, 3, 2, 4] arg3 transposes_S2x21x1560x12x128_S2x21x12x1560x128_0_1_3_2_4

theorem read_kcodes (W : Valuation τ sig (Elt F)) : StableHlo.after preH W (Proc.devRef .tc main_v30) =
    kcodes (W (Proc.devRef .tc main_arg3)) := by
  simp only [preH, TRef.binary, TRef.nullary, TRef.ternary, TRef.unary, TRef.toBuf, TRef.ofBuf, cast_eq]
  after_results_simp <;> rfl

/-- The cached codes of the values, heads before tokens. -/
def vcodes (arg4 : Vec F S2x21x1560x12x128 .fp8e4m3) : Vec F S2x21x12x1560x128 .fp8e4m3 :=
  transpose S2x21x12x1560x128 [0, 1, 3, 2, 4] arg4 transposes_S2x21x1560x12x128_S2x21x12x1560x128_0_1_3_2_4

theorem read_vcodes (W : Valuation τ sig (Elt F)) : StableHlo.after preH W (Proc.devRef .tc main_v31) =
    vcodes (W (Proc.devRef .tc main_arg4)) := by
  simp only [preH, TRef.binary, TRef.nullary, TRef.ternary, TRef.unary, TRef.toBuf, TRef.ofBuf, cast_eq]
  after_results_simp <;> rfl

/-- The scales of the keys in a row. -/
def kscale (arg5 : Vec F S2x21x12 .f32) : Vec F S504 .f32 :=
  shapeCast S504 arg5 shapeCasts_S2x21x12_S504

theorem read_kscale (W : Valuation τ sig (Elt F)) : StableHlo.after preH W (Proc.devRef .tc main_v32) =
    kscale (W (Proc.devRef .tc main_arg5)) := by
  simp only [preH, TRef.binary, TRef.nullary, TRef.ternary, TRef.unary, TRef.toBuf, TRef.ofBuf, cast_eq]
  after_results_simp <;> rfl

/-- The scales of the values in a row. -/
def vscale (arg6 : Vec F S2x21x12 .f32) : Vec F S504 .f32 :=
  shapeCast S504 arg6 shapeCasts_S2x21x12_S504

theorem read_vscale (W : Valuation τ sig (Elt F)) : StableHlo.after preH W (Proc.devRef .tc main_v33) =
    vscale (W (Proc.devRef .tc main_arg6)) := by
  simp only [preH, TRef.binary, TRef.nullary, TRef.ternary, TRef.unary, TRef.toBuf, TRef.ofBuf, cast_eq]
  after_results_simp <;> rfl

theorem keep_preA_arg12 (W : Valuation τ sig (Elt F)) : StableHlo.after preA W (Proc.devRef .tc main_arg12) = W (Proc.devRef .tc main_arg12) :=
  StableHlo.after_of_writes_sub (r := main_arg12) preA _ preA_writes (by decide +kernel)

theorem keep_preA_arg13 (W : Valuation τ sig (Elt F)) : StableHlo.after preA W (Proc.devRef .tc main_arg13) = W (Proc.devRef .tc main_arg13) :=
  StableHlo.after_of_writes_sub (r := main_arg13) preA _ preA_writes (by decide +kernel)

theorem keep_preA_arg14 (W : Valuation τ sig (Elt F)) : StableHlo.after preA W (Proc.devRef .tc main_arg14) = W (Proc.devRef .tc main_arg14) :=
  StableHlo.after_of_writes_sub (r := main_arg14) preA _ preA_writes (by decide +kernel)

theorem keep_preA_arg3 (W : Valuation τ sig (Elt F)) : StableHlo.after preA W (Proc.devRef .tc main_arg3) = W (Proc.devRef .tc main_arg3) :=
  StableHlo.after_of_writes_sub (r := main_arg3) preA _ preA_writes (by decide +kernel)

theorem keep_preA_arg4 (W : Valuation τ sig (Elt F)) : StableHlo.after preA W (Proc.devRef .tc main_arg4) = W (Proc.devRef .tc main_arg4) :=
  StableHlo.after_of_writes_sub (r := main_arg4) preA _ preA_writes (by decide +kernel)

theorem keep_preA_arg5 (W : Valuation τ sig (Elt F)) : StableHlo.after preA W (Proc.devRef .tc main_arg5) = W (Proc.devRef .tc main_arg5) :=
  StableHlo.after_of_writes_sub (r := main_arg5) preA _ preA_writes (by decide +kernel)

theorem keep_preA_arg6 (W : Valuation τ sig (Elt F)) : StableHlo.after preA W (Proc.devRef .tc main_arg6) = W (Proc.devRef .tc main_arg6) :=
  StableHlo.after_of_writes_sub (r := main_arg6) preA _ preA_writes (by decide +kernel)

theorem keep_preB_arg12 (W : Valuation τ sig (Elt F)) : StableHlo.after preB W (Proc.devRef .tc main_arg12) = W (Proc.devRef .tc main_arg12) :=
  StableHlo.after_of_writes_sub (r := main_arg12) preB _ preB_writes (by decide +kernel)

theorem keep_preB_arg14 (W : Valuation τ sig (Elt F)) : StableHlo.after preB W (Proc.devRef .tc main_arg14) = W (Proc.devRef .tc main_arg14) :=
  StableHlo.after_of_writes_sub (r := main_arg14) preB _ preB_writes (by decide +kernel)

theorem keep_preB_arg3 (W : Valuation τ sig (Elt F)) : StableHlo.after preB W (Proc.devRef .tc main_arg3) = W (Proc.devRef .tc main_arg3) :=
  StableHlo.after_of_writes_sub (r := main_arg3) preB _ preB_writes (by decide +kernel)

theorem keep_preB_arg4 (W : Valuation τ sig (Elt F)) : StableHlo.after preB W (Proc.devRef .tc main_arg4) = W (Proc.devRef .tc main_arg4) :=
  StableHlo.after_of_writes_sub (r := main_arg4) preB _ preB_writes (by decide +kernel)

theorem keep_preB_arg5 (W : Valuation τ sig (Elt F)) : StableHlo.after preB W (Proc.devRef .tc main_arg5) = W (Proc.devRef .tc main_arg5) :=
  StableHlo.after_of_writes_sub (r := main_arg5) preB _ preB_writes (by decide +kernel)

theorem keep_preB_arg6 (W : Valuation τ sig (Elt F)) : StableHlo.after preB W (Proc.devRef .tc main_arg6) = W (Proc.devRef .tc main_arg6) :=
  StableHlo.after_of_writes_sub (r := main_arg6) preB _ preB_writes (by decide +kernel)

theorem keep_preB_v2 (W : Valuation τ sig (Elt F)) : StableHlo.after preB W (Proc.devRef .tc main_v2) = W (Proc.devRef .tc main_v2) :=
  StableHlo.after_of_writes_sub (r := main_v2) preB _ preB_writes (by decide +kernel)

theorem keep_preC_arg14 (W : Valuation τ sig (Elt F)) : StableHlo.after preC W (Proc.devRef .tc main_arg14) = W (Proc.devRef .tc main_arg14) :=
  StableHlo.after_of_writes_sub (r := main_arg14) preC _ preC_writes (by decide +kernel)

theorem keep_preC_arg3 (W : Valuation τ sig (Elt F)) : StableHlo.after preC W (Proc.devRef .tc main_arg3) = W (Proc.devRef .tc main_arg3) :=
  StableHlo.after_of_writes_sub (r := main_arg3) preC _ preC_writes (by decide +kernel)

theorem keep_preC_arg4 (W : Valuation τ sig (Elt F)) : StableHlo.after preC W (Proc.devRef .tc main_arg4) = W (Proc.devRef .tc main_arg4) :=
  StableHlo.after_of_writes_sub (r := main_arg4) preC _ preC_writes (by decide +kernel)

theorem keep_preC_arg5 (W : Valuation τ sig (Elt F)) : StableHlo.after preC W (Proc.devRef .tc main_arg5) = W (Proc.devRef .tc main_arg5) :=
  StableHlo.after_of_writes_sub (r := main_arg5) preC _ preC_writes (by decide +kernel)

theorem keep_preC_arg6 (W : Valuation τ sig (Elt F)) : StableHlo.after preC W (Proc.devRef .tc main_arg6) = W (Proc.devRef .tc main_arg6) :=
  StableHlo.after_of_writes_sub (r := main_arg6) preC _ preC_writes (by decide +kernel)

theorem keep_preC_v2 (W : Valuation τ sig (Elt F)) : StableHlo.after preC W (Proc.devRef .tc main_v2) = W (Proc.devRef .tc main_v2) :=
  StableHlo.after_of_writes_sub (r := main_v2) preC _ preC_writes (by decide +kernel)

theorem keep_preC_v5 (W : Valuation τ sig (Elt F)) : StableHlo.after preC W (Proc.devRef .tc main_v5) = W (Proc.devRef .tc main_v5) :=
  StableHlo.after_of_writes_sub (r := main_v5) preC _ preC_writes (by decide +kernel)

theorem keep_preD_arg14 (W : Valuation τ sig (Elt F)) : StableHlo.after preD W (Proc.devRef .tc main_arg14) = W (Proc.devRef .tc main_arg14) :=
  StableHlo.after_of_writes_sub (r := main_arg14) preD _ preD_writes (by decide +kernel)

theorem keep_preD_arg3 (W : Valuation τ sig (Elt F)) : StableHlo.after preD W (Proc.devRef .tc main_arg3) = W (Proc.devRef .tc main_arg3) :=
  StableHlo.after_of_writes_sub (r := main_arg3) preD _ preD_writes (by decide +kernel)

theorem keep_preD_arg4 (W : Valuation τ sig (Elt F)) : StableHlo.after preD W (Proc.devRef .tc main_arg4) = W (Proc.devRef .tc main_arg4) :=
  StableHlo.after_of_writes_sub (r := main_arg4) preD _ preD_writes (by decide +kernel)

theorem keep_preD_arg5 (W : Valuation τ sig (Elt F)) : StableHlo.after preD W (Proc.devRef .tc main_arg5) = W (Proc.devRef .tc main_arg5) :=
  StableHlo.after_of_writes_sub (r := main_arg5) preD _ preD_writes (by decide +kernel)

theorem keep_preD_arg6 (W : Valuation τ sig (Elt F)) : StableHlo.after preD W (Proc.devRef .tc main_arg6) = W (Proc.devRef .tc main_arg6) :=
  StableHlo.after_of_writes_sub (r := main_arg6) preD _ preD_writes (by decide +kernel)

theorem keep_preD_v2 (W : Valuation τ sig (Elt F)) : StableHlo.after preD W (Proc.devRef .tc main_v2) = W (Proc.devRef .tc main_v2) :=
  StableHlo.after_of_writes_sub (r := main_v2) preD _ preD_writes (by decide +kernel)

theorem keep_preD_v5 (W : Valuation τ sig (Elt F)) : StableHlo.after preD W (Proc.devRef .tc main_v5) = W (Proc.devRef .tc main_v5) :=
  StableHlo.after_of_writes_sub (r := main_v5) preD _ preD_writes (by decide +kernel)

theorem keep_preE_arg3 (W : Valuation τ sig (Elt F)) : StableHlo.after preE W (Proc.devRef .tc main_arg3) = W (Proc.devRef .tc main_arg3) :=
  StableHlo.after_of_writes_sub (r := main_arg3) preE _ preE_writes (by decide +kernel)

theorem keep_preE_arg4 (W : Valuation τ sig (Elt F)) : StableHlo.after preE W (Proc.devRef .tc main_arg4) = W (Proc.devRef .tc main_arg4) :=
  StableHlo.after_of_writes_sub (r := main_arg4) preE _ preE_writes (by decide +kernel)

theorem keep_preE_arg5 (W : Valuation τ sig (Elt F)) : StableHlo.after preE W (Proc.devRef .tc main_arg5) = W (Proc.devRef .tc main_arg5) :=
  StableHlo.after_of_writes_sub (r := main_arg5) preE _ preE_writes (by decide +kernel)

theorem keep_preE_arg6 (W : Valuation τ sig (Elt F)) : StableHlo.after preE W (Proc.devRef .tc main_arg6) = W (Proc.devRef .tc main_arg6) :=
  StableHlo.after_of_writes_sub (r := main_arg6) preE _ preE_writes (by decide +kernel)

theorem keep_preE_v17 (W : Valuation τ sig (Elt F)) : StableHlo.after preE W (Proc.devRef .tc main_v17) = W (Proc.devRef .tc main_v17) :=
  StableHlo.after_of_writes_sub (r := main_v17) preE _ preE_writes (by decide +kernel)

theorem keep_preE_v2 (W : Valuation τ sig (Elt F)) : StableHlo.after preE W (Proc.devRef .tc main_v2) = W (Proc.devRef .tc main_v2) :=
  StableHlo.after_of_writes_sub (r := main_v2) preE _ preE_writes (by decide +kernel)

theorem keep_preE_v5 (W : Valuation τ sig (Elt F)) : StableHlo.after preE W (Proc.devRef .tc main_v5) = W (Proc.devRef .tc main_v5) :=
  StableHlo.after_of_writes_sub (r := main_v5) preE _ preE_writes (by decide +kernel)

theorem keep_preG_arg3 (W : Valuation τ sig (Elt F)) : StableHlo.after preG W (Proc.devRef .tc main_arg3) = W (Proc.devRef .tc main_arg3) :=
  StableHlo.after_of_writes_sub (r := main_arg3) preG _ preG_writes (by decide +kernel)

theorem keep_preG_arg4 (W : Valuation τ sig (Elt F)) : StableHlo.after preG W (Proc.devRef .tc main_arg4) = W (Proc.devRef .tc main_arg4) :=
  StableHlo.after_of_writes_sub (r := main_arg4) preG _ preG_writes (by decide +kernel)

theorem keep_preG_arg5 (W : Valuation τ sig (Elt F)) : StableHlo.after preG W (Proc.devRef .tc main_arg5) = W (Proc.devRef .tc main_arg5) :=
  StableHlo.after_of_writes_sub (r := main_arg5) preG _ preG_writes (by decide +kernel)

theorem keep_preG_arg6 (W : Valuation τ sig (Elt F)) : StableHlo.after preG W (Proc.devRef .tc main_arg6) = W (Proc.devRef .tc main_arg6) :=
  StableHlo.after_of_writes_sub (r := main_arg6) preG _ preG_writes (by decide +kernel)

theorem keep_preG_v17 (W : Valuation τ sig (Elt F)) : StableHlo.after preG W (Proc.devRef .tc main_v17) = W (Proc.devRef .tc main_v17) :=
  StableHlo.after_of_writes_sub (r := main_v17) preG _ preG_writes (by decide +kernel)

theorem keep_preG_v2 (W : Valuation τ sig (Elt F)) : StableHlo.after preG W (Proc.devRef .tc main_v2) = W (Proc.devRef .tc main_v2) :=
  StableHlo.after_of_writes_sub (r := main_v2) preG _ preG_writes (by decide +kernel)

theorem keep_preG_v5 (W : Valuation τ sig (Elt F)) : StableHlo.after preG W (Proc.devRef .tc main_v5) = W (Proc.devRef .tc main_v5) :=
  StableHlo.after_of_writes_sub (r := main_v5) preG _ preG_writes (by decide +kernel)

theorem keep_preH_v17 (W : Valuation τ sig (Elt F)) : StableHlo.after preH W (Proc.devRef .tc main_v17) = W (Proc.devRef .tc main_v17) :=
  StableHlo.after_of_writes_sub (r := main_v17) preH _ preH_writes (by decide +kernel)

theorem keep_preH_v2 (W : Valuation τ sig (Elt F)) : StableHlo.after preH W (Proc.devRef .tc main_v2) = W (Proc.devRef .tc main_v2) :=
  StableHlo.after_of_writes_sub (r := main_v2) preH _ preH_writes (by decide +kernel)

theorem keep_preH_v29 (W : Valuation τ sig (Elt F)) : StableHlo.after preH W (Proc.devRef .tc main_v29) = W (Proc.devRef .tc main_v29) :=
  StableHlo.after_of_writes_sub (r := main_v29) preH _ preH_writes (by decide +kernel)

theorem keep_preH_v5 (W : Valuation τ sig (Elt F)) : StableHlo.after preH W (Proc.devRef .tc main_v5) = W (Proc.devRef .tc main_v5) :=
  StableHlo.after_of_writes_sub (r := main_v5) preH _ preH_writes (by decide +kernel)

/-- The operations, by segments. -/
theorem ops_eq : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] : List (List (HloOp τ sig (Elt F)))).flatten =
    preA ++ (preB ++ (preC ++ (preD ++ (preE ++ (preG ++ (preH)))))) := rfl

variable (m : (ℓ : Loc nD τ sig) → Buf (Elt F) ℓ)

theorem V_main_v2 (c : Dev nD) : V m c main_v2 = cosT (m ((c : Thread nD τ).loc main_arg11)) := by
  unfold V
  rw [ops_eq, StableHlo.after_append, StableHlo.after_append, StableHlo.after_append, StableHlo.after_append, StableHlo.after_append, StableHlo.after_append,
    keep_preH_v2,
    keep_preG_v2,
    keep_preE_v2,
    keep_preD_v2,
    keep_preC_v2,
    keep_preB_v2,
    read_cosT]

theorem V_main_v5 (c : Dev nD) : V m c main_v5 = cosS (m ((c : Thread nD τ).loc main_arg13)) := by
  unfold V
  rw [ops_eq, StableHlo.after_append, StableHlo.after_append, StableHlo.after_append, StableHlo.after_append, StableHlo.after_append, StableHlo.after_append,
    keep_preH_v5,
    keep_preG_v5,
    keep_preE_v5,
    keep_preD_v5,
    keep_preC_v5,
    read_cosS,
    keep_preA_arg13]

theorem V_main_v17 (c : Dev nD) : V m c main_v17 = sinT (spreadT (m ((c : Thread nD τ).loc main_arg12))) (parityT ) := by
  unfold V
  rw [ops_eq, StableHlo.after_append, StableHlo.after_append, StableHlo.after_append, StableHlo.after_append, StableHlo.after_append, StableHlo.after_append,
    keep_preH_v17,
    keep_preG_v17,
    keep_preE_v17,
    read_sinT,
    read_spreadT,
    read_parityT,
    keep_preB_arg12,
    keep_preA_arg12]

theorem V_main_v29 (c : Dev nD) : V m c main_v29 = sinS (spreadS (m ((c : Thread nD τ).loc main_arg14))) (parityS ) := by
  unfold V
  rw [ops_eq, StableHlo.after_append, StableHlo.after_append, StableHlo.after_append, StableHlo.after_append, StableHlo.after_append, StableHlo.after_append,
    keep_preH_v29,
    read_sinS,
    read_spreadS,
    read_parityS,
    keep_preD_arg14,
    keep_preC_arg14,
    keep_preB_arg14,
    keep_preA_arg14]

theorem V_main_v30 (c : Dev nD) : V m c main_v30 = kcodes (m ((c : Thread nD τ).loc main_arg3)) := by
  unfold V
  rw [ops_eq, StableHlo.after_append, StableHlo.after_append, StableHlo.after_append, StableHlo.after_append, StableHlo.after_append, StableHlo.after_append,
    read_kcodes,
    keep_preG_arg3,
    keep_preE_arg3,
    keep_preD_arg3,
    keep_preC_arg3,
    keep_preB_arg3,
    keep_preA_arg3]

theorem V_main_v31 (c : Dev nD) : V m c main_v31 = vcodes (m ((c : Thread nD τ).loc main_arg4)) := by
  unfold V
  rw [ops_eq, StableHlo.after_append, StableHlo.after_append, StableHlo.after_append, StableHlo.after_append, StableHlo.after_append, StableHlo.after_append,
    read_vcodes,
    keep_preG_arg4,
    keep_preE_arg4,
    keep_preD_arg4,
    keep_preC_arg4,
    keep_preB_arg4,
    keep_preA_arg4]

theorem V_main_v32 (c : Dev nD) : V m c main_v32 = kscale (m ((c : Thread nD τ).loc main_arg5)) := by
  unfold V
  rw [ops_eq, StableHlo.after_append, StableHlo.after_append, StableHlo.after_append, StableHlo.after_append, StableHlo.after_append, StableHlo.after_append,
    read_kscale,
    keep_preG_arg5,
    keep_preE_arg5,
    keep_preD_arg5,
    keep_preC_arg5,
    keep_preB_arg5,
    keep_preA_arg5]

theorem V_main_v33 (c : Dev nD) : V m c main_v33 = vscale (m ((c : Thread nD τ).loc main_arg6)) := by
  unfold V
  rw [ops_eq, StableHlo.after_append, StableHlo.after_append, StableHlo.after_append, StableHlo.after_append, StableHlo.after_append, StableHlo.after_append,
    read_vscale,
    keep_preG_arg6,
    keep_preE_arg6,
    keep_preD_arg6,
    keep_preC_arg6,
    keep_preB_arg6,
    keep_preA_arg6]

end Cert.AttnIdeal.Host

end
-- ==== Proof.AttnIdeal.Frame1.lean ====
/-
  The keys, values and scales of one frame at an index, from what the blocks hold.
-/
module

public import proofs.«01_k».proof.Proof.AttnIdeal.Values
public import Idealize.ShloMosaic.Lib.Pointwise

@[expose] public section

set_option maxRecDepth 16384

noncomputable section

namespace Cert.AttnIdeal.Body

open Cert.AttnIdeal Cert.AttnIdeal.Gen AttnWords AttnBlocks
open Idealize.ShloMosaic Idealize.ShloMosaic.TcCoe

theorem frameOf_at (x : Vec Ideal S1x21x1x1560x128 .fp8e4m3) (f : Fin 21) (n : Fin 1560) (d : Fin 128) :
    frameOf x f.val (ix5 0 0 0 n d) = x (ix5 0 f 0 n d) := by
  rw [ix5_eq_valueIdx 0 f 0 n d]
  exact congrArg (fun z => x (ValueIdx.ix5 0 z 0 n d)) (Fin.ext (Nat.mod_eq_of_lt f.isLt))

theorem rowOf_at (x : Vec Ideal S1024x128 .f32) (p : Fin 1024) (d : Fin 128) : rowOf x p.val (ix2 0 d) = x (ix2 p d) := by
  rw [ix2_eq_valueIdx p d]
  exact congrArg (fun z => x (ValueIdx.ix2 z d)) (Fin.ext (Nat.mod_eq_of_lt p.isLt))

theorem chunkOf_at (x : Vec Ideal S1x1x4680x128 .bf16) (r : Fin 3) (n : Fin 1560) (d : Fin 128) :
    chunkOf x r.val (ix4 0 0 n d) = x (ix4 0 0 ⟨r.val * 1560 + n.val, by omega⟩ d) := by
  rw [ix4_eq_valueIdx 0 0 _ d]
  exact congrArg (fun z => x (ValueIdx.ix4 0 0 z d)) (Fin.ext (Nat.mod_eq_of_lt (show r.val * 1560 + n.val < 4680 by omega)))

theorem tileOf_at (x : Vec Ideal S1x1x4680x128 .bf16) (r : Fin 15) (n : Fin 312) (d : Fin 128) :
    tileOf x r.val (ix4 0 0 n d) = x (ix4 0 0 ⟨r.val * 312 + n.val, by omega⟩ d) := by
  rw [ix4_eq_valueIdx 0 0 _ d]
  exact congrArg (fun z => x (ValueIdx.ix4 0 0 z d)) (Fin.ext (Nat.mod_eq_of_lt (show r.val * 312 + n.val < 4680 by omega)))

theorem pay1_at (x : Vec Ideal S1x1x1560x128 .bf16) (n : Fin 1560) (d : Fin 128) : k0_pay1 x (ix3 0 n d) = x (ix4 0 0 n d) := by
  pointwise [k0_pay1]

theorem pay2_at (x : Vec Ideal S1x1x1560x128 .bf16) (n : Fin 1560) (d : Fin 128) : k0_pay2 x (ix3 0 d n) = x (ix4 0 0 n d) := by
  pointwise [k0_pay2]

theorem pay20_at (x : Vec Ideal S1x1x312x128 .bf16) (n : Fin 312) (d : Fin 128) : k0_pay20 x (ix2 n d) = x (ix4 0 0 n d) := by
  pointwise [k0_pay20]

theorem pay30_at (x : Vec Ideal S1x1x1x1560x128 .fp8e4m3) (n : Fin 1560) (d : Fin 128) : k0_pay30 x (ix3 0 d n) = x (ix5 0 0 0 n d) := by
  pointwise [k0_pay30]

theorem pay4_at (x : Vec Ideal S1x1x1x1560x128 .fp8e4m3) (n : Fin 1560) (d : Fin 128) : k0_pay4 x (ix2 n d) = x (ix5 0 0 0 n d) := by
  pointwise [k0_pay4]

theorem pay5_at (ss : Vec Ideal S1560x128 .f32) (ts : Vec Ideal S1x128 .f32) (n : Fin 1560) (d : Fin 128) :
    k0_pay5 ss ts (ix2 n d) = ss (ix2 n d) + ts (ix2 0 d) := by
  pointwise [k0_pay5]

theorem pay6_at (x : Vec Ideal S1x1x1x1560x128 .fp8e4m3) (sc : Vec Ideal S1560x128 .f32) (tc : Vec Ideal S1x128 .f32) (n : Fin 1560) (d : Fin 128) :
    k0_pay6 x sc tc (ix2 n d) = x (ix5 0 0 0 n d) * (sc (ix2 n d) + tc (ix2 0 d)) := by
  pointwise [k0_pay6]
  rw [pay4_at]

/-- The even lanes. -/
theorem pay7_at (n : Fin 1560) (d : Fin 128) : k0_pay7 (ix2 n d) = if d.val % 2 = 0 then 1#1 else 0#1 := by
  pointwise [k0_pay7]
  revert d; decide +kernel

theorem pay29_at (a b c : FVec Ideal S1560x128 .f32) (m : IVec S1560x128 1) (n : Fin 1560) (d : Fin 128) :
    (k0_pay29 (F := Ideal) a b c m) (ix3 0 n d) = c (ix2 n d) +
      Scalar.select (m (ix2 n d)) (a (ix2 n ⟨(d.val + 1) % 128, by omega⟩)) (a (ix2 n ⟨(d.val + 127) % 128, by omega⟩)) * b (ix2 n d) := by
  pointwise [k0_pay29]
  rw [show (⟨(d.val + 128 - 127) % 128, _⟩ : Fin 128) = ⟨(d.val + 1) % 128, by omega⟩ from Fin.ext (show (d.val + 128 - 127) % 128 = (d.val + 1) % 128 by omega),
    show (⟨(d.val + 128 - 1) % 128, _⟩ : Fin 128) = ⟨(d.val + 127) % 128, by omega⟩ from Fin.ext (show (d.val + 128 - 1) % 128 = (d.val + 127) % 128 by omega)]

section
variable (k v : Vec Ideal S1x1x4680x128 .bf16) (kc vc : Vec Ideal S1x21x1x1560x128 .fp8e4m3) (tc ts : Vec Ideal S1024x128 .f32)
  (sc ss : Vec Ideal S1560x128 .f32) (p : ℕ → ℕ)

theorem keyAt_even (f : Fin 21) (pos : Fin 1024) (hp : p f.val = pos.val) (n : Fin 1560) (d : Fin 128) (hd : d.val % 2 = 0) :
    keyAt k kc tc ts sc ss p f.val (ix3 0 n d) = kc (ix5 0 f 0 n d) * (sc (ix2 n d) + tc (ix2 pos d))
      + kc (ix5 0 f 0 n ⟨d.val + 1, by omega⟩) * (ss (ix2 n d) + ts (ix2 pos d)) := by
  unfold keyAt
  rw [if_pos f.isLt, pay29_at, pay7_at, if_pos hd, pay6_at, pay5_at, pay4_at, pay4_at, frameOf_at, hp, rowOf_at, rowOf_at]
  show _ + frameOf kc f.val (ix5 0 0 0 n _) * _ = _
  rw [frameOf_at]
  congr 3
  exact congrArg (fun z => ix5 0 f 0 n z) (Fin.ext (Nat.mod_eq_of_lt (by omega)))

theorem keyAt_odd (f : Fin 21) (pos : Fin 1024) (hp : p f.val = pos.val) (n : Fin 1560) (d : Fin 128) (hd : d.val % 2 = 1) :
    keyAt k kc tc ts sc ss p f.val (ix3 0 n d) = kc (ix5 0 f 0 n d) * (sc (ix2 n d) + tc (ix2 pos d))
      + kc (ix5 0 f 0 n ⟨d.val - 1, by omega⟩) * (ss (ix2 n d) + ts (ix2 pos d)) := by
  unfold keyAt
  rw [if_pos f.isLt, pay29_at, pay7_at, if_neg (by omega), pay6_at, pay5_at, pay4_at, pay4_at, frameOf_at, hp, rowOf_at, rowOf_at]
  show _ + frameOf kc f.val (ix5 0 0 0 n _) * _ = _
  rw [frameOf_at]
  congr 3
  exact congrArg (fun z => ix5 0 f 0 n z) (Fin.ext (show (d.val + 127) % 128 = d.val - 1 by omega))

theorem keyAt_chunk (r : Fin 3) (n : Fin 1560) (d : Fin 128) :
    keyAt k kc tc ts sc ss p (21 + r.val) (ix3 0 n d) = k (ix4 0 0 ⟨r.val * 1560 + n.val, by omega⟩ d) := by
  unfold keyAt
  rw [if_neg (by omega), pay1_at, Nat.add_sub_cancel_left, chunkOf_at]

theorem valAt_ring (f : Fin 21) (n : Fin 1560) (d : Fin 128) : valAt v vc f.val (ix3 0 d n) = vc (ix5 0 f 0 n d) := by
  unfold valAt
  rw [if_pos f.isLt, pay30_at, frameOf_at]

theorem valAt_chunk (r : Fin 3) (n : Fin 1560) (d : Fin 128) :
    valAt v vc (21 + r.val) (ix3 0 d n) = v (ix4 0 0 ⟨r.val * 1560 + n.val, by omega⟩ d) := by
  unfold valAt
  rw [if_neg (by omega), pay2_at, Nat.add_sub_cancel_left, chunkOf_at]

theorem scaleAt_cache (x : Vec Ideal S504 .f32) (b : Fin 2) (h : Fin 12) (f : Fin 21) :
    scaleAt x b.val h.val f.val = x (ix1 ⟨(b.val * 21 + f.val) * 12 + h.val, by omega⟩) := by
  unfold scaleAt
  rw [if_pos f.isLt, ix1_eq_valueIdx]
  exact congrArg (fun z => x (ValueIdx.ix1 z)) (Fin.ext (Nat.mod_eq_of_lt (by omega)))

theorem scaleAt_now (x : Vec Ideal S504 .f32) (b h : ℕ) (r : ℕ) : scaleAt x b h (21 + r) = (1 : EReal) := by
  unfold scaleAt
  rw [if_neg (by omega)]
  exact Ideal.ofBits_one_f32

end

end Cert.AttnIdeal.Body

end
-- ==== Proof.Online.lean ====
/-
  The running maximum, sum and weighted sum of a softmax over the extended reals.

  A list of frames, each with `n` scores, is gone through once. The running maximum is rounded up to an integer after
  every frame, and the sum so far is rescaled by two to the change of the maximum. At the end the sum is what a single
  pass with the final maximum gives: `sums_eq`. No score needs to be finite. An infinite score makes every weight 0,
  in both readings alike.
-/
module

public import Idealize.ShloMosaic.PureOps.Ideal

@[expose] public section

noncomputable section

namespace Online

open Idealize.ShloMosaic

/-- Rounding up to an integer, the infinities fixed. -/
abbrev ceil (x : EReal) : EReal := Ideal.liftRound Int.ceil x

theorem le_ceil (x : EReal) : x ≤ ceil x := by
  induction x with
  | bot => exact le_refl _
  | top => exact le_refl _
  | coe r => exact EReal.coe_le_coe_iff.mpr (Int.le_ceil r)

theorem ceil_mono : Monotone ceil := by
  intro x y h
  induction x with
  | bot => exact bot_le
  | top => rw [top_le_iff.mp h]
  | coe r =>
    induction y with
    | bot => exact absurd h (by simp)
    | top => exact le_top
    | coe s =>
      exact EReal.coe_le_coe_iff.mpr (Int.cast_le.mpr (Int.ceil_mono (EReal.coe_le_coe_iff.mp h)))

theorem ceil_max (x y : EReal) : ceil (max x y) = max (ceil x) (ceil y) := ceil_mono.map_max

theorem ceil_bot : ceil ⊥ = ⊥ := rfl

/-- The weight of a score against a maximum: two to their difference. -/
def w (s M : EReal) : EReal := Ideal.exp2 (s - M)

theorem exp2_nonneg (x : EReal) : 0 ≤ Ideal.exp2 x := by
  induction x with
  | bot => exact le_refl _
  | top => exact le_top
  | coe r => exact EReal.coe_nonneg.mpr (Real.rpow_nonneg (by norm_num) r)

theorem w_nonneg (s M : EReal) : 0 ≤ w s M := exp2_nonneg _

theorem w_top (s : EReal) : w s ⊤ = 0 := by
  unfold w; rw [sub_eq_add_neg, EReal.neg_top, EReal.add_bot]; rfl

theorem w_bot (M : EReal) : w ⊥ M = 0 := by
  unfold w; rw [sub_eq_add_neg, EReal.bot_add]; rfl

theorem w_coe (r t : ℝ) : w r t = ((2 : ℝ) ^ (r - t) : ℝ) := by
  unfold w; rw [← EReal.coe_sub]; rfl

theorem w_ne_top {s M : EReal} (h : s ≤ M) : w s M ≠ ⊤ := by
  induction M with
  | top => rw [w_top]; exact EReal.zero_ne_top
  | bot => rw [le_bot_iff.mp h, w_bot]; exact EReal.zero_ne_top
  | coe t =>
    induction s with
    | bot => rw [w_bot]; exact EReal.zero_ne_top
    | top => exact absurd h (by simp)
    | coe r => rw [w_coe]; exact EReal.coe_ne_top _

/-- Rescaling a weight from one maximum to a greater one. -/
theorem w_mul {s m M : EReal} (h1 : s ≤ m) (h2 : m ≤ M) : w s m * w m M = w s M := by
  induction M with
  | top => rw [w_top, w_top, mul_zero]
  | bot => rw [le_bot_iff.mp h2] at h1 ⊢; rw [le_bot_iff.mp h1, w_bot, zero_mul]
  | coe t =>
    induction m with
    | top => exact absurd h2 (by simp)
    | bot => rw [le_bot_iff.mp h1, w_bot, w_bot, zero_mul]
    | coe u =>
      induction s with
      | bot => rw [w_bot, w_bot, zero_mul]
      | top => exact absurd h1 (by simp)
      | coe r =>
        rw [w_coe, w_coe, w_coe, ← EReal.coe_mul, ← Real.rpow_add (by norm_num)]
        congr 2; ring

/-- Multiplying by a finite number that is not negative, as a map that keeps sums. -/
def scale (a : EReal) (h0 : 0 ≤ a) (h1 : a ≠ ⊤) : EReal →+ EReal where
  toFun x := x * a
  map_zero' := zero_mul a
  map_add' x y := EReal.right_distrib_of_nonneg_of_ne_top h0 h1 x y

variable {n : ℕ}

/-- The greatest score of a frame, rounded up. -/
def top (s : Fin n → EReal) : EReal := ceil (Finset.univ.sup s)

theorem le_top' (s : Fin n → EReal) (i : Fin n) : s i ≤ top s := (Finset.le_sup (Finset.mem_univ i)).trans (le_ceil _)

/-- The running maximum after the frames `fs`. -/
def mx (S : ℕ → Fin n → EReal) (fs : List ℕ) : EReal := fs.foldl (fun m f => max m (top (S f))) ⊥

theorem mx_snoc (S : ℕ → Fin n → EReal) (fs : List ℕ) (f : ℕ) : mx S (fs ++ [f]) = max (mx S fs) (top (S f)) := by
  unfold mx; rw [List.foldl_append]; rfl

/-- One frame's addition to a running weighted sum, the sum so far rescaled. -/
def step (s x : Fin n → EReal) (m a : EReal) : EReal :=
  a * w m (max m (top s)) + ∑ i, w (s i) (max m (top s)) * x i

/-- The running weighted sum after the frames `fs`. -/
def run (S X : ℕ → Fin n → EReal) (fs : List ℕ) : EReal × EReal :=
  fs.foldl (fun a f => (max a.1 (top (S f)), step (S f) (X f) a.1 a.2)) (⊥, 0)

theorem run_snoc (S X : ℕ → Fin n → EReal) (fs : List ℕ) (f : ℕ) :
    run S X (fs ++ [f]) = (max (run S X fs).1 (top (S f)), step (S f) (X f) (run S X fs).1 (run S X fs).2) := by
  unfold run; rw [List.foldl_append]; rfl

theorem run_fst (S X : ℕ → Fin n → EReal) (fs : List ℕ) : (run S X fs).1 = mx S fs := by
  induction fs using List.reverseRecOn with
  | nil => rfl
  | append_singleton fs f ih => rw [run_snoc, mx_snoc, ih]

theorem le_mx (S : ℕ → Fin n → EReal) (fs : List ℕ) (f : ℕ) (hf : f ∈ fs) (i : Fin n) : S f i ≤ mx S fs := by
  induction fs using List.reverseRecOn with
  | nil => exact absurd hf (by simp)
  | append_singleton fs g ih =>
    rw [mx_snoc]
    rcases List.mem_append.mp hf with h | h
    · exact (ih h).trans (le_max_left _ _)
    · rw [List.mem_singleton] at h; subst h
      exact (le_top' _ i).trans (le_max_right _ _)

/-- The running weighted sum is the weighted sum against the final maximum. -/
theorem run_snd (S X : ℕ → Fin n → EReal) (fs : List ℕ) :
    (run S X fs).2 = (fs.map fun f => ∑ i, w (S f i) (mx S fs) * X f i).sum := by
  induction fs using List.reverseRecOn with
  | nil => rfl
  | append_singleton fs f ih =>
    rw [run_snoc, run_fst, ih, mx_snoc, List.map_append, List.sum_append, List.map_singleton, List.sum_singleton]
    show (fs.map fun g => ∑ i, w (S g i) (mx S fs) * X g i).sum * w (mx S fs) (max (mx S fs) (top (S f))) + _ = _
    congr 1
    have hm : mx S fs ≤ max (mx S fs) (top (S f)) := le_max_left _ _
    have key := map_list_sum (scale (w (mx S fs) (max (mx S fs) (top (S f)))) (w_nonneg _ _) (w_ne_top hm))
      (fs.map fun g => ∑ i, w (S g i) (mx S fs) * X g i)
    refine key.trans ?_
    rw [List.map_map]
    congr 1
    refine List.map_congr_left fun g hg => ?_
    show scale _ _ _ (∑ i, w (S g i) (mx S fs) * X g i) = _
    rw [map_sum]
    refine Finset.sum_congr rfl fun i _ => ?_
    show w (S g i) (mx S fs) * X g i * _ = _
    rw [mul_right_comm, w_mul (le_mx S fs g hg i) hm]

/-- The running maximum is the greatest score of all, rounded up. -/
theorem mx_eq (S : ℕ → Fin n → EReal) (fs : List ℕ) (M : EReal)
    (h1 : ∀ f ∈ fs, ∀ i, S f i ≤ M) (h2 : ∀ u, (∀ f ∈ fs, ∀ i, S f i ≤ u) → M ≤ u) : mx S fs = ceil M := by
  have e : mx S fs = ceil (fs.foldl (fun m f => max m (Finset.univ.sup (S f))) ⊥) := by
    clear h1 h2
    induction fs using List.reverseRecOn with
    | nil => rfl
    | append_singleton fs f ih => rw [mx_snoc, ih, List.foldl_append]; exact (ceil_max _ _).symm
  rw [e]
  congr 1
  have up : ∀ (fs : List ℕ) (u : EReal), (∀ f ∈ fs, ∀ i, S f i ≤ u) → fs.foldl (fun m f => max m (Finset.univ.sup (S f))) ⊥ ≤ u := by
    intro fs u hu
    induction fs using List.reverseRecOn with
    | nil => exact bot_le
    | append_singleton fs f ih =>
      rw [List.foldl_append]
      refine max_le (ih fun g hg i => hu g (List.mem_append_left _ hg) i) (Finset.sup_le fun i _ => hu f (by simp) i)
  have lo : ∀ (fs : List ℕ), ∀ f ∈ fs, ∀ i, S f i ≤ fs.foldl (fun m f => max m (Finset.univ.sup (S f))) ⊥ := by
    intro fs f hf i
    induction fs using List.reverseRecOn with
    | nil => exact absurd hf (by simp)
    | append_singleton fs g ih =>
      rw [List.foldl_append]
      rcases List.mem_append.mp hf with h | h
      · exact (ih h).trans (le_max_left _ _)
      · rw [List.mem_singleton] at h; subst h
        exact (Finset.le_sup (f := S f) (Finset.mem_univ i)).trans (le_max_right _ _)
  exact le_antisymm (up fs M h1) (h2 _ (lo fs))

end Online

end
-- ==== Proof.Frames.lean ====
/-
  A softmax over the frames a chunk sees, read as one over all frames with minus infinity where a frame is not seen.

  The frames are 21 cached ones, of which a test `P` picks some, and three current ones, whose 3 × 1560 scores the other
  reading counts in one axis of 4680.
-/
module

public import proofs.«01_k».proof.Proof.Online
public import proofs.«01_k».proof.Proof.Words

@[expose] public section

noncomputable section

namespace Online

open Idealize.ShloMosaic AttnWords

variable (S X : ℕ → Fin 1560 → EReal) (P : ℕ → Bool)

/-- The scores of cached frame `r`, minus infinity if it is not seen. -/
def masked (r : Fin 21) (i : Fin 1560) : EReal := if P r.val then S r.val i else ⊥

/-- The value of a current frame at place `x` of the single axis. -/
def now (S : ℕ → Fin 1560 → EReal) (x : Fin 4680) : EReal := S (21 + x.val / 1560) ⟨x.val % 1560, Nat.mod_lt _ (by decide)⟩

theorem mem_frames (f : ℕ) : f ∈ vis P 21 ++ [21, 22, 23] ↔ (f < 21 ∧ P f = true) ∨ (21 ≤ f ∧ f < 24) := by
  unfold vis
  simp only [List.mem_append, List.mem_filter, List.mem_range, List.mem_cons, List.not_mem_nil, or_false]
  constructor
  · rintro (h | h)
    · exact Or.inl h
    · exact Or.inr (by omega)
  · rintro (h | h)
    · exact Or.inl h
    · exact Or.inr (by omega)

/-- The greatest of all scores, rounded up. -/
theorem mx_frames : mx S (vis P 21 ++ [21, 22, 23]) =
    ceil (max ((Finset.univ : Finset (Fin 21 × Fin 1560)).fold max ⊥ fun k => masked S P k.1 k.2)
      ((Finset.univ : Finset (Fin 4680)).fold max ⊥ (now S))) := by
  apply mx_eq
  · intro f hf i
    rcases (mem_frames P f).mp hf with ⟨h, hp⟩ | ⟨h1, h2⟩
    · refine le_max_of_le_left ?_
      have := Finset.le_sup (f := fun k : Fin 21 × Fin 1560 => masked S P k.1 k.2) (Finset.mem_univ (⟨f, h⟩, i))
      unfold masked at this
      rw [if_pos hp] at this
      exact this
    · refine le_max_of_le_right ?_
      have hx : (f - 21) * 1560 + i.val < 4680 := by have := i.isLt; omega
      have := Finset.le_sup (f := now S) (Finset.mem_univ (⟨(f - 21) * 1560 + i.val, hx⟩ : Fin 4680))
      unfold now at this
      have e1 : 21 + ((f - 21) * 1560 + i.val) / 1560 = f := by have := i.isLt; omega
      have e2 : ((f - 21) * 1560 + i.val) % 1560 = i.val := by have := i.isLt; omega
      simp only [e1, e2] at this
      exact this
  · intro u hu
    refine max_le ?_ ?_
    · refine Finset.sup_le (f := fun k : Fin 21 × Fin 1560 => masked S P k.1 k.2) fun k _ => ?_
      unfold masked
      split
      · rename_i h
        exact hu _ ((mem_frames P _).mpr (Or.inl ⟨k.1.isLt, h⟩)) _
      · exact bot_le
    · refine Finset.sup_le (f := now S) fun x _ => ?_
      exact hu _ ((mem_frames P _).mpr (Or.inr (by have := x.isLt; omega))) _

theorem sum_range_filter (g : ℕ → EReal) (k : ℕ) : ((vis P k).map g).sum = ∑ r : Fin k, if P r.val then g r.val else 0 := by
  induction k with
  | zero => rfl
  | succ k ih =>
    rw [Fin.sum_univ_castSucc]
    by_cases h : P k = true
    · rw [vis_succ_true P k h, List.map_append, List.sum_append, ih]
      simp [h]
    · rw [vis_succ_false P k (by simpa using h), ih]
      simp [h]

/-- Summing three frames of 1560 is summing along the single axis. -/
theorem sum_now (G : ℕ → Fin 1560 → EReal) :
    (∑ i, G 21 i) + ((∑ i, G 22 i) + (∑ i, G 23 i)) = ∑ x, now G x := by
  have e : (∑ x, now G x) = ∑ k : Fin 3 × Fin 1560, G (21 + k.1.val) k.2 := by
    refine Fintype.sum_equiv (finProdFinEquiv (m := 3) (n := 1560)).symm _ _ fun x => ?_
    unfold now
    rfl
  rw [e, Fintype.sum_prod_type, Fin.sum_univ_three, add_assoc]
  rfl

/-- The running weighted sum over the frames seen is the weighted sum over all frames. -/
theorem run_frames : (run S X (vis P 21 ++ [21, 22, 23])).2 =
    (∑ r : Fin 21, ∑ i, w (masked S P r i) (mx S (vis P 21 ++ [21, 22, 23])) * X r.val i)
      + ∑ x, w (now S x) (mx S (vis P 21 ++ [21, 22, 23])) * now X x := by
  rw [run_snd, List.map_append, List.sum_append, sum_range_filter]
  congr 1
  · refine Finset.sum_congr rfl fun r _ => ?_
    unfold masked
    split
    · rfl
    · exact (Finset.sum_eq_zero fun i _ => by rw [w_bot, zero_mul]).symm
  · have := sum_now fun f i => w (S f i) (mx S (vis P 21 ++ [21, 22, 23])) * X f i
    refine Eq.trans ?_ this
    simp only [List.map_cons, List.map_nil, List.sum_cons, List.sum_nil, add_zero]

end Online

end
-- ==== Proof.Consts.lean ====
/-
  The float constants of the two programs as extended reals, and a power of two read as an exponential.
-/
module

public import Idealize.ShloMosaic.PureOps.Ideal
public import Idealize.ShloMosaic.Lib.IdealHost

@[expose] public section

noncomputable section

namespace AttnConst

open Idealize.ShloMosaic

theorem bits_bot : Ideal.ofBits .f32 0xFF800000#32 = ⊥ := by
  simp [Ideal.ofBits, Ideal.ieee]

theorem bits_two : Ideal.ofBits .f32 0x40000000#32 = ((2 : ℝ) : EReal) := by
  simp [Ideal.ofBits, Ideal.ieee, -EReal.coe_mul]; norm_num

theorem bits_neg_one : Ideal.ofBits .f32 0xBF800000#32 = ((-(1 : ℝ) : ℝ) : EReal) := by
  simp [Ideal.ofBits, Ideal.ieee, -EReal.coe_mul, -EReal.coe_neg]; norm_num

theorem bits_one : Ideal.ofBits .f32 0x3F800000#32 = 1 := Ideal.ofBits_one_f32

/-- The power of two with any exponent is the exponential to base two. -/
theorem pow_two (x : EReal) : Ideal.pow (Ideal.ofBits .f32 0x40000000#32) x = Ideal.exp2 x := by
  rw [bits_two]
  induction x with
  | bot => rw [Ideal.pow_coe_bot, if_neg (by norm_num), if_pos (by norm_num)]; rfl
  | top => rw [Ideal.pow_coe_top, if_neg (by norm_num), if_pos (by norm_num)]; rfl
  | coe r => rfl

/-- A number times minus one, the product on the other side of it. -/
theorem mul_mul_neg_one (z s : EReal) : z * (s * ((-(1 : ℝ) : ℝ) : EReal)) = -(z * s) := by
  rw [EReal.coe_neg, EReal.coe_one, mul_neg, mul_one, mul_neg]

end AttnConst

end
-- ==== Proof.AttnIdeal.Step.lean ====
/-
  One column of a tile of queries: the kernel's running maximum, sum and weighted sum over the frames are the pure
  recurrence of `Online`.
-/
module

public import proofs.«01_k».proof.Proof.AttnIdeal.Values
public import proofs.«01_k».proof.Proof.Frames
public import proofs.«01_k».proof.Proof.Consts
public import Idealize.ShloMosaic.Lib.Pointwise

@[expose] public section

set_option maxRecDepth 16384

noncomputable section

namespace Cert.AttnIdeal.Body

open Cert.AttnIdeal Cert.AttnIdeal.Gen AttnWords AttnBlocks AttnConst
open Idealize.ShloMosaic Idealize.ShloMosaic.TcCoe

theorem scoreOf_at (q : FVec Ideal S312x128 .bf16) (kr : FVec Ideal S1x1560x128 .bf16) (ks : Ideal .f32) (n : Fin 1560) (t : Fin 312) :
    scoreOf q kr ks (ix2 n t) = (∑ x, kr (ix3 0 n x) * q (ix2 t x)) * (Ideal.ofBits .f32 0x3DB504F3#32 * ks * Ideal.ofBits .f32 0x3FB8AA3B#32) := by
  pointwise [scoreOf]

theorem maxOf_at (s : FVec Ideal S1560x312 .f32) (m : FVec Ideal S1x312 .f32) (t : Fin 312) :
    maxOf s m (ix2 0 t) = max (m (ix2 0 t)) (Online.top fun n => s (ix2 n t)) := by
  have e : maxOf s m (ix2 0 t) = max (m (ix2 0 t)) (Ideal.liftRound Int.ceil
        (Finset.fold max (Ideal.ofBits .f32 0xFF800000#32) (fun x => s (ix2 x t)) Finset.univ)) := by
    pointwise [maxOf]
  rw [e, bits_bot]
  rfl

theorem expOf_at (s : FVec Ideal S1560x312 .f32) (m : FVec Ideal S1x312 .f32) (n : Fin 1560) (t : Fin 312) :
    expOf s m (ix2 n t) = Online.w (s (ix2 n t)) (m (ix2 0 t)) := by
  have e : expOf s m (ix2 n t) = FloatOps.exp2 (F := Ideal) (φ := .f32) (s (ix2 n t) - m (ix2 0 t)) := by
    pointwise [expOf]
  exact e

theorem pay24_at (s : FVec Ideal S1560x312 .f32) (m : FVec Ideal S1x312 .f32) (t : Fin 312) :
    k0_pay24 s m (ix2 0 t) = m (ix2 0 t) + ∑ x, s (ix2 x t) := by
  pointwise [k0_pay24]

theorem pay25_at (p : FVec Ideal S1560x312 .f32) (g : FVec Ideal S1x312 .f32) (a : FVec Ideal S128x312 .f32) (vs : Ideal .f32)
    (vt : FVec Ideal S1x128x1560 .bf16) (d : Fin 128) (t : Fin 312) :
    k0_pay25 a vs p g vt (ix2 d t) = a (ix2 d t) * g (ix2 0 t) + ∑ x, vt (ix3 0 d x) * (p (ix2 x t) * vs) := by
  pointwise [k0_pay25]

theorem out_at (l : FVec Ideal S1x312 .f32) (a : FVec Ideal S128x312 .f32) (d : Fin 128) (t : Fin 312) :
    k0_pay3 (k0_pay28 l a) (ix4 0 0 t d) = Ideal.div (a (ix2 d t)) (l (ix2 0 t)) := by
  pointwise [k0_pay28, k0_pay3]

theorem pay21_at (t : Fin 312) : (k0_pay21 (F := Ideal)) (ix2 0 t) = ⊥ := by
  have e : (k0_pay21 (F := Ideal)) (ix2 0 t) = Ideal.ofBits .f32 0xFF800000#32 := by pointwise [k0_pay21]
  rw [e, bits_bot]

theorem pay22_at (t : Fin 312) : (k0_pay22 (F := Ideal)) (ix2 0 t) = 0 := by
  pointwise [k0_pay22]

theorem pay23_at (d : Fin 128) (t : Fin 312) : (k0_pay23 (F := Ideal)) (ix2 d t) = 0 := by
  pointwise [k0_pay23]

section
variable (q : FVec Ideal S312x128 .bf16) (K : ℕ → FVec Ideal S1x1560x128 .bf16) (V : ℕ → FVec Ideal S1x128x1560 .bf16)
  (KS VS : ℕ → Ideal .f32) (t : Fin 312)

/-- The scores of query `t` against frame `f`. -/
def colScore (f : ℕ) (n : Fin 1560) : EReal := scoreOf q (K f) (KS f) (ix2 n t)

/-- The values of frame `f` at lane `d`, scaled. -/
def colValue (d : Fin 128) (f : ℕ) (n : Fin 1560) : EReal := VS f * V f (ix3 0 d n)

theorem accOf_snoc (fs : List ℕ) (f : ℕ) :
    accOf q K V KS VS (fs ++ [f]) = stepOf q (K f) (V f) (KS f) (VS f) (accOf q K V KS VS fs) := by
  unfold accOf; rw [List.foldl_append]; rfl

theorem acc_max (fs : List ℕ) : (accOf q K V KS VS fs).1 (ix2 0 t) = Online.mx (colScore q K KS t) fs := by
  induction fs using List.reverseRecOn with
  | nil => exact pay21_at t
  | append_singleton fs f ih =>
    rw [accOf_snoc, Online.mx_snoc, ← ih]
    exact maxOf_at _ _ t

theorem acc_sum (fs : List ℕ) :
    (accOf q K V KS VS fs).2.1 (ix2 0 t) = (Online.run (colScore q K KS t) (fun _ _ => 1) fs).2 := by
  induction fs using List.reverseRecOn with
  | nil => exact pay22_at t
  | append_singleton fs f ih =>
    rw [accOf_snoc, Online.run_snoc, Online.run_fst]
    have e : (maxOf (scoreOf q (K f) (KS f)) (accOf q K V KS VS fs).1) (ix2 0 t) =
        max (Online.mx (colScore q K KS t) fs) (Online.top (colScore q K KS t f)) := by
      rw [maxOf_at, acc_max]; rfl
    refine (pay24_at _ _ t).trans ?_
    show (accOf q K V KS VS fs).2.1 (ix2 0 t) * Online.w ((accOf q K V KS VS fs).1 (ix2 0 t)) ((maxOf (scoreOf q (K f) (KS f)) (accOf q K V KS VS fs).1) (ix2 0 t)) + _ = _
    rw [e, acc_max, ih]
    show _ = Online.step _ _ _ _
    unfold Online.step
    congr 1
    refine Finset.sum_congr rfl fun n _ => ?_
    rw [mul_one, expOf_at, e]
    rfl

theorem acc_out (d : Fin 128) (fs : List ℕ) :
    (accOf q K V KS VS fs).2.2 (ix2 d t) = (Online.run (colScore q K KS t) (colValue V VS d) fs).2 := by
  induction fs using List.reverseRecOn with
  | nil => exact pay23_at d t
  | append_singleton fs f ih =>
    rw [accOf_snoc, Online.run_snoc, Online.run_fst]
    have e : (maxOf (scoreOf q (K f) (KS f)) (accOf q K V KS VS fs).1) (ix2 0 t) =
        max (Online.mx (colScore q K KS t) fs) (Online.top (colScore q K KS t f)) := by
      rw [maxOf_at, acc_max]; rfl
    refine (pay25_at _ _ _ _ _ d t).trans ?_
    show (accOf q K V KS VS fs).2.2 (ix2 d t) * Online.w ((accOf q K V KS VS fs).1 (ix2 0 t)) ((maxOf (scoreOf q (K f) (KS f)) (accOf q K V KS VS fs).1) (ix2 0 t)) + _ = _
    rw [e, acc_max, ih]
    show _ = Online.step _ _ _ _
    unfold Online.step
    congr 1
    refine Finset.sum_congr rfl fun n _ => ?_
    rw [expOf_at, e, mul_comm, mul_assoc]
    rfl

/-- What the kernel writes for a query at a lane: the quotient of the two sums. -/
theorem tileOut_at (fs : List ℕ) (d : Fin 128) :
    tileOut q K V KS VS fs (ix4 0 0 t d) =
      Ideal.div (Online.run (colScore q K KS t) (colValue V VS d) fs).2 (Online.run (colScore q K KS t) (fun _ _ => 1) fs).2 := by
  unfold tileOut
  rw [out_at, acc_out, acc_sum]

end

end Cert.AttnIdeal.Body

end
-- ==== Proof.AttnIdeal.Tables.lean ====
/-
  The padded tables of rotations and the transposed and flattened cache arrays at an index.
-/
module

public import proofs.«01_k».proof.Proof.AttnIdeal.Prefix
public import proofs.«01_k».proof.Proof.Consts
public import Idealize.ShloMosaic.Lib.Pointwise
public import Idealize.ShloMosaic.Lib.Affine

@[expose] public section

set_option maxRecDepth 16384

noncomputable section

namespace Cert.AttnIdeal.Host

open Cert.AttnIdeal Cert.AttnIdeal.Gen AttnConst
open Idealize.ShloMosaic Idealize.ShloMosaic.TcCoe

/-- The integer zero as a float. -/
theorem zero_word : FloatOps.sitofp (F := Ideal) .f32 (0#32) = 0 := by
  show (((0#32 : BitVec 32).toInt : ℝ) : EReal) = 0
  simp

theorem spreadT_at (x : Vec Ideal S1024x22 .f32) (p : Fin 1024) (j : Fin 44) : spreadT x (ix2 p j) = x (ix2 p ⟨j.val / 2, by omega⟩) := by
  pointwise [spreadT]

theorem spreadS_at (x : Vec Ideal S1560x42 .f32) (p : Fin 1560) (j : Fin 84) : spreadS x (ix2 p j) = x (ix2 p ⟨j.val / 2, by omega⟩) := by
  pointwise [spreadS]

theorem cosT_at (x : Vec Ideal S1024x22 .f32) (p : Fin 1024) (d : Fin 128) :
    cosT x (ix2 p d) = if h : d.val < 44 then x (ix2 p ⟨d.val / 2, by omega⟩) else 0 := by
  pointwise [cosT]
  rw [zero_word]

theorem cosS_at (x : Vec Ideal S1560x42 .f32) (n : Fin 1560) (d : Fin 128) :
    cosS x (ix2 n d) = if h : d.val < 44 then 0 else x (ix2 n ⟨(d.val - 44) / 2, by omega⟩) := by
  pointwise [cosS]
  rw [zero_word]
  split <;> split <;> first | rfl | omega

theorem parityT_at (j : Fin 44) : (parityT (F := Ideal)) (ix1 j) = BitVec.ofNat 32 (j.val % 2) := by
  pointwise [parityT]
  revert j; decide +kernel

theorem parityS_at (j : Fin 84) : (parityS (F := Ideal)) (ix1 j) = BitVec.ofNat 32 (j.val % 2) := by
  pointwise [parityS]
  revert j; decide +kernel

theorem sinT_at (x : Vec Ideal S1024x44 .f32) (y : Vec Ideal S44 .i32) (p : Fin 1024) (d : Fin 128) :
    sinT x y (ix2 p d) = if h : d.val < 44 then x (ix2 p ⟨d.val, h⟩) * Scalar.select (IntOp.cmpi .eq (y (ix1 ⟨d.val, h⟩)) 0#32) (Ideal.ofBits .f32 0xBF800000#32) 1 else 0 := by
  pointwise [sinT]
  rw [zero_word]

theorem sinS_at (x : Vec Ideal S1560x84 .f32) (y : Vec Ideal S84 .i32) (n : Fin 1560) (d : Fin 128) :
    sinS x y (ix2 n d) = if h : d.val < 44 then 0 else x (ix2 n ⟨d.val - 44, by omega⟩) * Scalar.select (IntOp.cmpi .eq (y (ix1 ⟨d.val - 44, by omega⟩)) 0#32) (Ideal.ofBits .f32 0xBF800000#32) 1 := by
  pointwise [sinS]
  rw [zero_word]
  split <;> split <;> first | rfl | omega

theorem kcodes_at (x : Vec Ideal S2x21x1560x12x128 .fp8e4m3) (b : Fin 2) (r : Fin 21) (h : Fin 12) (n : Fin 1560) (d : Fin 128) :
    kcodes x (ix5 b r h n d) = x (ix5 b r n h d) := by
  pointwise [kcodes]

theorem vcodes_at (x : Vec Ideal S2x21x1560x12x128 .fp8e4m3) (b : Fin 2) (r : Fin 21) (h : Fin 12) (n : Fin 1560) (d : Fin 128) :
    vcodes x (ix5 b r h n d) = x (ix5 b r n h d) := by
  pointwise [vcodes]

theorem kscale_at (x : Vec Ideal S2x21x12 .f32) (b : Fin 2) (r : Fin 21) (h : Fin 12) :
    kscale x (ix1 ⟨(b.val * 21 + r.val) * 12 + h.val, by omega⟩) = x (ix3 b r h) := by
  pointwise [kscale]

theorem vscale_at (x : Vec Ideal S2x21x12 .f32) (b : Fin 2) (r : Fin 21) (h : Fin 12) :
    vscale x (ix1 ⟨(b.val * 21 + r.val) * 12 + h.val, by omega⟩) = x (ix3 b r h) := kscale_at x b r h

end Cert.AttnIdeal.Host

end
-- ==== Proof.Reference.Ops.lean ====
/-
  What the reference's host operations leave in the result buffer.

  The operations are cut into segments. Each segment's results are named as plain functions of what it reads
  (`cosRows` to `result`), and `read_all` puts the segments together.
-/
module

public import proofs.«01_k».proof.Proof.Gen.ReferenceIdeal.Frame
public import Idealize.ShloMosaic.Lib.StableHlo.Run

@[expose] public section

set_option maxRecDepth 16384
set_option maxHeartbeats 4000000

noncomputable section

namespace Cert.ReferenceIdeal.Host

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The concatenation that makes `main_v11`. -/
def fn_v11 (a : Vec F S2x21x1560x22 .f32) (b : Vec F S2x21x1560x42 .f32) : Vec F S2x21x1560x64 .f32 :=
  concatenate S2x21x1560x64 3 [⟨S2x21x1560x22, a⟩, ⟨S2x21x1560x42, b⟩] concatenates_S2x21x1560x22_S2x21x1560x42_S2x21x1560x64_d3

/-- The concatenation that makes `main_v23`. -/
def fn_v23 (a : Vec F S2x21x1560x22 .f32) (b : Vec F S2x21x1560x42 .f32) : Vec F S2x21x1560x64 .f32 :=
  concatenate S2x21x1560x64 3 [⟨S2x21x1560x22, a⟩, ⟨S2x21x1560x42, b⟩] concatenates_S2x21x1560x22_S2x21x1560x42_S2x21x1560x64_d3

/-- The concatenation that makes `main_v39`. -/
def fn_v39 (a : Vec F S2x21x1560x12x64x1 .f32) (b : Vec F S2x21x1560x12x64x1 .f32) : Vec F S2x21x1560x12x64x2 .f32 :=
  concatenate S2x21x1560x12x64x2 5 [⟨S2x21x1560x12x64x1, a⟩, ⟨S2x21x1560x12x64x1, b⟩] concatenates_S2x21x1560x12x64x1_S2x21x1560x12x64x1_S2x21x1560x12x64x2_d5

/-- Operations 0 to 13 of the host program. -/
def segA : List (HloOp τ sig (Elt F)) :=
  [StableHlo.nullary main_c (constantI S_ 32 0#32),
     StableHlo.unary main_c main_v1 (broadcastInDim S2x21 ![] bcast_S_S2x21 : (⟨S_, .i32⟩ : BufTy).Contents (Elt F) → (⟨S2x21, .i32⟩ : BufTy).Contents (Elt F)),
     StableHlo.binary main_arg9 main_v1 main_v2 (cmpi .slt : (⟨S2x21, .i32⟩ : BufTy).Contents (Elt F) → (⟨S2x21, .i32⟩ : BufTy).Contents (Elt F) → (⟨S2x21, .i1⟩ : BufTy).Contents (Elt F)),
     StableHlo.nullary main_c_0 (constantI S_ 32 1024#32),
     StableHlo.unary main_c_0 main_v3 (broadcastInDim S2x21 ![] bcast_S_S2x21 : (⟨S_, .i32⟩ : BufTy).Contents (Elt F) → (⟨S2x21, .i32⟩ : BufTy).Contents (Elt F)),
     StableHlo.binary main_arg9 main_v3 main_v4 (addi : (⟨S2x21, .i32⟩ : BufTy).Contents (Elt F) → (⟨S2x21, .i32⟩ : BufTy).Contents (Elt F) → (⟨S2x21, .i32⟩ : BufTy).Contents (Elt F)),
     StableHlo.ternary main_v2 main_v4 main_arg9 main_v5 (select : (⟨S2x21, .i1⟩ : BufTy).Contents (Elt F) → (⟨S2x21, .i32⟩ : BufTy).Contents (Elt F) → (⟨S2x21, .i32⟩ : BufTy).Contents (Elt F) → (⟨S2x21, .i32⟩ : BufTy).Contents (Elt F)),
     StableHlo.unary main_v5 main_v6 (broadcastInDim S2x21x1 ![0, 1] bcast_S2x21_S2x21x1_0_1 : (⟨S2x21, .i32⟩ : BufTy).Contents (Elt F) → (⟨S2x21x1, .i32⟩ : BufTy).Contents (Elt F)),
     StableHlo.binary main_arg11 main_v6 main_v7 ((fun x i => Host.gather gather_S1024x22_S2x21x1_S2x21x22_2_0_n_n_0_2_122 x i) : (⟨S1024x22, .f32⟩ : BufTy).Contents (Elt F) → (⟨S2x21x1, .i32⟩ : BufTy).Contents (Elt F) → (⟨S2x21x22, .f32⟩ : BufTy).Contents (Elt F)),
     StableHlo.unary main_v7 main_v8 (broadcastInDim S2x21x1x22 ![0, 1, 3] bcast_S2x21x22_S2x21x1x22_0_1_3 : (⟨S2x21x22, .f32⟩ : BufTy).Contents (Elt F) → (⟨S2x21x1x22, .f32⟩ : BufTy).Contents (Elt F)),
     StableHlo.unary main_v8 main_v9 (broadcastInDim S2x21x1560x22 ![0, 1, 2, 3] bcast_S2x21x1x22_S2x21x1560x22_0_1_2_3 : (⟨S2x21x1x22, .f32⟩ : BufTy).Contents (Elt F) → (⟨S2x21x1560x22, .f32⟩ : BufTy).Contents (Elt F)),
     StableHlo.unary main_arg13 main_v10 (broadcastInDim S2x21x1560x42 ![2, 3] bcast_S1560x42_S2x21x1560x42_2_3 : (⟨S1560x42, .f32⟩ : BufTy).Contents (Elt F) → (⟨S2x21x1560x42, .f32⟩ : BufTy).Contents (Elt F)),
     StableHlo.binary main_v9 main_v10 main_v11 (fn_v11 (F := F)),
     StableHlo.unary main_v11 main_v12 (broadcastInDim S2x21x1560x1x64 ![0, 1, 2, 4] bcast_S2x21x1560x64_S2x21x1560x1x64_0_1_2_4 : (⟨S2x21x1560x64, .f32⟩ : BufTy).Contents (Elt F) → (⟨S2x21x1560x1x64, .f32⟩ : BufTy).Contents (Elt F)) ]
/-- What they write. -/
abbrev segA_W : List (Ref sig .tc) := [main_c, main_v1, main_v2, main_c_0, main_v3, main_v4, main_v5, main_v6, main_v7, main_v8, main_v9, main_v10, main_v11, main_v12]
theorem segA_writes : (segA : List (HloOp τ sig (Elt F))).Forall fun op => op.writes ⊆ (segA_W.map (Proc.devRef (τ := τ) .tc)).toFinset :=
  StableHlo.forall_writes_sub_of_map rfl

/-- Operations 14 to 27 of the host program. -/
def segB : List (HloOp τ sig (Elt F)) :=
  [StableHlo.nullary main_c_1 (constantI S_ 32 0#32),
     StableHlo.unary main_c_1 main_v13 (broadcastInDim S2x21 ![] bcast_S_S2x21 : (⟨S_, .i32⟩ : BufTy).Contents (Elt F) → (⟨S2x21, .i32⟩ : BufTy).Contents (Elt F)),
     StableHlo.binary main_arg9 main_v13 main_v14 (cmpi .slt : (⟨S2x21, .i32⟩ : BufTy).Contents (Elt F) → (⟨S2x21, .i32⟩ : BufTy).Contents (Elt F) → (⟨S2x21, .i1⟩ : BufTy).Contents (Elt F)),
     StableHlo.nullary main_c_2 (constantI S_ 32 1024#32),
     StableHlo.unary main_c_2 main_v15 (broadcastInDim S2x21 ![] bcast_S_S2x21 : (⟨S_, .i32⟩ : BufTy).Contents (Elt F) → (⟨S2x21, .i32⟩ : BufTy).Contents (Elt F)),
     StableHlo.binary main_arg9 main_v15 main_v16 (addi : (⟨S2x21, .i32⟩ : BufTy).Contents (Elt F) → (⟨S2x21, .i32⟩ : BufTy).Contents (Elt F) → (⟨S2x21, .i32⟩ : BufTy).Contents (Elt F)),
     StableHlo.ternary main_v14 main_v16 main_arg9 main_v17 (select : (⟨S2x21, .i1⟩ : BufTy).Contents (Elt F) → (⟨S2x21, .i32⟩ : BufTy).Contents (Elt F) → (⟨S2x21, .i32⟩ : BufTy).Contents (Elt F) → (⟨S2x21, .i32⟩ : BufTy).Contents (Elt F)),
     StableHlo.unary main_v17 main_v18 (broadcastInDim S2x21x1 ![0, 1] bcast_S2x21_S2x21x1_0_1 : (⟨S2x21, .i32⟩ : BufTy).Contents (Elt F) → (⟨S2x21x1, .i32⟩ : BufTy).Contents (Elt F)),
     StableHlo.binary main_arg12 main_v18 main_v19 ((fun x i => Host.gather gather_S1024x22_S2x21x1_S2x21x22_2_0_n_n_0_2_122 x i) : (⟨S1024x22, .f32⟩ : BufTy).Contents (Elt F) → (⟨S2x21x1, .i32⟩ : BufTy).Contents (Elt F) → (⟨S2x21x22, .f32⟩ : BufTy).Contents (Elt F)),
     StableHlo.unary main_v19 main_v20 (broadcastInDim S2x21x1x22 ![0, 1, 3] bcast_S2x21x22_S2x21x1x22_0_1_3 : (⟨S2x21x22, .f32⟩ : BufTy).Contents (Elt F) → (⟨S2x21x1x22, .f32⟩ : BufTy).Contents (Elt F)),
     StableHlo.unary main_v20 main_v21 (broadcastInDim S2x21x1560x22 ![0, 1, 2, 3] bcast_S2x21x1x22_S2x21x1560x22_0_1_2_3 : (⟨S2x21x1x22, .f32⟩ : BufTy).Contents (Elt F) → (⟨S2x21x1560x22, .f32⟩ : BufTy).Contents (Elt F)),
     StableHlo.unary main_arg14 main_v22 (broadcastInDim S2x21x1560x42 ![2, 3] bcast_S1560x42_S2x21x1560x42_2_3 : (⟨S1560x42, .f32⟩ : BufTy).Contents (Elt F) → (⟨S2x21x1560x42, .f32⟩ : BufTy).Contents (Elt F)),
     StableHlo.binary main_v21 main_v22 main_v23 (fn_v23 (F := F)),
     StableHlo.unary main_v23 main_v24 (broadcastInDim S2x21x1560x1x64 ![0, 1, 2, 4] bcast_S2x21x1560x64_S2x21x1560x1x64_0_1_2_4 : (⟨S2x21x1560x64, .f32⟩ : BufTy).Contents (Elt F) → (⟨S2x21x1560x1x64, .f32⟩ : BufTy).Contents (Elt F)) ]
/-- What they write. -/
abbrev segB_W : List (Ref sig .tc) := [main_c_1, main_v13, main_v14, main_c_2, main_v15, main_v16, main_v17, main_v18, main_v19, main_v20, main_v21, main_v22, main_v23, main_v24]
theorem segB_writes : (segB : List (HloOp τ sig (Elt F))).Forall fun op => op.writes ⊆ (segB_W.map (Proc.devRef (τ := τ) .tc)).toFinset :=
  StableHlo.forall_writes_sub_of_map rfl

/-- Operations 28 to 39 of the host program. -/
def segC : List (HloOp τ sig (Elt F)) :=
  [StableHlo.unary main_v0_0 main_v25 ((Host.slice S2x21x1560x12x64 ![0, 0, 0, 0, 0] ![1, 1, 1, 1, 2] · slicesBy_S2x21x1560x12x128_S2x21x1560x12x64_0s1_0s1_0s1_0s1_0s2) : (⟨S2x21x1560x12x128, .f32⟩ : BufTy).Contents (Elt F) → (⟨S2x21x1560x12x64, .f32⟩ : BufTy).Contents (Elt F)),
     StableHlo.unary main_v0_0 main_v26 ((Host.slice S2x21x1560x12x64 ![0, 0, 0, 0, 1] ![1, 1, 1, 1, 2] · slicesBy_S2x21x1560x12x128_S2x21x1560x12x64_0s1_0s1_0s1_0s1_1s2) : (⟨S2x21x1560x12x128, .f32⟩ : BufTy).Contents (Elt F) → (⟨S2x21x1560x12x64, .f32⟩ : BufTy).Contents (Elt F)),
     StableHlo.unary main_v12 main_v27 (broadcastInDim S2x21x1560x12x64 ![0, 1, 2, 3, 4] bcast_S2x21x1560x1x64_S2x21x1560x12x64_0_1_2_3_4 : (⟨S2x21x1560x1x64, .f32⟩ : BufTy).Contents (Elt F) → (⟨S2x21x1560x12x64, .f32⟩ : BufTy).Contents (Elt F)),
     StableHlo.binary main_v25 main_v27 main_v28 (mulf : (⟨S2x21x1560x12x64, .f32⟩ : BufTy).Contents (Elt F) → (⟨S2x21x1560x12x64, .f32⟩ : BufTy).Contents (Elt F) → (⟨S2x21x1560x12x64, .f32⟩ : BufTy).Contents (Elt F)),
     StableHlo.unary main_v24 main_v29 (broadcastInDim S2x21x1560x12x64 ![0, 1, 2, 3, 4] bcast_S2x21x1560x1x64_S2x21x1560x12x64_0_1_2_3_4 : (⟨S2x21x1560x1x64, .f32⟩ : BufTy).Contents (Elt F) → (⟨S2x21x1560x12x64, .f32⟩ : BufTy).Contents (Elt F)),
     StableHlo.binary main_v26 main_v29 main_v30 (mulf : (⟨S2x21x1560x12x64, .f32⟩ : BufTy).Contents (Elt F) → (⟨S2x21x1560x12x64, .f32⟩ : BufTy).Contents (Elt F) → (⟨S2x21x1560x12x64, .f32⟩ : BufTy).Contents (Elt F)),
     StableHlo.binary main_v28 main_v30 main_v31 (subf : (⟨S2x21x1560x12x64, .f32⟩ : BufTy).Contents (Elt F) → (⟨S2x21x1560x12x64, .f32⟩ : BufTy).Contents (Elt F) → (⟨S2x21x1560x12x64, .f32⟩ : BufTy).Contents (Elt F)),
     StableHlo.unary main_v24 main_v32 (broadcastInDim S2x21x1560x12x64 ![0, 1, 2, 3, 4] bcast_S2x21x1560x1x64_S2x21x1560x12x64_0_1_2_3_4 : (⟨S2x21x1560x1x64, .f32⟩ : BufTy).Contents (Elt F) → (⟨S2x21x1560x12x64, .f32⟩ : BufTy).Contents (Elt F)),
     StableHlo.binary main_v25 main_v32 main_v33 (mulf : (⟨S2x21x1560x12x64, .f32⟩ : BufTy).Contents (Elt F) → (⟨S2x21x1560x12x64, .f32⟩ : BufTy).Contents (Elt F) → (⟨S2x21x1560x12x64, .f32⟩ : BufTy).Contents (Elt F)),
     StableHlo.unary main_v12 main_v34 (broadcastInDim S2x21x1560x12x64 ![0, 1, 2, 3, 4] bcast_S2x21x1560x1x64_S2x21x1560x12x64_0_1_2_3_4 : (⟨S2x21x1560x1x64, .f32⟩ : BufTy).Contents (Elt F) → (⟨S2x21x1560x12x64, .f32⟩ : BufTy).Contents (Elt F)),
     StableHlo.binary main_v26 main_v34 main_v35 (mulf : (⟨S2x21x1560x12x64, .f32⟩ : BufTy).Contents (Elt F) → (⟨S2x21x1560x12x64, .f32⟩ : BufTy).Contents (Elt F) → (⟨S2x21x1560x12x64, .f32⟩ : BufTy).Contents (Elt F)),
     StableHlo.binary main_v33 main_v35 main_v36 (addf : (⟨S2x21x1560x12x64, .f32⟩ : BufTy).Contents (Elt F) → (⟨S2x21x1560x12x64, .f32⟩ : BufTy).Contents (Elt F) → (⟨S2x21x1560x12x64, .f32⟩ : BufTy).Contents (Elt F)) ]
/-- What they write. -/
abbrev segC_W : List (Ref sig .tc) := [main_v25, main_v26, main_v27, main_v28, main_v29, main_v30, main_v31, main_v32, main_v33, main_v34, main_v35, main_v36]
theorem segC_writes : (segC : List (HloOp τ sig (Elt F))).Forall fun op => op.writes ⊆ (segC_W.map (Proc.devRef (τ := τ) .tc)).toFinset :=
  StableHlo.forall_writes_sub_of_map rfl

/-- Operations 40 to 44 of the host program. -/
def segD : List (HloOp τ sig (Elt F)) :=
  [StableHlo.unary main_v31 main_v37 (broadcastInDim S2x21x1560x12x64x1 ![0, 1, 2, 3, 4] bcast_S2x21x1560x12x64_S2x21x1560x12x64x1_0_1_2_3_4 : (⟨S2x21x1560x12x64, .f32⟩ : BufTy).Contents (Elt F) → (⟨S2x21x1560x12x64x1, .f32⟩ : BufTy).Contents (Elt F)),
     StableHlo.unary main_v36 main_v38 (broadcastInDim S2x21x1560x12x64x1 ![0, 1, 2, 3, 4] bcast_S2x21x1560x12x64_S2x21x1560x12x64x1_0_1_2_3_4 : (⟨S2x21x1560x12x64, .f32⟩ : BufTy).Contents (Elt F) → (⟨S2x21x1560x12x64x1, .f32⟩ : BufTy).Contents (Elt F)),
     StableHlo.binary main_v37 main_v38 main_v39 (fn_v39 (F := F)),
     StableHlo.reshape main_v39 main_v40 (rfl : (.f32 : EltTy) = .f32) shapeCasts_S2x21x1560x12x64x2_S2x21x1560x12x128,
     StableHlo.unary main_v40 main_v41 ((truncf .bf16 · bitsLt_bf16_f32) : (⟨S2x21x1560x12x128, .f32⟩ : BufTy).Contents (Elt F) → (⟨S2x21x1560x12x128, .bf16⟩ : BufTy).Contents (Elt F)) ]
/-- What they write. -/
abbrev segD_W : List (Ref sig .tc) := [main_v37, main_v38, main_v39, main_v40, main_v41]
theorem segD_writes : (segD : List (HloOp τ sig (Elt F))).Forall fun op => op.writes ⊆ (segD_W.map (Proc.devRef (τ := τ) .tc)).toFinset :=
  StableHlo.forall_writes_sub_of_map rfl

/-- Operations 45 to 75 of the host program. -/
def segE : List (HloOp τ sig (Elt F)) :=
  [StableHlo.nullary main_v42 (iotaInDim S21 32 0),
     StableHlo.nullary main_c_3 (constantI S_ 32 3#32),
     StableHlo.unary main_c_3 main_v43 (broadcastInDim S21 ![] bcast_S_S21 : (⟨S_, .i32⟩ : BufTy).Contents (Elt F) → (⟨S21, .i32⟩ : BufTy).Contents (Elt F)),
     StableHlo.binary main_v42 main_v43 main_v44 (subi : (⟨S21, .i32⟩ : BufTy).Contents (Elt F) → (⟨S21, .i32⟩ : BufTy).Contents (Elt F) → (⟨S21, .i32⟩ : BufTy).Contents (Elt F)),
     StableHlo.unary main_arg7 main_v45 (broadcastInDim S2x1 ![0] bcast_S2_S2x1_0 : (⟨S2, .i32⟩ : BufTy).Contents (Elt F) → (⟨S2x1, .i32⟩ : BufTy).Contents (Elt F)),
     StableHlo.unary main_v44 main_v46 (broadcastInDim S1x21 ![1] bcast_S21_S1x21_1 : (⟨S21, .i32⟩ : BufTy).Contents (Elt F) → (⟨S1x21, .i32⟩ : BufTy).Contents (Elt F)),
     StableHlo.unary main_v46 main_v47 (broadcastInDim S2x21 ![0, 1] bcast_S1x21_S2x21_0_1 : (⟨S1x21, .i32⟩ : BufTy).Contents (Elt F) → (⟨S2x21, .i32⟩ : BufTy).Contents (Elt F)),
     StableHlo.unary main_v45 main_v48 (broadcastInDim S2x21 ![0, 1] bcast_S2x1_S2x21_0_1 : (⟨S2x1, .i32⟩ : BufTy).Contents (Elt F) → (⟨S2x21, .i32⟩ : BufTy).Contents (Elt F)),
     StableHlo.binary main_v47 main_v48 main_v49 (subi : (⟨S2x21, .i32⟩ : BufTy).Contents (Elt F) → (⟨S2x21, .i32⟩ : BufTy).Contents (Elt F) → (⟨S2x21, .i32⟩ : BufTy).Contents (Elt F)),
     StableHlo.nullary main_c_4 (constantI S_ 32 18#32),
     StableHlo.TRef.unary (.of main_c_4 : StableHlo.TRef sig ⟨S_, .i32⟩) (.of main_call0_v0 : StableHlo.TRef sig ⟨S_, .i32⟩) id,
     StableHlo.TRef.nullary (.of main_call0_c : StableHlo.TRef sig ⟨S_, .i32⟩) (constantI S_ 32 0#32),
     StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
     StableHlo.TRef.nullary (.of main_call0_c_0 : StableHlo.TRef sig ⟨S_, .i32⟩) (constantI S_ 32 1#32),
     StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
     StableHlo.TRef.unary (.of main_call0_v2 : StableHlo.TRef sig ⟨S_, .i32⟩) (.of main_call0_v3 : StableHlo.TRef sig ⟨S2x21, .i32⟩) (broadcastInDim S2x21 ![] bcast_S_S2x21),
     StableHlo.TRef.binary (.of main_v49 : StableHlo.TRef sig ⟨S2x21, .i32⟩) (.of main_call0_v3 : StableHlo.TRef sig ⟨S2x21, .i32⟩) (.of main_call0_v4 : StableHlo.TRef sig ⟨S2x21, .i32⟩) Host.remsi,
     StableHlo.TRef.nullary (.of main_call0_c_1 : StableHlo.TRef sig ⟨S_, .i32⟩) (constantI S_ 32 0#32),
     StableHlo.TRef.unary (.of main_call0_c_1 : StableHlo.TRef sig ⟨S_, .i32⟩) (.of main_call0_v5 : StableHlo.TRef sig ⟨S2x21, .i32⟩) (broadcastInDim S2x21 ![] bcast_S_S2x21),
     StableHlo.TRef.binary (.of main_call0_v4 : StableHlo.TRef sig ⟨S2x21, .i32⟩) (.of main_call0_v5 : StableHlo.TRef sig ⟨S2x21, .i32⟩) (.of main_call0_v6 : StableHlo.TRef sig ⟨S2x21, .i1⟩) (cmpi .ne),
     StableHlo.TRef.nullary (.of main_call0_c_2 : StableHlo.TRef sig ⟨S_, .i32⟩) (constantI S_ 32 0#32),
     StableHlo.TRef.unary (.of main_call0_c_2 : StableHlo.TRef sig ⟨S_, .i32⟩) (.of main_call0_v7 : StableHlo.TRef sig ⟨S2x21, .i32⟩) (broadcastInDim S2x21 ![] bcast_S_S2x21),
     StableHlo.TRef.binary (.of main_call0_v4 : StableHlo.TRef sig ⟨S2x21, .i32⟩) (.of main_call0_v7 : StableHlo.TRef sig ⟨S2x21, .i32⟩) (.of main_call0_v8 : StableHlo.TRef sig ⟨S2x21, .i1⟩) (cmpi .slt),
     StableHlo.TRef.nullary (.of main_call0_c_3 : StableHlo.TRef sig ⟨S_, .i32⟩) (constantI S_ 32 0#32),
     StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
     StableHlo.TRef.unary (.of main_call0_v9 : StableHlo.TRef sig ⟨S_, .i1⟩) (.of main_call0_v10 : StableHlo.TRef sig ⟨S2x21, .i1⟩) (broadcastInDim S2x21 ![] bcast_S_S2x21),
     StableHlo.TRef.binary (.of main_call0_v8 : StableHlo.TRef sig ⟨S2x21, .i1⟩) (.of main_call0_v10 : StableHlo.TRef sig ⟨S2x21, .i1⟩) (.of main_call0_v11 : StableHlo.TRef sig ⟨S2x21, .i1⟩) (cmpi .ne),
     StableHlo.TRef.binary (.of main_call0_v11 : StableHlo.TRef sig ⟨S2x21, .i1⟩) (.of main_call0_v6 : StableHlo.TRef sig ⟨S2x21, .i1⟩) (.of main_call0_v12 : StableHlo.TRef sig ⟨S2x21, .i1⟩) andi,
     StableHlo.TRef.unary (.of main_call0_v2 : StableHlo.TRef sig ⟨S_, .i32⟩) (.of main_call0_v13 : StableHlo.TRef sig ⟨S2x21, .i32⟩) (broadcastInDim S2x21 ![] bcast_S_S2x21),
     StableHlo.TRef.binary (.of main_call0_v4 : StableHlo.TRef sig ⟨S2x21, .i32⟩) (.of main_call0_v13 : StableHlo.TRef sig ⟨S2x21, .i32⟩) (.of main_call0_v14 : StableHlo.TRef sig ⟨S2x21, .i32⟩) addi,
     StableHlo.TRef.ternary (.of main_call0_v12 : StableHlo.TRef sig ⟨S2x21, .i1⟩) (.of main_call0_v14 : StableHlo.TRef sig ⟨S2x21, .i32⟩) (.of main_call0_v4 : StableHlo.TRef sig ⟨S2x21, .i32⟩) (.of main_v50 : StableHlo.TRef sig ⟨S2x21, .i32⟩) select ]
/-- What they write. -/
abbrev segE_W : List (Ref sig .tc) := [main_v42, main_c_3, main_v43, main_v44, main_v45, main_v46, main_v47, main_v48, main_v49, main_c_4, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v50]
theorem segE_writes : (segE : List (HloOp τ sig (Elt F))).Forall fun op => op.writes ⊆ (segE_W.map (Proc.devRef (τ := τ) .tc)).toFinset :=
  StableHlo.forall_writes_sub_of_map rfl

/-- Operations 76 to 96 of the host program. -/
def segG : List (HloOp τ sig (Elt F)) :=
  [StableHlo.unary main_arg8 main_v51 (broadcastInDim S2x1 ![0] bcast_S2_S2x1_0 : (⟨S2, .i32⟩ : BufTy).Contents (Elt F) → (⟨S2x1, .i32⟩ : BufTy).Contents (Elt F)),
     StableHlo.unary main_v51 main_v52 (broadcastInDim S2x21 ![0, 1] bcast_S2x1_S2x21_0_1 : (⟨S2x1, .i32⟩ : BufTy).Contents (Elt F) → (⟨S2x21, .i32⟩ : BufTy).Contents (Elt F)),
     StableHlo.binary main_v50 main_v52 main_v53 (cmpi .slt : (⟨S2x21, .i32⟩ : BufTy).Contents (Elt F) → (⟨S2x21, .i32⟩ : BufTy).Contents (Elt F) → (⟨S2x21, .i1⟩ : BufTy).Contents (Elt F)),
     StableHlo.unary main_v53 main_v54 (broadcastInDim S2x1x21 ![0, 2] bcast_S2x21_S2x1x21_0_2 : (⟨S2x21, .i1⟩ : BufTy).Contents (Elt F) → (⟨S2x1x21, .i1⟩ : BufTy).Contents (Elt F)),
     StableHlo.unary main_arg9 main_v55 (broadcastInDim S2x1x21 ![0, 2] bcast_S2x21_S2x1x21_0_2 : (⟨S2x21, .i32⟩ : BufTy).Contents (Elt F) → (⟨S2x1x21, .i32⟩ : BufTy).Contents (Elt F)),
     StableHlo.unary main_arg10 main_v56 (broadcastInDim S2x3x1 ![0, 1] bcast_S2x3_S2x3x1_0_1 : (⟨S2x3, .i32⟩ : BufTy).Contents (Elt F) → (⟨S2x3x1, .i32⟩ : BufTy).Contents (Elt F)),
     StableHlo.nullary main_c_5 (constantI S_ 32 8#32),
     StableHlo.unary main_c_5 main_v57 (broadcastInDim S2x3x1 ![] bcast_S_S2x3x1 : (⟨S_, .i32⟩ : BufTy).Contents (Elt F) → (⟨S2x3x1, .i32⟩ : BufTy).Contents (Elt F)),
     StableHlo.binary main_v56 main_v57 main_v58 (subi : (⟨S2x3x1, .i32⟩ : BufTy).Contents (Elt F) → (⟨S2x3x1, .i32⟩ : BufTy).Contents (Elt F) → (⟨S2x3x1, .i32⟩ : BufTy).Contents (Elt F)),
     StableHlo.unary main_v55 main_v59 (broadcastInDim S2x3x21 ![0, 1, 2] bcast_S2x1x21_S2x3x21_0_1_2 : (⟨S2x1x21, .i32⟩ : BufTy).Contents (Elt F) → (⟨S2x3x21, .i32⟩ : BufTy).Contents (Elt F)),
     StableHlo.unary main_v58 main_v60 (broadcastInDim S2x3x21 ![0, 1, 2] bcast_S2x3x1_S2x3x21_0_1_2 : (⟨S2x3x1, .i32⟩ : BufTy).Contents (Elt F) → (⟨S2x3x21, .i32⟩ : BufTy).Contents (Elt F)),
     StableHlo.binary main_v59 main_v60 main_v61 (cmpi .sge : (⟨S2x3x21, .i32⟩ : BufTy).Contents (Elt F) → (⟨S2x3x21, .i32⟩ : BufTy).Contents (Elt F) → (⟨S2x3x21, .i1⟩ : BufTy).Contents (Elt F)),
     StableHlo.nullary main_v62 (iotaInDim S21 32 0),
     StableHlo.nullary main_c_6 (constantI S_ 32 3#32),
     StableHlo.unary main_c_6 main_v63 (broadcastInDim S21 ![] bcast_S_S21 : (⟨S_, .i32⟩ : BufTy).Contents (Elt F) → (⟨S21, .i32⟩ : BufTy).Contents (Elt F)),
     StableHlo.binary main_v62 main_v63 main_v64 (cmpi .slt : (⟨S21, .i32⟩ : BufTy).Contents (Elt F) → (⟨S21, .i32⟩ : BufTy).Contents (Elt F) → (⟨S21, .i1⟩ : BufTy).Contents (Elt F)),
     StableHlo.unary main_v54 main_v65 (broadcastInDim S2x3x21 ![0, 1, 2] bcast_S2x1x21_S2x3x21_0_1_2 : (⟨S2x1x21, .i1⟩ : BufTy).Contents (Elt F) → (⟨S2x3x21, .i1⟩ : BufTy).Contents (Elt F)),
     StableHlo.binary main_v65 main_v61 main_v66 (andi : (⟨S2x3x21, .i1⟩ : BufTy).Contents (Elt F) → (⟨S2x3x21, .i1⟩ : BufTy).Contents (Elt F) → (⟨S2x3x21, .i1⟩ : BufTy).Contents (Elt F)),
     StableHlo.unary main_v64 main_v67 (broadcastInDim S1x1x21 ![2] bcast_S21_S1x1x21_2 : (⟨S21, .i1⟩ : BufTy).Contents (Elt F) → (⟨S1x1x21, .i1⟩ : BufTy).Contents (Elt F)),
     StableHlo.unary main_v67 main_v68 (broadcastInDim S2x3x21 ![0, 1, 2] bcast_S1x1x21_S2x3x21_0_1_2 : (⟨S1x1x21, .i1⟩ : BufTy).Contents (Elt F) → (⟨S2x3x21, .i1⟩ : BufTy).Contents (Elt F)),
     StableHlo.binary main_v68 main_v66 main_v69 (ori : (⟨S2x3x21, .i1⟩ : BufTy).Contents (Elt F) → (⟨S2x3x21, .i1⟩ : BufTy).Contents (Elt F) → (⟨S2x3x21, .i1⟩ : BufTy).Contents (Elt F)) ]
/-- What they write. -/
abbrev segG_W : List (Ref sig .tc) := [main_v51, main_v52, main_v53, main_v54, main_v55, main_v56, main_c_5, main_v57, main_v58, main_v59, main_v60, main_v61, main_v62, main_c_6, main_v63, main_v64, main_v65, main_v66, main_v67, main_v68, main_v69]
theorem segG_writes : (segG : List (HloOp τ sig (Elt F))).Forall fun op => op.writes ⊆ (segG_W.map (Proc.devRef (τ := τ) .tc)).toFinset :=
  StableHlo.forall_writes_sub_of_map rfl

/-- Operations 97 to 116 of the host program. -/
def segH : List (HloOp τ sig (Elt F)) :=
  [StableHlo.reshape main_arg0 main_v70 (rfl : (.bf16 : EltTy) = .bf16) shapeCasts_S2x12x4680x128_S2x12x3x1560x128,
     StableHlo.unary main_arg5 main_v71 ((transpose S2x12x21 [0, 2, 1] · transposes_S2x21x12_S2x12x21_0_2_1) : (⟨S2x21x12, .f32⟩ : BufTy).Contents (Elt F) → (⟨S2x12x21, .f32⟩ : BufTy).Contents (Elt F)),
     StableHlo.unary main_v71 main_v72 (broadcastInDim S2x12x1x1x21x1 ![0, 1, 4] bcast_S2x12x21_S2x12x1x1x21x1_0_1_4 : (⟨S2x12x21, .f32⟩ : BufTy).Contents (Elt F) → (⟨S2x12x1x1x21x1, .f32⟩ : BufTy).Contents (Elt F)),
     StableHlo.unary main_arg6 main_v73 ((transpose S2x12x21 [0, 2, 1] · transposes_S2x21x12_S2x12x21_0_2_1) : (⟨S2x21x12, .f32⟩ : BufTy).Contents (Elt F) → (⟨S2x12x21, .f32⟩ : BufTy).Contents (Elt F)),
     StableHlo.unary main_v73 main_v74 (broadcastInDim S2x12x1x1x21x1 ![0, 1, 4] bcast_S2x12x21_S2x12x1x1x21x1_0_1_4 : (⟨S2x12x21, .f32⟩ : BufTy).Contents (Elt F) → (⟨S2x12x1x1x21x1, .f32⟩ : BufTy).Contents (Elt F)),
     StableHlo.binary main_v70 main_v41 main_v75 ((fun l r => Host.dotGeneral dot_S2x12x3x1560x128_S2x21x1560x12x128_S2x12x3x1560x21x1560_4_4_23_12_01_03 none l r) : (⟨S2x12x3x1560x128, .bf16⟩ : BufTy).Contents (Elt F) → (⟨S2x21x1560x12x128, .bf16⟩ : BufTy).Contents (Elt F) → (⟨S2x12x3x1560x21x1560, .f32⟩ : BufTy).Contents (Elt F)),
     StableHlo.unary main_v69 main_v76 (broadcastInDim S2x1x3x1x21x1 ![0, 2, 4] bcast_S2x3x21_S2x1x3x1x21x1_0_2_4 : (⟨S2x3x21, .i1⟩ : BufTy).Contents (Elt F) → (⟨S2x1x3x1x21x1, .i1⟩ : BufTy).Contents (Elt F)),
     StableHlo.nullary main_cst (constant S_ .f32 0x3DB504F3#32),
     StableHlo.unary main_cst main_v77 (broadcastInDim S2x12x3x1560x21x1560 ![] bcast_S_S2x12x3x1560x21x1560 : (⟨S_, .f32⟩ : BufTy).Contents (Elt F) → (⟨S2x12x3x1560x21x1560, .f32⟩ : BufTy).Contents (Elt F)),
     StableHlo.binary main_v75 main_v77 main_v78 (mulf : (⟨S2x12x3x1560x21x1560, .f32⟩ : BufTy).Contents (Elt F) → (⟨S2x12x3x1560x21x1560, .f32⟩ : BufTy).Contents (Elt F) → (⟨S2x12x3x1560x21x1560, .f32⟩ : BufTy).Contents (Elt F)),
     StableHlo.unary main_v72 main_v79 (broadcastInDim S2x12x3x1560x21x1560 ![0, 1, 2, 3, 4, 5] bcast_S2x12x1x1x21x1_S2x12x3x1560x21x1560_0_1_2_3_4_5 : (⟨S2x12x1x1x21x1, .f32⟩ : BufTy).Contents (Elt F) → (⟨S2x12x3x1560x21x1560, .f32⟩ : BufTy).Contents (Elt F)),
     StableHlo.binary main_v78 main_v79 main_v80 (mulf : (⟨S2x12x3x1560x21x1560, .f32⟩ : BufTy).Contents (Elt F) → (⟨S2x12x3x1560x21x1560, .f32⟩ : BufTy).Contents (Elt F) → (⟨S2x12x3x1560x21x1560, .f32⟩ : BufTy).Contents (Elt F)),
     StableHlo.nullary main_cst_7 (constant S_ .f32 0x3FB8AA3B#32),
     StableHlo.unary main_cst_7 main_v81 (broadcastInDim S2x12x3x1560x21x1560 ![] bcast_S_S2x12x3x1560x21x1560 : (⟨S_, .f32⟩ : BufTy).Contents (Elt F) → (⟨S2x12x3x1560x21x1560, .f32⟩ : BufTy).Contents (Elt F)),
     StableHlo.binary main_v80 main_v81 main_v82 (mulf : (⟨S2x12x3x1560x21x1560, .f32⟩ : BufTy).Contents (Elt F) → (⟨S2x12x3x1560x21x1560, .f32⟩ : BufTy).Contents (Elt F) → (⟨S2x12x3x1560x21x1560, .f32⟩ : BufTy).Contents (Elt F)),
     StableHlo.nullary main_cst_8 (constant S_ .f32 0xFF800000#32),
     StableHlo.TRef.unary (.of main_cst_8 : StableHlo.TRef sig ⟨S_, .f32⟩) (.of main_call1_v0 : StableHlo.TRef sig ⟨S_, .f32⟩) id,
     StableHlo.TRef.unary (.of main_v76 : StableHlo.TRef sig ⟨S2x1x3x1x21x1, .i1⟩) (.of main_call1_v1 : StableHlo.TRef sig ⟨S2x12x3x1560x21x1560, .i1⟩) (broadcastInDim S2x12x3x1560x21x1560 ![0, 1, 2, 3, 4, 5] bcast_S2x1x3x1x21x1_S2x12x3x1560x21x1560_0_1_2_3_4_5),
     StableHlo.TRef.unary (.of main_call1_v0 : StableHlo.TRef sig ⟨S_, .f32⟩) (.of main_call1_v2 : StableHlo.TRef sig ⟨S2x12x3x1560x21x1560, .f32⟩) (broadcastInDim S2x12x3x1560x21x1560 ![] bcast_S_S2x12x3x1560x21x1560),
     StableHlo.TRef.ternary (.of main_call1_v1 : StableHlo.TRef sig ⟨S2x12x3x1560x21x1560, .i1⟩) (.of main_v82 : StableHlo.TRef sig ⟨S2x12x3x1560x21x1560, .f32⟩) (.of main_call1_v2 : StableHlo.TRef sig ⟨S2x12x3x1560x21x1560, .f32⟩) (.of main_v83 : StableHlo.TRef sig ⟨S2x12x3x1560x21x1560, .f32⟩) select ]
/-- What they write. -/
abbrev segH_W : List (Ref sig .tc) := [main_v70, main_v71, main_v72, main_v73, main_v74, main_v75, main_v76, main_cst, main_v77, main_v78, main_v79, main_v80, main_cst_7, main_v81, main_v82, main_cst_8, main_call1_v0, main_call1_v1, main_call1_v2, main_v83]
theorem segH_writes : (segH : List (HloOp τ sig (Elt F))).Forall fun op => op.writes ⊆ (segH_W.map (Proc.devRef (τ := τ) .tc)).toFinset :=
  StableHlo.forall_writes_sub_of_map rfl

/-- Operations 117 to 123 of the host program. -/
def segI : List (HloOp τ sig (Elt F)) :=
  [StableHlo.binary main_v70 main_arg1 main_v84 ((fun l r => Host.dotGeneral dot_S2x12x3x1560x128_S2x12x4680x128_S2x12x3x1560x4680_4_3_23_2_01_01 none l r) : (⟨S2x12x3x1560x128, .bf16⟩ : BufTy).Contents (Elt F) → (⟨S2x12x4680x128, .bf16⟩ : BufTy).Contents (Elt F) → (⟨S2x12x3x1560x4680, .f32⟩ : BufTy).Contents (Elt F)),
     StableHlo.nullary main_cst_9 (constant S_ .f32 0x3DB504F3#32),
     StableHlo.unary main_cst_9 main_v85 (broadcastInDim S2x12x3x1560x4680 ![] bcast_S_S2x12x3x1560x4680 : (⟨S_, .f32⟩ : BufTy).Contents (Elt F) → (⟨S2x12x3x1560x4680, .f32⟩ : BufTy).Contents (Elt F)),
     StableHlo.binary main_v84 main_v85 main_v86 (mulf : (⟨S2x12x3x1560x4680, .f32⟩ : BufTy).Contents (Elt F) → (⟨S2x12x3x1560x4680, .f32⟩ : BufTy).Contents (Elt F) → (⟨S2x12x3x1560x4680, .f32⟩ : BufTy).Contents (Elt F)),
     StableHlo.nullary main_cst_10 (constant S_ .f32 0x3FB8AA3B#32),
     StableHlo.unary main_cst_10 main_v87 (broadcastInDim S2x12x3x1560x4680 ![] bcast_S_S2x12x3x1560x4680 : (⟨S_, .f32⟩ : BufTy).Contents (Elt F) → (⟨S2x12x3x1560x4680, .f32⟩ : BufTy).Contents (Elt F)),
     StableHlo.binary main_v86 main_v87 main_v88 (mulf : (⟨S2x12x3x1560x4680, .f32⟩ : BufTy).Contents (Elt F) → (⟨S2x12x3x1560x4680, .f32⟩ : BufTy).Contents (Elt F) → (⟨S2x12x3x1560x4680, .f32⟩ : BufTy).Contents (Elt F)) ]
/-- What they write. -/
abbrev segI_W : List (Ref sig .tc) := [main_v84, main_cst_9, main_v85, main_v86, main_cst_10, main_v87, main_v88]
theorem segI_writes : (segI : List (HloOp τ sig (Elt F))).Forall fun op => op.writes ⊆ (segI_W.map (Proc.devRef (τ := τ) .tc)).toFinset :=
  StableHlo.forall_writes_sub_of_map rfl

/-- Operations 124 to 129 of the host program. -/
def segJ : List (HloOp τ sig (Elt F)) :=
  [StableHlo.nullary main_cst_11 (constant S_ .f32 0xFF800000#32),
     StableHlo.binary main_v83 main_cst_11 main_v89 ((fun x v => Host.reduce FloatOps.maximumf x v reducesTo_S2x12x3x1560x21x1560_S2x12x3x1560_d4_5 h_S_) : (⟨S2x12x3x1560x21x1560, .f32⟩ : BufTy).Contents (Elt F) → (⟨S_, .f32⟩ : BufTy).Contents (Elt F) → (⟨S2x12x3x1560, .f32⟩ : BufTy).Contents (Elt F)),
     StableHlo.nullary main_cst_12 (constant S_ .f32 0xFF800000#32),
     StableHlo.binary main_v88 main_cst_12 main_v90 ((fun x v => Host.reduce FloatOps.maximumf x v reducesTo_S2x12x3x1560x4680_S2x12x3x1560_d4 h_S_) : (⟨S2x12x3x1560x4680, .f32⟩ : BufTy).Contents (Elt F) → (⟨S_, .f32⟩ : BufTy).Contents (Elt F) → (⟨S2x12x3x1560, .f32⟩ : BufTy).Contents (Elt F)),
     StableHlo.binary main_v89 main_v90 main_v91 (maximumf : (⟨S2x12x3x1560, .f32⟩ : BufTy).Contents (Elt F) → (⟨S2x12x3x1560, .f32⟩ : BufTy).Contents (Elt F) → (⟨S2x12x3x1560, .f32⟩ : BufTy).Contents (Elt F)),
     StableHlo.unary main_v91 main_v92 (Host.ceil : (⟨S2x12x3x1560, .f32⟩ : BufTy).Contents (Elt F) → (⟨S2x12x3x1560, .f32⟩ : BufTy).Contents (Elt F)) ]
/-- What they write. -/
abbrev segJ_W : List (Ref sig .tc) := [main_cst_11, main_v89, main_cst_12, main_v90, main_v91, main_v92]
theorem segJ_writes : (segJ : List (HloOp τ sig (Elt F))).Forall fun op => op.writes ⊆ (segJ_W.map (Proc.devRef (τ := τ) .tc)).toFinset :=
  StableHlo.forall_writes_sub_of_map rfl

/-- Operations 130 to 141 of the host program. -/
def segK : List (HloOp τ sig (Elt F)) :=
  [StableHlo.unary main_v92 main_v93 (broadcastInDim S2x12x3x1560x1x1 ![0, 1, 2, 3] bcast_S2x12x3x1560_S2x12x3x1560x1x1_0_1_2_3 : (⟨S2x12x3x1560, .f32⟩ : BufTy).Contents (Elt F) → (⟨S2x12x3x1560x1x1, .f32⟩ : BufTy).Contents (Elt F)),
     StableHlo.unary main_v93 main_v94 (broadcastInDim S2x12x3x1560x21x1560 ![0, 1, 2, 3, 4, 5] bcast_S2x12x3x1560x1x1_S2x12x3x1560x21x1560_0_1_2_3_4_5 : (⟨S2x12x3x1560x1x1, .f32⟩ : BufTy).Contents (Elt F) → (⟨S2x12x3x1560x21x1560, .f32⟩ : BufTy).Contents (Elt F)),
     StableHlo.binary main_v83 main_v94 main_v95 (subf : (⟨S2x12x3x1560x21x1560, .f32⟩ : BufTy).Contents (Elt F) → (⟨S2x12x3x1560x21x1560, .f32⟩ : BufTy).Contents (Elt F) → (⟨S2x12x3x1560x21x1560, .f32⟩ : BufTy).Contents (Elt F)),
     StableHlo.nullary main_cst_13 (constant S_ .f32 0x40000000#32),
     StableHlo.unary main_cst_13 main_v96 (broadcastInDim S2x12x3x1560x21x1560 ![] bcast_S_S2x12x3x1560x21x1560 : (⟨S_, .f32⟩ : BufTy).Contents (Elt F) → (⟨S2x12x3x1560x21x1560, .f32⟩ : BufTy).Contents (Elt F)),
     StableHlo.binary main_v96 main_v95 main_v97 (Host.powf : (⟨S2x12x3x1560x21x1560, .f32⟩ : BufTy).Contents (Elt F) → (⟨S2x12x3x1560x21x1560, .f32⟩ : BufTy).Contents (Elt F) → (⟨S2x12x3x1560x21x1560, .f32⟩ : BufTy).Contents (Elt F)),
     StableHlo.unary main_v92 main_v98 (broadcastInDim S2x12x3x1560x1 ![0, 1, 2, 3] bcast_S2x12x3x1560_S2x12x3x1560x1_0_1_2_3 : (⟨S2x12x3x1560, .f32⟩ : BufTy).Contents (Elt F) → (⟨S2x12x3x1560x1, .f32⟩ : BufTy).Contents (Elt F)),
     StableHlo.unary main_v98 main_v99 (broadcastInDim S2x12x3x1560x4680 ![0, 1, 2, 3, 4] bcast_S2x12x3x1560x1_S2x12x3x1560x4680_0_1_2_3_4 : (⟨S2x12x3x1560x1, .f32⟩ : BufTy).Contents (Elt F) → (⟨S2x12x3x1560x4680, .f32⟩ : BufTy).Contents (Elt F)),
     StableHlo.binary main_v88 main_v99 main_v100 (subf : (⟨S2x12x3x1560x4680, .f32⟩ : BufTy).Contents (Elt F) → (⟨S2x12x3x1560x4680, .f32⟩ : BufTy).Contents (Elt F) → (⟨S2x12x3x1560x4680, .f32⟩ : BufTy).Contents (Elt F)),
     StableHlo.nullary main_cst_14 (constant S_ .f32 0x40000000#32),
     StableHlo.unary main_cst_14 main_v101 (broadcastInDim S2x12x3x1560x4680 ![] bcast_S_S2x12x3x1560x4680 : (⟨S_, .f32⟩ : BufTy).Contents (Elt F) → (⟨S2x12x3x1560x4680, .f32⟩ : BufTy).Contents (Elt F)),
     StableHlo.binary main_v101 main_v100 main_v102 (Host.powf : (⟨S2x12x3x1560x4680, .f32⟩ : BufTy).Contents (Elt F) → (⟨S2x12x3x1560x4680, .f32⟩ : BufTy).Contents (Elt F) → (⟨S2x12x3x1560x4680, .f32⟩ : BufTy).Contents (Elt F)) ]
/-- What they write. -/
abbrev segK_W : List (Ref sig .tc) := [main_v93, main_v94, main_v95, main_cst_13, main_v96, main_v97, main_v98, main_v99, main_v100, main_cst_14, main_v101, main_v102]
theorem segK_writes : (segK : List (HloOp τ sig (Elt F))).Forall fun op => op.writes ⊆ (segK_W.map (Proc.devRef (τ := τ) .tc)).toFinset :=
  StableHlo.forall_writes_sub_of_map rfl

/-- Operations 142 to 157 of the host program. -/
def segL : List (HloOp τ sig (Elt F)) :=
  [StableHlo.nullary main_cst_15 (constant S_ .f32 0x00000000#32),
     StableHlo.binary main_v97 main_cst_15 main_v103 ((fun x v => Host.reduceAdd x v reducesTo_S2x12x3x1560x21x1560_S2x12x3x1560_d4_5 h_S_) : (⟨S2x12x3x1560x21x1560, .f32⟩ : BufTy).Contents (Elt F) → (⟨S_, .f32⟩ : BufTy).Contents (Elt F) → (⟨S2x12x3x1560, .f32⟩ : BufTy).Contents (Elt F)),
     StableHlo.nullary main_cst_16 (constant S_ .f32 0x00000000#32),
     StableHlo.binary main_v102 main_cst_16 main_v104 ((fun x v => Host.reduceAdd x v reducesTo_S2x12x3x1560x4680_S2x12x3x1560_d4 h_S_) : (⟨S2x12x3x1560x4680, .f32⟩ : BufTy).Contents (Elt F) → (⟨S_, .f32⟩ : BufTy).Contents (Elt F) → (⟨S2x12x3x1560, .f32⟩ : BufTy).Contents (Elt F)),
     StableHlo.binary main_v103 main_v104 main_v105 (addf : (⟨S2x12x3x1560, .f32⟩ : BufTy).Contents (Elt F) → (⟨S2x12x3x1560, .f32⟩ : BufTy).Contents (Elt F) → (⟨S2x12x3x1560, .f32⟩ : BufTy).Contents (Elt F)),
     StableHlo.unary main_v74 main_v106 (broadcastInDim S2x12x3x1560x21x1560 ![0, 1, 2, 3, 4, 5] bcast_S2x12x1x1x21x1_S2x12x3x1560x21x1560_0_1_2_3_4_5 : (⟨S2x12x1x1x21x1, .f32⟩ : BufTy).Contents (Elt F) → (⟨S2x12x3x1560x21x1560, .f32⟩ : BufTy).Contents (Elt F)),
     StableHlo.binary main_v97 main_v106 main_v107 (mulf : (⟨S2x12x3x1560x21x1560, .f32⟩ : BufTy).Contents (Elt F) → (⟨S2x12x3x1560x21x1560, .f32⟩ : BufTy).Contents (Elt F) → (⟨S2x12x3x1560x21x1560, .f32⟩ : BufTy).Contents (Elt F)),
     StableHlo.unary main_v107 main_v108 ((truncf .bf16 · bitsLt_bf16_f32) : (⟨S2x12x3x1560x21x1560, .f32⟩ : BufTy).Contents (Elt F) → (⟨S2x12x3x1560x21x1560, .bf16⟩ : BufTy).Contents (Elt F)),
     StableHlo.binary main_v108 main_v0_1 main_v109 ((fun l r => Host.dotGeneral dot_S2x12x3x1560x21x1560_S2x21x1560x12x128_S2x12x3x1560x128_45_12_23_4_01_03 none l r) : (⟨S2x12x3x1560x21x1560, .bf16⟩ : BufTy).Contents (Elt F) → (⟨S2x21x1560x12x128, .bf16⟩ : BufTy).Contents (Elt F) → (⟨S2x12x3x1560x128, .f32⟩ : BufTy).Contents (Elt F)),
     StableHlo.unary main_v102 main_v110 ((truncf .bf16 · bitsLt_bf16_f32) : (⟨S2x12x3x1560x4680, .f32⟩ : BufTy).Contents (Elt F) → (⟨S2x12x3x1560x4680, .bf16⟩ : BufTy).Contents (Elt F)),
     StableHlo.binary main_v110 main_arg2 main_v111 ((fun l r => Host.dotGeneral dot_S2x12x3x1560x4680_S2x12x4680x128_S2x12x3x1560x128_4_2_23_3_01_01 none l r) : (⟨S2x12x3x1560x4680, .bf16⟩ : BufTy).Contents (Elt F) → (⟨S2x12x4680x128, .bf16⟩ : BufTy).Contents (Elt F) → (⟨S2x12x3x1560x128, .f32⟩ : BufTy).Contents (Elt F)),
     StableHlo.binary main_v109 main_v111 main_v112 (addf : (⟨S2x12x3x1560x128, .f32⟩ : BufTy).Contents (Elt F) → (⟨S2x12x3x1560x128, .f32⟩ : BufTy).Contents (Elt F) → (⟨S2x12x3x1560x128, .f32⟩ : BufTy).Contents (Elt F)),
     StableHlo.unary main_v105 main_v113 (broadcastInDim S2x12x3x1560x1 ![0, 1, 2, 3] bcast_S2x12x3x1560_S2x12x3x1560x1_0_1_2_3 : (⟨S2x12x3x1560, .f32⟩ : BufTy).Contents (Elt F) → (⟨S2x12x3x1560x1, .f32⟩ : BufTy).Contents (Elt F)),
     StableHlo.unary main_v113 main_v114 (broadcastInDim S2x12x3x1560x128 ![0, 1, 2, 3, 4] bcast_S2x12x3x1560x1_S2x12x3x1560x128_0_1_2_3_4 : (⟨S2x12x3x1560x1, .f32⟩ : BufTy).Contents (Elt F) → (⟨S2x12x3x1560x128, .f32⟩ : BufTy).Contents (Elt F)),
     StableHlo.binary main_v112 main_v114 main_v115 (Host.divf : (⟨S2x12x3x1560x128, .f32⟩ : BufTy).Contents (Elt F) → (⟨S2x12x3x1560x128, .f32⟩ : BufTy).Contents (Elt F) → (⟨S2x12x3x1560x128, .f32⟩ : BufTy).Contents (Elt F)),
     StableHlo.reshape main_v115 main_v116 (rfl : (.f32 : EltTy) = .f32) shapeCasts_S2x12x3x1560x128_S2x12x4680x128 ]
/-- What they write. -/
abbrev segL_W : List (Ref sig .tc) := [main_cst_15, main_v103, main_cst_16, main_v104, main_v105, main_v106, main_v107, main_v108, main_v109, main_v110, main_v111, main_v112, main_v113, main_v114, main_v115, main_v116]
theorem segL_writes : (segL : List (HloOp τ sig (Elt F))).Forall fun op => op.writes ⊆ (segL_W.map (Proc.devRef (τ := τ) .tc)).toFinset :=
  StableHlo.forall_writes_sub_of_map rfl

/-- The cosines of every cached token, by frame and pair of lanes. -/
def cosRows (arg11 : Vec F S1024x22 .f32) (arg9 : Vec F S2x21 .i32) (arg13 : Vec F S1560x42 .f32) : Vec F S2x21x1560x1x64 .f32 :=
  broadcastInDim S2x21x1560x1x64 ![0, 1, 2, 4] bcast_S2x21x1560x64_S2x21x1560x1x64_0_1_2_4 (concatenate S2x21x1560x64 3 [⟨S2x21x1560x22, (broadcastInDim S2x21x1560x22 ![0, 1, 2, 3] bcast_S2x21x1x22_S2x21x1560x22_0_1_2_3 (broadcastInDim S2x21x1x22 ![0, 1, 3] bcast_S2x21x22_S2x21x1x22_0_1_3 (Host.gather gather_S1024x22_S2x21x1_S2x21x22_2_0_n_n_0_2_122 arg11 (broadcastInDim S2x21x1 ![0, 1] bcast_S2x21_S2x21x1_0_1 (select (cmpi .slt arg9 (broadcastInDim S2x21 ![] bcast_S_S2x21 (constantI S_ 32 0#32))) (addi arg9 (broadcastInDim S2x21 ![] bcast_S_S2x21 (constantI S_ 32 1024#32))) arg9)))))⟩, ⟨S2x21x1560x42, (broadcastInDim S2x21x1560x42 ![2, 3] bcast_S1560x42_S2x21x1560x42_2_3 arg13)⟩] concatenates_S2x21x1560x22_S2x21x1560x42_S2x21x1560x64_d3)

theorem read_cosRows (W : Valuation τ sig (Elt F)) : StableHlo.after segA W (Proc.devRef .tc main_v12) =
    cosRows (W (Proc.devRef .tc main_arg11)) (W (Proc.devRef .tc main_arg9)) (W (Proc.devRef .tc main_arg13)) := by
  simp only [segA, TRef.binary, TRef.nullary, TRef.ternary, TRef.unary, TRef.toBuf, TRef.ofBuf, cast_eq]
  after_results_simp <;> rfl

/-- The sines of every cached token, by frame and pair of lanes. -/
def sinRows (arg12 : Vec F S1024x22 .f32) (arg9 : Vec F S2x21 .i32) (arg14 : Vec F S1560x42 .f32) : Vec F S2x21x1560x1x64 .f32 :=
  broadcastInDim S2x21x1560x1x64 ![0, 1, 2, 4] bcast_S2x21x1560x64_S2x21x1560x1x64_0_1_2_4 (concatenate S2x21x1560x64 3 [⟨S2x21x1560x22, (broadcastInDim S2x21x1560x22 ![0, 1, 2, 3] bcast_S2x21x1x22_S2x21x1560x22_0_1_2_3 (broadcastInDim S2x21x1x22 ![0, 1, 3] bcast_S2x21x22_S2x21x1x22_0_1_3 (Host.gather gather_S1024x22_S2x21x1_S2x21x22_2_0_n_n_0_2_122 arg12 (broadcastInDim S2x21x1 ![0, 1] bcast_S2x21_S2x21x1_0_1 (select (cmpi .slt arg9 (broadcastInDim S2x21 ![] bcast_S_S2x21 (constantI S_ 32 0#32))) (addi arg9 (broadcastInDim S2x21 ![] bcast_S_S2x21 (constantI S_ 32 1024#32))) arg9)))))⟩, ⟨S2x21x1560x42, (broadcastInDim S2x21x1560x42 ![2, 3] bcast_S1560x42_S2x21x1560x42_2_3 arg14)⟩] concatenates_S2x21x1560x22_S2x21x1560x42_S2x21x1560x64_d3)

theorem read_sinRows (W : Valuation τ sig (Elt F)) : StableHlo.after segB W (Proc.devRef .tc main_v24) =
    sinRows (W (Proc.devRef .tc main_arg12)) (W (Proc.devRef .tc main_arg9)) (W (Proc.devRef .tc main_arg14)) := by
  simp only [segB, TRef.binary, TRef.nullary, TRef.ternary, TRef.unary, TRef.toBuf, TRef.ofBuf, cast_eq]
  after_results_simp <;> rfl

/-- The even lanes of the rotated keys. -/
def evens (v0_0 : Vec F S2x21x1560x12x128 .f32) (v12 : Vec F S2x21x1560x1x64 .f32) (v24 : Vec F S2x21x1560x1x64 .f32) : Vec F S2x21x1560x12x64 .f32 :=
  subf (mulf (Host.slice S2x21x1560x12x64 ![0, 0, 0, 0, 0] ![1, 1, 1, 1, 2] v0_0 slicesBy_S2x21x1560x12x128_S2x21x1560x12x64_0s1_0s1_0s1_0s1_0s2) (broadcastInDim S2x21x1560x12x64 ![0, 1, 2, 3, 4] bcast_S2x21x1560x1x64_S2x21x1560x12x64_0_1_2_3_4 v12)) (mulf (Host.slice S2x21x1560x12x64 ![0, 0, 0, 0, 1] ![1, 1, 1, 1, 2] v0_0 slicesBy_S2x21x1560x12x128_S2x21x1560x12x64_0s1_0s1_0s1_0s1_1s2) (broadcastInDim S2x21x1560x12x64 ![0, 1, 2, 3, 4] bcast_S2x21x1560x1x64_S2x21x1560x12x64_0_1_2_3_4 v24))

theorem read_evens (W : Valuation τ sig (Elt F)) : StableHlo.after segC W (Proc.devRef .tc main_v31) =
    evens (W (Proc.devRef .tc main_v0_0)) (W (Proc.devRef .tc main_v12)) (W (Proc.devRef .tc main_v24)) := by
  simp only [segC, TRef.binary, TRef.nullary, TRef.ternary, TRef.unary, TRef.toBuf, TRef.ofBuf, cast_eq]
  after_results_simp <;> rfl

/-- The odd lanes of the rotated keys. -/
def odds (v0_0 : Vec F S2x21x1560x12x128 .f32) (v24 : Vec F S2x21x1560x1x64 .f32) (v12 : Vec F S2x21x1560x1x64 .f32) : Vec F S2x21x1560x12x64 .f32 :=
  addf (mulf (Host.slice S2x21x1560x12x64 ![0, 0, 0, 0, 0] ![1, 1, 1, 1, 2] v0_0 slicesBy_S2x21x1560x12x128_S2x21x1560x12x64_0s1_0s1_0s1_0s1_0s2) (broadcastInDim S2x21x1560x12x64 ![0, 1, 2, 3, 4] bcast_S2x21x1560x1x64_S2x21x1560x12x64_0_1_2_3_4 v24)) (mulf (Host.slice S2x21x1560x12x64 ![0, 0, 0, 0, 1] ![1, 1, 1, 1, 2] v0_0 slicesBy_S2x21x1560x12x128_S2x21x1560x12x64_0s1_0s1_0s1_0s1_1s2) (broadcastInDim S2x21x1560x12x64 ![0, 1, 2, 3, 4] bcast_S2x21x1560x1x64_S2x21x1560x12x64_0_1_2_3_4 v12))

theorem read_odds (W : Valuation τ sig (Elt F)) : StableHlo.after segC W (Proc.devRef .tc main_v36) =
    odds (W (Proc.devRef .tc main_v0_0)) (W (Proc.devRef .tc main_v24)) (W (Proc.devRef .tc main_v12)) := by
  simp only [segC, TRef.binary, TRef.nullary, TRef.ternary, TRef.unary, TRef.toBuf, TRef.ofBuf, cast_eq]
  after_results_simp <;> rfl

/-- The rotated keys, the lanes put together again. -/
def keys (v31 : Vec F S2x21x1560x12x64 .f32) (v36 : Vec F S2x21x1560x12x64 .f32) : Vec F S2x21x1560x12x128 .bf16 :=
  truncf .bf16 (shapeCast S2x21x1560x12x128 (concatenate S2x21x1560x12x64x2 5 [⟨S2x21x1560x12x64x1, (broadcastInDim S2x21x1560x12x64x1 ![0, 1, 2, 3, 4] bcast_S2x21x1560x12x64_S2x21x1560x12x64x1_0_1_2_3_4 v31)⟩, ⟨S2x21x1560x12x64x1, (broadcastInDim S2x21x1560x12x64x1 ![0, 1, 2, 3, 4] bcast_S2x21x1560x12x64_S2x21x1560x12x64x1_0_1_2_3_4 v36)⟩] concatenates_S2x21x1560x12x64x1_S2x21x1560x12x64x1_S2x21x1560x12x64x2_d5) shapeCasts_S2x21x1560x12x64x2_S2x21x1560x12x128) bitsLt_bf16_f32

theorem read_keys (W : Valuation τ sig (Elt F)) : StableHlo.after segD W (Proc.devRef .tc main_v41) =
    keys (W (Proc.devRef .tc main_v31)) (W (Proc.devRef .tc main_v36)) := by
  simp only [segD, TRef.binary, TRef.nullary, TRef.ternary, TRef.unary, TRef.toBuf, TRef.ofBuf, cast_eq]
  after_results_simp <;> rfl

/-- How long ago each frame of the ring was written. -/
def age (arg7 : Vec F S2 .i32) : Vec F S2x21 .i32 :=
  select (andi (cmpi .ne (cmpi .slt (Host.remsi (subi (broadcastInDim S2x21 ![0, 1] bcast_S1x21_S2x21_0_1 (broadcastInDim S1x21 ![1] bcast_S21_S1x21_1 (subi (iotaInDim S21 32 0) (broadcastInDim S21 ![] bcast_S_S21 (constantI S_ 32 3#32))))) (broadcastInDim S2x21 ![0, 1] bcast_S2x1_S2x21_0_1 (broadcastInDim S2x1 ![0] bcast_S2_S2x1_0 arg7))) (broadcastInDim S2x21 ![] bcast_S_S2x21 (select (cmpi .eq (constantI S_ 32 18#32) (constantI S_ 32 0#32)) (constantI S_ 32 1#32) (constantI S_ 32 18#32)))) (broadcastInDim S2x21 ![] bcast_S_S2x21 (constantI S_ 32 0#32))) (broadcastInDim S2x21 ![] bcast_S_S2x21 (cmpi .slt (select (cmpi .eq (constantI S_ 32 18#32) (constantI S_ 32 0#32)) (constantI S_ 32 1#32) (constantI S_ 32 18#32)) (constantI S_ 32 0#32)))) (cmpi .ne (Host.remsi (subi (broadcastInDim S2x21 ![0, 1] bcast_S1x21_S2x21_0_1 (broadcastInDim S1x21 ![1] bcast_S21_S1x21_1 (subi (iotaInDim S21 32 0) (broadcastInDim S21 ![] bcast_S_S21 (constantI S_ 32 3#32))))) (broadcastInDim S2x21 ![0, 1] bcast_S2x1_S2x21_0_1 (broadcastInDim S2x1 ![0] bcast_S2_S2x1_0 arg7))) (broadcastInDim S2x21 ![] bcast_S_S2x21 (select (cmpi .eq (constantI S_ 32 18#32) (constantI S_ 32 0#32)) (constantI S_ 32 1#32) (constantI S_ 32 18#32)))) (broadcastInDim S2x21 ![] bcast_S_S2x21 (constantI S_ 32 0#32)))) (addi (Host.remsi (subi (broadcastInDim S2x21 ![0, 1] bcast_S1x21_S2x21_0_1 (broadcastInDim S1x21 ![1] bcast_S21_S1x21_1 (subi (iotaInDim S21 32 0) (broadcastInDim S21 ![] bcast_S_S21 (constantI S_ 32 3#32))))) (broadcastInDim S2x21 ![0, 1] bcast_S2x1_S2x21_0_1 (broadcastInDim S2x1 ![0] bcast_S2_S2x1_0 arg7))) (broadcastInDim S2x21 ![] bcast_S_S2x21 (select (cmpi .eq (constantI S_ 32 18#32) (constantI S_ 32 0#32)) (constantI S_ 32 1#32) (constantI S_ 32 18#32)))) (broadcastInDim S2x21 ![] bcast_S_S2x21 (select (cmpi .eq (constantI S_ 32 18#32) (constantI S_ 32 0#32)) (constantI S_ 32 1#32) (constantI S_ 32 18#32)))) (Host.remsi (subi (broadcastInDim S2x21 ![0, 1] bcast_S1x21_S2x21_0_1 (broadcastInDim S1x21 ![1] bcast_S21_S1x21_1 (subi (iotaInDim S21 32 0) (broadcastInDim S21 ![] bcast_S_S21 (constantI S_ 32 3#32))))) (broadcastInDim S2x21 ![0, 1] bcast_S2x1_S2x21_0_1 (broadcastInDim S2x1 ![0] bcast_S2_S2x1_0 arg7))) (broadcastInDim S2x21 ![] bcast_S_S2x21 (select (cmpi .eq (constantI S_ 32 18#32) (constantI S_ 32 0#32)) (constantI S_ 32 1#32) (constantI S_ 32 18#32))))

theorem read_age (W : Valuation τ sig (Elt F)) : StableHlo.after segE W (Proc.devRef .tc main_v50) =
    age (W (Proc.devRef .tc main_arg7)) := by
  simp only [segE, TRef.binary, TRef.nullary, TRef.ternary, TRef.unary, TRef.toBuf, TRef.ofBuf, cast_eq]
  after_results_simp <;> rfl

/-- Which chunk sees which frame. -/
def mask (v50 : Vec F S2x21 .i32) (arg8 : Vec F S2 .i32) (arg9 : Vec F S2x21 .i32) (arg10 : Vec F S2x3 .i32) : Vec F S2x3x21 .i1 :=
  ori (broadcastInDim S2x3x21 ![0, 1, 2] bcast_S1x1x21_S2x3x21_0_1_2 (broadcastInDim S1x1x21 ![2] bcast_S21_S1x1x21_2 (cmpi .slt (iotaInDim S21 32 0) (broadcastInDim S21 ![] bcast_S_S21 (constantI S_ 32 3#32))))) (andi (broadcastInDim S2x3x21 ![0, 1, 2] bcast_S2x1x21_S2x3x21_0_1_2 (broadcastInDim S2x1x21 ![0, 2] bcast_S2x21_S2x1x21_0_2 (cmpi .slt v50 (broadcastInDim S2x21 ![0, 1] bcast_S2x1_S2x21_0_1 (broadcastInDim S2x1 ![0] bcast_S2_S2x1_0 arg8))))) (cmpi .sge (broadcastInDim S2x3x21 ![0, 1, 2] bcast_S2x1x21_S2x3x21_0_1_2 (broadcastInDim S2x1x21 ![0, 2] bcast_S2x21_S2x1x21_0_2 arg9)) (broadcastInDim S2x3x21 ![0, 1, 2] bcast_S2x3x1_S2x3x21_0_1_2 (subi (broadcastInDim S2x3x1 ![0, 1] bcast_S2x3_S2x3x1_0_1 arg10) (broadcastInDim S2x3x1 ![] bcast_S_S2x3x1 (constantI S_ 32 8#32))))))

theorem read_mask (W : Valuation τ sig (Elt F)) : StableHlo.after segG W (Proc.devRef .tc main_v69) =
    mask (W (Proc.devRef .tc main_v50)) (W (Proc.devRef .tc main_arg8)) (W (Proc.devRef .tc main_arg9)) (W (Proc.devRef .tc main_arg10)) := by
  simp only [segG, TRef.binary, TRef.nullary, TRef.ternary, TRef.unary, TRef.toBuf, TRef.ofBuf, cast_eq]
  after_results_simp <;> rfl

/-- The queries by chunk. -/
def queries (arg0 : Vec F S2x12x4680x128 .bf16) : Vec F S2x12x3x1560x128 .bf16 :=
  shapeCast S2x12x3x1560x128 arg0 shapeCasts_S2x12x4680x128_S2x12x3x1560x128

theorem read_queries (W : Valuation τ sig (Elt F)) : StableHlo.after segH W (Proc.devRef .tc main_v70) =
    queries (W (Proc.devRef .tc main_arg0)) := by
  simp only [segH, TRef.binary, TRef.nullary, TRef.ternary, TRef.unary, TRef.toBuf, TRef.ofBuf, cast_eq]
  after_results_simp <;> rfl

/-- The scales of the cached values. -/
def vscales (arg6 : Vec F S2x21x12 .f32) : Vec F S2x12x1x1x21x1 .f32 :=
  broadcastInDim S2x12x1x1x21x1 ![0, 1, 4] bcast_S2x12x21_S2x12x1x1x21x1_0_1_4 (transpose S2x12x21 [0, 2, 1] arg6 transposes_S2x21x12_S2x12x21_0_2_1)

theorem read_vscales (W : Valuation τ sig (Elt F)) : StableHlo.after segH W (Proc.devRef .tc main_v74) =
    vscales (W (Proc.devRef .tc main_arg6)) := by
  simp only [segH, TRef.binary, TRef.nullary, TRef.ternary, TRef.unary, TRef.toBuf, TRef.ofBuf, cast_eq]
  after_results_simp <;> rfl

/-- The scores against the cached keys, minus infinity where a frame is not seen. -/
def scores (v69 : Vec F S2x3x21 .i1) (arg0 : Vec F S2x12x4680x128 .bf16) (v41 : Vec F S2x21x1560x12x128 .bf16) (arg5 : Vec F S2x21x12 .f32) : Vec F S2x12x3x1560x21x1560 .f32 :=
  select (broadcastInDim S2x12x3x1560x21x1560 ![0, 1, 2, 3, 4, 5] bcast_S2x1x3x1x21x1_S2x12x3x1560x21x1560_0_1_2_3_4_5 (broadcastInDim S2x1x3x1x21x1 ![0, 2, 4] bcast_S2x3x21_S2x1x3x1x21x1_0_2_4 v69)) (mulf (mulf (mulf (Host.dotGeneral dot_S2x12x3x1560x128_S2x21x1560x12x128_S2x12x3x1560x21x1560_4_4_23_12_01_03 none (shapeCast S2x12x3x1560x128 arg0 shapeCasts_S2x12x4680x128_S2x12x3x1560x128) v41) (broadcastInDim S2x12x3x1560x21x1560 ![] bcast_S_S2x12x3x1560x21x1560 (constant S_ .f32 0x3DB504F3#32))) (broadcastInDim S2x12x3x1560x21x1560 ![0, 1, 2, 3, 4, 5] bcast_S2x12x1x1x21x1_S2x12x3x1560x21x1560_0_1_2_3_4_5 (broadcastInDim S2x12x1x1x21x1 ![0, 1, 4] bcast_S2x12x21_S2x12x1x1x21x1_0_1_4 (transpose S2x12x21 [0, 2, 1] arg5 transposes_S2x21x12_S2x12x21_0_2_1)))) (broadcastInDim S2x12x3x1560x21x1560 ![] bcast_S_S2x12x3x1560x21x1560 (constant S_ .f32 0x3FB8AA3B#32))) (broadcastInDim S2x12x3x1560x21x1560 ![] bcast_S_S2x12x3x1560x21x1560 (constant S_ .f32 0xFF800000#32))

theorem read_scores (W : Valuation τ sig (Elt F)) : StableHlo.after segH W (Proc.devRef .tc main_v83) =
    scores (W (Proc.devRef .tc main_v69)) (W (Proc.devRef .tc main_arg0)) (W (Proc.devRef .tc main_v41)) (W (Proc.devRef .tc main_arg5)) := by
  simp only [segH, TRef.binary, TRef.nullary, TRef.ternary, TRef.unary, TRef.toBuf, TRef.ofBuf, cast_eq]
  after_results_simp <;> rfl

/-- The scores against the current keys. -/
def scoresNow (v70 : Vec F S2x12x3x1560x128 .bf16) (arg1 : Vec F S2x12x4680x128 .bf16) : Vec F S2x12x3x1560x4680 .f32 :=
  mulf (mulf (Host.dotGeneral dot_S2x12x3x1560x128_S2x12x4680x128_S2x12x3x1560x4680_4_3_23_2_01_01 none v70 arg1) (broadcastInDim S2x12x3x1560x4680 ![] bcast_S_S2x12x3x1560x4680 (constant S_ .f32 0x3DB504F3#32))) (broadcastInDim S2x12x3x1560x4680 ![] bcast_S_S2x12x3x1560x4680 (constant S_ .f32 0x3FB8AA3B#32))

theorem read_scoresNow (W : Valuation τ sig (Elt F)) : StableHlo.after segI W (Proc.devRef .tc main_v88) =
    scoresNow (W (Proc.devRef .tc main_v70)) (W (Proc.devRef .tc main_arg1)) := by
  simp only [segI, TRef.binary, TRef.nullary, TRef.ternary, TRef.unary, TRef.toBuf, TRef.ofBuf, cast_eq]
  after_results_simp <;> rfl

/-- The greatest score of a query, rounded up. -/
def most (v83 : Vec F S2x12x3x1560x21x1560 .f32) (v88 : Vec F S2x12x3x1560x4680 .f32) : Vec F S2x12x3x1560 .f32 :=
  Host.ceil (maximumf (Host.reduce FloatOps.maximumf v83 (constant S_ .f32 0xFF800000#32) reducesTo_S2x12x3x1560x21x1560_S2x12x3x1560_d4_5 h_S_) (Host.reduce FloatOps.maximumf v88 (constant S_ .f32 0xFF800000#32) reducesTo_S2x12x3x1560x4680_S2x12x3x1560_d4 h_S_))

theorem read_most (W : Valuation τ sig (Elt F)) : StableHlo.after segJ W (Proc.devRef .tc main_v92) =
    most (W (Proc.devRef .tc main_v83)) (W (Proc.devRef .tc main_v88)) := by
  simp only [segJ, TRef.binary, TRef.nullary, TRef.ternary, TRef.unary, TRef.toBuf, TRef.ofBuf, cast_eq]
  after_results_simp <;> rfl

/-- The weights of the cached keys. -/
def weights (v83 : Vec F S2x12x3x1560x21x1560 .f32) (v92 : Vec F S2x12x3x1560 .f32) : Vec F S2x12x3x1560x21x1560 .f32 :=
  Host.powf (broadcastInDim S2x12x3x1560x21x1560 ![] bcast_S_S2x12x3x1560x21x1560 (constant S_ .f32 0x40000000#32)) (subf v83 (broadcastInDim S2x12x3x1560x21x1560 ![0, 1, 2, 3, 4, 5] bcast_S2x12x3x1560x1x1_S2x12x3x1560x21x1560_0_1_2_3_4_5 (broadcastInDim S2x12x3x1560x1x1 ![0, 1, 2, 3] bcast_S2x12x3x1560_S2x12x3x1560x1x1_0_1_2_3 v92)))

theorem read_weights (W : Valuation τ sig (Elt F)) : StableHlo.after segK W (Proc.devRef .tc main_v97) =
    weights (W (Proc.devRef .tc main_v83)) (W (Proc.devRef .tc main_v92)) := by
  simp only [segK, TRef.binary, TRef.nullary, TRef.ternary, TRef.unary, TRef.toBuf, TRef.ofBuf, cast_eq]
  after_results_simp <;> rfl

/-- The weights of the current keys. -/
def weightsNow (v88 : Vec F S2x12x3x1560x4680 .f32) (v92 : Vec F S2x12x3x1560 .f32) : Vec F S2x12x3x1560x4680 .f32 :=
  Host.powf (broadcastInDim S2x12x3x1560x4680 ![] bcast_S_S2x12x3x1560x4680 (constant S_ .f32 0x40000000#32)) (subf v88 (broadcastInDim S2x12x3x1560x4680 ![0, 1, 2, 3, 4] bcast_S2x12x3x1560x1_S2x12x3x1560x4680_0_1_2_3_4 (broadcastInDim S2x12x3x1560x1 ![0, 1, 2, 3] bcast_S2x12x3x1560_S2x12x3x1560x1_0_1_2_3 v92)))

theorem read_weightsNow (W : Valuation τ sig (Elt F)) : StableHlo.after segK W (Proc.devRef .tc main_v102) =
    weightsNow (W (Proc.devRef .tc main_v88)) (W (Proc.devRef .tc main_v92)) := by
  simp only [segK, TRef.binary, TRef.nullary, TRef.ternary, TRef.unary, TRef.toBuf, TRef.ofBuf, cast_eq]
  after_results_simp <;> rfl

/-- The weighted means of the values. -/
def result (v97 : Vec F S2x12x3x1560x21x1560 .f32) (v74 : Vec F S2x12x1x1x21x1 .f32) (v0_1 : Vec F S2x21x1560x12x128 .bf16) (v102 : Vec F S2x12x3x1560x4680 .f32) (arg2 : Vec F S2x12x4680x128 .bf16) : Vec F S2x12x4680x128 .f32 :=
  shapeCast S2x12x4680x128 (Host.divf (addf (Host.dotGeneral dot_S2x12x3x1560x21x1560_S2x21x1560x12x128_S2x12x3x1560x128_45_12_23_4_01_03 none (truncf .bf16 (mulf v97 (broadcastInDim S2x12x3x1560x21x1560 ![0, 1, 2, 3, 4, 5] bcast_S2x12x1x1x21x1_S2x12x3x1560x21x1560_0_1_2_3_4_5 v74)) bitsLt_bf16_f32) v0_1) (Host.dotGeneral dot_S2x12x3x1560x4680_S2x12x4680x128_S2x12x3x1560x128_4_2_23_3_01_01 none (truncf .bf16 v102 bitsLt_bf16_f32) arg2)) (broadcastInDim S2x12x3x1560x128 ![0, 1, 2, 3, 4] bcast_S2x12x3x1560x1_S2x12x3x1560x128_0_1_2_3_4 (broadcastInDim S2x12x3x1560x1 ![0, 1, 2, 3] bcast_S2x12x3x1560_S2x12x3x1560x1_0_1_2_3 (addf (Host.reduceAdd v97 (constant S_ .f32 0x00000000#32) reducesTo_S2x12x3x1560x21x1560_S2x12x3x1560_d4_5 h_S_) (Host.reduceAdd v102 (constant S_ .f32 0x00000000#32) reducesTo_S2x12x3x1560x4680_S2x12x3x1560_d4 h_S_))))) shapeCasts_S2x12x3x1560x128_S2x12x4680x128

theorem read_result (W : Valuation τ sig (Elt F)) : StableHlo.after segL W (Proc.devRef .tc main_v116) =
    result (W (Proc.devRef .tc main_v97)) (W (Proc.devRef .tc main_v74)) (W (Proc.devRef .tc main_v0_1)) (W (Proc.devRef .tc main_v102)) (W (Proc.devRef .tc main_arg2)) := by
  simp only [segL, TRef.binary, TRef.nullary, TRef.ternary, TRef.unary, TRef.toBuf, TRef.ofBuf, cast_eq]
  after_results_simp <;> rfl

theorem keep_segA_arg0 (W : Valuation τ sig (Elt F)) : StableHlo.after segA W (Proc.devRef .tc main_arg0) = W (Proc.devRef .tc main_arg0) :=
  StableHlo.after_of_writes_sub (r := main_arg0) segA _ segA_writes (by decide +kernel)

theorem keep_segA_arg1 (W : Valuation τ sig (Elt F)) : StableHlo.after segA W (Proc.devRef .tc main_arg1) = W (Proc.devRef .tc main_arg1) :=
  StableHlo.after_of_writes_sub (r := main_arg1) segA _ segA_writes (by decide +kernel)

theorem keep_segA_arg10 (W : Valuation τ sig (Elt F)) : StableHlo.after segA W (Proc.devRef .tc main_arg10) = W (Proc.devRef .tc main_arg10) :=
  StableHlo.after_of_writes_sub (r := main_arg10) segA _ segA_writes (by decide +kernel)

theorem keep_segA_arg12 (W : Valuation τ sig (Elt F)) : StableHlo.after segA W (Proc.devRef .tc main_arg12) = W (Proc.devRef .tc main_arg12) :=
  StableHlo.after_of_writes_sub (r := main_arg12) segA _ segA_writes (by decide +kernel)

theorem keep_segA_arg14 (W : Valuation τ sig (Elt F)) : StableHlo.after segA W (Proc.devRef .tc main_arg14) = W (Proc.devRef .tc main_arg14) :=
  StableHlo.after_of_writes_sub (r := main_arg14) segA _ segA_writes (by decide +kernel)

theorem keep_segA_arg2 (W : Valuation τ sig (Elt F)) : StableHlo.after segA W (Proc.devRef .tc main_arg2) = W (Proc.devRef .tc main_arg2) :=
  StableHlo.after_of_writes_sub (r := main_arg2) segA _ segA_writes (by decide +kernel)

theorem keep_segA_arg5 (W : Valuation τ sig (Elt F)) : StableHlo.after segA W (Proc.devRef .tc main_arg5) = W (Proc.devRef .tc main_arg5) :=
  StableHlo.after_of_writes_sub (r := main_arg5) segA _ segA_writes (by decide +kernel)

theorem keep_segA_arg6 (W : Valuation τ sig (Elt F)) : StableHlo.after segA W (Proc.devRef .tc main_arg6) = W (Proc.devRef .tc main_arg6) :=
  StableHlo.after_of_writes_sub (r := main_arg6) segA _ segA_writes (by decide +kernel)

theorem keep_segA_arg7 (W : Valuation τ sig (Elt F)) : StableHlo.after segA W (Proc.devRef .tc main_arg7) = W (Proc.devRef .tc main_arg7) :=
  StableHlo.after_of_writes_sub (r := main_arg7) segA _ segA_writes (by decide +kernel)

theorem keep_segA_arg8 (W : Valuation τ sig (Elt F)) : StableHlo.after segA W (Proc.devRef .tc main_arg8) = W (Proc.devRef .tc main_arg8) :=
  StableHlo.after_of_writes_sub (r := main_arg8) segA _ segA_writes (by decide +kernel)

theorem keep_segA_arg9 (W : Valuation τ sig (Elt F)) : StableHlo.after segA W (Proc.devRef .tc main_arg9) = W (Proc.devRef .tc main_arg9) :=
  StableHlo.after_of_writes_sub (r := main_arg9) segA _ segA_writes (by decide +kernel)

theorem keep_segA_v0_0 (W : Valuation τ sig (Elt F)) : StableHlo.after segA W (Proc.devRef .tc main_v0_0) = W (Proc.devRef .tc main_v0_0) :=
  StableHlo.after_of_writes_sub (r := main_v0_0) segA _ segA_writes (by decide +kernel)

theorem keep_segA_v0_1 (W : Valuation τ sig (Elt F)) : StableHlo.after segA W (Proc.devRef .tc main_v0_1) = W (Proc.devRef .tc main_v0_1) :=
  StableHlo.after_of_writes_sub (r := main_v0_1) segA _ segA_writes (by decide +kernel)

theorem keep_segB_arg0 (W : Valuation τ sig (Elt F)) : StableHlo.after segB W (Proc.devRef .tc main_arg0) = W (Proc.devRef .tc main_arg0) :=
  StableHlo.after_of_writes_sub (r := main_arg0) segB _ segB_writes (by decide +kernel)

theorem keep_segB_arg1 (W : Valuation τ sig (Elt F)) : StableHlo.after segB W (Proc.devRef .tc main_arg1) = W (Proc.devRef .tc main_arg1) :=
  StableHlo.after_of_writes_sub (r := main_arg1) segB _ segB_writes (by decide +kernel)

theorem keep_segB_arg10 (W : Valuation τ sig (Elt F)) : StableHlo.after segB W (Proc.devRef .tc main_arg10) = W (Proc.devRef .tc main_arg10) :=
  StableHlo.after_of_writes_sub (r := main_arg10) segB _ segB_writes (by decide +kernel)

theorem keep_segB_arg2 (W : Valuation τ sig (Elt F)) : StableHlo.after segB W (Proc.devRef .tc main_arg2) = W (Proc.devRef .tc main_arg2) :=
  StableHlo.after_of_writes_sub (r := main_arg2) segB _ segB_writes (by decide +kernel)

theorem keep_segB_arg5 (W : Valuation τ sig (Elt F)) : StableHlo.after segB W (Proc.devRef .tc main_arg5) = W (Proc.devRef .tc main_arg5) :=
  StableHlo.after_of_writes_sub (r := main_arg5) segB _ segB_writes (by decide +kernel)

theorem keep_segB_arg6 (W : Valuation τ sig (Elt F)) : StableHlo.after segB W (Proc.devRef .tc main_arg6) = W (Proc.devRef .tc main_arg6) :=
  StableHlo.after_of_writes_sub (r := main_arg6) segB _ segB_writes (by decide +kernel)

theorem keep_segB_arg7 (W : Valuation τ sig (Elt F)) : StableHlo.after segB W (Proc.devRef .tc main_arg7) = W (Proc.devRef .tc main_arg7) :=
  StableHlo.after_of_writes_sub (r := main_arg7) segB _ segB_writes (by decide +kernel)

theorem keep_segB_arg8 (W : Valuation τ sig (Elt F)) : StableHlo.after segB W (Proc.devRef .tc main_arg8) = W (Proc.devRef .tc main_arg8) :=
  StableHlo.after_of_writes_sub (r := main_arg8) segB _ segB_writes (by decide +kernel)

theorem keep_segB_arg9 (W : Valuation τ sig (Elt F)) : StableHlo.after segB W (Proc.devRef .tc main_arg9) = W (Proc.devRef .tc main_arg9) :=
  StableHlo.after_of_writes_sub (r := main_arg9) segB _ segB_writes (by decide +kernel)

theorem keep_segB_v0_0 (W : Valuation τ sig (Elt F)) : StableHlo.after segB W (Proc.devRef .tc main_v0_0) = W (Proc.devRef .tc main_v0_0) :=
  StableHlo.after_of_writes_sub (r := main_v0_0) segB _ segB_writes (by decide +kernel)

theorem keep_segB_v0_1 (W : Valuation τ sig (Elt F)) : StableHlo.after segB W (Proc.devRef .tc main_v0_1) = W (Proc.devRef .tc main_v0_1) :=
  StableHlo.after_of_writes_sub (r := main_v0_1) segB _ segB_writes (by decide +kernel)

theorem keep_segB_v12 (W : Valuation τ sig (Elt F)) : StableHlo.after segB W (Proc.devRef .tc main_v12) = W (Proc.devRef .tc main_v12) :=
  StableHlo.after_of_writes_sub (r := main_v12) segB _ segB_writes (by decide +kernel)

theorem keep_segC_arg0 (W : Valuation τ sig (Elt F)) : StableHlo.after segC W (Proc.devRef .tc main_arg0) = W (Proc.devRef .tc main_arg0) :=
  StableHlo.after_of_writes_sub (r := main_arg0) segC _ segC_writes (by decide +kernel)

theorem keep_segC_arg1 (W : Valuation τ sig (Elt F)) : StableHlo.after segC W (Proc.devRef .tc main_arg1) = W (Proc.devRef .tc main_arg1) :=
  StableHlo.after_of_writes_sub (r := main_arg1) segC _ segC_writes (by decide +kernel)

theorem keep_segC_arg10 (W : Valuation τ sig (Elt F)) : StableHlo.after segC W (Proc.devRef .tc main_arg10) = W (Proc.devRef .tc main_arg10) :=
  StableHlo.after_of_writes_sub (r := main_arg10) segC _ segC_writes (by decide +kernel)

theorem keep_segC_arg2 (W : Valuation τ sig (Elt F)) : StableHlo.after segC W (Proc.devRef .tc main_arg2) = W (Proc.devRef .tc main_arg2) :=
  StableHlo.after_of_writes_sub (r := main_arg2) segC _ segC_writes (by decide +kernel)

theorem keep_segC_arg5 (W : Valuation τ sig (Elt F)) : StableHlo.after segC W (Proc.devRef .tc main_arg5) = W (Proc.devRef .tc main_arg5) :=
  StableHlo.after_of_writes_sub (r := main_arg5) segC _ segC_writes (by decide +kernel)

theorem keep_segC_arg6 (W : Valuation τ sig (Elt F)) : StableHlo.after segC W (Proc.devRef .tc main_arg6) = W (Proc.devRef .tc main_arg6) :=
  StableHlo.after_of_writes_sub (r := main_arg6) segC _ segC_writes (by decide +kernel)

theorem keep_segC_arg7 (W : Valuation τ sig (Elt F)) : StableHlo.after segC W (Proc.devRef .tc main_arg7) = W (Proc.devRef .tc main_arg7) :=
  StableHlo.after_of_writes_sub (r := main_arg7) segC _ segC_writes (by decide +kernel)

theorem keep_segC_arg8 (W : Valuation τ sig (Elt F)) : StableHlo.after segC W (Proc.devRef .tc main_arg8) = W (Proc.devRef .tc main_arg8) :=
  StableHlo.after_of_writes_sub (r := main_arg8) segC _ segC_writes (by decide +kernel)

theorem keep_segC_arg9 (W : Valuation τ sig (Elt F)) : StableHlo.after segC W (Proc.devRef .tc main_arg9) = W (Proc.devRef .tc main_arg9) :=
  StableHlo.after_of_writes_sub (r := main_arg9) segC _ segC_writes (by decide +kernel)

theorem keep_segC_v0_1 (W : Valuation τ sig (Elt F)) : StableHlo.after segC W (Proc.devRef .tc main_v0_1) = W (Proc.devRef .tc main_v0_1) :=
  StableHlo.after_of_writes_sub (r := main_v0_1) segC _ segC_writes (by decide +kernel)

theorem keep_segD_arg0 (W : Valuation τ sig (Elt F)) : StableHlo.after segD W (Proc.devRef .tc main_arg0) = W (Proc.devRef .tc main_arg0) :=
  StableHlo.after_of_writes_sub (r := main_arg0) segD _ segD_writes (by decide +kernel)

theorem keep_segD_arg1 (W : Valuation τ sig (Elt F)) : StableHlo.after segD W (Proc.devRef .tc main_arg1) = W (Proc.devRef .tc main_arg1) :=
  StableHlo.after_of_writes_sub (r := main_arg1) segD _ segD_writes (by decide +kernel)

theorem keep_segD_arg10 (W : Valuation τ sig (Elt F)) : StableHlo.after segD W (Proc.devRef .tc main_arg10) = W (Proc.devRef .tc main_arg10) :=
  StableHlo.after_of_writes_sub (r := main_arg10) segD _ segD_writes (by decide +kernel)

theorem keep_segD_arg2 (W : Valuation τ sig (Elt F)) : StableHlo.after segD W (Proc.devRef .tc main_arg2) = W (Proc.devRef .tc main_arg2) :=
  StableHlo.after_of_writes_sub (r := main_arg2) segD _ segD_writes (by decide +kernel)

theorem keep_segD_arg5 (W : Valuation τ sig (Elt F)) : StableHlo.after segD W (Proc.devRef .tc main_arg5) = W (Proc.devRef .tc main_arg5) :=
  StableHlo.after_of_writes_sub (r := main_arg5) segD _ segD_writes (by decide +kernel)

theorem keep_segD_arg6 (W : Valuation τ sig (Elt F)) : StableHlo.after segD W (Proc.devRef .tc main_arg6) = W (Proc.devRef .tc main_arg6) :=
  StableHlo.after_of_writes_sub (r := main_arg6) segD _ segD_writes (by decide +kernel)

theorem keep_segD_arg7 (W : Valuation τ sig (Elt F)) : StableHlo.after segD W (Proc.devRef .tc main_arg7) = W (Proc.devRef .tc main_arg7) :=
  StableHlo.after_of_writes_sub (r := main_arg7) segD _ segD_writes (by decide +kernel)

theorem keep_segD_arg8 (W : Valuation τ sig (Elt F)) : StableHlo.after segD W (Proc.devRef .tc main_arg8) = W (Proc.devRef .tc main_arg8) :=
  StableHlo.after_of_writes_sub (r := main_arg8) segD _ segD_writes (by decide +kernel)

theorem keep_segD_arg9 (W : Valuation τ sig (Elt F)) : StableHlo.after segD W (Proc.devRef .tc main_arg9) = W (Proc.devRef .tc main_arg9) :=
  StableHlo.after_of_writes_sub (r := main_arg9) segD _ segD_writes (by decide +kernel)

theorem keep_segD_v0_1 (W : Valuation τ sig (Elt F)) : StableHlo.after segD W (Proc.devRef .tc main_v0_1) = W (Proc.devRef .tc main_v0_1) :=
  StableHlo.after_of_writes_sub (r := main_v0_1) segD _ segD_writes (by decide +kernel)

theorem keep_segE_arg0 (W : Valuation τ sig (Elt F)) : StableHlo.after segE W (Proc.devRef .tc main_arg0) = W (Proc.devRef .tc main_arg0) :=
  StableHlo.after_of_writes_sub (r := main_arg0) segE _ segE_writes (by decide +kernel)

theorem keep_segE_arg1 (W : Valuation τ sig (Elt F)) : StableHlo.after segE W (Proc.devRef .tc main_arg1) = W (Proc.devRef .tc main_arg1) :=
  StableHlo.after_of_writes_sub (r := main_arg1) segE _ segE_writes (by decide +kernel)

theorem keep_segE_arg10 (W : Valuation τ sig (Elt F)) : StableHlo.after segE W (Proc.devRef .tc main_arg10) = W (Proc.devRef .tc main_arg10) :=
  StableHlo.after_of_writes_sub (r := main_arg10) segE _ segE_writes (by decide +kernel)

theorem keep_segE_arg2 (W : Valuation τ sig (Elt F)) : StableHlo.after segE W (Proc.devRef .tc main_arg2) = W (Proc.devRef .tc main_arg2) :=
  StableHlo.after_of_writes_sub (r := main_arg2) segE _ segE_writes (by decide +kernel)

theorem keep_segE_arg5 (W : Valuation τ sig (Elt F)) : StableHlo.after segE W (Proc.devRef .tc main_arg5) = W (Proc.devRef .tc main_arg5) :=
  StableHlo.after_of_writes_sub (r := main_arg5) segE _ segE_writes (by decide +kernel)

theorem keep_segE_arg6 (W : Valuation τ sig (Elt F)) : StableHlo.after segE W (Proc.devRef .tc main_arg6) = W (Proc.devRef .tc main_arg6) :=
  StableHlo.after_of_writes_sub (r := main_arg6) segE _ segE_writes (by decide +kernel)

theorem keep_segE_arg8 (W : Valuation τ sig (Elt F)) : StableHlo.after segE W (Proc.devRef .tc main_arg8) = W (Proc.devRef .tc main_arg8) :=
  StableHlo.after_of_writes_sub (r := main_arg8) segE _ segE_writes (by decide +kernel)

theorem keep_segE_arg9 (W : Valuation τ sig (Elt F)) : StableHlo.after segE W (Proc.devRef .tc main_arg9) = W (Proc.devRef .tc main_arg9) :=
  StableHlo.after_of_writes_sub (r := main_arg9) segE _ segE_writes (by decide +kernel)

theorem keep_segE_v0_1 (W : Valuation τ sig (Elt F)) : StableHlo.after segE W (Proc.devRef .tc main_v0_1) = W (Proc.devRef .tc main_v0_1) :=
  StableHlo.after_of_writes_sub (r := main_v0_1) segE _ segE_writes (by decide +kernel)

theorem keep_segE_v41 (W : Valuation τ sig (Elt F)) : StableHlo.after segE W (Proc.devRef .tc main_v41) = W (Proc.devRef .tc main_v41) :=
  StableHlo.after_of_writes_sub (r := main_v41) segE _ segE_writes (by decide +kernel)

theorem keep_segG_arg0 (W : Valuation τ sig (Elt F)) : StableHlo.after segG W (Proc.devRef .tc main_arg0) = W (Proc.devRef .tc main_arg0) :=
  StableHlo.after_of_writes_sub (r := main_arg0) segG _ segG_writes (by decide +kernel)

theorem keep_segG_arg1 (W : Valuation τ sig (Elt F)) : StableHlo.after segG W (Proc.devRef .tc main_arg1) = W (Proc.devRef .tc main_arg1) :=
  StableHlo.after_of_writes_sub (r := main_arg1) segG _ segG_writes (by decide +kernel)

theorem keep_segG_arg2 (W : Valuation τ sig (Elt F)) : StableHlo.after segG W (Proc.devRef .tc main_arg2) = W (Proc.devRef .tc main_arg2) :=
  StableHlo.after_of_writes_sub (r := main_arg2) segG _ segG_writes (by decide +kernel)

theorem keep_segG_arg5 (W : Valuation τ sig (Elt F)) : StableHlo.after segG W (Proc.devRef .tc main_arg5) = W (Proc.devRef .tc main_arg5) :=
  StableHlo.after_of_writes_sub (r := main_arg5) segG _ segG_writes (by decide +kernel)

theorem keep_segG_arg6 (W : Valuation τ sig (Elt F)) : StableHlo.after segG W (Proc.devRef .tc main_arg6) = W (Proc.devRef .tc main_arg6) :=
  StableHlo.after_of_writes_sub (r := main_arg6) segG _ segG_writes (by decide +kernel)

theorem keep_segG_v0_1 (W : Valuation τ sig (Elt F)) : StableHlo.after segG W (Proc.devRef .tc main_v0_1) = W (Proc.devRef .tc main_v0_1) :=
  StableHlo.after_of_writes_sub (r := main_v0_1) segG _ segG_writes (by decide +kernel)

theorem keep_segG_v41 (W : Valuation τ sig (Elt F)) : StableHlo.after segG W (Proc.devRef .tc main_v41) = W (Proc.devRef .tc main_v41) :=
  StableHlo.after_of_writes_sub (r := main_v41) segG _ segG_writes (by decide +kernel)

theorem keep_segH_arg1 (W : Valuation τ sig (Elt F)) : StableHlo.after segH W (Proc.devRef .tc main_arg1) = W (Proc.devRef .tc main_arg1) :=
  StableHlo.after_of_writes_sub (r := main_arg1) segH _ segH_writes (by decide +kernel)

theorem keep_segH_arg2 (W : Valuation τ sig (Elt F)) : StableHlo.after segH W (Proc.devRef .tc main_arg2) = W (Proc.devRef .tc main_arg2) :=
  StableHlo.after_of_writes_sub (r := main_arg2) segH _ segH_writes (by decide +kernel)

theorem keep_segH_v0_1 (W : Valuation τ sig (Elt F)) : StableHlo.after segH W (Proc.devRef .tc main_v0_1) = W (Proc.devRef .tc main_v0_1) :=
  StableHlo.after_of_writes_sub (r := main_v0_1) segH _ segH_writes (by decide +kernel)

theorem keep_segI_arg2 (W : Valuation τ sig (Elt F)) : StableHlo.after segI W (Proc.devRef .tc main_arg2) = W (Proc.devRef .tc main_arg2) :=
  StableHlo.after_of_writes_sub (r := main_arg2) segI _ segI_writes (by decide +kernel)

theorem keep_segI_v0_1 (W : Valuation τ sig (Elt F)) : StableHlo.after segI W (Proc.devRef .tc main_v0_1) = W (Proc.devRef .tc main_v0_1) :=
  StableHlo.after_of_writes_sub (r := main_v0_1) segI _ segI_writes (by decide +kernel)

theorem keep_segI_v74 (W : Valuation τ sig (Elt F)) : StableHlo.after segI W (Proc.devRef .tc main_v74) = W (Proc.devRef .tc main_v74) :=
  StableHlo.after_of_writes_sub (r := main_v74) segI _ segI_writes (by decide +kernel)

theorem keep_segI_v83 (W : Valuation τ sig (Elt F)) : StableHlo.after segI W (Proc.devRef .tc main_v83) = W (Proc.devRef .tc main_v83) :=
  StableHlo.after_of_writes_sub (r := main_v83) segI _ segI_writes (by decide +kernel)

theorem keep_segJ_arg2 (W : Valuation τ sig (Elt F)) : StableHlo.after segJ W (Proc.devRef .tc main_arg2) = W (Proc.devRef .tc main_arg2) :=
  StableHlo.after_of_writes_sub (r := main_arg2) segJ _ segJ_writes (by decide +kernel)

theorem keep_segJ_v0_1 (W : Valuation τ sig (Elt F)) : StableHlo.after segJ W (Proc.devRef .tc main_v0_1) = W (Proc.devRef .tc main_v0_1) :=
  StableHlo.after_of_writes_sub (r := main_v0_1) segJ _ segJ_writes (by decide +kernel)

theorem keep_segJ_v74 (W : Valuation τ sig (Elt F)) : StableHlo.after segJ W (Proc.devRef .tc main_v74) = W (Proc.devRef .tc main_v74) :=
  StableHlo.after_of_writes_sub (r := main_v74) segJ _ segJ_writes (by decide +kernel)

theorem keep_segJ_v83 (W : Valuation τ sig (Elt F)) : StableHlo.after segJ W (Proc.devRef .tc main_v83) = W (Proc.devRef .tc main_v83) :=
  StableHlo.after_of_writes_sub (r := main_v83) segJ _ segJ_writes (by decide +kernel)

theorem keep_segJ_v88 (W : Valuation τ sig (Elt F)) : StableHlo.after segJ W (Proc.devRef .tc main_v88) = W (Proc.devRef .tc main_v88) :=
  StableHlo.after_of_writes_sub (r := main_v88) segJ _ segJ_writes (by decide +kernel)

theorem keep_segK_arg2 (W : Valuation τ sig (Elt F)) : StableHlo.after segK W (Proc.devRef .tc main_arg2) = W (Proc.devRef .tc main_arg2) :=
  StableHlo.after_of_writes_sub (r := main_arg2) segK _ segK_writes (by decide +kernel)

theorem keep_segK_v0_1 (W : Valuation τ sig (Elt F)) : StableHlo.after segK W (Proc.devRef .tc main_v0_1) = W (Proc.devRef .tc main_v0_1) :=
  StableHlo.after_of_writes_sub (r := main_v0_1) segK _ segK_writes (by decide +kernel)

theorem keep_segK_v74 (W : Valuation τ sig (Elt F)) : StableHlo.after segK W (Proc.devRef .tc main_v74) = W (Proc.devRef .tc main_v74) :=
  StableHlo.after_of_writes_sub (r := main_v74) segK _ segK_writes (by decide +kernel)

end Cert.ReferenceIdeal.Host

end
-- ==== Proof.Reference.Rows.lean ====
/-
  The reference's rows of rotations at an index: a row of the time table at the frame's position, then the space table.
-/
module

public import proofs.«01_k».proof.Proof.Reference.Ops
public import proofs.«01_k».proof.Proof.Consts
public import proofs.«01_k».proof.Proof.Online
public import proofs.«01_k».proof.Proof.Words
public import Idealize.ShloMosaic.Lib.Pointwise
public import Idealize.ShloMosaic.Lib.ValueIdxRank6
public import Idealize.ShloMosaic.Lib.Affine

@[expose] public section

set_option maxRecDepth 16384

noncomputable section

namespace Cert.ReferenceIdeal.Host

open Cert.ReferenceIdeal Cert.ReferenceIdeal.Gen AttnConst
open Idealize.ShloMosaic Idealize.ShloMosaic.TcCoe

/-- The gather at an index: the table's row at the start index, read signed and kept within the table. -/
theorem gather_at (tb : Vec Ideal S1024x22 .f32) (idx : IVec S2x21x1 32) (b : Fin 2) (r : Fin 21) (p : Fin 22) :
    Host.gather gather_S1024x22_S2x21x1_S2x21x22_2_0_n_n_0_2_122 tb idx (ix3 b r p)
      = tb (ix2 ⟨min (idx (ix3 b r 0)).toInt.toNat 1023, by omega⟩ p) := by
  unfold Host.gather
  congr 1
  funext a
  refine Fin.ext ?_
  show GatherDims.start _ (ix3 b r p) idx a + GatherDims.batchCoord _ (ix3 b r p) a + GatherDims.offCoord _ (ix3 b r p) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1024x22_S2x21x1_S2x21x22_2_0_n_n_0_2_122).startIndexMap from List.mem_singleton.mpr rfl)]
    have hsi : (gather_S1024x22_S2x21x1_S2x21x22_2_0_n_n_0_2_122).siIdx (ix3 b r p) ⟨List.idxOf (0 : Fin 2) (gather_S1024x22_S2x21x1_S2x21x22_2_0_n_n_0_2_122).startIndexMap,
        List.idxOf_lt_length_iff.2 (List.mem_singleton.mpr rfl)⟩ = ix3 b r 0 := by
      funext e; refine Fin.ext ?_
      match e with
      | ⟨0, _⟩ => rfl
      | ⟨1, _⟩ => rfl
      | ⟨2, _⟩ => rfl
    rw [hsi]
    rfl
  · unfold GatherDims.start
    rw [dif_neg (show (1 : Fin 2) ∉ (gather_S1024x22_S2x21x1_S2x21x22_2_0_n_n_0_2_122).startIndexMap from fun h => absurd (List.mem_singleton.mp h) (by decide))]
    simp only [Nat.zero_add, Nat.add_zero]
    rfl

/-- A word below 1024 read as a row of the table. -/
theorem row_of_pos (w : BitVec 32) (h : w.toNat < 1024) :
    min (Scalar.select (IntOp.cmpi .slt w 0#32) (IntOp.addi w 1024#32) w).toInt.toNat 1023 = w.toNat := by
  have e : w.toInt = (w.toNat : ℤ) := by rw [BitVec.toInt_eq_toNat_cond, if_pos (by omega)]
  have h0 : IntOp.cmpi .slt w 0#32 = 0#1 := by
    rcases (show ∀ c : BitVec 1, c = 0#1 ∨ c = 1#1 by decide) (IntOp.cmpi .slt w 0#32) with h1 | h1
    · exact h1
    · have := IntOp.cmpi_slt.mp h1
      rw [e] at this
      simp at this
      omega
  rw [h0]
  show min (BitVec.toInt w).toNat 1023 = _
  rw [e]
  omega

/-- Lane pair `p` of the rotation of token `t` of a frame at position `pos`. -/
def turn (tb : Vec Ideal S1024x22 .f32) (sp : Vec Ideal S1560x42 .f32) (pos : Fin 1024) (t : Fin 1560) (p : Fin 64) : EReal :=
  if h : p.val < 22 then tb (ix2 pos ⟨p.val, h⟩) else sp (ix2 t ⟨p.val - 22, by omega⟩)

theorem cosRows_at (tb : Vec Ideal S1024x22 .f32) (ps : Vec Ideal S2x21 .i32) (sp : Vec Ideal S1560x42 .f32) (b : Fin 2) (r : Fin 21)
    (t : Fin 1560) (p : Fin 64) (h : (ps (ix2 b r)).toNat < 1024) :
    cosRows tb ps sp (ix5 b r t 0 p) = turn tb sp ⟨(ps (ix2 b r)).toNat, h⟩ t p := by
  pointwise [cosRows]
  unfold turn
  split
  · rw [gather_at]
    refine congrArg tb (congrArg (fun z => ix2 z _) (Fin.ext ?_))
    refine Eq.trans ?_ (row_of_pos _ h)
    congr 3
    pointwise
  · rfl

theorem sinRows_at (tb : Vec Ideal S1024x22 .f32) (ps : Vec Ideal S2x21 .i32) (sp : Vec Ideal S1560x42 .f32) (b : Fin 2) (r : Fin 21)
    (t : Fin 1560) (p : Fin 64) (h : (ps (ix2 b r)).toNat < 1024) :
    sinRows tb ps sp (ix5 b r t 0 p) = turn tb sp ⟨(ps (ix2 b r)).toNat, h⟩ t p :=
  cosRows_at tb ps sp b r t p h

end Cert.ReferenceIdeal.Host

end
-- ==== Proof.Reference.Keys.lean ====
/-
  The reference's rotated keys at an index.
-/
module

public import proofs.«01_k».proof.Proof.Reference.Ops
public import proofs.«01_k».proof.Proof.Consts
public import proofs.«01_k».proof.Proof.Online
public import proofs.«01_k».proof.Proof.Words
public import Idealize.ShloMosaic.Lib.Pointwise
public import Idealize.ShloMosaic.Lib.ValueIdxRank6
public import Idealize.ShloMosaic.Lib.Affine

@[expose] public section

set_option maxRecDepth 16384

noncomputable section

namespace Cert.ReferenceIdeal.Host

open Cert.ReferenceIdeal Cert.ReferenceIdeal.Gen AttnConst
open Idealize.ShloMosaic Idealize.ShloMosaic.TcCoe

theorem evens_at (x : Vec Ideal S2x21x1560x12x128 .f32) (c s : Vec Ideal S2x21x1560x1x64 .f32) (b : Fin 2) (r : Fin 21) (t : Fin 1560)
    (h : Fin 12) (p : Fin 64) :
    evens x c s (ix5 b r t h p) = x (ix5 b r t h ⟨2 * p.val, by omega⟩) * c (ix5 b r t 0 p) - x (ix5 b r t h ⟨1 + 2 * p.val, by omega⟩) * s (ix5 b r t 0 p) := by
  pointwise [evens]

theorem odds_at (x : Vec Ideal S2x21x1560x12x128 .f32) (s c : Vec Ideal S2x21x1560x1x64 .f32) (b : Fin 2) (r : Fin 21) (t : Fin 1560)
    (h : Fin 12) (p : Fin 64) :
    odds x s c (ix5 b r t h p) = x (ix5 b r t h ⟨2 * p.val, by omega⟩) * s (ix5 b r t 0 p) + x (ix5 b r t h ⟨1 + 2 * p.val, by omega⟩) * c (ix5 b r t 0 p) := by
  pointwise [odds]

theorem stack_at (a c : Vec Ideal S2x21x1560x12x64x1 .f32) (b : Fin 2) (r : Fin 21) (t : Fin 1560) (h : Fin 12) (p : Fin 64) (e : Fin 2) :
    fn_v39 a c (ix6 b r t h p e) = if e.val < 1 then a (ix6 b r t h p 0) else c (ix6 b r t h p 0) := by
  pointwise [fn_v39]
  split
  · exact congrArg (fun z => a (ix6 b r t h p z)) (Subsingleton.elim _ _)
  · exact congrArg (fun z => c (ix6 b r t h p z)) (Subsingleton.elim _ _)

theorem column_at (x : Vec Ideal S2x21x1560x12x64 .f32) (b : Fin 2) (r : Fin 21) (t : Fin 1560) (h : Fin 12) (p : Fin 64) :
    broadcastInDim S2x21x1560x12x64x1 ![0, 1, 2, 3, 4] bcast_S2x21x1560x12x64_S2x21x1560x12x64x1_0_1_2_3_4 x (ix6 b r t h p 0) = x (ix5 b r t h p) := by
  pointwise

/-- Splitting the last axis in pairs keeps the row-major position. -/
theorem pair_pos {n0 n1 n2 n3 n m : ℕ} (hm : m = n * 2) (b : Fin n0) (r : Fin n1) (t : Fin n2) (h : Fin n3) (p : Fin m)
    (h1 : p.val / 2 < n) (h2 : p.val % 2 < 2) :
    ((⟨6, ![n0, n1, n2, n3, n, 2]⟩ : Shape).rowMajor (ix6 b r t h ⟨p.val / 2, h1⟩ ⟨p.val % 2, h2⟩)).val
      = ((⟨5, ![n0, n1, n2, n3, m]⟩ : Shape).rowMajor (ix5 b r t h p)).val := by
  subst hm
  rw [Shape.rowMajor_val_six, Shape.rowMajor_val_five]
  show ((((b.val * n1 + r.val) * n2 + t.val) * n3 + h.val) * n + p.val / 2) * 2 + p.val % 2
    = (((b.val * n1 + r.val) * n2 + t.val) * n3 + h.val) * (n * 2) + p.val
  have := Nat.div_add_mod p.val 2
  rw [Nat.add_mul, Nat.mul_assoc]
  omega

/-- Joining the last two axes, the last of size two, read at an index. -/
theorem join_at {α : Type} {n0 n1 n2 n3 n m : ℕ} (hm : m = n * 2) (x : (⟨6, ![n0, n1, n2, n3, n, 2]⟩ : Shape).Idx → α)
    (hc : (⟨6, ![n0, n1, n2, n3, n, 2]⟩ : Shape).ShapeCasts ⟨5, ![n0, n1, n2, n3, m]⟩) (b : Fin n0) (r : Fin n1) (t : Fin n2) (h : Fin n3) (p : Fin m)
    (h1 : p.val / 2 < n) (h2 : p.val % 2 < 2) :
    shapeCast ⟨5, ![n0, n1, n2, n3, m]⟩ x hc (ix5 b r t h p) = x (ix6 b r t h ⟨p.val / 2, h1⟩ ⟨p.val % 2, h2⟩) :=
  shapeCast_apply x hc _ _ (pair_pos hm b r t h p h1 h2)

theorem truncf_at {s : Shape} (x : FVec Ideal s .f32) (h : FTy.bf16.bits < FTy.f32.bits) (i : s.Idx) : truncf .bf16 x h i = x i := rfl

theorem keys_at (x y : Vec Ideal S2x21x1560x12x64 .f32) (b : Fin 2) (r : Fin 21) (t : Fin 1560) (h : Fin 12) (p : Fin 128) :
    keys x y (ix5 b r t h p) = if p.val % 2 < 1 then x (ix5 b r t h ⟨p.val / 2, by omega⟩) else y (ix5 b r t h ⟨p.val / 2, by omega⟩) := by
  unfold keys
  refine (truncf_at _ _ _).trans ?_
  refine (join_at (n0 := 2) (n1 := 21) (n2 := 1560) (n3 := 12) (n := 64) (m := 128) (by decide) _ shapeCasts_S2x21x1560x12x64x2_S2x21x1560x12x128 b r t h p (by omega) (by omega)).trans ?_
  refine (stack_at _ _ b r t h _ _).trans ?_
  rw [column_at x, column_at y]

end Cert.ReferenceIdeal.Host

end
-- ==== Proof.KeyBridge.lean ====
/-
  The kernel's rotated keys are the reference's.
-/
module

public import proofs.«01_k».proof.Proof.AttnIdeal.Tables
public import proofs.«01_k».proof.Proof.Reference.Rows
public import proofs.«01_k».proof.Proof.Reference.Keys

@[expose] public section

set_option maxRecDepth 16384

noncomputable section

namespace Cert.Bridge

open AttnConst Cert.AttnIdeal.Host Cert.ReferenceIdeal.Host
open Idealize.ShloMosaic Idealize.ShloMosaic.TcCoe
open Cert.ReferenceIdeal (S1024x22 S1560x42 S2x21x1560x12x128 S2x21)

/-- The two tables of cosines add up to one row of rotations. -/
theorem cos_sum (tb : Vec Ideal S1024x22 .f32) (sp : Vec Ideal S1560x42 .f32) (pos : Fin 1024) (n : Fin 1560) (d : Fin 128) :
    cosS sp (ix2 n d) + cosT tb (ix2 pos d) = (turn tb sp pos n ⟨d.val / 2, by omega⟩ : EReal) := by
  rw [cosS_at, cosT_at]
  unfold turn
  by_cases h : d.val < 44
  · rw [dif_pos h, dif_pos h, dif_pos (show d.val / 2 < 22 by omega)]
    exact zero_add _
  · rw [dif_neg h, dif_neg h, dif_neg (show ¬ d.val / 2 < 22 by omega)]
    refine (add_zero _).trans ?_
    exact congrArg (fun z => sp (ix2 n z)) (Fin.ext (show (d.val - 44) / 2 = d.val / 2 - 22 by omega))

/-- The sign of a lane's sine. -/
theorem sign_even (j : ℕ) (h : j % 2 = 0) :
    Scalar.select (IntOp.cmpi .eq (BitVec.ofNat 32 (j % 2)) 0#32) (Ideal.ofBits .f32 0xBF800000#32) (1 : EReal) = ((-(1 : ℝ) : ℝ) : EReal) := by
  rw [h, bits_neg_one]; rfl

theorem sign_odd (j : ℕ) (h : j % 2 = 1) :
    Scalar.select (IntOp.cmpi .eq (BitVec.ofNat 32 (j % 2)) 0#32) (Ideal.ofBits .f32 0xBF800000#32) (1 : EReal) = 1 := by
  rw [h]; rfl

theorem sin_sum (tb : Vec Ideal S1024x22 .f32) (sp : Vec Ideal S1560x42 .f32) (pos : Fin 1024) (n : Fin 1560) (d : Fin 128) (s : EReal)
    (hs : ∀ j, j % 2 = d.val % 2 → Scalar.select (IntOp.cmpi .eq (BitVec.ofNat 32 (j % 2)) 0#32) (Ideal.ofBits .f32 0xBF800000#32) (1 : EReal) = s) :
    sinS (spreadS sp) (parityS (F := Ideal)) (ix2 n d) + sinT (spreadT tb) (parityT (F := Ideal)) (ix2 pos d)
      = (turn tb sp pos n ⟨d.val / 2, by omega⟩ : EReal) * s := by
  rw [sinS_at, sinT_at]
  unfold turn
  by_cases h : d.val < 44
  · rw [dif_pos h, dif_pos h, dif_pos (show d.val / 2 < 22 by omega), parityT_at, spreadT_at, hs _ rfl]
    exact zero_add _
  · rw [dif_neg h, dif_neg h, dif_neg (show ¬ d.val / 2 < 22 by omega), parityS_at, spreadS_at, hs _ (show (d.val - 44) % 2 = d.val % 2 by omega)]
    refine (add_zero _).trans ?_
    exact congrArg (fun z => sp (ix2 n z) * s) (Fin.ext (show (d.val - 44) / 2 = d.val / 2 - 22 by omega))

section
variable (z : Vec Ideal S2x21x1560x12x128 .f32) (ps : Vec Ideal S2x21 .i32) (tcos tsin : Vec Ideal S1024x22 .f32) (scos ssin : Vec Ideal S1560x42 .f32)
  (b : Fin 2) (f : Fin 21) (h : Fin 12) (hp : (ps (ix2 b f)).toNat < 1024) (n : Fin 1560) (d : Fin 128)

/-- The reference's rotated keys. -/
def refKeys : Vec Ideal S2x21x1560x12x128 .bf16 :=
  keys (evens z (cosRows tcos ps scos) (sinRows tsin ps ssin)) (odds z (sinRows tsin ps ssin) (cosRows tcos ps scos))

theorem key_even (hd : d.val % 2 = 0) :
    (z (ix5 b f n h d) * (cosS scos (ix2 n d) + cosT tcos (ix2 ⟨(ps (ix2 b f)).toNat, hp⟩ d))
      + z (ix5 b f n h ⟨d.val + 1, by omega⟩) * (sinS (spreadS ssin) (parityS (F := Ideal)) (ix2 n d) + sinT (spreadT tsin) (parityT (F := Ideal)) (ix2 ⟨(ps (ix2 b f)).toNat, hp⟩ d)) : EReal)
      = refKeys z ps tcos tsin scos ssin (ix5 b f n h d) := by
  unfold refKeys
  rw [keys_at, if_pos (by omega), evens_at, cosRows_at _ _ _ _ _ _ _ hp, sinRows_at _ _ _ _ _ _ _ hp, cos_sum,
    sin_sum _ _ _ _ _ _ fun j hj => sign_even j (hj.trans hd), mul_mul_neg_one, sub_eq_add_neg]
  have e1 : (⟨2 * (d.val / 2), by omega⟩ : Fin 128) = d := Fin.ext (show 2 * (d.val / 2) = d.val by omega)
  have e2 : (⟨1 + 2 * (d.val / 2), by omega⟩ : Fin 128) = ⟨d.val + 1, by omega⟩ := Fin.ext (show 1 + 2 * (d.val / 2) = d.val + 1 by omega)
  show _ = z (ix5 b f n h ⟨2 * (d.val / 2), _⟩) * _ + -(z (ix5 b f n h ⟨1 + 2 * (d.val / 2), _⟩) * _)
  rw [e1, e2]

theorem key_odd (hd : d.val % 2 = 1) :
    (z (ix5 b f n h d) * (cosS scos (ix2 n d) + cosT tcos (ix2 ⟨(ps (ix2 b f)).toNat, hp⟩ d))
      + z (ix5 b f n h ⟨d.val - 1, by omega⟩) * (sinS (spreadS ssin) (parityS (F := Ideal)) (ix2 n d) + sinT (spreadT tsin) (parityT (F := Ideal)) (ix2 ⟨(ps (ix2 b f)).toNat, hp⟩ d)) : EReal)
      = refKeys z ps tcos tsin scos ssin (ix5 b f n h d) := by
  unfold refKeys
  rw [keys_at, if_neg (by omega), odds_at, cosRows_at _ _ _ _ _ _ _ hp, sinRows_at _ _ _ _ _ _ _ hp, cos_sum,
    sin_sum _ _ _ _ _ _ fun j hj => sign_odd j (hj.trans hd), mul_one, add_comm]
  have e1 : (⟨2 * (d.val / 2), by omega⟩ : Fin 128) = ⟨d.val - 1, by omega⟩ := Fin.ext (show 2 * (d.val / 2) = d.val - 1 by omega)
  have e2 : (⟨1 + 2 * (d.val / 2), by omega⟩ : Fin 128) = d := Fin.ext (show 1 + 2 * (d.val / 2) = d.val by omega)
  show _ = z (ix5 b f n h ⟨2 * (d.val / 2), _⟩) * _ + z (ix5 b f n h ⟨1 + 2 * (d.val / 2), _⟩) * _
  rw [e1, e2]

end

end Cert.Bridge

end
-- ==== Proof.Reference.Mask.lean ====
/-
  The frames the reference's chunks see, as the kernel's test.
-/
module

public import proofs.«01_k».proof.Proof.Reference.Ops
public import proofs.«01_k».proof.Proof.Consts
public import proofs.«01_k».proof.Proof.Online
public import proofs.«01_k».proof.Proof.Words
public import Idealize.ShloMosaic.Lib.Pointwise
public import Idealize.ShloMosaic.Lib.ValueIdxRank6
public import Idealize.ShloMosaic.Lib.Affine

@[expose] public section

set_option maxRecDepth 16384

noncomputable section

namespace Cert.ReferenceIdeal.Host

open Cert.ReferenceIdeal Cert.ReferenceIdeal.Gen AttnConst
open Idealize.ShloMosaic Idealize.ShloMosaic.TcCoe

/-- Two ways to turn a remainder of the dividend's sign into one that is not negative. -/
theorem fix_up (v : BitVec 32) :
    Scalar.select (IntOp.andi (IntOp.cmpi .ne (IntOp.cmpi .slt v 0#32) (IntOp.cmpi .slt 18#32 0#32)) (IntOp.cmpi .ne v 0#32)) (IntOp.addi v 18#32) v
      = Scalar.select (IntOp.cmpi .slt v 0#32) (IntOp.addi v 18#32) v := by
  by_cases h : v = 0#32
  · subst h; decide
  · have h1 : IntOp.cmpi .ne v 0#32 = 1#1 := by
      show BitVec.ofBool (v != 0#32) = 1#1
      rw [show (v != 0#32) = true by simpa using h]
      rfl
    rw [h1, show IntOp.cmpi .slt 18#32 0#32 = 0#1 by decide]
    congr 1
    generalize IntOp.cmpi .slt v 0#32 = c
    revert c; decide

theorem age_at (x : Vec Ideal S2 .i32) (b : Fin 2) (r : Fin 21) :
    age x (ix2 b r) = Scalar.select (Scalar.cmpi .slt (Scalar.remsi (Scalar.subi (Scalar.subi (BitVec.ofNat 32 r.val) 3#32) (x (ix1 b))) 18#32) 0#32)
      (Scalar.addi (Scalar.remsi (Scalar.subi (Scalar.subi (BitVec.ofNat 32 r.val) 3#32) (x (ix1 b))) 18#32) 18#32)
      (Scalar.remsi (Scalar.subi (Scalar.subi (BitVec.ofNat 32 r.val) 3#32) (x (ix1 b))) 18#32) := by
  pointwise [age]
  rw [show (Scalar.select (IntOp.cmpi .eq 18#32 0#32) 1#32 18#32) = 18#32 by decide]
  rw [IntOp.remsi_of_pos .host (show 0 < (18#32).toInt by decide)]
  refine (fix_up _).trans ?_
  rw [Scalar.remsi, IntOp.remsi_of_pos .scalar (show 0 < (18#32).toInt by decide)]
  rfl

/-- The reference's mask at an index is the kernel's test. -/
theorem mask_at (x : Vec Ideal S2 .i32) (x8 : Vec Ideal S2 .i32) (x9 : Vec Ideal S2x21 .i32) (x10 : Vec Ideal S2x3 .i32) (b : Fin 2) (r : Fin 21) (c : Fin 3) :
    mask (age x) x8 x9 x10 (ix3 b c r) = AttnWords.seen (x (ix1 b)) (x8 (ix1 b)) (x10 (ix2 b c)) (BitVec.ofNat 32 r.val) (x9 (ix2 b r)) := by
  have e : mask (age x) x8 x9 x10 (ix3 b c r) = IntOp.ori (IntOp.cmpi .slt (BitVec.ofNat 32 r.val) 3#32)
      (IntOp.andi (IntOp.cmpi .slt (age x (ix2 b r)) (x8 (ix1 b))) (IntOp.cmpi .sge (x9 (ix2 b r)) (IntOp.subi (x10 (ix2 b c)) 8#32))) := by
    pointwise [mask]
  rw [e, age_at]
  rfl

end Cert.ReferenceIdeal.Host

end
-- ==== Proof.Reference.Softmax.lean ====
/-
  The reference's scores, greatest score, weights and result at an index.
-/
module

public import proofs.«01_k».proof.Proof.Reference.Ops
public import proofs.«01_k».proof.Proof.Consts
public import proofs.«01_k».proof.Proof.Online
public import proofs.«01_k».proof.Proof.Words
public import Idealize.ShloMosaic.Lib.Pointwise
public import Idealize.ShloMosaic.Lib.ValueIdxRank6
public import Idealize.ShloMosaic.Lib.Affine

@[expose] public section

set_option maxRecDepth 16384

noncomputable section

namespace Cert.ReferenceIdeal.Host

open Cert.ReferenceIdeal Cert.ReferenceIdeal.Gen AttnConst
open Idealize.ShloMosaic Idealize.ShloMosaic.TcCoe

section
variable {n0 n1 n2 n3 n4 n5 : ℕ}

/-- The indices that agree with `(b, c, d, e)` on the first four of six axes. -/
theorem fiber_last2 (h : (⟨6, ![n0, n1, n2, n3, n4, n5]⟩ : Shape).ReducesTo [4, 5] ⟨4, ![n0, n1, n2, n3]⟩) (b : Fin n0) (c : Fin n1) (d : Fin n2) (e : Fin n3)
    (i : (⟨6, ![n0, n1, n2, n3, n4, n5]⟩ : Shape).Idx) :
    h.drop i = ix4 b c d e ↔ ∃ k : Fin n4 × Fin n5, ix6 b c d e k.1 k.2 = i := by
  constructor
  · intro H
    refine ⟨(i 4, i 5), ?_⟩
    funext a; apply Fin.ext
    match a with
    | ⟨0, _⟩ => exact (congrArg Fin.val (congrFun H 0)).symm
    | ⟨1, _⟩ => exact (congrArg Fin.val (congrFun H 1)).symm
    | ⟨2, _⟩ => exact (congrArg Fin.val (congrFun H 2)).symm
    | ⟨3, _⟩ => exact (congrArg Fin.val (congrFun H 3)).symm
    | ⟨4, _⟩ => rfl
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl

theorem last2_inj (b : Fin n0) (c : Fin n1) (d : Fin n2) (e : Fin n3) :
    Function.Injective fun k : Fin n4 × Fin n5 => ix6 b c d e k.1 k.2 :=
  fun _ _ E => Prod.ext (congrFun E 4) (congrFun E 5)

theorem sum_last2 (h : (⟨6, ![n0, n1, n2, n3, n4, n5]⟩ : Shape).ReducesTo [4, 5] ⟨4, ![n0, n1, n2, n3]⟩) (b : Fin n0) (c : Fin n1) (d : Fin n2) (e : Fin n3)
    (x : (⟨6, ![n0, n1, n2, n3, n4, n5]⟩ : Shape).Idx → EReal) :
    Ideal.hostReduceAdd h x 0 (ix4 b c d e) = ∑ r : Fin n4, ∑ n : Fin n5, x (ix6 b c d e r n) := by
  unfold Ideal.hostReduceAdd
  rw [zero_add, Finset.sum_filter_eq_sum_of_fiber _ (fun k : Fin n4 × Fin n5 => ix6 b c d e k.1 k.2) (last2_inj b c d e) (fiber_last2 h b c d e) x,
    Fintype.sum_prod_type]

theorem max_last2 {u : Shape} (h : (⟨6, ![n0, n1, n2, n3, n4, n5]⟩ : Shape).ReducesTo [4, 5] ⟨4, ![n0, n1, n2, n3]⟩) (b : Fin n0) (c : Fin n1) (d : Fin n2) (e : Fin n3)
    (x : (⟨6, ![n0, n1, n2, n3, n4, n5]⟩ : Shape).Idx → EReal) (init : u.Idx → EReal) (hu : 0 < u.numel) :
    Host.reduce max x init h hu (ix4 b c d e) = (Finset.univ : Finset (Fin n4 × Fin n5)).fold max (init (Shape.Idx.first hu)) fun k => x (ix6 b c d e k.1 k.2) := by
  rw [Host.reduce_eq_fold]
  exact Finset.fold_filter_eq_fold_of_fiber max _ (fun k : Fin n4 × Fin n5 => ix6 b c d e k.1 k.2) (last2_inj b c d e) (fiber_last2 h b c d e) _ x

end

theorem scores_at (x : Vec Ideal S2x3x21 .i1) (q : Vec Ideal S2x12x4680x128 .bf16) (kk : Vec Ideal S2x21x1560x12x128 .bf16) (ks : Vec Ideal S2x21x12 .f32)
    (b : Fin 2) (r : Fin 21) (t : Fin 1560) (h : Fin 12) (c : Fin 3) (n : Fin 1560) :
    scores x q kk ks (ix6 b h c t r n) = if x (ix3 b c r) = 1#1 then
      (∑ z, q (ix4 b h ⟨c.val * 1560 + t.val, by omega⟩ z) * kk (ix5 b r n h z)) * Ideal.ofBits .f32 0x3DB504F3#32 * ks (ix3 b r h) * Ideal.ofBits .f32 0x3FB8AA3B#32
      else ⊥ := by
  rw [← bits_bot]
  pointwise [scores]
  rfl

theorem scoresNow_at (q kk : Vec Ideal S2x12x4680x128 .bf16) (b : Fin 2) (t : Fin 1560) (h : Fin 12) (c : Fin 3) (n : Fin 4680) :
    scoresNow (queries q) kk (ix5 b h c t n) =
      (∑ z, q (ix4 b h ⟨c.val * 1560 + t.val, by omega⟩ z) * kk (ix4 b h n z)) * Ideal.ofBits .f32 0x3DB504F3#32 * Ideal.ofBits .f32 0x3FB8AA3B#32 := by
  pointwise [scoresNow, queries]

theorem weights_at (x : Vec Ideal S2x12x3x1560x21x1560 .f32) (m : Vec Ideal S2x12x3x1560 .f32) (b : Fin 2) (t : Fin 1560) (h : Fin 12) (c : Fin 3)
    (r : Fin 21) (n : Fin 1560) : weights x m (ix6 b h c t r n) = Online.w (x (ix6 b h c t r n)) (m (ix4 b h c t)) := by
  have e : weights x m (ix6 b h c t r n) = Ideal.pow (Ideal.ofBits .f32 0x40000000#32) (x (ix6 b h c t r n) - m (ix4 b h c t)) := by
    pointwise [weights]
  rw [e, pow_two]
  rfl

theorem weightsNow_at (x : Vec Ideal S2x12x3x1560x4680 .f32) (m : Vec Ideal S2x12x3x1560 .f32) (b : Fin 2) (t : Fin 1560) (h : Fin 12) (c : Fin 3)
    (n : Fin 4680) : weightsNow x m (ix5 b h c t n) = Online.w (x (ix5 b h c t n)) (m (ix4 b h c t)) := by
  have e : weightsNow x m (ix5 b h c t n) = Ideal.pow (Ideal.ofBits .f32 0x40000000#32) (x (ix5 b h c t n) - m (ix4 b h c t)) := by
    pointwise [weightsNow]
  rw [e, pow_two]
  rfl

theorem maxNow_at (sn : Vec Ideal S2x12x3x1560x4680 .f32) (b : Fin 2) (h : Fin 12) (c : Fin 3) (t : Fin 1560) :
    Host.reduce FloatOps.maximumf sn (constant S_ .f32 0xFF800000#32) reducesTo_S2x12x3x1560x4680_S2x12x3x1560_d4 h_S_ (ix4 b h c t)
      = Finset.univ.fold max (Ideal.ofBits .f32 0xFF800000#32) fun x => sn (ix5 b h c t x) := by
  pointwise

theorem maxCache_at (s : Vec Ideal S2x12x3x1560x21x1560 .f32) (b : Fin 2) (h : Fin 12) (c : Fin 3) (t : Fin 1560) :
    Host.reduce FloatOps.maximumf s (constant S_ .f32 0xFF800000#32) reducesTo_S2x12x3x1560x21x1560_S2x12x3x1560_d4_5 h_S_ (ix4 b h c t)
      = Finset.univ.fold max (Ideal.ofBits .f32 0xFF800000#32) fun k : Fin 21 × Fin 1560 => s (ix6 b h c t k.1 k.2) :=
  max_last2 reducesTo_S2x12x3x1560x21x1560_S2x12x3x1560_d4_5 b h c t s _ h_S_

theorem ceil_max_at {s : Shape} (x y : FVec Ideal s .f32) (i : s.Idx) : Host.ceil (maximumf x y) i = Online.ceil (max (x i) (y i)) := rfl

/-- The greatest score of a query, rounded up. -/
theorem most_at (s : Vec Ideal S2x12x3x1560x21x1560 .f32) (sn : Vec Ideal S2x12x3x1560x4680 .f32) (b : Fin 2) (h : Fin 12) (c : Fin 3) (t : Fin 1560) :
    most s sn (ix4 b h c t) = Online.ceil (max (Finset.univ.fold max ⊥ fun k : Fin 21 × Fin 1560 => s (ix6 b h c t k.1 k.2))
      (Finset.univ.fold max ⊥ fun x => sn (ix5 b h c t x))) := by
  unfold most
  rw [ceil_max_at, maxCache_at, maxNow_at, bits_bot]

theorem vscales_at (x : Vec Ideal S2x21x12 .f32) (b : Fin 2) (h : Fin 12) (r : Fin 21) : vscales x (ix6 b h 0 0 r 0) = x (ix3 b r h) := by
  pointwise [vscales]

/-- The reference's result at an index: the quotient of the two sums. -/
theorem result_at (w : Vec Ideal S2x12x3x1560x21x1560 .f32) (vs : Vec Ideal S2x12x1x1x21x1 .f32) (vc : Vec Ideal S2x21x1560x12x128 .bf16)
    (wn : Vec Ideal S2x12x3x1560x4680 .f32) (v : Vec Ideal S2x12x4680x128 .bf16) (b : Fin 2) (h : Fin 12) (t : Fin 4680) (d : Fin 128) :
    result w vs vc wn v (ix4 b h t d) =
      Ideal.div ((∑ r : Fin 21, ∑ n : Fin 1560, w (ix6 b h ⟨t.val / 1560, by omega⟩ ⟨t.val % 1560, by omega⟩ r n) * vs (ix6 b h 0 0 r 0) * vc (ix5 b r n h d))
          + ∑ x : Fin 4680, wn (ix5 b h ⟨t.val / 1560, by omega⟩ ⟨t.val % 1560, by omega⟩ x) * v (ix4 b h x d))
        ((∑ r : Fin 21, ∑ n : Fin 1560, w (ix6 b h ⟨t.val / 1560, by omega⟩ ⟨t.val % 1560, by omega⟩ r n))
          + ∑ x : Fin 4680, wn (ix5 b h ⟨t.val / 1560, by omega⟩ ⟨t.val % 1560, by omega⟩ x)) := by
  rw [← sum_last2 reducesTo_S2x12x3x1560x21x1560_S2x12x3x1560_d4_5]
  pointwise [result]

end Cert.ReferenceIdeal.Host

end
-- ==== Proof.Reference.Result.lean ====
/-
  The reference's result as a function of its arguments, and its value at an index as an attention over the list of the
  frames a chunk sees.
-/
module

public import proofs.«01_k».proof.Proof.KeyBridge
public import proofs.«01_k».proof.Proof.Frames
public import proofs.«01_k».proof.Proof.Reference.Mask
public import proofs.«01_k».proof.Proof.Reference.Softmax

@[expose] public section

set_option maxRecDepth 16384

noncomputable section

namespace Cert.Bridge

open AttnConst Cert.ReferenceIdeal.Host Cert.ReferenceIdeal
open Idealize.ShloMosaic Idealize.ShloMosaic.TcCoe

variable (q k v : Vec Ideal S2x12x4680x128 .bf16) (kc : Vec Ideal S2x21x1560x12x128 .f32) (vc : Vec Ideal S2x21x1560x12x128 .bf16)
  (ks vs : Vec Ideal S2x21x12 .f32) (rs rv : Vec Ideal S2 .i32) (fp : Vec Ideal S2x21 .i32) (cp : Vec Ideal S2x3 .i32)
  (tcos tsin : Vec Ideal S1024x22 .f32) (scos ssin : Vec Ideal S1560x42 .f32)

/-- The reference's scores against the cached frames. -/
def refScores : Vec Ideal S2x12x3x1560x21x1560 .f32 := scores (mask (age rs) rv fp cp) q (refKeys kc fp tcos tsin scos ssin) ks

/-- The reference's scores against the frames of this call. -/
def refNow : Vec Ideal S2x12x3x1560x4680 .f32 := scoresNow (queries q) k

/-- The reference's result. -/
def refOut : Vec Ideal S2x12x4680x128 .f32 :=
  result (weights (refScores q kc ks rs rv fp cp tcos tsin scos ssin) (most (refScores q kc ks rs rv fp cp tcos tsin scos ssin) (refNow q k))) (vscales vs) vc
    (weightsNow (refNow q k) (most (refScores q kc ks rs rv fp cp tcos tsin scos ssin) (refNow q k))) v

/-- Attention over a list of frames is the reference's quotient, if the two agree on scores and values. -/
theorem refOut_at (b : Fin 2) (h : Fin 12) (s : Fin 4680) (d : Fin 128) (S X : ℕ → Fin 1560 → EReal) (P : ℕ → Bool)
    (hS : ∀ r n, refScores q kc ks rs rv fp cp tcos tsin scos ssin (ix6 b h ⟨s.val / 1560, by omega⟩ ⟨s.val % 1560, by omega⟩ r n) = Online.masked S P r n)
    (hN : ∀ x, refNow q k (ix5 b h ⟨s.val / 1560, by omega⟩ ⟨s.val % 1560, by omega⟩ x) = Online.now S x)
    (hX : ∀ (r : Fin 21) (n : Fin 1560), X r.val n = vs (ix3 b r h) * vc (ix5 b r n h d))
    (hXN : ∀ x, Online.now X x = v (ix4 b h x d)) :
    refOut q k v kc vc ks vs rs rv fp cp tcos tsin scos ssin (ix4 b h s d) =
      Ideal.div (Online.run S X (AttnWords.vis P 21 ++ [21, 22, 23])).2 (Online.run S (fun _ _ => 1) (AttnWords.vis P 21 ++ [21, 22, 23])).2 := by
  have hM : most (refScores q kc ks rs rv fp cp tcos tsin scos ssin) (refNow q k) (ix4 b h ⟨s.val / 1560, by omega⟩ ⟨s.val % 1560, by omega⟩) = Online.mx S (AttnWords.vis P 21 ++ [21, 22, 23]) := by
    rw [most_at, Online.mx_frames]
    exact congrArg₂ (fun x y : EReal => Online.ceil (max x y))
      (congrArg (fun f => Finset.fold max ⊥ f Finset.univ) (funext fun k => hS k.1 k.2))
      (congrArg (fun f => Finset.fold max ⊥ f Finset.univ) (funext hN))
  unfold refOut
  rw [result_at, Online.run_frames, Online.run_frames]
  have hW : ∀ r n, weights (refScores q kc ks rs rv fp cp tcos tsin scos ssin) (most (refScores q kc ks rs rv fp cp tcos tsin scos ssin) (refNow q k)) (ix6 b h ⟨s.val / 1560, by omega⟩ ⟨s.val % 1560, by omega⟩ r n)
      = Online.w (Online.masked S P r n) (Online.mx S (AttnWords.vis P 21 ++ [21, 22, 23])) := fun r n => by
    rw [weights_at, hM, hS]
  have hWN : ∀ x, weightsNow (refNow q k) (most (refScores q kc ks rs rv fp cp tcos tsin scos ssin) (refNow q k)) (ix5 b h ⟨s.val / 1560, by omega⟩ ⟨s.val % 1560, by omega⟩ x)
      = Online.w (Online.now S x) (Online.mx S (AttnWords.vis P 21 ++ [21, 22, 23])) := fun x => by
    rw [weightsNow_at, hM, hN]
  refine congrArg₂ Ideal.div (congrArg₂ (fun x y : EReal => x + y) ?_ ?_) (congrArg₂ (fun x y : EReal => x + y) ?_ ?_)
  · refine Finset.sum_congr rfl fun r _ => Finset.sum_congr rfl fun n _ => ?_
    rw [hW, vscales_at, hX]
    exact mul_assoc _ _ _
  · refine Finset.sum_congr rfl fun x _ => ?_
    rw [hWN, hXN]
  · refine Finset.sum_congr rfl fun r _ => Finset.sum_congr rfl fun n _ => ?_
    rw [hW]
    exact (mul_one _).symm
  · refine Finset.sum_congr rfl fun x _ => ?_
    rw [hWN]
    exact (mul_one _).symm

end Cert.Bridge

end
-- ==== Proof.Meet.lean ====
/-
  A grid point's block of results, over blocks that hold the arguments' words, is the reference's result at that batch
  and head.
-/
module

public import proofs.«01_k».proof.Proof.AttnIdeal.Frame1
public import proofs.«01_k».proof.Proof.AttnIdeal.Step
public import proofs.«01_k».proof.Proof.Reference.Result

@[expose] public section

set_option maxRecDepth 16384

noncomputable section

namespace Cert.Bridge

open AttnConst AttnWords Cert.ReferenceIdeal.Host Cert.ReferenceIdeal Cert.AttnIdeal.Body Cert.AttnIdeal.Host
open Idealize.ShloMosaic Idealize.ShloMosaic.TcCoe
open Cert.AttnIdeal (S504 S1x1x4680x128 S1x21x1x1560x128 S1024x128 S1560x128)

theorem at1_at (x : Vec Ideal S2 .i32) (b : Fin 2) : at1 (a := 2) x b.val = x (ix1 b) := (at1_idx (a := 2) x (ix1 b) b.val rfl).symm
theorem at2_at (x : Vec Ideal S2x21 .i32) (b : Fin 2) (r : Fin 21) : at2 (a := 2) (b := 21) x b.val r.val = x (ix2 b r) :=
  (at2_idx (a := 2) (b := 21) x (ix2 b r) b.val r.val rfl rfl).symm
theorem at3_at (x : Vec Ideal S2x3 .i32) (b : Fin 2) (r : Fin 3) : at2 (a := 2) (b := 3) x b.val r.val = x (ix2 b r) :=
  (at2_idx (a := 2) (b := 3) x (ix2 b r) b.val r.val rfl rfl).symm

section
variable (q k v : Vec Ideal S2x12x4680x128 .bf16) (kc : Vec Ideal S2x21x1560x12x128 .f32) (vc : Vec Ideal S2x21x1560x12x128 .bf16)
  (ks vs : Vec Ideal S2x21x12 .f32) (rs rv : Vec Ideal S2 .i32) (fp : Vec Ideal S2x21 .i32) (cp : Vec Ideal S2x3 .i32)
  (tcos tsin : Vec Ideal S1024x22 .f32) (scos ssin : Vec Ideal S1560x42 .f32)
  (ksB vsB : Vec Ideal S504 .f32) (qB kB vB : Vec Ideal S1x1x4680x128 .bf16) (kcB vcB : Vec Ideal S1x21x1x1560x128 .fp8e4m3)
  (tcB tsB : Vec Ideal S1024x128 .f32) (scB ssB : Vec Ideal S1560x128 .f32) (b : Fin 2) (h : Fin 12)

/-- The keys of a cached frame. -/
theorem keyAt_eq (hpos : ∀ r : Fin 21, (fp (ix2 b r)).toNat < 1024)
    (hkc : ∀ (r : Fin 21) (n : Fin 1560) (d : Fin 128), kcB (ix5 0 r 0 n d) = kc (ix5 b r n h d))
    (htc : ∀ p d, tcB (ix2 p d) = cosT tcos (ix2 p d)) (hts : ∀ p d, tsB (ix2 p d) = sinT (spreadT tsin) (parityT (F := Ideal)) (ix2 p d))
    (hsc : ∀ p d, scB (ix2 p d) = cosS scos (ix2 p d)) (hss : ∀ p d, ssB (ix2 p d) = sinS (spreadS ssin) (parityS (F := Ideal)) (ix2 p d))
    (r : Fin 21) (n : Fin 1560) (d : Fin 128) :
    keyAt kB kcB tcB tsB scB ssB (fun f => (at2 (a := 2) (b := 21) fp b.val f).toNat) r.val (ix3 0 n d)
      = refKeys kc fp tcos tsin scos ssin (ix5 b r n h d) := by
  have hp : (fun f => (at2 (a := 2) (b := 21) fp b.val f).toNat) r.val = (⟨(fp (ix2 b r)).toNat, hpos r⟩ : Fin 1024).val :=
    congrArg BitVec.toNat (at2_at fp b r)
  by_cases hd : d.val % 2 = 0
  · rw [keyAt_even kB kcB tcB tsB scB ssB _ r _ hp n d hd, hkc, hkc, htc, hts, hsc, hss]
    exact key_even kc fp tcos tsin scos ssin b r h (hpos r) n d hd
  · have hd' : d.val % 2 = 1 := by omega
    rw [keyAt_odd kB kcB tcB tsB scB ssB _ r _ hp n d hd', hkc, hkc, htc, hts, hsc, hss]
    exact key_odd kc fp tcos tsin scos ssin b r h (hpos r) n d hd'

/-- The queries of a tile. -/
theorem query_eq (hq : ∀ s d, qB (ix4 0 0 s d) = q (ix4 b h s d)) (s : Fin 4680) (x : Fin 128) :
    Cert.AttnIdeal.Gen.k0_pay20 (tileOf qB (s.val / 312)) (ix2 ⟨s.val % 312, Nat.mod_lt _ (by decide)⟩ x) = q (ix4 b h s x) := by
  rw [pay20_at]
  refine (tileOf_at qB (⟨s.val / 312, by omega⟩ : Fin 15) _ x).trans ?_
  rw [hq]
  exact congrArg (fun z => q (ix4 b h z x)) (Fin.ext (show s.val / 312 * 312 + s.val % 312 = s.val by omega))

theorem row_eq (s : Fin 4680) : (⟨(⟨s.val / 1560, by omega⟩ : Fin 3).val * 1560 + (⟨s.val % 1560, by omega⟩ : Fin 1560).val, by
    show s.val / 1560 * 1560 + s.val % 1560 < 4680; omega⟩ : Fin 4680) = s :=
  Fin.ext (show s.val / 1560 * 1560 + s.val % 1560 = s.val by omega)

theorem column_eq (x : Fin 4680) : (⟨(⟨x.val / 1560, by omega⟩ : Fin 3).val * 1560 + (⟨x.val % 1560, Nat.mod_lt _ (by decide)⟩ : Fin 1560).val, by
    show x.val / 1560 * 1560 + x.val % 1560 < 4680; omega⟩ : Fin 4680) = x :=
  Fin.ext (show x.val / 1560 * 1560 + x.val % 1560 = x.val by omega)

theorem outBlock_eq (hpos : ∀ r : Fin 21, (fp (ix2 b r)).toNat < 1024)
    (hks : ∀ r : Fin 21, ksB (ix1 ⟨(b.val * 21 + r.val) * 12 + h.val, by omega⟩) = ks (ix3 b r h))
    (hvs : ∀ r : Fin 21, vsB (ix1 ⟨(b.val * 21 + r.val) * 12 + h.val, by omega⟩) = vs (ix3 b r h))
    (hq : ∀ s d, qB (ix4 0 0 s d) = q (ix4 b h s d)) (hk : ∀ s d, kB (ix4 0 0 s d) = k (ix4 b h s d)) (hv : ∀ s d, vB (ix4 0 0 s d) = v (ix4 b h s d))
    (hkc : ∀ (r : Fin 21) (n : Fin 1560) (d : Fin 128), kcB (ix5 0 r 0 n d) = kc (ix5 b r n h d))
    (hvc : ∀ (r : Fin 21) (n : Fin 1560) (d : Fin 128), vcB (ix5 0 r 0 n d) = vc (ix5 b r n h d))
    (htc : ∀ p d, tcB (ix2 p d) = cosT tcos (ix2 p d)) (hts : ∀ p d, tsB (ix2 p d) = sinT (spreadT tsin) (parityT (F := Ideal)) (ix2 p d))
    (hsc : ∀ p d, scB (ix2 p d) = cosS scos (ix2 p d)) (hss : ∀ p d, ssB (ix2 p d) = sinS (spreadS ssin) (parityS (F := Ideal)) (ix2 p d))
    (s : Fin 4680) (d : Fin 128) :
    outBlock b.val h.val rs rv fp cp ksB vsB qB kB vB kcB vcB tcB tsB scB ssB (ix4 0 0 s d)
      = refOut q k v kc vc ks vs rs rv fp cp tcos tsin scos ssin (ix4 b h s d) := by
  have hL : outBlock b.val h.val rs rv fp cp ksB vsB qB kB vB kcB vcB tcB tsB scB ssB (ix4 0 0 s d)
      = tileOut (Cert.AttnIdeal.Gen.k0_pay20 (tileOf qB (s.val / 312)))
          (keyAt kB kcB tcB tsB scB ssB (fun f => (at2 (a := 2) (b := 21) fp b.val f).toNat)) (valAt vB vcB) (scaleAt ksB b.val h.val) (scaleAt vsB b.val h.val)
          (frames (sees (at1 (a := 2) rs b.val) (at1 (a := 2) rv b.val) (at2 (a := 2) (b := 3) cp b.val (s.val / 312 / 5)) b.val fp))
          (ix4 0 0 ⟨s.val % 312, Nat.mod_lt _ (by decide)⟩ d) := by
    rw [ix4_eq_valueIdx 0 0 (⟨s.val % 312, Nat.mod_lt _ (by decide)⟩ : Fin 312) d]
    rfl
  rw [hL, tileOut_at]
  unfold frames
  refine (refOut_at q k v kc vc ks vs rs rv fp cp tcos tsin scos ssin b h s d _ _ _ ?_ ?_ ?_ ?_).symm
  · intro r n
    have hP : sees (at1 (a := 2) rs b.val) (at1 (a := 2) rv b.val) (at2 (a := 2) (b := 3) cp b.val (s.val / 312 / 5)) b.val fp r.val
        = (mask (age rs) rv fp cp (ix3 b ⟨s.val / 1560, by omega⟩ r) == 1#1) := by
      rw [mask_at]
      unfold sees
      rw [at1_at, at1_at, at2_at, show s.val / 312 / 5 = (⟨s.val / 1560, by omega⟩ : Fin 3).val from Nat.div_div_eq_div_mul _ _ _, at3_at]
    unfold refScores Online.masked
    rw [hP, scores_at]
    refine if_congr (by simp) ?_ rfl
    unfold colScore
    rw [scoreOf_at, scaleAt_cache, hks, row_eq]
    simp only [query_eq q qB b h hq s, keyAt_eq kc fp tcos tsin scos ssin kB kcB tcB tsB scB ssB b h hpos hkc htc hts hsc hss]
    simp only [mul_assoc, mul_comm (refKeys kc fp tcos tsin scos ssin _ : EReal)]
  · intro x
    unfold refNow Online.now colScore
    rw [scoreOf_at, scaleAt_now, scoresNow_at, row_eq]
    simp only [query_eq q qB b h hq s, keyAt_chunk kB kcB tcB tsB scB ssB _ (⟨x.val / 1560, by omega⟩ : Fin 3), hk, column_eq]
    simp only [mul_one, mul_assoc, mul_comm (k _ : EReal),
      show ∀ hh, (⟨x.val / 1560 * 1560 + x.val % 1560, hh⟩ : Fin 4680) = x from fun _ => Fin.ext (show x.val / 1560 * 1560 + x.val % 1560 = x.val by omega)]
  · intro r n
    unfold colValue
    rw [scaleAt_cache, hvs, valAt_ring, hvc]
  · intro x
    unfold Online.now colValue
    rw [scaleAt_now]
    refine (one_mul _).trans ?_
    refine (valAt_chunk vB vcB (⟨x.val / 1560, by omega⟩ : Fin 3) _ d).trans ?_
    rw [column_eq, hv]

end

end Cert.Bridge

end
-- ==== Proof.AttnIdeal.Value.lean ====
/-
  What the kernel leaves in its result array: the reference's result of the kernel's arguments.
-/
module

public import proofs.«01_k».proof.Proof.AttnIdeal.Out
public import proofs.«01_k».proof.Proof.AttnIdeal.Prefix
public import proofs.«01_k».proof.Proof.Meet

@[expose] public section

set_option maxRecDepth 16384

noncomputable section

namespace Cert.AttnIdeal.Gen

open Cert.AttnIdeal Cert.AttnIdeal.Gen Cert.AttnIdeal.Host
open Idealize.ShloMosaic Idealize.ShloMosaic.TcCoe
open Idealize.SL Idealize.SL.Sem

variable (m : (ℓ : Loc nD τ sig) → Buf (Elt Ideal) ℓ) (hO : Ok m) (c : Dev nD)

/-- The reference's result of the kernel's arguments. -/
def want : Vec Ideal S2x12x4680x128 .f32 :=
  Cert.Bridge.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem tab0_eq : tab0 m = (m ((c : Thread nD τ).loc main_arg7)) := (V_pre m c 0).symm.trans (V_main_arg7 m c)
theorem tab1_eq : tab1 m = (m ((c : Thread nD τ).loc main_arg8)) := (V_pre m c 1).symm.trans (V_main_arg8 m c)
theorem tab2_eq : tab2 m = (m ((c : Thread nD τ).loc main_arg9)) := (V_pre m c 2).symm.trans (V_main_arg9 m c)
theorem tab3_eq : tab3 m = (m ((c : Thread nD τ).loc main_arg10)) := (V_pre m c 3).symm.trans (V_main_arg10 m c)

theorem pos_at (hP : PosOk m) (b : Fin 2) (r : Fin 21) : (tab2 m (ix2 b r)).toNat < 1024 := by
  have h := hP b.val b.isLt r.val r.isLt
  rwa [Cert.Bridge.at2_at] at h

theorem outAt_value (hP : PosOk m) (t : Fin (cfgM m hO).N) (s : Fin 4680) (d : Fin 128) :
    outAt m hO c t (ix4 0 0 s d) = want m c (ix4 (batch t) (head t) s d) := by
  unfold want outAt
  rw [← tab0_eq m c, ← tab1_eq m c, ← tab2_eq m c, ← tab3_eq m c]
  refine Cert.Bridge.outBlock_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tab0 m) (tab1 m) (tab2 m) (tab3 m) (m ((c : Thread nD τ).loc main_arg11)) (m ((c : Thread nD τ).loc main_arg12)) (m ((c : Thread nD τ).loc main_arg13)) (m ((c : Thread nD τ).loc main_arg14))
    _ _ _ _ _ _ _ _ _ _ _ (batch t) (head t) (pos_at m hP (batch t)) ?_ ?_ ?_ ?_ ?_ ?_ ?_ ?_ ?_ ?_ ?_ s d
  · intro r
    refine (iblk0_at m hO c t _).trans ?_
    rw [V_main_v32]
    exact kscale_at _ (batch t) r (head t)
  · intro r
    refine (iblk1_at m hO c t _).trans ?_
    rw [V_main_v33]
    exact vscale_at _ (batch t) r (head t)
  · intro s d
    refine (iblk2_at m hO c t s d).trans ?_
    rw [V_main_arg0]; rfl
  · intro s d
    refine (iblk3_at m hO c t s d).trans ?_
    rw [V_main_arg1]; rfl
  · intro s d
    refine (iblk4_at m hO c t s d).trans ?_
    rw [V_main_arg2]; rfl
  · intro r n d
    refine (iblk5_at m hO c t r n d).trans ?_
    rw [V_main_v30]
    exact kcodes_at _ (batch t) r (head t) n d
  · intro r n d
    refine (iblk6_at m hO c t r n d).trans ?_
    rw [V_main_v31]
    exact vcodes_at _ (batch t) r (head t) n d
  · intro p d
    refine (iblk7_at m hO c t p d).trans ?_
    rw [V_main_v2]
  · intro p d
    refine (iblk8_at m hO c t p d).trans ?_
    rw [V_main_v17]
  · intro p d
    refine (iblk9_at m hO c t p d).trans ?_
    rw [V_main_v5]
  · intro p d
    refine (iblk10_at m hO c t p d).trans ?_
    rw [V_main_v29]

/-- The result array after the run. -/
theorem value (hP : PosOk m) : (dats m hO 0 c).arrAt 11 (cfgM m hO).N = want m c := by
  refine (arr11 m hO c).trans ?_
  funext i
  rw [← array_index i]
  refine (outArr_at m hO c (i 0) (i 1) (i 2) (i 3)).trans ((outAt_value m hO c hP _ _ _).trans ?_)
  exact congrArg₂ (fun (x : Fin 2) (z : Fin 12) => want m c (ix4 x z (i 2) (i 3))) (batch_point (i 0) (i 1)) (head_point (i 0) (i 1))

end Cert.AttnIdeal.Gen

end
-- ==== Proof.Reference.Read.lean ====
/-
  The reference's host operations put together: what is in the result buffer after all of them.
-/
module

public import proofs.«01_k».proof.Proof.Reference.Ops

@[expose] public section

set_option maxRecDepth 16384
set_option maxHeartbeats 4000000

noncomputable section

namespace Cert.ReferenceIdeal.Host

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The operations, by segments. -/
theorem ops_eq : ([hostOps1, hostOps1_1, hostOps1_2, hostOps1_3, hostOps1_4] : List (List (HloOp τ sig (Elt F)))).flatten =
    segA ++ (segB ++ (segC ++ (segD ++ (segE ++ (segG ++ (segH ++ (segI ++ (segJ ++ (segK ++ (segL)))))))))) := rfl

/-- What the operations leave in the result buffer. -/
theorem read_all (W : Valuation τ sig (Elt F)) :
    StableHlo.after ([hostOps1, hostOps1_1, hostOps1_2, hostOps1_3, hostOps1_4] : List (List (HloOp τ sig (Elt F)))).flatten W (Proc.devRef .tc main_v116) =
      result (weights (scores (mask (age (W (Proc.devRef .tc main_arg7))) (W (Proc.devRef .tc main_arg8)) (W (Proc.devRef .tc main_arg9)) (W (Proc.devRef .tc main_arg10))) (W (Proc.devRef .tc main_arg0)) (keys (evens (W (Proc.devRef .tc main_v0_0)) (cosRows (W (Proc.devRef .tc main_arg11)) (W (Proc.devRef .tc main_arg9)) (W (Proc.devRef .tc main_arg13))) (sinRows (W (Proc.devRef .tc main_arg12)) (W (Proc.devRef .tc main_arg9)) (W (Proc.devRef .tc main_arg14)))) (odds (W (Proc.devRef .tc main_v0_0)) (sinRows (W (Proc.devRef .tc main_arg12)) (W (Proc.devRef .tc main_arg9)) (W (Proc.devRef .tc main_arg14))) (cosRows (W (Proc.devRef .tc main_arg11)) (W (Proc.devRef .tc main_arg9)) (W (Proc.devRef .tc main_arg13))))) (W (Proc.devRef .tc main_arg5))) (most (scores (mask (age (W (Proc.devRef .tc main_arg7))) (W (Proc.devRef .tc main_arg8)) (W (Proc.devRef .tc main_arg9)) (W (Proc.devRef .tc main_arg10))) (W (Proc.devRef .tc main_arg0)) (keys (evens (W (Proc.devRef .tc main_v0_0)) (cosRows (W (Proc.devRef .tc main_arg11)) (W (Proc.devRef .tc main_arg9)) (W (Proc.devRef .tc main_arg13))) (sinRows (W (Proc.devRef .tc main_arg12)) (W (Proc.devRef .tc main_arg9)) (W (Proc.devRef .tc main_arg14)))) (odds (W (Proc.devRef .tc main_v0_0)) (sinRows (W (Proc.devRef .tc main_arg12)) (W (Proc.devRef .tc main_arg9)) (W (Proc.devRef .tc main_arg14))) (cosRows (W (Proc.devRef .tc main_arg11)) (W (Proc.devRef .tc main_arg9)) (W (Proc.devRef .tc main_arg13))))) (W (Proc.devRef .tc main_arg5))) (scoresNow (queries (W (Proc.devRef .tc main_arg0))) (W (Proc.devRef .tc main_arg1))))) (vscales (W (Proc.devRef .tc main_arg6))) (W (Proc.devRef .tc main_v0_1)) (weightsNow (scoresNow (queries (W (Proc.devRef .tc main_arg0))) (W (Proc.devRef .tc main_arg1))) (most (scores (mask (age (W (Proc.devRef .tc main_arg7))) (W (Proc.devRef .tc main_arg8)) (W (Proc.devRef .tc main_arg9)) (W (Proc.devRef .tc main_arg10))) (W (Proc.devRef .tc main_arg0)) (keys (evens (W (Proc.devRef .tc main_v0_0)) (cosRows (W (Proc.devRef .tc main_arg11)) (W (Proc.devRef .tc main_arg9)) (W (Proc.devRef .tc main_arg13))) (sinRows (W (Proc.devRef .tc main_arg12)) (W (Proc.devRef .tc main_arg9)) (W (Proc.devRef .tc main_arg14)))) (odds (W (Proc.devRef .tc main_v0_0)) (sinRows (W (Proc.devRef .tc main_arg12)) (W (Proc.devRef .tc main_arg9)) (W (Proc.devRef .tc main_arg14))) (cosRows (W (Proc.devRef .tc main_arg11)) (W (Proc.devRef .tc main_arg9)) (W (Proc.devRef .tc main_arg13))))) (W (Proc.devRef .tc main_arg5))) (scoresNow (queries (W (Proc.devRef .tc main_arg0))) (W (Proc.devRef .tc main_arg1))))) (W (Proc.devRef .tc main_arg2)) := by
  rw [ops_eq]
  rw [StableHlo.after_append, StableHlo.after_append, StableHlo.after_append, StableHlo.after_append, StableHlo.after_append, StableHlo.after_append, StableHlo.after_append, StableHlo.after_append, StableHlo.after_append, StableHlo.after_append, read_result,
    keep_segK_arg2,
    keep_segK_v0_1,
    read_weightsNow,
    keep_segK_v74,
    read_weights,
    keep_segJ_arg2,
    keep_segJ_v0_1,
    keep_segJ_v74,
    keep_segJ_v83,
    keep_segJ_v88,
    read_most,
    keep_segI_arg2,
    keep_segI_v0_1,
    keep_segI_v74,
    keep_segI_v83,
    read_scoresNow,
    keep_segH_arg1,
    keep_segH_arg2,
    keep_segH_v0_1,
    read_queries,
    read_vscales,
    read_scores,
    keep_segG_arg0,
    keep_segG_arg1,
    keep_segG_arg2,
    keep_segG_arg5,
    keep_segG_arg6,
    keep_segG_v0_1,
    keep_segG_v41,
    read_mask,
    keep_segE_arg0,
    keep_segE_arg1,
    keep_segE_arg10,
    keep_segE_arg2,
    keep_segE_arg5,
    keep_segE_arg6,
    keep_segE_arg8,
    keep_segE_arg9,
    keep_segE_v0_1,
    keep_segE_v41,
    read_age,
    keep_segD_arg0,
    keep_segD_arg1,
    keep_segD_arg10,
    keep_segD_arg2,
    keep_segD_arg5,
    keep_segD_arg6,
    keep_segD_arg7,
    keep_segD_arg8,
    keep_segD_arg9,
    keep_segD_v0_1,
    read_keys,
    keep_segC_arg0,
    keep_segC_arg1,
    keep_segC_arg10,
    keep_segC_arg2,
    keep_segC_arg5,
    keep_segC_arg6,
    keep_segC_arg7,
    keep_segC_arg8,
    keep_segC_arg9,
    keep_segC_v0_1,
    read_evens,
    read_odds,
    keep_segB_arg0,
    keep_segB_arg1,
    keep_segB_arg10,
    keep_segB_arg2,
    keep_segB_arg5,
    keep_segB_arg6,
    keep_segB_arg7,
    keep_segB_arg8,
    keep_segB_arg9,
    keep_segB_v0_0,
    keep_segB_v0_1,
    keep_segB_v12,
    read_sinRows,
    keep_segA_arg0,
    keep_segA_arg1,
    keep_segA_arg10,
    keep_segA_arg12,
    keep_segA_arg14,
    keep_segA_arg2,
    keep_segA_arg5,
    keep_segA_arg6,
    keep_segA_arg7,
    keep_segA_arg8,
    keep_segA_arg9,
    keep_segA_v0_0,
    keep_segA_v0_1,
    read_cosRows]

end Cert.ReferenceIdeal.Host

end
-- ==== Proof.Reference.Decode.lean ====
/-
  The reference's call that widens the caches' codes: over the reals its results are the codes.
-/
module

public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Gen

open Cert.ReferenceIdeal Cert.ReferenceIdeal.Gen
open Idealize.ShloMosaic Idealize.ShloMosaic.TcCoe
open Idealize.SL Idealize.SL.Sem

variable (m : (ℓ : Loc nD τ sig) → Buf (Elt Ideal) ℓ) (c : Dev nD)

theorem widen1 (x : Vec Ideal S2x21x1560x12x128 .fp8e4m3) (b : Fin 2) (r : Fin 21) (n : Fin 1560) (h : Fin 12) (d : Fin 128) :
    k0_pay1 x (ix5 b r n h d) = x (ix5 b r n h d) := by
  pointwise [k0_pay1]

theorem arr2 : (dats m 0 c).arrAt 2 cfg0.N = (m ((c : Thread nD τ).loc main_arg3) : Vec Ideal S2x21x1560x12x128 .fp8e4m3) := by
  refine (dats m 0 c).arrAt_eq_of_covers 2 _ (by decide +kernel) fun t hf y => ?_
  blk_simp
  rw [after0_2]
  frame_out
  show (iblk m c 0 t) y = _
  rfl

theorem arr3 : (dats m 0 c).arrAt 3 cfg0.N = (m ((c : Thread nD τ).loc main_arg4) : Vec Ideal S2x21x1560x12x128 .fp8e4m3) := by
  refine (dats m 0 c).arrAt_eq_of_covers 3 _ (by decide +kernel) fun t hf y => ?_
  blk_simp
  rw [after0_3]
  frame_out
  show (iblk m c 1 t) y = _
  rfl

end Cert.ReferenceIdeal.Gen

end
-- ==== Proof.Reference.Value.lean ====
/-
  What the reference leaves in its result buffer, as a function of its arguments.
-/
module

public import proofs.«01_k».proof.Proof.Reference.Read
public import proofs.«01_k».proof.Proof.Reference.Decode
public import proofs.«01_k».proof.Proof.Reference.Result

@[expose] public section

set_option maxRecDepth 16384

noncomputable section

namespace Cert.ReferenceIdeal.Host

open Cert.ReferenceIdeal Cert.ReferenceIdeal.Gen
open Idealize.ShloMosaic Idealize.ShloMosaic.TcCoe
open Idealize.SL Idealize.SL.Sem

variable (m : (ℓ : Loc nD τ sig) → Buf (Elt Ideal) ℓ) (c : Dev nD)

/-- The buffers after the widening call. -/
def mid : Valuation τ sig (Elt Ideal) := Pipeline.withArrays spec0 c (V0 m c) fun w => (dats m 0 c).arrAt w cfg0.N

theorem mid_arg0 : mid m c (Proc.devRef .tc main_arg0) = (m ((c : Thread nD τ).loc main_arg0)) :=
  Pipeline.withArrays_of_ne _ c (V0 m c) _ main_arg0 (by exact (by decide : ∀ w, Pipeline.arrRef spec0 w ≠ main_arg0))

theorem mid_arg1 : mid m c (Proc.devRef .tc main_arg1) = (m ((c : Thread nD τ).loc main_arg1)) :=
  Pipeline.withArrays_of_ne _ c (V0 m c) _ main_arg1 (by exact (by decide : ∀ w, Pipeline.arrRef spec0 w ≠ main_arg1))

theorem mid_arg2 : mid m c (Proc.devRef .tc main_arg2) = (m ((c : Thread nD τ).loc main_arg2)) :=
  Pipeline.withArrays_of_ne _ c (V0 m c) _ main_arg2 (by exact (by decide : ∀ w, Pipeline.arrRef spec0 w ≠ main_arg2))

theorem mid_arg5 : mid m c (Proc.devRef .tc main_arg5) = (m ((c : Thread nD τ).loc main_arg5)) :=
  Pipeline.withArrays_of_ne _ c (V0 m c) _ main_arg5 (by exact (by decide : ∀ w, Pipeline.arrRef spec0 w ≠ main_arg5))

theorem mid_arg6 : mid m c (Proc.devRef .tc main_arg6) = (m ((c : Thread nD τ).loc main_arg6)) :=
  Pipeline.withArrays_of_ne _ c (V0 m c) _ main_arg6 (by exact (by decide : ∀ w, Pipeline.arrRef spec0 w ≠ main_arg6))

theorem mid_arg7 : mid m c (Proc.devRef .tc main_arg7) = (m ((c : Thread nD τ).loc main_arg7)) :=
  Pipeline.withArrays_of_ne _ c (V0 m c) _ main_arg7 (by exact (by decide : ∀ w, Pipeline.arrRef spec0 w ≠ main_arg7))

theorem mid_arg8 : mid m c (Proc.devRef .tc main_arg8) = (m ((c : Thread nD τ).loc main_arg8)) :=
  Pipeline.withArrays_of_ne _ c (V0 m c) _ main_arg8 (by exact (by decide : ∀ w, Pipeline.arrRef spec0 w ≠ main_arg8))

theorem mid_arg9 : mid m c (Proc.devRef .tc main_arg9) = (m ((c : Thread nD τ).loc main_arg9)) :=
  Pipeline.withArrays_of_ne _ c (V0 m c) _ main_arg9 (by exact (by decide : ∀ w, Pipeline.arrRef spec0 w ≠ main_arg9))

theorem mid_arg10 : mid m c (Proc.devRef .tc main_arg10) = (m ((c : Thread nD τ).loc main_arg10)) :=
  Pipeline.withArrays_of_ne _ c (V0 m c) _ main_arg10 (by exact (by decide : ∀ w, Pipeline.arrRef spec0 w ≠ main_arg10))

theorem mid_arg11 : mid m c (Proc.devRef .tc main_arg11) = (m ((c : Thread nD τ).loc main_arg11)) :=
  Pipeline.withArrays_of_ne _ c (V0 m c) _ main_arg11 (by exact (by decide : ∀ w, Pipeline.arrRef spec0 w ≠ main_arg11))

theorem mid_arg12 : mid m c (Proc.devRef .tc main_arg12) = (m ((c : Thread nD τ).loc main_arg12)) :=
  Pipeline.withArrays_of_ne _ c (V0 m c) _ main_arg12 (by exact (by decide : ∀ w, Pipeline.arrRef spec0 w ≠ main_arg12))

theorem mid_arg13 : mid m c (Proc.devRef .tc main_arg13) = (m ((c : Thread nD τ).loc main_arg13)) :=
  Pipeline.withArrays_of_ne _ c (V0 m c) _ main_arg13 (by exact (by decide : ∀ w, Pipeline.arrRef spec0 w ≠ main_arg13))

theorem mid_arg14 : mid m c (Proc.devRef .tc main_arg14) = (m ((c : Thread nD τ).loc main_arg14)) :=
  Pipeline.withArrays_of_ne _ c (V0 m c) _ main_arg14 (by exact (by decide : ∀ w, Pipeline.arrRef spec0 w ≠ main_arg14))

theorem mid_v0_0 : mid m c (Proc.devRef .tc main_v0_0) = (m ((c : Thread nD τ).loc main_arg3)) :=
  (Pipeline.withArrays_arr spec0 launch0.win.arr_inj c (V0 m c) _ 2).trans (arr2 m c)

theorem mid_v0_1 : mid m c (Proc.devRef .tc main_v0_1) = (m ((c : Thread nD τ).loc main_arg4)) :=
  (Pipeline.withArrays_arr spec0 launch0.win.arr_inj c (V0 m c) _ 3).trans (arr3 m c)

theorem value : Pipeline.afterTail₀ cfgs (dats m) 0 (V0 m) [hostOps1, hostOps1_1, hostOps1_2, hostOps1_3, hostOps1_4] c main_v116
    = Cert.Bridge.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (read_all (mid m c)).trans ?_
  rw [mid_arg0, mid_arg1, mid_arg2, mid_arg5, mid_arg6, mid_arg7, mid_arg8, mid_arg9, mid_arg10, mid_arg11, mid_arg12, mid_arg13, mid_arg14, mid_v0_0, mid_v0_1]
  rfl

end Cert.ReferenceIdeal.Host

end
-- ==== Proof.Algebraic.lean ====
/-
  Over the extended reals the attention call and the reference leave the same result.
-/
module

public import proofs.«01_k».proof.Defs
public import proofs.«01_k».proof.Proof.Positions
public import proofs.«01_k».proof.Proof.AttnIdeal.Value
public import proofs.«01_k».proof.Proof.Reference.Value

@[expose] public section

noncomputable section

namespace Cert.Proof

open Idealize.ShloMosaic Idealize.ShloMosaic.TcCoe
open Idealize.SL Idealize.SL.Sem

/-- The run of the attention call: its result is the reference's result of its arguments, and they are unchanged. -/
theorem kernel_run (m : (ℓ : Loc Cert.AttnIdeal.nD Cert.AttnIdeal.τ Cert.AttnIdeal.sig) → Buf (Elt Ideal) ℓ) (g : Dev Cert.AttnIdeal.nD → PrngReg)
    (hP : Cert.AttnIdeal.Gen.PosOk m) :
    θ_run (Cert.AttnIdeal.defs (F := Ideal)) (onTc (τ := Cert.AttnIdeal.τ) (Cert.AttnIdeal.main (F := Ideal))) ⟨m, fun _ => 0, g⟩ (fun r =>
      ∀ c : Dev Cert.AttnIdeal.nD, r.2.mem ((c.tc : Thread Cert.AttnIdeal.nD Cert.AttnIdeal.τ).loc Cert.AttnIdeal.main_v34) = Cert.AttnIdeal.Gen.want m c) :=
  (θ_run Cert.AttnIdeal.defs _ _).mono
    (fun r h c => (h.1.out_eq c 11).trans (Cert.AttnIdeal.Gen.value m trivial c hP))
    (Cert.AttnIdeal.Gen.run_main_quiescent m g trivial hP)

/-- The run of the reference. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD, r.2.mem ((c.tc : Thread Cert.ReferenceIdeal.nD Cert.ReferenceIdeal.τ).loc Cert.ReferenceIdeal.main_v116)
        = Pipeline.afterTail₀ Cert.ReferenceIdeal.cfgs (Cert.ReferenceIdeal.Gen.dats m) 0 (Cert.ReferenceIdeal.Gen.V0 m)
            [Cert.ReferenceIdeal.Gen.hostOps1, Cert.ReferenceIdeal.Gen.hostOps1_1, Cert.ReferenceIdeal.Gen.hostOps1_2, Cert.ReferenceIdeal.Gen.hostOps1_3, Cert.ReferenceIdeal.Gen.hostOps1_4] c Cert.ReferenceIdeal.main_v116) :=
  (θ_run Cert.ReferenceIdeal.defs _ _).mono
    (fun r h c => h.1.rest_eq c Cert.ReferenceIdeal.main_v116 (by decide +kernel))
    (Cert.ReferenceIdeal.Gen.run_main_quiescent m g)

theorem algebraic : Cert.algebraic_AttnIdeal_ReferenceIdeal (hAttnIdeal := Cert.AttnIdeal.Gen.facts) (hReferenceIdeal := Cert.ReferenceIdeal.Gen.facts)
    (hPre_frame_positions_in_table := Cert.Pre_frame_positions_in_table.Gen.facts) := by
  intro m g m' g' hpre hargs
  have hP := Cert.Positions.posOk_AttnIdeal m hpre
  refine ⟨fun c => Cert.AttnIdeal.Gen.want m c, ?_, ?_⟩
  · exact (θ_run _ _ _).mono (fun r h c => ⟨h.1 c, h.2 c⟩) (θ_run_and (kernel_run m g hP) (Cert.AttnIdeal.Gen.unchanged m g trivial hP))
  · refine (θ_run _ _ _).mono (fun r h c => ⟨(h.1 c).trans ?_, h.2 c⟩) (θ_run_and (reference_run m' g') (Cert.ReferenceIdeal.Gen.unchanged m' g'))
    obtain ⟨h0, h1, h2, h3, h4, h5, h6, h7, h8, h9, h10, h11, h12, h13, h14⟩ := hargs c
    refine (Cert.ReferenceIdeal.Host.value m' c).trans ?_
    unfold Cert.AttnIdeal.Gen.want
    rw [h0, h1, h2, h3, h4, h5, h6, h7, h8, h9, h10, h11, h12, h13, h14]

end Cert.Proof

end
-- ==== Proof.FfnMath.lean ====
/-
  The feed-forward's arithmetic on one row, over the extended reals: the activation, the row's largest magnitude, its
  scale, and its codes. The largest magnitude of 8960 columns is the largest over 35 blocks of 256 columns.
-/
module

public import proofs.«01_k».proof.Proof.Consts
public import Mathlib.Data.Finset.Fold
public import Mathlib.Data.Finset.Lattice.Fold

@[expose] public section

noncomputable section

namespace FfnMath

open Idealize.ShloMosaic

/-- The tanh form of the activation. -/
def gelu (z : EReal) : EReal :=
  Ideal.ofBits .f32 0x3F000000#32 * z * (1 + Ideal.tanh (Ideal.ofBits .f32 0x3F4C422A#32 * (z + Ideal.ofBits .f32 0x3D372713#32 * (z * z * z))))

/-- One hidden value: the codes' row against a column of the weights, rescaled, shifted and activated. -/
def hidden (c w : Fin 1536 → EReal) (s ws b : EReal) : EReal := gelu ((∑ x, c x * w x) * s * ws + b)

/-- The magnitude of a value. -/
def mag (x : EReal) : EReal := FloatOps.absf (F := Ideal) (φ := .f32) x

/-- The largest magnitude of `n` values. -/
def top {n : ℕ} (g : Fin n → EReal) : EReal := Finset.fold max ⊥ (fun f => mag (g f)) Finset.univ

/-- The scale of a row whose largest magnitude is `a`. -/
def scale (a : EReal) : EReal := if a = 0 then 1 else Ideal.div a (Ideal.ofBits .f32 0x43E00000#32)

/-- The code of a value in a row of scale `s`. -/
def code (g s : EReal) : EReal := min (Ideal.ofBits .f32 0x43E00000#32) (max (Ideal.ofBits .f32 0xC3E00000#32) (Ideal.div g s))

/-- One result: the codes' row against a column of the second weights, rescaled, shifted, gated and added. -/
def result (h w : Fin 8960 → EReal) (s ws b gate res : EReal) : EReal := res + ((∑ f, h f * w f) * s * ws + b) * gate

theorem result_congr {h h' w : Fin 8960 → EReal} {s ws b gate res : EReal} (e : ∀ f, h f = h' f) :
    result h w s ws b gate res = result h' w s ws b gate res :=
  congrArg (fun g => result g w s ws b gate res) (funext e)

theorem mag_nonneg (x : EReal) : 0 ≤ mag x := by
  show 0 ≤ max x (-x)
  rcases le_total 0 x with h | h
  · exact le_max_of_le_left h
  · exact le_max_of_le_right (EReal.neg_nonneg.mpr h)

theorem top_le {n : ℕ} (g : Fin n → EReal) (a : EReal) : top g ≤ a ↔ ∀ f, mag (g f) ≤ a := by
  unfold top
  rw [Finset.fold_max_le]
  simp

theorem mag_le_top {n : ℕ} (g : Fin n → EReal) (f : Fin n) : mag (g f) ≤ top g := (top_le g _).mp le_rfl f

/-- Column `n` of block `j`. -/
def col (j : Fin 35) (n : Fin 256) : Fin 8960 := ⟨256 * j.val + n.val, by omega⟩

theorem exists_col (f : Fin 8960) : ∃ j n, col j n = f :=
  ⟨⟨f.val / 256, by omega⟩, ⟨f.val % 256, Nat.mod_lt _ (by decide)⟩, Fin.ext (Nat.div_add_mod _ _)⟩

/-- The running maximum over the first `j` blocks, from zero. -/
def running (g : Fin 8960 → EReal) : (j : ℕ) → j ≤ 35 → EReal
  | 0, _ => 0
  | j + 1, h => max (running g j (Nat.le_of_succ_le h)) (top fun n => g (col ⟨j, h⟩ n))

theorem running_le (g : Fin 8960 → EReal) (a : EReal) (ha : 0 ≤ a) (j : ℕ) (h : j ≤ 35) :
    running g j h ≤ a ↔ ∀ i : Fin 35, i.val < j → ∀ n, mag (g (col i n)) ≤ a := by
  induction j with
  | zero => exact ⟨fun _ i hi => absurd hi (Nat.not_lt_zero _), fun _ => ha⟩
  | succ j ih =>
    show max _ _ ≤ a ↔ _
    rw [max_le_iff, ih, top_le]
    constructor
    · rintro ⟨h1, h2⟩ i hi n
      rcases Nat.lt_succ_iff_lt_or_eq.mp hi with hlt | heq
      · exact h1 i hlt n
      · obtain rfl : i = ⟨j, h⟩ := Fin.ext heq
        exact h2 n
    · exact fun hall => ⟨fun i hi => hall i (Nat.lt_succ_of_lt hi), hall ⟨j, h⟩ (Nat.lt_succ_self j)⟩

/-- The maximum by blocks, from zero, is the row's largest magnitude. -/
theorem running_eq (g : Fin 8960 → EReal) : running g 35 le_rfl = top g := by
  have h0 : 0 ≤ top g := (mag_nonneg (g 0)).trans (mag_le_top g 0)
  have hr : 0 ≤ running g 35 le_rfl := (mag_nonneg (g (col 34 0))).trans (by
    show _ ≤ max _ _
    exact le_max_of_le_right (mag_le_top (fun n => g (col ⟨34, by decide⟩ n)) 0))
  refine le_antisymm ((running_le g _ h0 35 le_rfl).mpr fun i _ n => mag_le_top g _) ((top_le g _).mpr fun f => ?_)
  obtain ⟨j, n, rfl⟩ := exists_col f
  exact (running_le g _ hr 35 le_rfl).mp le_rfl j j.isLt n

/-- A row's hidden values, of its codes and its scale; the row's output scale, its output codes and its result. -/
def hid (c : Fin 1536 → EReal) (s : EReal) (w : Fin 1536 → Fin 8960 → EReal) (ws b : Fin 8960 → EReal) (f : Fin 8960) : EReal :=
  hidden c (fun x => w x f) s (ws f) (b f)
def rowScale (c : Fin 1536 → EReal) (s : EReal) (w : Fin 1536 → Fin 8960 → EReal) (ws b : Fin 8960 → EReal) : EReal :=
  scale (top (hid c s w ws b))
def rowCode (c : Fin 1536 → EReal) (s : EReal) (w : Fin 1536 → Fin 8960 → EReal) (ws b : Fin 8960 → EReal) (f : Fin 8960) : EReal :=
  code (hid c s w ws b f) (rowScale c s w ws b)
def rowResult (c : Fin 1536 → EReal) (s : EReal) (w : Fin 1536 → Fin 8960 → EReal) (ws b : Fin 8960 → EReal)
    (w2 : Fin 8960 → Fin 1536 → EReal) (ws2 b2 gate res : Fin 1536 → EReal) (d : Fin 1536) : EReal :=
  result (rowCode c s w ws b) (fun f => w2 f d) (rowScale c s w ws b) (ws2 d) (b2 d) (gate d) (res d)

section
variable {c c' : Fin 1536 → EReal} {s s' : EReal} {w w' : Fin 1536 → Fin 8960 → EReal} {ws ws' b b' : Fin 8960 → EReal}
    {w2 w2' : Fin 8960 → Fin 1536 → EReal} {ws2 ws2' b2 b2' gate gate' res res' : Fin 1536 → EReal}
    (hc : ∀ x, c x = c' x) (hs : s = s') (hw : ∀ x f, w x f = w' x f) (hws : ∀ f, ws f = ws' f) (hb : ∀ f, b f = b' f)
include hc hs hw hws hb

theorem rowScale_congr : rowScale c s w ws b = rowScale c' s' w' ws' b' := by
  obtain rfl := funext hc
  obtain rfl := hs
  obtain rfl := funext fun x => funext (hw x)
  obtain rfl := funext hws
  obtain rfl := funext hb
  rfl

theorem rowCode_congr (f : Fin 8960) : rowCode c s w ws b f = rowCode c' s' w' ws' b' f := by
  obtain rfl := funext hc
  obtain rfl := hs
  obtain rfl := funext fun x => funext (hw x)
  obtain rfl := funext hws
  obtain rfl := funext hb
  rfl

theorem rowResult_congr (hw2 : ∀ f d, w2 f d = w2' f d) (hws2 : ∀ d, ws2 d = ws2' d) (hb2 : ∀ d, b2 d = b2' d) (hg : ∀ d, gate d = gate' d)
    (hr : ∀ d, res d = res' d) (d : Fin 1536) :
    rowResult c s w ws b w2 ws2 b2 gate res d = rowResult c' s' w' ws' b' w2' ws2' b2' gate' res' d := by
  obtain rfl := funext hc
  obtain rfl := hs
  obtain rfl := funext fun x => funext (hw x)
  obtain rfl := funext hws
  obtain rfl := funext hb
  obtain rfl := funext fun f => funext (hw2 f)
  obtain rfl := funext hws2
  obtain rfl := funext hb2
  obtain rfl := funext hg
  obtain rfl := funext hr
  rfl

end

end FfnMath

end
-- ==== Proof.FfnValue.lean ====
/-
  The feed-forward of one chunk of tokens as a function of its arguments, over the extended reals: token by token, the
  codes of the hidden values, their scale, and the result.
-/
module

public import proofs.«01_k».proof.Proof.FfnMath
public import Idealize.ShloMosaic.Lib.Pointwise

@[expose] public section

noncomputable section

namespace FfnValue

open Idealize.ShloMosaic

/-- A token's tile of 312 tokens, its place in the tile, and its frame of 1560 tokens. -/
def tile (s : Fin 4680) : Fin 15 := ⟨s.val / 312, by omega⟩
def row (s : Fin 4680) : Fin 312 := ⟨s.val % 312, Nat.mod_lt _ (by decide)⟩
def frame (s : Fin 4680) : Fin 3 := ⟨s.val / 1560, by omega⟩

/-- The token of a tile and a place in it. -/
def token (t : Fin 15) (r : Fin 312) : Fin 4680 := ⟨t.val * 312 + r.val, by omega⟩

theorem tile_token (t : Fin 15) (r : Fin 312) : tile (token t r) = t :=
  Fin.ext (by show (t.val * 312 + r.val) / 312 = t.val; omega)
theorem row_token (t : Fin 15) (r : Fin 312) : row (token t r) = r :=
  Fin.ext (by show (t.val * 312 + r.val) % 312 = r.val; omega)
theorem token_tile (s : Fin 4680) : token (tile s) (row s) = s :=
  Fin.ext (by show s.val / 312 * 312 + s.val % 312 = s.val; omega)

/-- A vector reshaped to one row. -/
theorem asRow_at {n : ℕ} (x : Vec Ideal ⟨1, ![n]⟩ .f32) (h : Shape.ShapeCasts ⟨1, ![n]⟩ ⟨2, ![1, n]⟩) (f : Fin n) :
    shapeCast ⟨2, ![1, n]⟩ x h (ix2 0 f) = x (ix1 f) :=
  shapeCast_apply x h (ix2 (0 : Fin 1) f) (ix1 f) (by
    rw [Shape.rowMajor_val_two, Shape.rowMajor_val_one]; show f.val = 0 * n + f.val; omega)

section
variable (A0 : Vec Ideal ⟨3, ![2, 4680, 1536]⟩ .fp8e4m3) (A1 : Vec Ideal ⟨4, ![2, 15, 1, 312]⟩ .f32) (A2 : Vec Ideal ⟨3, ![2, 4680, 1536]⟩ .f32)
    (A3 : Vec Ideal ⟨2, ![6, 1536]⟩ .f32) (A4 : Vec Ideal ⟨4, ![2, 3, 6, 1536]⟩ .f32) (A5 : Vec Ideal ⟨2, ![1536, 8960]⟩ .fp8e4m3)
    (A6 A7 : Vec Ideal ⟨1, ![8960]⟩ .f32) (A8 : Vec Ideal ⟨2, ![8960, 1536]⟩ .fp8e4m3) (A9 A10 : Vec Ideal ⟨1, ![1536]⟩ .f32)

def scaleAt (b : Fin 2) (s : Fin 4680) : EReal :=
  FfnMath.rowScale (fun x => A0 (ix3 b s x)) (A1 (ix4 b (tile s) 0 (row s))) (fun x f => A5 (ix2 x f)) (fun f => A6 (ix1 f)) (fun f => A7 (ix1 f))
def codeAt (b : Fin 2) (s : Fin 4680) (f : Fin 8960) : EReal :=
  FfnMath.rowCode (fun x => A0 (ix3 b s x)) (A1 (ix4 b (tile s) 0 (row s))) (fun x f => A5 (ix2 x f)) (fun f => A6 (ix1 f)) (fun f => A7 (ix1 f)) f
def resultAt (b : Fin 2) (s : Fin 4680) (d : Fin 1536) : EReal :=
  FfnMath.rowResult (fun x => A0 (ix3 b s x)) (A1 (ix4 b (tile s) 0 (row s))) (fun x f => A5 (ix2 x f)) (fun f => A6 (ix1 f)) (fun f => A7 (ix1 f))
    (fun f d => A8 (ix2 f d)) (fun d => A9 (ix1 d)) (fun d => A10 (ix1 d)) (fun d => A3 (ix2 5 d) + A4 (ix4 b (frame s) 5 d))
    (fun d => A2 (ix3 b s d)) d

/-- The three results. -/
def outCodes : Vec Ideal ⟨3, ![2, 4680, 8960]⟩ .fp8e4m3 := fun i => codeAt A0 A1 A5 A6 A7 (i 0) (i 1) (i 2)
def outScales : Vec Ideal ⟨4, ![2, 15, 1, 312]⟩ .f32 := fun i => scaleAt A0 A1 A5 A6 A7 (i 0) (token (i 1) (i 3))
def outResult : Vec Ideal ⟨3, ![2, 4680, 1536]⟩ .bf16 := fun i => resultAt A0 A1 A2 A3 A4 A5 A6 A7 A8 A9 A10 (i 0) (i 1) (i 2)

end

end FfnValue

end
-- ==== Proof.FfnIdeal.Body.lean ====
/-
  The feed-forward kernel's vectors at an index: a block of hidden values, the running largest magnitude, the row's
  scale, a block of codes, and the result.
-/
module

public import proofs.«01_k».proof.Proof.FfnMath
public import proofs.«01_k».proof.Proof.Gen.FfnIdeal.Skeleton
public import Idealize.ShloMosaic.Lib.Pointwise

@[expose] public section

set_option maxRecDepth 16384

noncomputable section

namespace Cert.FfnIdeal.Body

open Cert.FfnIdeal Cert.FfnIdeal.Gen
open Idealize.ShloMosaic Idealize.ShloMosaic.TcCoe

section
variable {F : FTy → Type} [FloatOps F]

/-- The largest magnitude of each row of a block. -/
def blockMax (G : FVec F S312x256 .f32) : FVec F S312x1 .f32 :=
  shapeCast S312x1 (multiReduction .maximumf [1] S312 (absf G) 0xFF800000#32 reduces_S312x256_S312 (.inl rfl) rfl) shapeCasts_S312_S312x1

/-- A block of hidden values. -/
def block (c : FVec F S312x1536 .fp8e4m3) (s : FVec F S312x1 .f32) (W : Fin 35 → Vec F S1536x256 .fp8e4m3)
    (ws b : Fin 35 → Vec F S1x256 .f32) (j : Fin 35) : FVec F S312x256 .f32 := k0_pay138 c s (W j) (ws j) (b j)

/-- A block of hidden values, as it is stored. -/
def stored (c : FVec F S312x1536 .fp8e4m3) (s : FVec F S312x1 .f32) (W : Fin 35 → Vec F S1536x256 .fp8e4m3)
    (ws b : Fin 35 → Vec F S1x256 .f32) (j : Fin 35) : FVec F S312x256 .f32 := k0_pay140 c s (W j) (ws j) (b j)

/-- The running largest magnitude of each row after the first `j` blocks. -/
def rowMax (c : FVec F S312x1536 .fp8e4m3) (s : FVec F S312x1 .f32) (W : Fin 35 → Vec F S1536x256 .fp8e4m3)
    (ws b : Fin 35 → Vec F S1x256 .f32) : (j : ℕ) → j ≤ 35 → FVec F S312x1 .f32
  | 0, _ => k0_pay4
  | j + 1, h => maximumf (rowMax c s W ws b j (Nat.le_of_succ_le h)) (blockMax (block c s W ws b ⟨j, h⟩))

/-- Whether each row's largest magnitude is zero. -/
def isZero (a : FVec F S312x1 .f32) : IVec S312x1 1 := cmpf .oeq a (broadcast S312x1 (Scalar.ofBits .f32 0x00000000#32))

/-- Each row's largest magnitude over the largest code. -/
def ratio (a : FVec F S312x1 .f32) : FVec F S312x1 .f32 := divf a (broadcast S312x1 (Scalar.ofBits .f32 0x43E00000#32))

/-- Each row's scale. -/
def scaleCol (a : FVec F S312x1 .f32) : FVec F S312x1 .f32 := k0_pay143 (isZero a) (ratio a)

/-- The rows' scales, laid along the lanes. -/
def scaleRow (a : FVec F S312x1 .f32) : FVec F S1x1x1x312 .f32 := k0_pay144 (isZero a) (ratio a)

end

theorem stored_at (c : FVec Ideal S312x1536 .fp8e4m3) (s : FVec Ideal S312x1 .f32) (W : Fin 35 → Vec Ideal S1536x256 .fp8e4m3)
    (ws b : Fin 35 → Vec Ideal S1x256 .f32) (j : Fin 35) (r : Fin 312) (n : Fin 256) :
    stored c s W ws b j (ix2 r n)
      = FfnMath.hidden (fun x => c (ix2 r x)) (fun x => W j (ix2 x n)) (s (ix2 r 0)) (ws j (ix2 0 n)) (b j (ix2 0 n)) := by
  unfold FfnMath.hidden FfnMath.gelu
  pointwise [stored, k0_pay140, k0_pay138]

theorem block_at (c : FVec Ideal S312x1536 .fp8e4m3) (s : FVec Ideal S312x1 .f32) (W : Fin 35 → Vec Ideal S1536x256 .fp8e4m3)
    (ws b : Fin 35 → Vec Ideal S1x256 .f32) (j : Fin 35) (r : Fin 312) (n : Fin 256) :
    block c s W ws b j (ix2 r n) = stored c s W ws b j (ix2 r n) := by
  pointwise [stored, block, k0_pay140]

theorem blockMax_at (G : FVec Ideal S312x256 .f32) (r : Fin 312) : blockMax G (ix2 r 0) = FfnMath.top fun n => G (ix2 r n) := by
  have e : blockMax G (ix2 r 0) = Finset.fold max (Ideal.ofBits .f32 0xFF800000#32) (fun n => FloatOps.absf (G (ix2 r n))) Finset.univ := by
    pointwise [blockMax]
  rw [e, AttnConst.bits_bot]
  rfl

theorem zero_at (r : Fin 312) : (k0_pay4 (F := Ideal)) (ix2 r 0) = 0 := by
  pointwise [k0_pay4]

theorem max_at (a b : FVec Ideal S312x1 .f32) (r : Fin 312) : maximumf a b (ix2 r 0) = max (a (ix2 r 0)) (b (ix2 r 0)) := by
  pointwise []

/-- The running largest magnitude of a row whose hidden values are `g`. -/
theorem rowMax_at (c : FVec Ideal S312x1536 .fp8e4m3) (s : FVec Ideal S312x1 .f32) (W : Fin 35 → Vec Ideal S1536x256 .fp8e4m3)
    (ws b : Fin 35 → Vec Ideal S1x256 .f32) (r : Fin 312) (g : Fin 8960 → EReal)
    (hg : ∀ j n, stored c s W ws b j (ix2 r n) = g (FfnMath.col j n)) (j : ℕ) (h : j ≤ 35) :
    rowMax c s W ws b j h (ix2 r 0) = FfnMath.running g j h := by
  induction j with
  | zero => exact zero_at r
  | succ j ih =>
    refine (max_at _ _ r).trans ?_
    rw [ih, blockMax_at]
    refine congrArg (fun z => max (FfnMath.running g j (Nat.le_of_succ_le h)) (FfnMath.top z)) (funext fun n => ?_)
    rw [block_at, hg]

theorem scaleCol_at (a : FVec Ideal S312x1 .f32) (r : Fin 312) : scaleCol a (ix2 r 0) = FfnMath.scale (a (ix2 r 0)) := by
  unfold FfnMath.scale
  pointwise [scaleCol, isZero, ratio, k0_pay143]

theorem scaleRow_at (a : FVec Ideal S312x1 .f32) (r : Fin 312) : scaleRow a (ix4 0 0 0 r) = scaleCol a (ix2 r 0) := by
  unfold scaleRow scaleCol
  pointwise [k0_pay144]

theorem code_at (s : FVec Ideal S312x1 .f32) (G : FVec Ideal S312x256 .f32) (r : Fin 312) (n : Fin 256) :
    k0_pay185 s G (ix3 0 r n) = FfnMath.code (G (ix2 r n)) (s (ix2 r 0)) := by
  unfold FfnMath.code
  pointwise [k0_pay185]

theorem result_at (gate : FVec Ideal S1x1536 .f32) (s : FVec Ideal S312x1 .f32) (h : Vec Ideal S1x312x8960 .fp8e4m3)
    (w : Vec Ideal S8960x1536 .fp8e4m3) (ws b : Vec Ideal S1x1536 .f32) (res : Vec Ideal S1x312x1536 .f32) (r : Fin 312) (d : Fin 1536) :
    k0_pay189 gate s h w ws b res (ix3 0 r d)
      = FfnMath.result (fun f => h (ix3 0 r f)) (fun f => w (ix2 f d)) (s (ix2 r 0)) (ws (ix2 0 d)) (b (ix2 0 d)) (gate (ix2 0 d)) (res (ix3 0 r d)) := by
  unfold FfnMath.result
  pointwise [k0_pay189]

theorem scaleIn_at (s : Vec Ideal S1x1x1x312 .f32) (r : Fin 312) : k0_pay3 s (ix2 r 0) = s (ix4 0 0 0 r) := by
  pointwise [k0_pay3]

theorem codesIn_at (c : Vec Ideal S1x312x1536 .fp8e4m3) (r : Fin 312) (x : Fin 1536) : k0_pay2 c (ix2 r x) = c (ix3 0 r x) := by
  pointwise [k0_pay2]

theorem gate_at (t : Vec Ideal S1x1536 .f32) (e : Vec Ideal S1x1x1x1536 .f32) (d : Fin 1536) :
    k0_pay1 t e (ix2 0 d) = t (ix2 0 d) + e (ix4 0 0 0 d) := by
  pointwise [k0_pay1]

end Cert.FfnIdeal.Body

end
-- ==== Proof.FfnIdeal.Pieces.lean ====
/-
  What the feed-forward kernel's body stores: thirty-five blocks of hidden values in its scratch buffer, thirty-five
  blocks of codes, the rows' scales, and the result.
-/
module

public import proofs.«01_k».proof.Proof.FfnIdeal.Body
public import proofs.«01_k».proof.Proof.Gen.FfnIdeal.Frame
public import Idealize.ShloMosaic.Lib.WritesUnit

@[expose] public section

set_option maxRecDepth 16384

noncomputable section

namespace Cert.FfnIdeal.Body

open Cert.FfnIdeal Cert.FfnIdeal.Gen
open Idealize.ShloMosaic Idealize.ShloMosaic.TcCoe Idealize.ShloMosaic.Tactic

variable {F : FTy → Type} [FloatOps F]

/-- The columns of block `j`, of a rank-2 array and of an array of one row block. -/
def off2 (j : Fin 35) : Fin 2 → ℕ := ![0, 256 * j.val]
def off3 (j : Fin 35) : Fin 3 → ℕ := ![0, 0, 256 * j.val]

theorem inb2_w (j : Fin 35) : ∀ a, off2 j a + S1536x256.size a ≤ S1536x8960.size a := by
  intro a; change Fin 2 at a; fin_cases a
  · exact (by decide : 0 + 1536 ≤ 1536)
  · show 256 * j.val + 256 ≤ 8960; omega
theorem inb2_b (j : Fin 35) : ∀ a, off2 j a + S1x256.size a ≤ S1x8960.size a := by
  intro a; change Fin 2 at a; fin_cases a
  · exact (by decide : 0 + 1 ≤ 1)
  · show 256 * j.val + 256 ≤ 8960; omega
theorem inb2_g (j : Fin 35) : ∀ a, off2 j a + S312x256.size a ≤ S312x8960.size a := by
  intro a; change Fin 2 at a; fin_cases a
  · exact (by decide : 0 + 312 ≤ 312)
  · show 256 * j.val + 256 ≤ 8960; omega
theorem inb3_h (j : Fin 35) : ∀ a, off3 j a + S1x312x256.size a ≤ S1x312x8960.size a := by
  intro a; change Fin 3 at a; fin_cases a
  · exact (by decide : 0 + 1 ≤ 1)
  · exact (by decide : 0 + 312 ≤ 312)
  · show 256 * j.val + 256 ≤ 8960; omega

/-- The blocks of columns a load reads from a whole buffer. -/
def loadW (a : Memref sig .tc .vmem S1536x8960 .fp8e4m3) (ha : a.IsWhole) (x : Vec F S1536x8960 .fp8e4m3) (j : Fin 35) : Vec F S1536x256 .fp8e4m3 :=
  View.readAt (Elt F) a.view (Rect.unit (s := S1536x8960) (off2 j) S1536x256.size (inb2_w j)).toLoadRect (ha.unread x)
def loadB (a : Memref sig .tc .vmem S1x8960 .f32) (ha : a.IsWhole) (x : Vec F S1x8960 .f32) (j : Fin 35) : Vec F S1x256 .f32 :=
  View.readAt (Elt F) a.view (Rect.unit (s := S1x8960) (off2 j) S1x256.size (inb2_b j)).toLoadRect (ha.unread x)

/-- The scratch buffer's stores. -/
def scratch (G : Fin 35 → FVec F S312x256 .f32) : List (View.Piece (Elt F) S312x8960 .f32) :=
  View.tilePieces S312x256.size off2 inb2_g G 35 le_rfl

/-- A block of the scratch buffer, read back. -/
def reload (v : View sig .tc .vmem S312x8960 .f32) (G : Fin 35 → FVec F S312x256 .f32) (j : Fin 35) : Vec F S312x256 .f32 :=
  v.readCov (scratch G) (Rect.unit (s := S312x8960) (off2 j) S312x256.size (inb2_g j)).toLoadRect

/-- The codes' stores. -/
def codes (s : FVec F S312x1 .f32) (G : Fin 35 → Vec F S312x256 .f32) : List (View.Piece (Elt F) S1x312x8960 .fp8e4m3) :=
  View.tilePieces S1x312x256.size off3 inb3_h (fun j => k0_pay185 s (G j)) 35 le_rfl

section
variable (c : Dev nD) (i : grid0.Coords) (arg2 : Memref sig .tc .vmem S1x312x1536 .fp8e4m3) (harg2 : arg2.IsWhole) (arg3 : Memref sig .tc .vmem S1x1x1x312 .f32) (harg3 : arg3.IsWhole) (arg4 : Memref sig .tc .vmem S1x312x1536 .f32) (harg4 : arg4.IsWhole) (arg5 : Memref sig .tc .vmem S6x1536 .f32) (harg5 : arg5.IsWhole) (arg6 : Memref sig .tc .vmem S1x1x6x1536 .f32) (harg6 : arg6.IsWhole) (arg7 : Memref sig .tc .vmem S1536x8960 .fp8e4m3) (harg7 : arg7.IsWhole) (arg8 : Memref sig .tc .vmem S1x8960 .f32) (harg8 : arg8.IsWhole) (arg9 : Memref sig .tc .vmem S1x8960 .f32) (harg9 : arg9.IsWhole) (arg10 : Memref sig .tc .vmem S8960x1536 .fp8e4m3) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x312x8960 .fp8e4m3) (harg13 : arg13.IsWhole) (arg14 : Memref sig .tc .vmem S1x1x1x312 .f32) (harg14 : arg14.IsWhole) (arg15 : Memref sig .tc .vmem S1x312x1536 .bf16) (harg15 : arg15.IsWhole) (arg16 : Memref sig .tc .vmem S312x8960 .f32) (harg16 : arg16.IsWhole)
    (x0 : Vec F S1x312x1536 .fp8e4m3) (x1 : Vec F S1x1x1x312 .f32) (x2 : Vec F S1x312x1536 .f32) (x3 : Vec F S6x1536 .f32) (x4 : Vec F S1x1x6x1536 .f32) (x5 : Vec F S1536x8960 .fp8e4m3) (x6 : Vec F S1x8960 .f32) (x7 : Vec F S1x8960 .f32) (x8 : Vec F S8960x1536 .fp8e4m3) (x9 : Vec F S1x1536 .f32) (x10 : Vec F S1x1536 .f32)

/-- The body's hidden blocks and its rows' largest magnitudes, of the loads of its buffers. -/
def bodyCodes : FVec F S312x1536 .fp8e4m3 :=
  k0_pay2 (View.readAt (Elt F) arg2.view (Rect.unit (s := S1x312x1536) ![0, 0, 0] S1x312x1536.size inb_S1x312x1536_S1x312x1536_0_0_0).toLoadRect (harg2.unread x0))
def bodyScale : FVec F S312x1 .f32 :=
  k0_pay3 (View.readAt (Elt F) arg3.view (Rect.unit (s := S1x1x1x312) ![0, 0, 0, 0] S1x1x1x312.size inb_S1x1x1x312_S1x1x1x312_0_0_0_0).toLoadRect (harg3.unread x1))
def bodyHidden : Fin 35 → FVec F S312x256 .f32 :=
  stored (bodyCodes arg2 harg2 x0) (bodyScale arg3 harg3 x1) (loadW arg7 harg7 x5) (loadB arg8 harg8 x6) (loadB arg9 harg9 x7)
def bodyMax : FVec F S312x1 .f32 :=
  rowMax (bodyCodes arg2 harg2 x0) (bodyScale arg3 harg3 x1) (loadW arg7 harg7 x5) (loadB arg8 harg8 x6) (loadB arg9 harg9 x7) 35 le_rfl
def bodyList : List (View.Piece (Elt F) S1x312x8960 .fp8e4m3) :=
  codes (scaleCol (bodyMax arg2 harg2 arg3 harg3 arg7 harg7 arg8 harg8 arg9 harg9 x0 x1 x5 x6 x7))
    (reload arg16.view (bodyHidden arg2 harg2 arg3 harg3 arg7 harg7 arg8 harg8 arg9 harg9 x0 x1 x5 x6 x7))

theorem pieces11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).1
    = bodyList arg2 harg2 arg3 harg3 arg7 harg7 arg8 harg8 arg9 harg9 arg16 x0 x1 x5 x6 x7 := by
  sl_kernel_rfl

theorem pieces12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.1
    = [⟨Rect.unit (s := S1x1x1x312) ![0, 0, 0, 0] S1x1x1x312.size inb_S1x1x1x312_S1x1x1x312_0_0_0_0,
        scaleRow (bodyMax arg2 harg2 arg3 harg3 arg7 harg7 arg8 harg8 arg9 harg9 x0 x1 x5 x6 x7)⟩] := by
  sl_kernel_rfl

theorem pieces13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.2.1
    = [⟨Rect.unit (s := S1x312x1536) ![0, 0, 0] S1x312x1536.size inb_S1x312x1536_S1x312x1536_0_0_0,
        k0_pay189
          (k0_pay1 (View.readAt (Elt F) arg5.view (Rect.unit (s := S6x1536) ![5, 0] S1x1536.size inb_S6x1536_S1x1536_5_0).toLoadRect (harg5.unread x3))
            (View.readAt (Elt F) arg6.view (Rect.unit (s := S1x1x6x1536) ![0, 0, 5, 0] S1x1x1x1536.size inb_S1x1x6x1536_S1x1x1x1536_0_0_5_0).toLoadRect (harg6.unread x4)))
          (scaleCol (bodyMax arg2 harg2 arg3 harg3 arg7 harg7 arg8 harg8 arg9 harg9 x0 x1 x5 x6 x7))
          (arg13.view.readCov (bodyList arg2 harg2 arg3 harg3 arg7 harg7 arg8 harg8 arg9 harg9 arg16 x0 x1 x5 x6 x7)
            (Rect.unit (s := S1x312x8960) ![0, 0, 0] S1x312x8960.size inb_S1x312x8960_S1x312x8960_0_0_0).toLoadRect)
          (View.readAt (Elt F) arg10.view (Rect.unit (s := S8960x1536) ![0, 0] S8960x1536.size inb_S8960x1536_S8960x1536_0_0).toLoadRect (harg10.unread x8))
          (View.readAt (Elt F) arg11.view (Rect.unit (s := S1x1536) ![0, 0] S1x1536.size inb_S1x1536_S1x1536_0_0).toLoadRect (harg11.unread x9))
          (View.readAt (Elt F) arg12.view (Rect.unit (s := S1x1536) ![0, 0] S1x1536.size inb_S1x1536_S1x1536_0_0).toLoadRect (harg12.unread x10))
          (View.readAt (Elt F) arg4.view (Rect.unit (s := S1x312x1536) ![0, 0, 0] S1x312x1536.size inb_S1x312x1536_S1x312x1536_0_0_0).toLoadRect (harg4.unread x2))⟩] := by
  sl_kernel_rfl

end

end Cert.FfnIdeal.Body

end
-- ==== Proof.FfnIdeal.Stored.lean ====
/-
  What the feed-forward kernel's body leaves in its three output blocks, at an index: the row's codes, its scale and its
  result, of the row of the input block.
-/
module

public import proofs.«01_k».proof.Proof.FfnIdeal.Pieces
public import Idealize.ShloMosaic.Lib.Pipeline.ValueKit

@[expose] public section

set_option maxRecDepth 16384

noncomputable section

namespace Cert.FfnIdeal.Body

open Cert.FfnIdeal Cert.FfnIdeal.Gen
open Idealize.ShloMosaic Idealize.ShloMosaic.TcCoe

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

/-- A load of a whole buffer through the rectangle of its own size. -/
theorem load_whole {S : Shape} {e : EltTy} (a : Memref sig .tc .vmem S e) (ha : a.IsWhole) (x : Vec Ideal S e) {off : Fin S.rank → ℕ}
    (h : off = fun _ => 0) (inb : ∀ i, off i + S.size i ≤ S.size i) :
    View.readAt (Elt Ideal) a.view (Rect.unit (s := S) off S.size inb).toLoadRect (ha.unread x) = x :=
  (View.readAt_eq_ld a.view (ha.unread x) (Rect.unit (s := S) off S.size inb)).trans
    ((congrArg (fun f => View.ld f (Rect.unit (s := S) off S.size inb)) (ha.read_unread x)).trans (View.ld_unit_zero h inb x))

theorem loadW_at (a : Memref sig .tc .vmem S1536x8960 .fp8e4m3) (ha : a.IsWhole) (x : Vec Ideal S1536x8960 .fp8e4m3) (j : Fin 35)
    (d : Fin 1536) (n : Fin 256) : loadW a ha x j (ix2 d n) = x (ix2 d (FfnMath.col j n)) := by
  refine (congrFun (ha.read_unread x) _).trans (congrArg x ?_)
  funext i
  refine Fin.ext ?_
  change Fin 2 at i
  fin_cases i
  · show 0 + 1 * d.val = d.val
    omega
  · show 256 * j.val + 1 * n.val = 256 * j.val + n.val
    omega

theorem loadB_at (a : Memref sig .tc .vmem S1x8960 .f32) (ha : a.IsWhole) (x : Vec Ideal S1x8960 .f32) (j : Fin 35) (n : Fin 256) :
    loadB a ha x j (ix2 0 n) = x (ix2 0 (FfnMath.col j n)) := by
  refine (congrFun (ha.read_unread x) _).trans (congrArg x ?_)
  funext i
  refine Fin.ext ?_
  change Fin 2 at i
  fin_cases i
  · rfl
  · show 256 * j.val + 1 * n.val = 256 * j.val + n.val
    omega

theorem loadRow5_at (a : Memref sig .tc .vmem S6x1536 .f32) (ha : a.IsWhole) (x : Vec Ideal S6x1536 .f32) (d : Fin 1536) :
    View.readAt (Elt Ideal) a.view (Rect.unit (s := S6x1536) ![5, 0] S1x1536.size inb_S6x1536_S1x1536_5_0).toLoadRect (ha.unread x) (ix2 0 d : S1x1536.Idx)
      = x (ix2 5 d) := by
  refine (congrFun (ha.read_unread x) _).trans (congrArg x ?_)
  funext i
  refine Fin.ext ?_
  change Fin 2 at i
  fin_cases i
  · rfl
  · show 0 + 1 * d.val = d.val
    omega

theorem loadEmb5_at (a : Memref sig .tc .vmem S1x1x6x1536 .f32) (ha : a.IsWhole) (x : Vec Ideal S1x1x6x1536 .f32) (d : Fin 1536) :
    View.readAt (Elt Ideal) a.view (Rect.unit (s := S1x1x6x1536) ![0, 0, 5, 0] S1x1x1x1536.size inb_S1x1x6x1536_S1x1x1x1536_0_0_5_0).toLoadRect (ha.unread x) (ix4 0 0 0 d : S1x1x1x1536.Idx)
      = x (ix4 0 0 5 d) := by
  refine (congrFun (ha.read_unread x) _).trans (congrArg x ?_)
  funext i
  refine Fin.ext ?_
  change Fin 4 at i
  fin_cases i
  · rfl
  · rfl
  · rfl
  · show 0 + 1 * d.val = d.val
    omega

/-- A block of the scratch buffer reads back as it was stored: the blocks are disjoint. -/
theorem reload_at (v : View sig .tc .vmem S312x8960 .f32) (G : Fin 35 → FVec Ideal S312x256 .f32) (j : Fin 35) (r : Fin 312) (n : Fin 256) :
    reload v G j (ix2 r n) = G j (ix2 r n) := by
  have hx : ∀ a : Fin 2, ((Rect.unit (s := S312x8960) (off2 j) S312x256.size (inb2_g j)).emb (ix2 r n : S312x256.Idx) a).val
      = off2 j a + ((ix2 r n : S312x256.Idx) a).val := by
    intro a
    fin_cases a
    · show 0 + 1 * r.val = 0 + r.val
      omega
    · show 256 * j.val + 1 * n.val = 256 * j.val + n.val
      omega
  have hd : ∀ i : Fin 35, i ≠ j → ((Rect.unit (s := S312x8960) (off2 j) S312x256.size (inb2_g j)).emb (ix2 r n : S312x256.Idx) (1 : Fin 2)).val < off2 i (1 : Fin 2)
      ∨ off2 i (1 : Fin 2) + S312x256.size (1 : Fin 2) ≤ ((Rect.unit (s := S312x8960) (off2 j) S312x256.size (inb2_g j)).emb (ix2 r n : S312x256.Idx) (1 : Fin 2)).val := by
    intro i hi
    have hne : i.val ≠ j.val := fun h => hi (Fin.ext h)
    show 256 * j.val + 1 * n.val < 256 * i.val ∨ 256 * i.val + 256 ≤ 256 * j.val + 1 * n.val
    omega
  have h := View.read_tilePieces (Val := Elt Ideal) v v.junk S312x256.size off2 inb2_g G 35 le_rfl _ j j.isLt (ix2 r n : S312x256.Idx) hx (1 : Fin 2) hd
  exact h

/-- The array of codes at a column of a block. -/
theorem codes_at {κ : Kind} {sp : Space} (v : View sig κ sp S1x312x8960 .fp8e4m3) (s : FVec Ideal S312x1 .f32) (G : Fin 35 → Vec Ideal S312x256 .f32)
    (j : Fin 35) (r : Fin 312) (n : Fin 256) :
    v.read (Elt Ideal) (v.writes (Elt Ideal) v.junk (codes s G)) (ix3 0 r (FfnMath.col j n)) = FfnMath.code (G j (ix2 r n)) (s (ix2 r 0)) := by
  have hx : ∀ a : Fin 3, ((ix3 0 r (FfnMath.col j n) : S1x312x8960.Idx) a).val = off3 j a + ((ix3 0 r n : S1x312x256.Idx) a).val := by
    intro a
    fin_cases a
    · rfl
    · exact (Nat.zero_add _).symm
    · rfl
  have hd : ∀ i : Fin 35, i ≠ j → ((ix3 0 r (FfnMath.col j n) : S1x312x8960.Idx) (2 : Fin 3)).val < off3 i (2 : Fin 3)
      ∨ off3 i (2 : Fin 3) + S1x312x256.size (2 : Fin 3) ≤ ((ix3 0 r (FfnMath.col j n) : S1x312x8960.Idx) (2 : Fin 3)).val := by
    intro i hi
    have hne : i.val ≠ j.val := fun h => hi (Fin.ext h)
    show 256 * j.val + n.val < 256 * i.val ∨ 256 * i.val + 256 ≤ 256 * j.val + n.val
    omega
  have h := View.read_tilePieces (Val := Elt Ideal) v v.junk S1x312x256.size off3 inb3_h (fun j => k0_pay185 s (G j)) 35 le_rfl _ j j.isLt (ix3 0 r n : S1x312x256.Idx) hx (2 : Fin 3) hd
  exact h.trans (code_at s (G j) r n)

section
variable (c : Dev nD) (i : grid0.Coords) (arg2 : Memref sig .tc .vmem S1x312x1536 .fp8e4m3) (harg2 : arg2.IsWhole) (arg3 : Memref sig .tc .vmem S1x1x1x312 .f32) (harg3 : arg3.IsWhole) (arg4 : Memref sig .tc .vmem S1x312x1536 .f32) (harg4 : arg4.IsWhole) (arg5 : Memref sig .tc .vmem S6x1536 .f32) (harg5 : arg5.IsWhole) (arg6 : Memref sig .tc .vmem S1x1x6x1536 .f32) (harg6 : arg6.IsWhole) (arg7 : Memref sig .tc .vmem S1536x8960 .fp8e4m3) (harg7 : arg7.IsWhole) (arg8 : Memref sig .tc .vmem S1x8960 .f32) (harg8 : arg8.IsWhole) (arg9 : Memref sig .tc .vmem S1x8960 .f32) (harg9 : arg9.IsWhole) (arg10 : Memref sig .tc .vmem S8960x1536 .fp8e4m3) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x312x8960 .fp8e4m3) (harg13 : arg13.IsWhole) (arg14 : Memref sig .tc .vmem S1x1x1x312 .f32) (harg14 : arg14.IsWhole) (arg15 : Memref sig .tc .vmem S1x312x1536 .bf16) (harg15 : arg15.IsWhole) (arg16 : Memref sig .tc .vmem S312x8960 .f32) (harg16 : arg16.IsWhole)
        (x0 : Vec Ideal S1x312x1536 .fp8e4m3) (x1 : Vec Ideal S1x1x1x312 .f32) (x2 : Vec Ideal S1x312x1536 .f32) (x3 : Vec Ideal S6x1536 .f32) (x4 : Vec Ideal S1x1x6x1536 .f32) (x5 : Vec Ideal S1536x8960 .fp8e4m3) (x6 : Vec Ideal S1x8960 .f32) (x7 : Vec Ideal S1x8960 .f32) (x8 : Vec Ideal S8960x1536 .fp8e4m3) (x9 : Vec Ideal S1x1536 .f32) (x10 : Vec Ideal S1x1536 .f32)

/-- Row `r` of the input block, as the row functions take it. -/
def rowHid (r : Fin 312) : Fin 8960 → EReal :=
  FfnMath.hid (fun x => x0 (ix3 0 r x)) (x1 (ix4 0 0 0 r)) (fun x f => x5 (ix2 x f)) (fun f => x6 (ix2 0 f)) (fun f => x7 (ix2 0 f))

theorem bodyHidden_at (j : Fin 35) (r : Fin 312) (n : Fin 256) :
    bodyHidden arg2 harg2 arg3 harg3 arg7 harg7 arg8 harg8 arg9 harg9 x0 x1 x5 x6 x7 j (ix2 r n) = rowHid x0 x1 x5 x6 x7 r (FfnMath.col j n) := by
  unfold bodyHidden
  refine (stored_at _ _ _ _ _ j r n).trans ?_
  unfold rowHid FfnMath.hid bodyCodes bodyScale
  rw [scaleIn_at, loadB_at, loadB_at, load_whole arg3 harg3 x1 zero4]
  refine congrArg₂ (fun (p q : Fin 1536 → EReal) => FfnMath.hidden p q (x1 (ix4 0 0 0 r)) (x6 (ix2 0 (FfnMath.col j n))) (x7 (ix2 0 (FfnMath.col j n)))) ?_ ?_
  · funext x
    rw [codesIn_at, load_whole arg2 harg2 x0 zero3]
  · funext x
    exact loadW_at arg7 harg7 x5 j x n

theorem bodyMax_at (r : Fin 312) : bodyMax arg2 harg2 arg3 harg3 arg7 harg7 arg8 harg8 arg9 harg9 x0 x1 x5 x6 x7 (ix2 r 0) = FfnMath.top (rowHid x0 x1 x5 x6 x7 r) := by
  unfold bodyMax
  exact (rowMax_at _ _ _ _ _ r _ (fun j n => bodyHidden_at arg2 harg2 arg3 harg3 arg7 harg7 arg8 harg8 arg9 harg9 x0 x1 x5 x6 x7 j r n) 35 le_rfl).trans (FfnMath.running_eq _)

theorem bodyScale_at (r : Fin 312) :
    scaleCol (bodyMax arg2 harg2 arg3 harg3 arg7 harg7 arg8 harg8 arg9 harg9 x0 x1 x5 x6 x7) (ix2 r 0) = FfnMath.scale (FfnMath.top (rowHid x0 x1 x5 x6 x7 r)) :=
  (scaleCol_at _ r).trans (congrArg FfnMath.scale (bodyMax_at arg2 harg2 arg3 harg3 arg7 harg7 arg8 harg8 arg9 harg9 x0 x1 x5 x6 x7 r))

theorem bodyList_at {κ : Kind} {sp : Space} (v : View sig κ sp S1x312x8960 .fp8e4m3) (r : Fin 312) (f : Fin 8960) :
    v.read (Elt Ideal) (v.writes (Elt Ideal) v.junk (bodyList arg2 harg2 arg3 harg3 arg7 harg7 arg8 harg8 arg9 harg9 arg16 x0 x1 x5 x6 x7)) (ix3 0 r f)
      = FfnMath.code (rowHid x0 x1 x5 x6 x7 r f) (FfnMath.scale (FfnMath.top (rowHid x0 x1 x5 x6 x7 r))) := by
  obtain ⟨j, n, rfl⟩ := FfnMath.exists_col f
  unfold bodyList
  refine (codes_at v _ _ j r n).trans (congrArg₂ FfnMath.code ?_ (bodyScale_at arg2 harg2 arg3 harg3 arg7 harg7 arg8 harg8 arg9 harg9 x0 x1 x5 x6 x7 r))
  exact (reload_at arg16.view _ j r n).trans (bodyHidden_at arg2 harg2 arg3 harg3 arg7 harg7 arg8 harg8 arg9 harg9 x0 x1 x5 x6 x7 j r n)

theorem out11_at (r : Fin 312) (f : Fin 8960) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix3 0 r f)
    = FfnMath.rowCode (fun x => x0 (ix3 0 r x)) (x1 (ix4 0 0 0 r)) (fun x f => x5 (ix2 x f)) (fun f => x6 (ix2 0 f)) (fun f => x7 (ix2 0 f)) f := by
  unfold out0_A_11
  rw [pieces11]
  exact bodyList_at arg2 harg2 arg3 harg3 arg7 harg7 arg8 harg8 arg9 harg9 arg16 x0 x1 x5 x6 x7 VO0_11 r f

theorem out12_at (r : Fin 312) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix4 0 0 0 r)
    = FfnMath.rowScale (fun x => x0 (ix3 0 r x)) (x1 (ix4 0 0 0 r)) (fun x f => x5 (ix2 x f)) (fun f => x6 (ix2 0 f)) (fun f => x7 (ix2 0 f)) := by
  unfold out0_A_12
  rw [pieces12, View.read_writes_junk_eq_canon, View.canon_unit_zero zero4, scaleRow_at]
  exact bodyScale_at arg2 harg2 arg3 harg3 arg7 harg7 arg8 harg8 arg9 harg9 x0 x1 x5 x6 x7 r

theorem out13_at (r : Fin 312) (d : Fin 1536) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix3 0 r d)
    = FfnMath.rowResult (fun x => x0 (ix3 0 r x)) (x1 (ix4 0 0 0 r)) (fun x f => x5 (ix2 x f)) (fun f => x6 (ix2 0 f)) (fun f => x7 (ix2 0 f))
        (fun f d => x8 (ix2 f d)) (fun d => x9 (ix2 0 d)) (fun d => x10 (ix2 0 d)) (fun d => x3 (ix2 5 d) + x4 (ix4 0 0 5 d)) (fun d => x2 (ix3 0 r d)) d := by
  unfold out0_A_13
  rw [pieces13, View.read_writes_junk_eq_canon, View.canon_unit_zero zero3, result_at, gate_at, loadRow5_at, loadEmb5_at,
    load_whole arg4 harg4 x2 zero3, load_whole arg10 harg10 x8 zero2, load_whole arg11 harg11 x9 zero2, load_whole arg12 harg12 x10 zero2,
    bodyScale_at arg2 harg2 arg3 harg3 arg7 harg7 arg8 harg8 arg9 harg9 x0 x1 x5 x6 x7 r]
  unfold FfnMath.rowResult
  refine congrArg (fun p => FfnMath.result p (fun f => x8 (ix2 f d)) _ (x9 (ix2 0 d)) (x10 (ix2 0 d)) _ (x2 (ix3 0 r d))) ?_
  funext f
  refine Eq.trans ?_ (bodyList_at arg2 harg2 arg3 harg3 arg7 harg7 arg8 harg8 arg9 harg9 arg16 x0 x1 x5 x6 x7 arg13.view r f)
  exact congrFun ((View.readAt_eq_ld arg13.view _ (Rect.unit (s := S1x312x8960) ![0, 0, 0] S1x312x8960.size inb_S1x312x8960_S1x312x8960_0_0_0)).trans
    (View.ld_unit_zero zero3 inb_S1x312x8960_S1x312x8960_0_0_0 _)) (ix3 0 r f)

end

end Cert.FfnIdeal.Body

end
-- ==== Proof.FfnIdeal.Value.lean ====
/-
  What the feed-forward call's three result arrays hold after its run, as functions of its arguments.
-/
module

public import proofs.«01_k».proof.Proof.FfnValue
public import proofs.«01_k».proof.Proof.FfnIdeal.Stored
public import Idealize.ShloMosaic.Lib.Pipeline.Covers

@[expose] public section

set_option maxRecDepth 16384

noncomputable section

namespace Cert.FfnIdeal.Gen

open Cert.FfnIdeal Cert.FfnIdeal.Gen
open Idealize.ShloMosaic Idealize.ShloMosaic.TcCoe
open Idealize.SL Idealize.SL.Sem

/-- A grid point's batch and tile, and the grid point of a batch and a tile. -/
def batch (t : Fin grid0.N) : Fin 2 := grid0.coords t 0
def tile (t : Fin grid0.N) : Fin 15 := grid0.coords t 1
def point (b : Fin 2) (i : Fin 15) : Fin grid0.N := ⟨b.val * 15 + i.val, show b.val * 15 + i.val < 30 by omega⟩

theorem batch_point (b : Fin 2) (i : Fin 15) : batch (point b i) = b :=
  Fin.ext ((by decide +kernel : ∀ (b : Fin 2) (i : Fin 15), (grid0.coords (point b i) 0).val = b.val) b i)
theorem tile_point (b : Fin 2) (i : Fin 15) : tile (point b i) = i :=
  Fin.ext ((by decide +kernel : ∀ (b : Fin 2) (i : Fin 15), (grid0.coords (point b i) 1).val = i.val) b i)

/-- The frame of a tile. -/
def tileFrame (i : Fin 15) : Fin 3 := ⟨i.val / 5, by omega⟩

theorem frame_token (i : Fin 15) (r : Fin 312) : FfnValue.frame (FfnValue.token i r) = tileFrame i :=
  Fin.ext (by show (i.val * 312 + r.val) / 1560 = i.val / 5; omega)

section
variable (m : (ℓ : Loc nD τ sig) → Buf (Elt Ideal) ℓ) (c : Dev nD) (t : Fin cfg0.N)

theorem index0 : (cfg0.win 0).index t = ![(batch t).val, (tile t).val, 0] :=
  (by decide +kernel : ∀ t : Fin grid0.N, cc0_transform_0 (grid0.coords t) = ![(batch t).val, (tile t).val, 0]) t
theorem index1 : (cfg0.win 1).index t = ![(batch t).val, (tile t).val, 0, 0] :=
  (by decide +kernel : ∀ t : Fin grid0.N, cc0_transform_1 (grid0.coords t) = ![(batch t).val, (tile t).val, 0, 0]) t
theorem index2 : (cfg0.win 2).index t = ![(batch t).val, (tile t).val, 0] :=
  (by decide +kernel : ∀ t : Fin grid0.N, cc0_transform_2 (grid0.coords t) = ![(batch t).val, (tile t).val, 0]) t
theorem index3 : (cfg0.win 3).index t = ![0, 0] :=
  (by decide +kernel : ∀ t : Fin grid0.N, cc0_transform_3 (grid0.coords t) = ![0, 0]) t
theorem index4 : (cfg0.win 4).index t = ![(batch t).val, (tileFrame (tile t)).val, 0, 0] :=
  (by decide +kernel : ∀ t : Fin grid0.N, cc0_transform_4 (grid0.coords t) = ![(batch t).val, (tileFrame (tile t)).val, 0, 0]) t
theorem index5 : (cfg0.win 5).index t = ![0, 0] :=
  (by decide +kernel : ∀ t : Fin grid0.N, cc0_transform_5 (grid0.coords t) = ![0, 0]) t
theorem index6 : (cfg0.win 6).index t = ![0, 0] :=
  (by decide +kernel : ∀ t : Fin grid0.N, cc0_transform_6 (grid0.coords t) = ![0, 0]) t
theorem index7 : (cfg0.win 7).index t = ![0, 0] :=
  (by decide +kernel : ∀ t : Fin grid0.N, cc0_transform_7 (grid0.coords t) = ![0, 0]) t
theorem index8 : (cfg0.win 8).index t = ![0, 0] :=
  (by decide +kernel : ∀ t : Fin grid0.N, cc0_transform_8 (grid0.coords t) = ![0, 0]) t
theorem index9 : (cfg0.win 9).index t = ![0, 0] :=
  (by decide +kernel : ∀ t : Fin grid0.N, cc0_transform_9 (grid0.coords t) = ![0, 0]) t
theorem index10 : (cfg0.win 10).index t = ![0, 0] :=
  (by decide +kernel : ∀ t : Fin grid0.N, cc0_transform_10 (grid0.coords t) = ![0, 0]) t
theorem index11 : (cfg0.win 11).index t = ![(batch t).val, (tile t).val, 0] :=
  (by decide +kernel : ∀ t : Fin grid0.N, cc0_transform_11 (grid0.coords t) = ![(batch t).val, (tile t).val, 0]) t
theorem index12 : (cfg0.win 12).index t = ![(batch t).val, (tile t).val, 0, 0] :=
  (by decide +kernel : ∀ t : Fin grid0.N, cc0_transform_12 (grid0.coords t) = ![(batch t).val, (tile t).val, 0, 0]) t
theorem index13 : (cfg0.win 13).index t = ![(batch t).val, (tile t).val, 0] :=
  (by decide +kernel : ∀ t : Fin grid0.N, cc0_transform_13 (grid0.coords t) = ![(batch t).val, (tile t).val, 0]) t

theorem iblk0_at (r : Fin 312) (x : Fin 1536) : iblk m c 0 t (ix3 0 r x) = V m c main_arg0 (ix3 (batch t) (FfnValue.token (tile t) r) x) := by
  blk_ext [iblk]
  all_goals rw [index0]; simp [FfnValue.token]
theorem iblk1_at (r : Fin 312) : iblk m c 1 t (ix4 0 0 0 r) = V m c main_arg1 (ix4 (batch t) (tile t) 0 r) := by
  blk_ext [iblk]
  all_goals rw [index1]; simp [FfnValue.token]
theorem iblk2_at (r : Fin 312) (x : Fin 1536) : iblk m c 2 t (ix3 0 r x) = V m c main_arg2 (ix3 (batch t) (FfnValue.token (tile t) r) x) := by
  blk_ext [iblk]
  all_goals rw [index2]; simp [FfnValue.token]
theorem iblk3_at (i : Fin 6) (d : Fin 1536) : iblk m c 3 t (ix2 i d) = V m c main_arg3 (ix2 i d) := by
  blk_ext [iblk]
  all_goals rw [index3]; simp [FfnValue.token]
theorem iblk4_at (i : Fin 6) (d : Fin 1536) : iblk m c 4 t (ix4 0 0 i d) = V m c main_arg4 (ix4 (batch t) (tileFrame (tile t)) i d) := by
  blk_ext [iblk]
  all_goals rw [index4]; simp [FfnValue.token]
theorem iblk5_at (x : Fin 1536) (f : Fin 8960) : iblk m c 5 t (ix2 x f) = V m c main_arg5 (ix2 x f) := by
  blk_ext [iblk]
  all_goals rw [index5]; simp [FfnValue.token]
theorem iblk6_at (f : Fin 8960) : iblk m c 6 t (ix2 0 f) = V m c main_v0 (ix2 0 f) := by
  blk_ext [iblk]
  all_goals rw [index6]; simp [FfnValue.token]
theorem iblk7_at (f : Fin 8960) : iblk m c 7 t (ix2 0 f) = V m c main_v1 (ix2 0 f) := by
  blk_ext [iblk]
  all_goals rw [index7]; simp [FfnValue.token]
theorem iblk8_at (f : Fin 8960) (d : Fin 1536) : iblk m c 8 t (ix2 f d) = V m c main_arg8 (ix2 f d) := by
  blk_ext [iblk]
  all_goals rw [index8]; simp [FfnValue.token]
theorem iblk9_at (d : Fin 1536) : iblk m c 9 t (ix2 0 d) = V m c main_v2 (ix2 0 d) := by
  blk_ext [iblk]
  all_goals rw [index9]; simp [FfnValue.token]
theorem iblk10_at (d : Fin 1536) : iblk m c 10 t (ix2 0 d) = V m c main_v3 (ix2 0 d) := by
  blk_ext [iblk]
  all_goals rw [index10]; simp [FfnValue.token]

theorem V_main_v0 : V m c main_v0 = shapeCast S1x8960 (m ((c : Thread nD τ).loc main_arg6) : Vec Ideal S8960 .f32) shapeCasts_S8960_S1x8960 := by
  unfold V
  after_results_simp <;> rfl
theorem V_main_v0_at (f : Fin 8960) : V m c main_v0 (ix2 0 f) = (m ((c : Thread nD τ).loc main_arg6) : Vec Ideal S8960 .f32) (ix1 f) := by
  rw [V_main_v0]
  exact FfnValue.asRow_at _ _ f
theorem V_main_v1 : V m c main_v1 = shapeCast S1x8960 (m ((c : Thread nD τ).loc main_arg7) : Vec Ideal S8960 .f32) shapeCasts_S8960_S1x8960 := by
  unfold V
  after_results_simp <;> rfl
theorem V_main_v1_at (f : Fin 8960) : V m c main_v1 (ix2 0 f) = (m ((c : Thread nD τ).loc main_arg7) : Vec Ideal S8960 .f32) (ix1 f) := by
  rw [V_main_v1]
  exact FfnValue.asRow_at _ _ f
theorem V_main_v2 : V m c main_v2 = shapeCast S1x1536 (m ((c : Thread nD τ).loc main_arg9) : Vec Ideal S1536 .f32) shapeCasts_S1536_S1x1536 := by
  unfold V
  after_results_simp <;> rfl
theorem V_main_v2_at (f : Fin 1536) : V m c main_v2 (ix2 0 f) = (m ((c : Thread nD τ).loc main_arg9) : Vec Ideal S1536 .f32) (ix1 f) := by
  rw [V_main_v2]
  exact FfnValue.asRow_at _ _ f
theorem V_main_v3 : V m c main_v3 = shapeCast S1x1536 (m ((c : Thread nD τ).loc main_arg10) : Vec Ideal S1536 .f32) shapeCasts_S1536_S1x1536 := by
  unfold V
  after_results_simp <;> rfl
theorem V_main_v3_at (f : Fin 1536) : V m c main_v3 (ix2 0 f) = (m ((c : Thread nD τ).loc main_arg10) : Vec Ideal S1536 .f32) (ix1 f) := by
  rw [V_main_v3]
  exact FfnValue.asRow_at _ _ f

/-- The three result arrays. -/
def want11 : Vec Ideal S2x4680x8960 .fp8e4m3 := FfnValue.outCodes (m ((c : Thread nD τ).loc main_arg0)) (m ((c : Thread nD τ).loc main_arg1)) (m ((c : Thread nD τ).loc main_arg5)) (m ((c : Thread nD τ).loc main_arg6)) (m ((c : Thread nD τ).loc main_arg7))
def want12 : Vec Ideal S2x15x1x312 .f32 := FfnValue.outScales (m ((c : Thread nD τ).loc main_arg0)) (m ((c : Thread nD τ).loc main_arg1)) (m ((c : Thread nD τ).loc main_arg5)) (m ((c : Thread nD τ).loc main_arg6)) (m ((c : Thread nD τ).loc main_arg7))
def want13 : Vec Ideal S2x4680x1536 .bf16 := FfnValue.outResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem scale_index (x : Vec Ideal S2x15x1x312 .f32) (b : Fin 2) (i : Fin 15) (r : Fin 312) :
    x (ix4 b i 0 r) = x (ix4 b (FfnValue.tile (FfnValue.token i r)) 0 (FfnValue.row (FfnValue.token i r))) := by
  rw [FfnValue.tile_token, FfnValue.row_token]

theorem want11_at (b : Fin 2) (s : Fin 4680) (f : Fin 8960) : want11 m c (ix3 b s f) = FfnValue.codeAt (m ((c : Thread nD τ).loc main_arg0)) (m ((c : Thread nD τ).loc main_arg1)) (m ((c : Thread nD τ).loc main_arg5)) (m ((c : Thread nD τ).loc main_arg6)) (m ((c : Thread nD τ).loc main_arg7)) b s f := rfl
theorem want12_at (b : Fin 2) (i : Fin 15) (r : Fin 312) : want12 m c (ix4 b i 0 r) = FfnValue.scaleAt (m ((c : Thread nD τ).loc main_arg0)) (m ((c : Thread nD τ).loc main_arg1)) (m ((c : Thread nD τ).loc main_arg5)) (m ((c : Thread nD τ).loc main_arg6)) (m ((c : Thread nD τ).loc main_arg7)) b (FfnValue.token i r) := rfl
theorem want13_at (b : Fin 2) (s : Fin 4680) (d : Fin 1536) : want13 m c (ix3 b s d) = FfnValue.resultAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b s d := rfl

/-- What the body leaves in each output block at a grid point. -/
theorem block11 (r : Fin 312) (f : Fin 8960) :
    (outsAt0 m c t).1 (ix3 0 r f) = want11 m c (ix3 (batch t) (FfnValue.token (tile t) r) f) := by
  rw [want11_at]
  unfold outsAt0 FfnValue.codeAt
  dsimp only
  rw [Body.out11_at]
  exact FfnMath.rowCode_congr (fun x => (iblk0_at m c t r x).trans (congrFun (V_main_arg0 m c) _)) ((iblk1_at m c t r).trans ((congrFun (V_main_arg1 m c) _).trans (scale_index _ (batch t) (tile t) r)))
    (fun x f => (iblk5_at m c t x f).trans (congrFun (V_main_arg5 m c) _)) (fun f => (iblk6_at m c t f).trans (V_main_v0_at m c f))
    (fun f => (iblk7_at m c t f).trans (V_main_v1_at m c f)) f

theorem block12 (r : Fin 312) :
    (outsAt0 m c t).2.1 (ix4 0 0 0 r) = want12 m c (ix4 (batch t) (tile t) 0 r) := by
  rw [want12_at]
  unfold outsAt0 FfnValue.scaleAt
  dsimp only
  rw [Body.out12_at]
  exact FfnMath.rowScale_congr (fun x => (iblk0_at m c t r x).trans (congrFun (V_main_arg0 m c) _)) ((iblk1_at m c t r).trans ((congrFun (V_main_arg1 m c) _).trans (scale_index _ (batch t) (tile t) r)))
    (fun x f => (iblk5_at m c t x f).trans (congrFun (V_main_arg5 m c) _)) (fun f => (iblk6_at m c t f).trans (V_main_v0_at m c f))
    (fun f => (iblk7_at m c t f).trans (V_main_v1_at m c f))

theorem block13 (r : Fin 312) (d : Fin 1536) :
    (outsAt0 m c t).2.2 (ix3 0 r d) = want13 m c (ix3 (batch t) (FfnValue.token (tile t) r) d) := by
  rw [want13_at]
  unfold outsAt0 FfnValue.resultAt
  dsimp only
  rw [Body.out13_at]
  exact FfnMath.rowResult_congr (fun x => (iblk0_at m c t r x).trans (congrFun (V_main_arg0 m c) _)) ((iblk1_at m c t r).trans ((congrFun (V_main_arg1 m c) _).trans (scale_index _ (batch t) (tile t) r)))
    (fun x f => (iblk5_at m c t x f).trans (congrFun (V_main_arg5 m c) _)) (fun f => (iblk6_at m c t f).trans (V_main_v0_at m c f))
    (fun f => (iblk7_at m c t f).trans (V_main_v1_at m c f))
    (fun f d => (iblk8_at m c t f d).trans (congrFun (V_main_arg8 m c) _)) (fun d => (iblk9_at m c t d).trans (V_main_v2_at m c d))
    (fun d => (iblk10_at m c t d).trans (V_main_v3_at m c d))
    (fun d => congrArg₂ (fun p q : EReal => p + q) ((iblk3_at m c t 5 d).trans (congrFun (V_main_arg3 m c) _))
      ((iblk4_at m c t 5 d).trans ((congrFun (V_main_arg4 m c) _).trans
        (congrArg (fun z : Fin 3 => (m ((c : Thread nD τ).loc main_arg4) : Vec Ideal S2x3x6x1536 .f32) (ix4 (batch t) z 5 d)) (frame_token (tile t) r).symm))))
    (fun d => (iblk2_at m c t r d).trans (congrFun (V_main_arg2 m c) _)) d

theorem emb11 (y : S1x312x8960.Idx) :
    ((cfg0.win 11).blk t).view.emb y = (ix3 (batch t) (FfnValue.token (tile t) (y 1)) (y 2) : S2x4680x8960.Idx) := by
  have h0 : (y 0).val = 0 := Nat.lt_one_iff.mp (y 0).isLt
  have hi := index11 t
  funext a
  refine Fin.ext ?_
  refine (Pipeline.Window.rect_emb_val (cfg0.win 11) t y a).trans ?_
  refine (congrArg (fun f : Fin 3 → ℕ => f a * S1x312x8960.size a + (y a).val) hi).trans ?_
  clear hi
  change Fin 3 at a
  fin_cases a
  · show (batch t).val * 1 + (y 0).val = (batch t).val
    omega
  · rfl
  · show 0 * 8960 + (y 2).val = (y 2).val
    omega

theorem index_block11 (y : S1x312x8960.Idx) : (ix3 0 (y 1) (y 2) : S1x312x8960.Idx) = y := by
  have h0 : (y 0).val = 0 := Nat.lt_one_iff.mp (y 0).isLt
  funext a
  change Fin 3 at a
  fin_cases a
  · exact Fin.ext h0.symm
  · rfl
  · rfl

theorem mem11 (i : S2x4680x8960.Idx) : ∃ t : Fin cfg0.N, (cfg0.win 11).flush t = true ∧ i ∈ ((cfg0.win 11).blk t).view.set := by
  refine ⟨point (i 0) (FfnValue.tile (i 1)), flush0_11 _, ?_⟩
  have h := View.emb_mem_set ((cfg0.win 11).blk (point (i 0) (FfnValue.tile (i 1)))).view (ix3 0 (FfnValue.row (i 1)) (i 2) : S1x312x8960.Idx)
  have e : ((cfg0.win 11).blk (point (i 0) (FfnValue.tile (i 1)))).view.emb (ix3 0 (FfnValue.row (i 1)) (i 2) : S1x312x8960.Idx) = i := by
    refine (emb11 (point (i 0) (FfnValue.tile (i 1))) _).trans ?_
    funext a
    change Fin 3 at a
    fin_cases a
    · exact batch_point _ _
    · exact (congrArg (fun z => FfnValue.token z (FfnValue.row (i 1))) (tile_point (i 0) (FfnValue.tile (i 1)))).trans (FfnValue.token_tile (i 1))
    · rfl
  rw [e] at h
  exact h

theorem arr11 : (dats m 0 c).arrAt 11 cfg0.N = want11 m c := by
  refine (dats m 0 c).arrAt_eq_of_emb 11 (want11 m c) (fun t hf y => ?_) mem11
  blk_simp
  rw [after0_11]
  exact (congrArg (outsAt0 m c t).1 (index_block11 y)).symm.trans ((block11 m c t (y 1) (y 2)).trans (congrArg (want11 m c) (emb11 t y).symm))

theorem emb13 (y : S1x312x1536.Idx) :
    ((cfg0.win 13).blk t).view.emb y = (ix3 (batch t) (FfnValue.token (tile t) (y 1)) (y 2) : S2x4680x1536.Idx) := by
  have h0 : (y 0).val = 0 := Nat.lt_one_iff.mp (y 0).isLt
  have hi := index13 t
  funext a
  refine Fin.ext ?_
  refine (Pipeline.Window.rect_emb_val (cfg0.win 13) t y a).trans ?_
  refine (congrArg (fun f : Fin 3 → ℕ => f a * S1x312x1536.size a + (y a).val) hi).trans ?_
  clear hi
  change Fin 3 at a
  fin_cases a
  · show (batch t).val * 1 + (y 0).val = (batch t).val
    omega
  · rfl
  · show 0 * 1536 + (y 2).val = (y 2).val
    omega

theorem index_block13 (y : S1x312x1536.Idx) : (ix3 0 (y 1) (y 2) : S1x312x1536.Idx) = y := by
  have h0 : (y 0).val = 0 := Nat.lt_one_iff.mp (y 0).isLt
  funext a
  change Fin 3 at a
  fin_cases a
  · exact Fin.ext h0.symm
  · rfl
  · rfl

theorem mem13 (i : S2x4680x1536.Idx) : ∃ t : Fin cfg0.N, (cfg0.win 13).flush t = true ∧ i ∈ ((cfg0.win 13).blk t).view.set := by
  refine ⟨point (i 0) (FfnValue.tile (i 1)), flush0_13 _, ?_⟩
  have h := View.emb_mem_set ((cfg0.win 13).blk (point (i 0) (FfnValue.tile (i 1)))).view (ix3 0 (FfnValue.row (i 1)) (i 2) : S1x312x1536.Idx)
  have e : ((cfg0.win 13).blk (point (i 0) (FfnValue.tile (i 1)))).view.emb (ix3 0 (FfnValue.row (i 1)) (i 2) : S1x312x1536.Idx) = i := by
    refine (emb13 (point (i 0) (FfnValue.tile (i 1))) _).trans ?_
    funext a
    change Fin 3 at a
    fin_cases a
    · exact batch_point _ _
    · exact (congrArg (fun z => FfnValue.token z (FfnValue.row (i 1))) (tile_point (i 0) (FfnValue.tile (i 1)))).trans (FfnValue.token_tile (i 1))
    · rfl
  rw [e] at h
  exact h

theorem arr13 : (dats m 0 c).arrAt 13 cfg0.N = want13 m c := by
  refine (dats m 0 c).arrAt_eq_of_emb 13 (want13 m c) (fun t hf y => ?_) mem13
  blk_simp
  rw [after0_13]
  exact (congrArg (outsAt0 m c t).2.2 (index_block13 y)).symm.trans ((block13 m c t (y 1) (y 2)).trans (congrArg (want13 m c) (emb13 t y).symm))

theorem emb12 (y : S1x1x1x312.Idx) : ((cfg0.win 12).blk t).view.emb y = (ix4 (batch t) (tile t) 0 (y 3) : S2x15x1x312.Idx) := by
  have h0 : (y 0).val = 0 := Nat.lt_one_iff.mp (y 0).isLt
  have h1 : (y 1).val = 0 := Nat.lt_one_iff.mp (y 1).isLt
  have h2 : (y 2).val = 0 := Nat.lt_one_iff.mp (y 2).isLt
  have hi := index12 t
  funext a
  refine Fin.ext ?_
  refine (Pipeline.Window.rect_emb_val (cfg0.win 12) t y a).trans ?_
  refine (congrArg (fun f : Fin 4 → ℕ => f a * S1x1x1x312.size a + (y a).val) hi).trans ?_
  clear hi
  change Fin 4 at a
  fin_cases a
  · show (batch t).val * 1 + (y 0).val = (batch t).val
    omega
  · show (tile t).val * 1 + (y 1).val = (tile t).val
    omega
  · show 0 * 1 + (y 2).val = 0
    omega
  · show 0 * 312 + (y 3).val = (y 3).val
    omega

theorem index_block12 (y : S1x1x1x312.Idx) : (ix4 0 0 0 (y 3) : S1x1x1x312.Idx) = y := by
  have h0 : (y 0).val = 0 := Nat.lt_one_iff.mp (y 0).isLt
  have h1 : (y 1).val = 0 := Nat.lt_one_iff.mp (y 1).isLt
  have h2 : (y 2).val = 0 := Nat.lt_one_iff.mp (y 2).isLt
  funext a
  change Fin 4 at a
  fin_cases a
  · exact Fin.ext h0.symm
  · exact Fin.ext h1.symm
  · exact Fin.ext h2.symm
  · rfl

theorem mem12 (i : S2x15x1x312.Idx) : ∃ t : Fin cfg0.N, (cfg0.win 12).flush t = true ∧ i ∈ ((cfg0.win 12).blk t).view.set := by
  have h2 : (i 2).val = 0 := Nat.lt_one_iff.mp (i 2).isLt
  refine ⟨point (i 0) (i 1), flush0_12 _, ?_⟩
  have h := View.emb_mem_set ((cfg0.win 12).blk (point (i 0) (i 1))).view (ix4 0 0 0 (i 3) : S1x1x1x312.Idx)
  have e : ((cfg0.win 12).blk (point (i 0) (i 1))).view.emb (ix4 0 0 0 (i 3) : S1x1x1x312.Idx) = i := by
    refine (emb12 (point (i 0) (i 1)) _).trans ?_
    funext a
    change Fin 4 at a
    fin_cases a
    · exact batch_point _ _
    · exact tile_point _ _
    · exact Fin.ext h2.symm
    · rfl
  rw [e] at h
  exact h

theorem arr12 : (dats m 0 c).arrAt 12 cfg0.N = want12 m c := by
  refine (dats m 0 c).arrAt_eq_of_emb 12 (want12 m c) (fun t hf y => ?_) mem12
  blk_simp
  rw [after0_12]
  exact (congrArg (outsAt0 m c t).2.1 (index_block12 y)).symm.trans ((block12 m c t (y 3)).trans (congrArg (want12 m c) (emb12 t y).symm))

end

end Cert.FfnIdeal.Gen

end
-- ==== Proof.FfnReference.Body.lean ====
/-
  The feed-forward reference's vectors at an index.
-/
module

public import proofs.«01_k».proof.Proof.FfnMath
public import proofs.«01_k».proof.Proof.Gen.FfnReferenceIdeal.Skeleton
public import Idealize.ShloMosaic.Lib.Pointwise

@[expose] public section

set_option maxRecDepth 16384

noncomputable section

namespace Cert.FfnReferenceIdeal.Body

open Cert.FfnReferenceIdeal Cert.FfnReferenceIdeal.Gen
open Idealize.ShloMosaic Idealize.ShloMosaic.TcCoe

section
variable {F : FTy → Type} [FloatOps F]

/-- The largest magnitude of each row. -/
def rowMax (G : FVec F S9360x8960 .f32) : FVec F S9360x1 .f32 :=
  shapeCast S9360x1 (multiReduction .maximumf [1] S9360 (absf G) 0xFF800000#32 reduces_S9360x8960_S9360 (.inl rfl) rfl) shapeCasts_S9360_S9360x1

/-- Each row's scale. -/
def scaleCol (a : FVec F S9360x1 .f32) : FVec F S9360x1 .f32 :=
  select (cmpf .oeq a (broadcast S9360x1 (Scalar.ofBits .f32 0x00000000#32))) (broadcast S9360x1 (Scalar.ofBits .f32 0x3F800000#32))
    (divf a (broadcast S9360x1 (Scalar.ofBits .f32 0x43E00000#32)))

/-- The values over their rows' scales. -/
def scaled (G : FVec F S9360x8960 .f32) (s : FVec F S9360x1 .f32) : FVec F S9360x8960 .f32 :=
  divf G (broadcastTo S9360x8960 s broadcasts_S9360x1_S9360x8960)

end

theorem hidden_at (c : Vec Ideal S2x4680x1536 .fp8e4m3) (w : Vec Ideal S1536x8960 .fp8e4m3) (s : Vec Ideal S9360x1 .f32)
    (ws b : Vec Ideal S1x8960 .f32) (i : Fin 2) (r : Fin 4680) (f : Fin 8960) :
    k0_pay1 c w s ws b (ix2 ⟨i.val * 4680 + r.val, by omega⟩ f)
      = FfnMath.hidden (fun x => c (ix3 i r x)) (fun x => w (ix2 x f)) (s (ix2 ⟨i.val * 4680 + r.val, by omega⟩ 0)) (ws (ix2 0 f)) (b (ix2 0 f)) := by
  unfold FfnMath.hidden FfnMath.gelu
  pointwise [k0_pay1]

theorem rowMax_at (G : FVec Ideal S9360x8960 .f32) (r : Fin 9360) : rowMax G (ix2 r 0) = FfnMath.top fun f => G (ix2 r f) := by
  have e : rowMax G (ix2 r 0) = Finset.fold max (Ideal.ofBits .f32 0xFF800000#32) (fun f => FloatOps.absf (G (ix2 r f))) Finset.univ := by
    pointwise [rowMax]
  rw [e, AttnConst.bits_bot]
  rfl

theorem scaleCol_at (a : FVec Ideal S9360x1 .f32) (r : Fin 9360) : scaleCol a (ix2 r 0) = FfnMath.scale (a (ix2 r 0)) := by
  unfold FfnMath.scale
  pointwise [scaleCol]

theorem scaled_at (G : FVec Ideal S9360x8960 .f32) (s : FVec Ideal S9360x1 .f32) (r : Fin 9360) (f : Fin 8960) :
    scaled G s (ix2 r f) = Ideal.div (G (ix2 r f)) (s (ix2 r 0)) := by
  pointwise [scaled]

theorem code_at (G : FVec Ideal S9360x8960 .f32) (r : Fin 9360) (f : Fin 8960) :
    k0_pay4 G (ix2 r f) = min (Ideal.ofBits .f32 0x43E00000#32) (max (Ideal.ofBits .f32 0xC3E00000#32) (G (ix2 r f))) := by
  pointwise [k0_pay4]

theorem codesOut_at (G : FVec Ideal S9360x8960 .f32) (i : Fin 2) (r : Fin 4680) (f : Fin 8960) :
    k0_pay5 G (ix3 i r f) = k0_pay4 G (ix2 ⟨i.val * 4680 + r.val, by omega⟩ f) := by
  pointwise [k0_pay5]

theorem scaleOut_at (s : FVec Ideal S9360x1 .f32) (i : Fin 2) (t : Fin 15) (r : Fin 312) :
    k0_pay6 s (ix4 i t 0 r) = s (ix2 ⟨i.val * 4680 + (t.val * 312 + r.val), by omega⟩ 0) := by
  have e : k0_pay6 s (ix4 i t 0 r) = s (ix2 ⟨i.val * 4680 + t.val * 312 + r.val, by omega⟩ 0) := by
    pointwise [k0_pay6]
  rw [e]
  exact congrArg (fun z : Fin 9360 => s (ix2 z 0)) (Fin.ext (Nat.add_assoc _ _ _))

theorem result_at (s : FVec Ideal S9360x1 .f32) (G : FVec Ideal S9360x8960 .f32) (w : Vec Ideal S8960x1536 .fp8e4m3) (ws b : Vec Ideal S1x1536 .f32)
    (gate : Vec Ideal S2x3x1536 .f32) (res : Vec Ideal S2x4680x1536 .f32) (i : Fin 2) (r : Fin 4680) (d : Fin 1536) :
    k0_pay7 s G w ws b gate res (ix3 i r d)
      = FfnMath.result (fun f => k0_pay4 G (ix2 ⟨i.val * 4680 + r.val, by omega⟩ f)) (fun f => w (ix2 f d)) (s (ix2 ⟨i.val * 4680 + r.val, by omega⟩ 0))
          (ws (ix2 0 d)) (b (ix2 0 d)) (gate (ix3 i ⟨r.val / 1560, by omega⟩ d)) (res (ix3 i r d)) := by
  have e : k0_pay7 s G w ws b gate res (ix3 i r d)
      = FfnMath.result (fun f => k0_pay4 G (ix2 ⟨i.val * 4680 + r.val / 1560 * 1560 + r.val % 1560, by omega⟩ f)) (fun f => w (ix2 f d))
          (s (ix2 ⟨i.val * 4680 + r.val / 1560 * 1560 + r.val % 1560, by omega⟩ 0))
          (ws (ix2 0 d)) (b (ix2 0 d)) (gate (ix3 i ⟨r.val / 1560, by omega⟩ d)) (res (ix3 i r d)) := by
    unfold FfnMath.result
    pointwise [k0_pay7]
  rw [e]
  exact congrArg (fun z : Fin 9360 => FfnMath.result (fun f => k0_pay4 G (ix2 z f)) (fun f => w (ix2 f d)) (s (ix2 z 0))
    (ws (ix2 0 d)) (b (ix2 0 d)) (gate (ix3 i ⟨r.val / 1560, by omega⟩ d)) (res (ix3 i r d)))
    (Fin.ext (show i.val * 4680 + r.val / 1560 * 1560 + r.val % 1560 = i.val * 4680 + r.val by omega))

section
variable {F : FTy → Type} [FloatOps F]
variable (c : Vec F S2x4680x1536 .fp8e4m3) (w : Vec F S1536x8960 .fp8e4m3) (s : Vec F S9360x1 .f32) (ws b : Vec F S1x8960 .f32)

theorem scale_eq : k0_pay2 c w s ws b = scaleCol (rowMax (k0_pay1 c w s ws b)) := by
  unfold k0_pay2 scaleCol rowMax
  rfl

theorem scaled_eq : k0_pay3 c w s ws b = scaled (k0_pay1 c w s ws b) (k0_pay2 c w s ws b) := by
  unfold k0_pay3 scaled
  rfl

end

end Cert.FfnReferenceIdeal.Body

end
-- ==== Proof.FfnReference.Value.lean ====
/-
  What the feed-forward reference's three result arrays hold after its run, as functions of its arguments.
-/
module

public import proofs.«01_k».proof.Proof.FfnValue
public import proofs.«01_k».proof.Proof.FfnReference.Body
public import proofs.«01_k».proof.Proof.Gen.FfnReferenceIdeal.Frame
public import Idealize.ShloMosaic.Lib.Pipeline.ValueKit
public import Idealize.ShloMosaic.Lib.Pipeline.Covers

@[expose] public section

set_option maxRecDepth 16384

noncomputable section

namespace Cert.FfnReferenceIdeal.Body

open Cert.FfnReferenceIdeal Cert.FfnReferenceIdeal.Gen
open Idealize.ShloMosaic Idealize.ShloMosaic.TcCoe
open Idealize.SL Idealize.SL.Sem

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

section
variable (x0 : Vec Ideal S2x4680x1536 .fp8e4m3) (x1 : Vec Ideal S9360x1 .f32) (x2 : Vec Ideal S2x4680x1536 .f32) (x3 : Vec Ideal S2x3x1536 .f32)
    (x4 : Vec Ideal S1536x8960 .fp8e4m3) (x5 x6 : Vec Ideal S1x8960 .f32) (x7 : Vec Ideal S8960x1536 .fp8e4m3) (x8 x9 : Vec Ideal S1x1536 .f32)

theorem rowScale_at (i : Fin 2) (r : Fin 4680) : k0_pay2 x0 x4 x1 x5 x6 (ix2 ⟨i.val * 4680 + r.val, by omega⟩ 0)
    = FfnMath.rowScale (fun x => x0 (ix3 i r x)) (x1 (ix2 ⟨i.val * 4680 + r.val, by omega⟩ 0)) (fun x f => x4 (ix2 x f)) (fun f => x5 (ix2 0 f)) (fun f => x6 (ix2 0 f)) := by
  rw [scale_eq, scaleCol_at, rowMax_at]
  exact congrArg (fun g => FfnMath.scale (FfnMath.top g)) (funext fun f => hidden_at x0 x4 x1 x5 x6 i r f)

theorem rowCode_at (i : Fin 2) (r : Fin 4680) (f : Fin 8960) : k0_pay4 (k0_pay3 x0 x4 x1 x5 x6) (ix2 ⟨i.val * 4680 + r.val, by omega⟩ f)
    = FfnMath.rowCode (fun x => x0 (ix3 i r x)) (x1 (ix2 ⟨i.val * 4680 + r.val, by omega⟩ 0)) (fun x f => x4 (ix2 x f)) (fun f => x5 (ix2 0 f)) (fun f => x6 (ix2 0 f)) f := by
  rw [code_at, scaled_eq, scaled_at, rowScale_at, hidden_at]
  rfl

theorem pay8_eq : k0_pay8 x0 x1 x2 x3 x4 x5 x6 x7 x8 x9 = k0_pay2 x0 x4 x1 x5 x6 := by
  unfold k0_pay8
  rw [View.ld_unit_zero zero3, View.ld_unit_zero zero2, View.ld_unit_zero zero2, View.ld_unit_zero zero2, View.ld_unit_zero zero2]

theorem pay9_eq : k0_pay9 x0 x1 x2 x3 x4 x5 x6 x7 x8 x9 = k0_pay3 x0 x4 x1 x5 x6 := by
  unfold k0_pay9
  rw [View.ld_unit_zero zero3, View.ld_unit_zero zero2, View.ld_unit_zero zero2, View.ld_unit_zero zero2, View.ld_unit_zero zero2]

theorem out10_at (i : Fin 2) (r : Fin 4680) (f : Fin 8960) : out0_10 x0 x1 x2 x3 x4 x5 x6 x7 x8 x9 (ix3 i r f)
    = FfnMath.rowCode (fun x => x0 (ix3 i r x)) (x1 (ix2 ⟨i.val * 4680 + r.val, by omega⟩ 0)) (fun x f => x4 (ix2 x f)) (fun f => x5 (ix2 0 f)) (fun f => x6 (ix2 0 f)) f := by
  unfold out0_10
  rw [View.canon_unit_zero zero3, pay9_eq, codesOut_at]
  exact rowCode_at x0 x1 x4 x5 x6 i r f

theorem out11_at (i : Fin 2) (t : Fin 15) (r : Fin 312) : out0_11 x0 x1 x2 x3 x4 x5 x6 x7 x8 x9 (ix4 i t 0 r)
    = FfnMath.rowScale (fun x => x0 (ix3 i (FfnValue.token t r) x)) (x1 (ix2 ⟨i.val * 4680 + (FfnValue.token t r).val, by omega⟩ 0)) (fun x f => x4 (ix2 x f)) (fun f => x5 (ix2 0 f)) (fun f => x6 (ix2 0 f)) := by
  unfold out0_11
  rw [View.canon_unit_zero zero4, pay8_eq, scaleOut_at]
  exact rowScale_at x0 x1 x4 x5 x6 i (FfnValue.token t r)

theorem out12_at (i : Fin 2) (r : Fin 4680) (d : Fin 1536) : out0_12 x0 x1 x2 x3 x4 x5 x6 x7 x8 x9 (ix3 i r d)
    = FfnMath.rowResult (fun x => x0 (ix3 i r x)) (x1 (ix2 ⟨i.val * 4680 + r.val, by omega⟩ 0)) (fun x f => x4 (ix2 x f)) (fun f => x5 (ix2 0 f)) (fun f => x6 (ix2 0 f))
        (fun f d => x7 (ix2 f d)) (fun d => x8 (ix2 0 d)) (fun d => x9 (ix2 0 d)) (fun d => x3 (ix3 i (FfnValue.frame r) d)) (fun d => x2 (ix3 i r d)) d := by
  unfold out0_12
  rw [View.canon_unit_zero zero3, pay8_eq, pay9_eq, View.ld_unit_zero zero2, View.ld_unit_zero zero2, View.ld_unit_zero zero2, View.ld_unit_zero zero3,
    View.ld_unit_zero zero3, result_at, rowScale_at]
  exact FfnMath.result_congr (fun f => rowCode_at x0 x1 x4 x5 x6 i r f)

end

/-- The gate of each frame: row 5 of the modulation table plus the embedding. -/
def gate (A3 : Vec Ideal S6x1536 .f32) (A4 : Vec Ideal S2x3x6x1536 .f32) : Vec Ideal S2x3x1536 .f32 :=
  shapeCast S2x3x1536 (extractStridedSlice (s := S2x3x6x1536) S2x3x1x1536 ![0, 0, 5, 0]
    (addf (broadcastInDim S2x3x6x1536 ![0, 1, 2, 3] bcast_S1x1x6x1536_S2x3x6x1536_0_1_2_3 (broadcastInDim S1x1x6x1536 ![2, 3] bcast_S6x1536_S1x1x6x1536_2_3 A3)) A4 : FVec Ideal S2x3x6x1536 .f32)
    slices_S2x3x6x1536_S2x3x1x1536_0_0_5_0) shapeCasts_S2x3x1x1536_S2x3x1536

theorem gate_at (A3 : Vec Ideal S6x1536 .f32) (A4 : Vec Ideal S2x3x6x1536 .f32) (b : Fin 2) (g : Fin 3) (d : Fin 1536) :
    gate A3 A4 (ix3 b g d) = A3 (ix2 5 d) + A4 (ix4 b g 5 d) := by
  pointwise [gate]

/-- The scales as one column. -/
theorem column_at (x : Vec Ideal S2x15x1x312 .f32) (b : Fin 2) (s : Fin 4680) :
    shapeCast S9360x1 x shapeCasts_S2x15x1x312_S9360x1 (ix2 ⟨b.val * 4680 + s.val, by omega⟩ 0) = x (ix4 b (FfnValue.tile s) 0 (FfnValue.row s)) := by
  refine shapeCast_apply x _ _ _ ?_
  rw [Shape.rowMajor_val_two, Shape.rowMajor_val_four]
  show ((b.val * 15 + s.val / 312) * 1 + 0) * 312 + s.val % 312 = (b.val * 4680 + s.val) * 1 + 0
  omega

section
variable (m : (ℓ : Loc nD τ sig) → Buf (Elt Ideal) ℓ) (c : Dev nD)

theorem V_gate : V m c main_v4 = gate (m ((c : Thread nD τ).loc main_arg3)) (m ((c : Thread nD τ).loc main_arg4)) := by
  unfold V
  after_results_simp <;> rfl
theorem V_scale : V m c main_v5 = shapeCast S9360x1 (m ((c : Thread nD τ).loc main_arg1) : Vec Ideal S2x15x1x312 .f32) shapeCasts_S2x15x1x312_S9360x1 := by
  unfold V
  after_results_simp <;> rfl
theorem V_main_v6 : V m c main_v6 = shapeCast S1x8960 (m ((c : Thread nD τ).loc main_arg6) : Vec Ideal S8960 .f32) shapeCasts_S8960_S1x8960 := by
  unfold V
  after_results_simp <;> rfl
theorem V_main_v7 : V m c main_v7 = shapeCast S1x8960 (m ((c : Thread nD τ).loc main_arg7) : Vec Ideal S8960 .f32) shapeCasts_S8960_S1x8960 := by
  unfold V
  after_results_simp <;> rfl
theorem V_main_v8 : V m c main_v8 = shapeCast S1x1536 (m ((c : Thread nD τ).loc main_arg9) : Vec Ideal S1536 .f32) shapeCasts_S1536_S1x1536 := by
  unfold V
  after_results_simp <;> rfl
theorem V_main_v9 : V m c main_v9 = shapeCast S1x1536 (m ((c : Thread nD τ).loc main_arg10) : Vec Ideal S1536 .f32) shapeCasts_S1536_S1x1536 := by
  unfold V
  after_results_simp <;> rfl

theorem index0 (t : Fin cfg0.N) : (cfg0.win 0).index t = ![0, 0, 0] := by
  funext a
  change Fin 3 at a
  fin_cases a <;> rfl
theorem index1 (t : Fin cfg0.N) : (cfg0.win 1).index t = ![0, 0] := by
  funext a
  change Fin 2 at a
  fin_cases a <;> rfl
theorem index2 (t : Fin cfg0.N) : (cfg0.win 2).index t = ![0, 0, 0] := by
  funext a
  change Fin 3 at a
  fin_cases a <;> rfl
theorem index3 (t : Fin cfg0.N) : (cfg0.win 3).index t = ![0, 0, 0] := by
  funext a
  change Fin 3 at a
  fin_cases a <;> rfl
theorem index4 (t : Fin cfg0.N) : (cfg0.win 4).index t = ![0, 0] := by
  funext a
  change Fin 2 at a
  fin_cases a <;> rfl
theorem index5 (t : Fin cfg0.N) : (cfg0.win 5).index t = ![0, 0] := by
  funext a
  change Fin 2 at a
  fin_cases a <;> rfl
theorem index6 (t : Fin cfg0.N) : (cfg0.win 6).index t = ![0, 0] := by
  funext a
  change Fin 2 at a
  fin_cases a <;> rfl
theorem index7 (t : Fin cfg0.N) : (cfg0.win 7).index t = ![0, 0] := by
  funext a
  change Fin 2 at a
  fin_cases a <;> rfl
theorem index8 (t : Fin cfg0.N) : (cfg0.win 8).index t = ![0, 0] := by
  funext a
  change Fin 2 at a
  fin_cases a <;> rfl
theorem index9 (t : Fin cfg0.N) : (cfg0.win 9).index t = ![0, 0] := by
  funext a
  change Fin 2 at a
  fin_cases a <;> rfl
theorem index10 (t : Fin cfg0.N) : (cfg0.win 10).index t = ![0, 0, 0] := by
  funext a
  change Fin 3 at a
  fin_cases a <;> rfl
theorem index11 (t : Fin cfg0.N) : (cfg0.win 11).index t = ![0, 0, 0, 0] := by
  funext a
  change Fin 4 at a
  fin_cases a <;> rfl
theorem index12 (t : Fin cfg0.N) : (cfg0.win 12).index t = ![0, 0, 0] := by
  funext a
  change Fin 3 at a
  fin_cases a <;> rfl

theorem iblk0_at (t : Fin cfg0.N) (i : Fin 2) (r : Fin 4680) (x : Fin 1536) : iblk m c 0 t (ix3 i r x) = V m c main_arg0 (ix3 i r x) := by
  blk_ext [iblk]
  all_goals rw [index0]; simp
theorem iblk1_at (t : Fin cfg0.N) (r : Fin 9360) : iblk m c 1 t (ix2 r 0) = V m c main_v5 (ix2 r 0) := by
  blk_ext [iblk]
  all_goals rw [index1]; simp
theorem iblk2_at (t : Fin cfg0.N) (i : Fin 2) (r : Fin 4680) (x : Fin 1536) : iblk m c 2 t (ix3 i r x) = V m c main_arg2 (ix3 i r x) := by
  blk_ext [iblk]
  all_goals rw [index2]; simp
theorem iblk3_at (t : Fin cfg0.N) (i : Fin 2) (r : Fin 3) (x : Fin 1536) : iblk m c 3 t (ix3 i r x) = V m c main_v4 (ix3 i r x) := by
  blk_ext [iblk]
  all_goals rw [index3]; simp
theorem iblk4_at (t : Fin cfg0.N) (x : Fin 1536) (f : Fin 8960) : iblk m c 4 t (ix2 x f) = V m c main_arg5 (ix2 x f) := by
  blk_ext [iblk]
  all_goals rw [index4]; simp
theorem iblk5_at (t : Fin cfg0.N) (f : Fin 8960) : iblk m c 5 t (ix2 0 f) = V m c main_v6 (ix2 0 f) := by
  blk_ext [iblk]
  all_goals rw [index5]; simp
theorem iblk6_at (t : Fin cfg0.N) (f : Fin 8960) : iblk m c 6 t (ix2 0 f) = V m c main_v7 (ix2 0 f) := by
  blk_ext [iblk]
  all_goals rw [index6]; simp
theorem iblk7_at (t : Fin cfg0.N) (f : Fin 8960) (d : Fin 1536) : iblk m c 7 t (ix2 f d) = V m c main_arg8 (ix2 f d) := by
  blk_ext [iblk]
  all_goals rw [index7]; simp
theorem iblk8_at (t : Fin cfg0.N) (d : Fin 1536) : iblk m c 8 t (ix2 0 d) = V m c main_v8 (ix2 0 d) := by
  blk_ext [iblk]
  all_goals rw [index8]; simp
theorem iblk9_at (t : Fin cfg0.N) (d : Fin 1536) : iblk m c 9 t (ix2 0 d) = V m c main_v9 (ix2 0 d) := by
  blk_ext [iblk]
  all_goals rw [index9]; simp

/-- The three result arrays. -/
def want10 : Vec Ideal S2x4680x8960 .fp8e4m3 := FfnValue.outCodes (m ((c : Thread nD τ).loc main_arg0)) (m ((c : Thread nD τ).loc main_arg1)) (m ((c : Thread nD τ).loc main_arg5)) (m ((c : Thread nD τ).loc main_arg6)) (m ((c : Thread nD τ).loc main_arg7))
def want11 : Vec Ideal S2x15x1x312 .f32 := FfnValue.outScales (m ((c : Thread nD τ).loc main_arg0)) (m ((c : Thread nD τ).loc main_arg1)) (m ((c : Thread nD τ).loc main_arg5)) (m ((c : Thread nD τ).loc main_arg6)) (m ((c : Thread nD τ).loc main_arg7))
def want12 : Vec Ideal S2x4680x1536 .bf16 := FfnValue.outResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem want10_at (b : Fin 2) (s : Fin 4680) (f : Fin 8960) : want10 m c (ix3 b s f) = FfnValue.codeAt (m ((c : Thread nD τ).loc main_arg0)) (m ((c : Thread nD τ).loc main_arg1)) (m ((c : Thread nD τ).loc main_arg5)) (m ((c : Thread nD τ).loc main_arg6)) (m ((c : Thread nD τ).loc main_arg7)) b s f := rfl
theorem want11_at (b : Fin 2) (i : Fin 15) (r : Fin 312) : want11 m c (ix4 b i 0 r) = FfnValue.scaleAt (m ((c : Thread nD τ).loc main_arg0)) (m ((c : Thread nD τ).loc main_arg1)) (m ((c : Thread nD τ).loc main_arg5)) (m ((c : Thread nD τ).loc main_arg6)) (m ((c : Thread nD τ).loc main_arg7)) b (FfnValue.token i r) := rfl
theorem want12_at (b : Fin 2) (s : Fin 4680) (d : Fin 1536) : want12 m c (ix3 b s d) = FfnValue.resultAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b s d := rfl

theorem block10 (t : Fin cfg0.N) (b : Fin 2) (s : Fin 4680) (f : Fin 8960) :
    out0_10 (iblk m c 0 t) (iblk m c 1 t) (iblk m c 2 t) (iblk m c 3 t) (iblk m c 4 t) (iblk m c 5 t) (iblk m c 6 t) (iblk m c 7 t) (iblk m c 8 t) (iblk m c 9 t) (ix3 b s f) = want10 m c (ix3 b s f) := by
  rw [want10_at, out10_at]
  unfold FfnValue.codeAt
  exact FfnMath.rowCode_congr (fun x => (iblk0_at m c t b s x).trans (congrFun (V_main_arg0 m c) _))
    ((iblk1_at m c t _).trans ((congrFun (V_scale m c) _).trans (column_at _ b s)))
    (fun x f => (iblk4_at m c t x f).trans (congrFun (V_main_arg5 m c) _))
    (fun f => (iblk5_at m c t f).trans ((congrFun (V_main_v6 m c) _).trans (FfnValue.asRow_at _ _ f)))
    (fun f => (iblk6_at m c t f).trans ((congrFun (V_main_v7 m c) _).trans (FfnValue.asRow_at _ _ f))) f

theorem block11 (t : Fin cfg0.N) (b : Fin 2) (i : Fin 15) (r : Fin 312) :
    out0_11 (iblk m c 0 t) (iblk m c 1 t) (iblk m c 2 t) (iblk m c 3 t) (iblk m c 4 t) (iblk m c 5 t) (iblk m c 6 t) (iblk m c 7 t) (iblk m c 8 t) (iblk m c 9 t) (ix4 b i 0 r) = want11 m c (ix4 b i 0 r) := by
  rw [want11_at, out11_at]
  unfold FfnValue.scaleAt
  exact FfnMath.rowScale_congr (fun x => (iblk0_at m c t b (FfnValue.token i r) x).trans (congrFun (V_main_arg0 m c) _))
    ((iblk1_at m c t _).trans ((congrFun (V_scale m c) _).trans (column_at _ b (FfnValue.token i r))))
    (fun x f => (iblk4_at m c t x f).trans (congrFun (V_main_arg5 m c) _))
    (fun f => (iblk5_at m c t f).trans ((congrFun (V_main_v6 m c) _).trans (FfnValue.asRow_at _ _ f)))
    (fun f => (iblk6_at m c t f).trans ((congrFun (V_main_v7 m c) _).trans (FfnValue.asRow_at _ _ f)))

theorem block12 (t : Fin cfg0.N) (b : Fin 2) (s : Fin 4680) (d : Fin 1536) :
    out0_12 (iblk m c 0 t) (iblk m c 1 t) (iblk m c 2 t) (iblk m c 3 t) (iblk m c 4 t) (iblk m c 5 t) (iblk m c 6 t) (iblk m c 7 t) (iblk m c 8 t) (iblk m c 9 t) (ix3 b s d) = want12 m c (ix3 b s d) := by
  rw [want12_at, out12_at]
  unfold FfnValue.resultAt
  exact FfnMath.rowResult_congr (fun x => (iblk0_at m c t b s x).trans (congrFun (V_main_arg0 m c) _))
    ((iblk1_at m c t _).trans ((congrFun (V_scale m c) _).trans (column_at _ b s)))
    (fun x f => (iblk4_at m c t x f).trans (congrFun (V_main_arg5 m c) _))
    (fun f => (iblk5_at m c t f).trans ((congrFun (V_main_v6 m c) _).trans (FfnValue.asRow_at _ _ f)))
    (fun f => (iblk6_at m c t f).trans ((congrFun (V_main_v7 m c) _).trans (FfnValue.asRow_at _ _ f)))
    (fun f d => (iblk7_at m c t f d).trans (congrFun (V_main_arg8 m c) _))
    (fun d => (iblk8_at m c t d).trans ((congrFun (V_main_v8 m c) _).trans (FfnValue.asRow_at _ _ d)))
    (fun d => (iblk9_at m c t d).trans ((congrFun (V_main_v9 m c) _).trans (FfnValue.asRow_at _ _ d)))
    (fun d => (iblk3_at m c t b (FfnValue.frame s) d).trans ((congrFun (V_gate m c) _).trans (gate_at _ _ b (FfnValue.frame s) d)))
    (fun d => (iblk2_at m c t b s d).trans (congrFun (V_main_arg2 m c) _)) d

theorem emb10 (t : Fin cfg0.N) (y : S2x4680x8960.Idx) : ((cfg0.win 10).blk t).view.emb y = y := by
  have hi := index10 t
  funext a
  refine Fin.ext ?_
  refine (Pipeline.Window.rect_emb_val (cfg0.win 10) t y a).trans ?_
  refine (congrArg (fun f : Fin 3 → ℕ => f a * S2x4680x8960.size a + (y a).val) hi).trans ?_
  clear hi
  change Fin 3 at a
  fin_cases a
  · show 0 * 2 + (y 0).val = (y 0).val
    omega
  · show 0 * 4680 + (y 1).val = (y 1).val
    omega
  · show 0 * 8960 + (y 2).val = (y 2).val
    omega

theorem index_array10 (y : S2x4680x8960.Idx) : (ix3 (y 0) (y 1) (y 2) : S2x4680x8960.Idx) = y := by
  funext a
  change Fin 3 at a
  fin_cases a <;> rfl

theorem arr10 : (dats m 0 c).arrAt 10 cfg0.N = want10 m c := by
  refine (dats m 0 c).arrAt_eq_of_covers 10 _ (by decide +kernel) fun t hf y => ?_
  blk_simp
  rw [after0_10]
  refine Eq.trans ?_ (congrArg (want10 m c) (emb10 t y).symm)
  have h := block10 m c t (y 0) (y 1) (y 2)
  rw [index_array10 y] at h
  exact h

theorem emb11 (t : Fin cfg0.N) (y : S2x15x1x312.Idx) : ((cfg0.win 11).blk t).view.emb y = y := by
  have hi := index11 t
  funext a
  refine Fin.ext ?_
  refine (Pipeline.Window.rect_emb_val (cfg0.win 11) t y a).trans ?_
  refine (congrArg (fun f : Fin 4 → ℕ => f a * S2x15x1x312.size a + (y a).val) hi).trans ?_
  clear hi
  change Fin 4 at a
  fin_cases a
  · show 0 * 2 + (y 0).val = (y 0).val
    omega
  · show 0 * 15 + (y 1).val = (y 1).val
    omega
  · show 0 * 1 + (y 2).val = (y 2).val
    omega
  · show 0 * 312 + (y 3).val = (y 3).val
    omega

theorem index_array11 (y : S2x15x1x312.Idx) : (ix4 (y 0) (y 1) 0 (y 3) : S2x15x1x312.Idx) = y := by
  have h2 : (y 2).val = 0 := Nat.lt_one_iff.mp (y 2).isLt
  funext a
  change Fin 4 at a
  fin_cases a
  · rfl
  · rfl
  · exact Fin.ext h2.symm
  · rfl

theorem arr11 : (dats m 0 c).arrAt 11 cfg0.N = want11 m c := by
  refine (dats m 0 c).arrAt_eq_of_covers 11 _ (by decide +kernel) fun t hf y => ?_
  blk_simp
  rw [after0_11]
  refine Eq.trans ?_ (congrArg (want11 m c) (emb11 t y).symm)
  have h := block11 m c t (y 0) (y 1) (y 3)
  rw [index_array11 y] at h
  exact h

theorem emb12 (t : Fin cfg0.N) (y : S2x4680x1536.Idx) : ((cfg0.win 12).blk t).view.emb y = y := by
  have hi := index12 t
  funext a
  refine Fin.ext ?_
  refine (Pipeline.Window.rect_emb_val (cfg0.win 12) t y a).trans ?_
  refine (congrArg (fun f : Fin 3 → ℕ => f a * S2x4680x1536.size a + (y a).val) hi).trans ?_
  clear hi
  change Fin 3 at a
  fin_cases a
  · show 0 * 2 + (y 0).val = (y 0).val
    omega
  · show 0 * 4680 + (y 1).val = (y 1).val
    omega
  · show 0 * 1536 + (y 2).val = (y 2).val
    omega

theorem index_array12 (y : S2x4680x1536.Idx) : (ix3 (y 0) (y 1) (y 2) : S2x4680x1536.Idx) = y := by
  funext a
  change Fin 3 at a
  fin_cases a <;> rfl

theorem arr12 : (dats m 0 c).arrAt 12 cfg0.N = want12 m c := by
  refine (dats m 0 c).arrAt_eq_of_covers 12 _ (by decide +kernel) fun t hf y => ?_
  blk_simp
  rw [after0_12]
  refine Eq.trans ?_ (congrArg (want12 m c) (emb12 t y).symm)
  have h := block12 m c t (y 0) (y 1) (y 2)
  rw [index_array12 y] at h
  exact h

end

end Cert.FfnReferenceIdeal.Body

end
-- ==== Proof.FfnAlgebraic.lean ====
/-
  Over the extended reals the feed-forward call and its reference leave the same three results.
-/
module

public import proofs.«01_k».proof.Defs
public import proofs.«01_k».proof.Proof.FfnIdeal.Value
public import proofs.«01_k».proof.Proof.FfnReference.Value

@[expose] public section

noncomputable section

namespace Cert.Proof

open Idealize.ShloMosaic Idealize.ShloMosaic.TcCoe
open Idealize.SL Idealize.SL.Sem

/-- The run of the feed-forward call: its results as functions of its arguments. -/
theorem ffn_kernel_run (m : (ℓ : Loc Cert.FfnIdeal.nD Cert.FfnIdeal.τ Cert.FfnIdeal.sig) → Buf (Elt Ideal) ℓ) (g : Dev Cert.FfnIdeal.nD → PrngReg) :
    θ_run (Cert.FfnIdeal.defs (F := Ideal)) (onTc (τ := Cert.FfnIdeal.τ) (Cert.FfnIdeal.main (F := Ideal))) ⟨m, fun _ => 0, g⟩ (fun r =>
      ∀ c : Dev Cert.FfnIdeal.nD, r.2.mem ((c.tc : Thread Cert.FfnIdeal.nD Cert.FfnIdeal.τ).loc Cert.FfnIdeal.main_v4_0) = Cert.FfnIdeal.Gen.want11 m c
        ∧ r.2.mem ((c.tc : Thread Cert.FfnIdeal.nD Cert.FfnIdeal.τ).loc Cert.FfnIdeal.main_v4_1) = Cert.FfnIdeal.Gen.want12 m c
        ∧ r.2.mem ((c.tc : Thread Cert.FfnIdeal.nD Cert.FfnIdeal.τ).loc Cert.FfnIdeal.main_v4_2) = Cert.FfnIdeal.Gen.want13 m c) :=
  (θ_run Cert.FfnIdeal.defs _ _).mono
    (fun r h c => ⟨(h.1.out_eq c 11).trans (Cert.FfnIdeal.Gen.arr11 m c), (h.1.out_eq c 12).trans (Cert.FfnIdeal.Gen.arr12 m c),
      (h.1.out_eq c 13).trans (Cert.FfnIdeal.Gen.arr13 m c)⟩)
    (Cert.FfnIdeal.Gen.run_main_quiescent m g)

/-- The run of its reference. -/
theorem ffn_reference_run (m : (ℓ : Loc Cert.FfnReferenceIdeal.nD Cert.FfnReferenceIdeal.τ Cert.FfnReferenceIdeal.sig) → Buf (Elt Ideal) ℓ)
    (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ (fun r =>
      ∀ c : Dev Cert.FfnReferenceIdeal.nD, r.2.mem ((c.tc : Thread Cert.FfnReferenceIdeal.nD Cert.FfnReferenceIdeal.τ).loc Cert.FfnReferenceIdeal.main_v10_0) = Cert.FfnReferenceIdeal.Body.want10 m c
        ∧ r.2.mem ((c.tc : Thread Cert.FfnReferenceIdeal.nD Cert.FfnReferenceIdeal.τ).loc Cert.FfnReferenceIdeal.main_v10_1) = Cert.FfnReferenceIdeal.Body.want11 m c
        ∧ r.2.mem ((c.tc : Thread Cert.FfnReferenceIdeal.nD Cert.FfnReferenceIdeal.τ).loc Cert.FfnReferenceIdeal.main_v10_2) = Cert.FfnReferenceIdeal.Body.want12 m c) :=
  (θ_run Cert.FfnReferenceIdeal.defs _ _).mono
    (fun r h c => ⟨(h.1.out_eq c 10).trans (Cert.FfnReferenceIdeal.Body.arr10 m c), (h.1.out_eq c 11).trans (Cert.FfnReferenceIdeal.Body.arr11 m c),
      (h.1.out_eq c 12).trans (Cert.FfnReferenceIdeal.Body.arr12 m c)⟩)
    (Cert.FfnReferenceIdeal.Gen.run_main_quiescent m g)

theorem ffn_algebraic : Cert.algebraic_FfnIdeal_FfnReferenceIdeal (hFfnIdeal := Cert.FfnIdeal.Gen.facts) (hFfnReferenceIdeal := Cert.FfnReferenceIdeal.Gen.facts) := by
  intro m g m' g' _ hargs
  refine ⟨fun c => Cert.FfnIdeal.Gen.want11 m c, fun c => Cert.FfnIdeal.Gen.want12 m c, fun c => Cert.FfnIdeal.Gen.want13 m c, ?_, ?_⟩
  · exact (θ_run _ _ _).mono (fun r h c => ⟨(h.1 c).1, (h.1 c).2.1, (h.1 c).2.2, h.2 c⟩) (θ_run_and (ffn_kernel_run m g) (Cert.FfnIdeal.Gen.unchanged m g))
  · refine (θ_run _ _ _).mono (fun r h c => ⟨(h.1 c).1.trans ?_, (h.1 c).2.1.trans ?_, (h.1 c).2.2.trans ?_, h.2 c⟩)
      (θ_run_and (ffn_reference_run m' g') (Cert.FfnReferenceIdeal.Gen.unchanged m' g'))
    all_goals obtain ⟨h0, h1, h2, h3, h4, h5, h6, h7, h8, h9, h10⟩ := hargs c
    · unfold Cert.FfnIdeal.Gen.want11 Cert.FfnReferenceIdeal.Body.want10
      rw [h0, h1, h5, h6, h7]
    · unfold Cert.FfnIdeal.Gen.want12 Cert.FfnReferenceIdeal.Body.want11
      rw [h0, h1, h5, h6, h7]
    · unfold Cert.FfnIdeal.Gen.want13 Cert.FfnReferenceIdeal.Body.want12
      rw [h0, h1, h2, h3, h4, h5, h6, h7, h8, h9, h10]

end Cert.Proof

end
-- ==== Proof.lean ====
module

public import proofs.«01_k».proof.Defs
public import proofs.«01_k».proof.Proof.Positions
public import proofs.«01_k».proof.Proof.Gen.ReferenceIdeal.Frame
public import proofs.«01_k».proof.Proof.Gen.Ffn.Frame
public import proofs.«01_k».proof.Proof.Gen.FfnIdeal.Frame
public import proofs.«01_k».proof.Proof.Gen.FfnReferenceIdeal.Frame
public import proofs.«01_k».proof.Proof.Algebraic
public import proofs.«01_k».proof.Proof.FfnAlgebraic
public import Idealize.ShloMosaic.Adequacy
public import Idealize.ShloMosaic.Init

@[expose] public section

noncomputable section

namespace Cert.Proof

open Idealize.ShloMosaic

theorem claim : Cert.Claim :=
  ⟨Cert.Attn.Gen.facts, Cert.AttnIdeal.Gen.facts, Cert.ReferenceIdeal.Gen.facts, Cert.Ffn.Gen.facts, Cert.FfnIdeal.Gen.facts,
    Cert.FfnReferenceIdeal.Gen.facts, Cert.Pre_frame_positions_in_table.Gen.facts,
    fun m ρ h => Cert.Attn.Gen.frame m ρ trivial (Cert.Positions.posOk_Attn m h),
    fun m ρ h => Cert.AttnIdeal.Gen.frame m ρ trivial (Cert.Positions.posOk_AttnIdeal m h),
    fun m ρ _ => Cert.ReferenceIdeal.Gen.frame m ρ,
    fun m ρ _ => Cert.ReferenceIdeal.Gen.frame m ρ,
    fun m ρ _ => Cert.Ffn.Gen.frame m ρ,
    fun m ρ _ => Cert.FfnIdeal.Gen.frame m ρ,
    fun m ρ _ => Cert.FfnReferenceIdeal.Gen.frame m ρ,
    trivial,
    algebraic,
    trivial,
    ffn_algebraic⟩

end Cert.Proof

end
